-- ==== Defs.lean ====
def Pre_Kernel [hPre_keys_ok : Cert.Pre_keys_ok.Facts] (m : (ℓ : Loc Cert.Kernel.nD Cert.Kernel.τ Cert.Kernel.sig) → Buf (Elt Bits) ℓ) : Prop :=
  ∀ c : Dev Cert.Kernel.nD,
    (Cert.Pre_keys_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_keys_ok : Cert.Pre_keys_ok.Facts] (m : (ℓ : Loc Cert.KernelIdeal.nD Cert.KernelIdeal.τ Cert.KernelIdeal.sig) → Buf (Elt Ideal) ℓ) : Prop :=
  ∀ c : Dev Cert.KernelIdeal.nD,
    (Cert.Pre_keys_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_keys_ok [hPre_keys_ok : Cert.Pre_keys_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_keys_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_ScoresIdeal_ids_ok [hPre_ids_ok : Cert.Pre_ids_ok.Facts] (m : (ℓ : Loc Cert.ScoresIdeal.nD Cert.ScoresIdeal.τ Cert.ScoresIdeal.sig) → Buf (Elt Ideal) ℓ) : Prop :=
  ∀ c : Dev Cert.ScoresIdeal.nD,
    (Cert.Pre_ids_ok.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)) (m ((c.tc : Thread Cert.ScoresIdeal.nD Cert.ScoresIdeal.τ).loc Cert.ScoresIdeal.main_arg3)) (m ((c.tc : Thread Cert.ScoresIdeal.nD Cert.ScoresIdeal.τ).loc Cert.ScoresIdeal.main_arg4)) (m ((c.tc : Thread Cert.ScoresIdeal.nD Cert.ScoresIdeal.τ).loc Cert.ScoresIdeal.main_arg5)) (m ((c.tc : Thread Cert.ScoresIdeal.nD Cert.ScoresIdeal.τ).loc Cert.ScoresIdeal.main_arg6)) (m ((c.tc : Thread Cert.ScoresIdeal.nD Cert.ScoresIdeal.τ).loc Cert.ScoresIdeal.main_arg7)) (m ((c.tc : Thread Cert.ScoresIdeal.nD Cert.ScoresIdeal.τ).loc Cert.ScoresIdeal.main_arg8))) = (fun _ => 1#1)

def Pre_ScoresReferenceIdeal (m : (ℓ : Loc Cert.ScoresReferenceIdeal.nD Cert.ScoresReferenceIdeal.τ Cert.ScoresReferenceIdeal.sig) → Buf (Elt Ideal) ℓ) : Prop :=
  True

def Pre_ScoresReferenceIdeal_ids_ok [hPre_ids_ok : Cert.Pre_ids_ok.Facts] (m : (ℓ : Loc Cert.ScoresReferenceIdeal.nD Cert.ScoresReferenceIdeal.τ Cert.ScoresReferenceIdeal.sig) → Buf (Elt Ideal) ℓ) : Prop :=
  ∀ c : Dev Cert.ScoresReferenceIdeal.nD,
    (Cert.Pre_ids_ok.fn (F := Ideal) (m ((c.tc : Thread Cert.ScoresReferenceIdeal.nD Cert.ScoresReferenceIdeal.τ).loc Cert.ScoresReferenceIdeal.main_arg0)) (m ((c.tc : Thread Cert.ScoresReferenceIdeal.nD Cert.ScoresReferenceIdeal.τ).loc Cert.ScoresReferenceIdeal.main_arg1)) (m ((c.tc : Thread Cert.ScoresReferenceIdeal.nD Cert.ScoresReferenceIdeal.τ).loc Cert.ScoresReferenceIdeal.main_arg2)) (m ((c.tc : Thread Cert.ScoresReferenceIdeal.nD Cert.ScoresReferenceIdeal.τ).loc Cert.ScoresReferenceIdeal.main_arg3)) (m ((c.tc : Thread Cert.ScoresReferenceIdeal.nD Cert.ScoresReferenceIdeal.τ).loc Cert.ScoresReferenceIdeal.main_arg4)) (m ((c.tc : Thread Cert.ScoresReferenceIdeal.nD Cert.ScoresReferenceIdeal.τ).loc Cert.ScoresReferenceIdeal.main_arg5)) (m ((c.tc : Thread Cert.ScoresReferenceIdeal.nD Cert.ScoresReferenceIdeal.τ).loc Cert.ScoresReferenceIdeal.main_arg6)) (m ((c.tc : Thread Cert.ScoresReferenceIdeal.nD Cert.ScoresReferenceIdeal.τ).loc Cert.ScoresReferenceIdeal.main_arg7)) (m ((c.tc : Thread Cert.ScoresReferenceIdeal.nD Cert.ScoresReferenceIdeal.τ).loc Cert.ScoresReferenceIdeal.main_arg8))) = (fun _ => 1#1)

def quiescent_Kernel [hKernel : Cert.Kernel.Facts] [hPre_keys_ok : Cert.Pre_keys_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_keys_ok : Cert.Pre_keys_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_keys_ok [hReferenceIdeal : Cert.ReferenceIdeal.Facts] [hPre_keys_ok : Cert.Pre_keys_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_keys_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2)
      ∧ r.2.mem ((c.tc : Thread Cert.Scores.nD Cert.Scores.τ).loc Cert.Scores.main_arg3) = m ((c.tc : Thread Cert.Scores.nD Cert.Scores.τ).loc Cert.Scores.main_arg3)
      ∧ r.2.mem ((c.tc : Thread Cert.Scores.nD Cert.Scores.τ).loc Cert.Scores.main_arg4) = m ((c.tc : Thread Cert.Scores.nD Cert.Scores.τ).loc Cert.Scores.main_arg4)
      ∧ r.2.mem ((c.tc : Thread Cert.Scores.nD Cert.Scores.τ).loc Cert.Scores.main_arg5) = m ((c.tc : Thread Cert.Scores.nD Cert.Scores.τ).loc Cert.Scores.main_arg5)
      ∧ r.2.mem ((c.tc : Thread Cert.Scores.nD Cert.Scores.τ).loc Cert.Scores.main_arg6) = m ((c.tc : Thread Cert.Scores.nD Cert.Scores.τ).loc Cert.Scores.main_arg6)
      ∧ r.2.mem ((c.tc : Thread Cert.Scores.nD Cert.Scores.τ).loc Cert.Scores.main_arg7) = m ((c.tc : Thread Cert.Scores.nD Cert.Scores.τ).loc Cert.Scores.main_arg7)
      ∧ r.2.mem ((c.tc : Thread Cert.Scores.nD Cert.Scores.τ).loc Cert.Scores.main_arg8) = m ((c.tc : Thread Cert.Scores.nD Cert.Scores.τ).loc Cert.Scores.main_arg8))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
      ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
      ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4)
      ∧ r.2.mem ((c.tc : Thread Cert.ScoresIdeal.nD Cert.ScoresIdeal.τ).loc Cert.ScoresIdeal.main_arg5) = m ((c.tc : Thread Cert.ScoresIdeal.nD Cert.ScoresIdeal.τ).loc Cert.ScoresIdeal.main_arg5)
      ∧ r.2.mem ((c.tc : Thread Cert.ScoresIdeal.nD Cert.ScoresIdeal.τ).loc Cert.ScoresIdeal.main_arg6) = m ((c.tc : Thread Cert.ScoresIdeal.nD Cert.ScoresIdeal.τ).loc Cert.ScoresIdeal.main_arg6)
      ∧ r.2.mem ((c.tc : Thread Cert.ScoresIdeal.nD Cert.ScoresIdeal.τ).loc Cert.ScoresIdeal.main_arg7) = m ((c.tc : Thread Cert.ScoresIdeal.nD Cert.ScoresIdeal.τ).loc Cert.ScoresIdeal.main_arg7)
      ∧ r.2.mem ((c.tc : Thread Cert.ScoresIdeal.nD Cert.ScoresIdeal.τ).loc Cert.ScoresIdeal.main_arg8) = m ((c.tc : Thread Cert.ScoresIdeal.nD Cert.ScoresIdeal.τ).loc Cert.ScoresIdeal.main_arg8))
      ∧ r.2.sem = fun _ => 0)

def quiescent_ScoresIdeal_pre_ids_ok [hScoresIdeal : Cert.ScoresIdeal.Facts] [hPre_ids_ok : Cert.Pre_ids_ok.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal_ids_ok m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
      ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
      ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4)
      ∧ r.2.mem ((c.tc : Thread Cert.ScoresIdeal.nD Cert.ScoresIdeal.τ).loc Cert.ScoresIdeal.main_arg5) = m ((c.tc : Thread Cert.ScoresIdeal.nD Cert.ScoresIdeal.τ).loc Cert.ScoresIdeal.main_arg5)
      ∧ r.2.mem ((c.tc : Thread Cert.ScoresIdeal.nD Cert.ScoresIdeal.τ).loc Cert.ScoresIdeal.main_arg6) = m ((c.tc : Thread Cert.ScoresIdeal.nD Cert.ScoresIdeal.τ).loc Cert.ScoresIdeal.main_arg6)
      ∧ r.2.mem ((c.tc : Thread Cert.ScoresIdeal.nD Cert.ScoresIdeal.τ).loc Cert.ScoresIdeal.main_arg7) = m ((c.tc : Thread Cert.ScoresIdeal.nD Cert.ScoresIdeal.τ).loc Cert.ScoresIdeal.main_arg7)
      ∧ r.2.mem ((c.tc : Thread Cert.ScoresIdeal.nD Cert.ScoresIdeal.τ).loc Cert.ScoresIdeal.main_arg8) = m ((c.tc : Thread Cert.ScoresIdeal.nD Cert.ScoresIdeal.τ).loc Cert.ScoresIdeal.main_arg8))
      ∧ r.2.sem = fun _ => 0)

def quiescent_ScoresReferenceIdeal [hScoresReferenceIdeal : Cert.ScoresReferenceIdeal.Facts] : Prop :=
  ∀ (m : (ℓ : Loc Cert.ScoresReferenceIdeal.nD Cert.ScoresReferenceIdeal.τ Cert.ScoresReferenceIdeal.sig) → Buf (Elt Ideal) ℓ) (g : Dev Cert.ScoresReferenceIdeal.nD → PrngReg), Pre_ScoresReferenceIdeal m →
    θ_run (Cert.ScoresReferenceIdeal.defs (F := Ideal)) (onTc (τ := Cert.ScoresReferenceIdeal.τ) (Cert.ScoresReferenceIdeal.main (F := Ideal))) ⟨m, fun _ => 0, g⟩ (fun r => (∀ c : Dev Cert.ScoresReferenceIdeal.nD,
      r.2.mem ((c.tc : Thread Cert.ScoresReferenceIdeal.nD Cert.ScoresReferenceIdeal.τ).loc Cert.ScoresReferenceIdeal.main_arg0) = m ((c.tc : Thread Cert.ScoresReferenceIdeal.nD Cert.ScoresReferenceIdeal.τ).loc Cert.ScoresReferenceIdeal.main_arg0)
      ∧ r.2.mem ((c.tc : Thread Cert.ScoresReferenceIdeal.nD Cert.ScoresReferenceIdeal.τ).loc Cert.ScoresReferenceIdeal.main_arg1) = m ((c.tc : Thread Cert.ScoresReferenceIdeal.nD Cert.ScoresReferenceIdeal.τ).loc Cert.ScoresReferenceIdeal.main_arg1)
      ∧ r.2.mem ((c.tc : Thread Cert.ScoresReferenceIdeal.nD Cert.ScoresReferenceIdeal.τ).loc Cert.ScoresReferenceIdeal.main_arg2) = m ((c.tc : Thread Cert.ScoresReferenceIdeal.nD Cert.ScoresReferenceIdeal.τ).loc Cert.ScoresReferenceIdeal.main_arg2)
      ∧ r.2.mem ((c.tc : Thread Cert.ScoresReferenceIdeal.nD Cert.ScoresReferenceIdeal.τ).loc Cert.ScoresReferenceIdeal.main_arg3) = m ((c.tc : Thread Cert.ScoresReferenceIdeal.nD Cert.ScoresReferenceIdeal.τ).loc Cert.ScoresReferenceIdeal.main_arg3)
      ∧ r.2.mem ((c.tc : Thread Cert.ScoresReferenceIdeal.nD Cert.ScoresReferenceIdeal.τ).loc Cert.ScoresReferenceIdeal.main_arg4) = m ((c.tc : Thread Cert.ScoresReferenceIdeal.nD Cert.ScoresReferenceIdeal.τ).loc Cert.ScoresReferenceIdeal.main_arg4)
      ∧ r.2.mem ((c.tc : Thread Cert.ScoresReferenceIdeal.nD Cert.ScoresReferenceIdeal.τ).loc Cert.ScoresReferenceIdeal.main_arg5) = m ((c.tc : Thread Cert.ScoresReferenceIdeal.nD Cert.ScoresReferenceIdeal.τ).loc Cert.ScoresReferenceIdeal.main_arg5)
      ∧ r.2.mem ((c.tc : Thread Cert.ScoresReferenceIdeal.nD Cert.ScoresReferenceIdeal.τ).loc Cert.ScoresReferenceIdeal.main_arg6) = m ((c.tc : Thread Cert.ScoresReferenceIdeal.nD Cert.ScoresReferenceIdeal.τ).loc Cert.ScoresReferenceIdeal.main_arg6)
      ∧ r.2.mem ((c.tc : Thread Cert.ScoresReferenceIdeal.nD Cert.ScoresReferenceIdeal.τ).loc Cert.ScoresReferenceIdeal.main_arg7) = m ((c.tc : Thread Cert.ScoresReferenceIdeal.nD Cert.ScoresReferenceIdeal.τ).loc Cert.ScoresReferenceIdeal.main_arg7)
      ∧ r.2.mem ((c.tc : Thread Cert.ScoresReferenceIdeal.nD Cert.ScoresReferenceIdeal.τ).loc Cert.ScoresReferenceIdeal.main_arg8) = m ((c.tc : Thread Cert.ScoresReferenceIdeal.nD Cert.ScoresReferenceIdeal.τ).loc Cert.ScoresReferenceIdeal.main_arg8))
      ∧ r.2.sem = fun _ => 0)

def quiescent_ScoresReferenceIdeal_pre_ids_ok [hScoresReferenceIdeal : Cert.ScoresReferenceIdeal.Facts] [hPre_ids_ok : Cert.Pre_ids_ok.Facts] : Prop :=
  ∀ (m : (ℓ : Loc Cert.ScoresReferenceIdeal.nD Cert.ScoresReferenceIdeal.τ Cert.ScoresReferenceIdeal.sig) → Buf (Elt Ideal) ℓ) (g : Dev Cert.ScoresReferenceIdeal.nD → PrngReg), Pre_ScoresReferenceIdeal_ids_ok m →
    θ_run (Cert.ScoresReferenceIdeal.defs (F := Ideal)) (onTc (τ := Cert.ScoresReferenceIdeal.τ) (Cert.ScoresReferenceIdeal.main (F := Ideal))) ⟨m, fun _ => 0, g⟩ (fun r => (∀ c : Dev Cert.ScoresReferenceIdeal.nD,
      r.2.mem ((c.tc : Thread Cert.ScoresReferenceIdeal.nD Cert.ScoresReferenceIdeal.τ).loc Cert.ScoresReferenceIdeal.main_arg0) = m ((c.tc : Thread Cert.ScoresReferenceIdeal.nD Cert.ScoresReferenceIdeal.τ).loc Cert.ScoresReferenceIdeal.main_arg0)
      ∧ r.2.mem ((c.tc : Thread Cert.ScoresReferenceIdeal.nD Cert.ScoresReferenceIdeal.τ).loc Cert.ScoresReferenceIdeal.main_arg1) = m ((c.tc : Thread Cert.ScoresReferenceIdeal.nD Cert.ScoresReferenceIdeal.τ).loc Cert.ScoresReferenceIdeal.main_arg1)
      ∧ r.2.mem ((c.tc : Thread Cert.ScoresReferenceIdeal.nD Cert.ScoresReferenceIdeal.τ).loc Cert.ScoresReferenceIdeal.main_arg2) = m ((c.tc : Thread Cert.ScoresReferenceIdeal.nD Cert.ScoresReferenceIdeal.τ).loc Cert.ScoresReferenceIdeal.main_arg2)
      ∧ r.2.mem ((c.tc : Thread Cert.ScoresReferenceIdeal.nD Cert.ScoresReferenceIdeal.τ).loc Cert.ScoresReferenceIdeal.main_arg3) = m ((c.tc : Thread Cert.ScoresReferenceIdeal.nD Cert.ScoresReferenceIdeal.τ).loc Cert.ScoresReferenceIdeal.main_arg3)
      ∧ r.2.mem ((c.tc : Thread Cert.ScoresReferenceIdeal.nD Cert.ScoresReferenceIdeal.τ).loc Cert.ScoresReferenceIdeal.main_arg4) = m ((c.tc : Thread Cert.ScoresReferenceIdeal.nD Cert.ScoresReferenceIdeal.τ).loc Cert.ScoresReferenceIdeal.main_arg4)
      ∧ r.2.mem ((c.tc : Thread Cert.ScoresReferenceIdeal.nD Cert.ScoresReferenceIdeal.τ).loc Cert.ScoresReferenceIdeal.main_arg5) = m ((c.tc : Thread Cert.ScoresReferenceIdeal.nD Cert.ScoresReferenceIdeal.τ).loc Cert.ScoresReferenceIdeal.main_arg5)
      ∧ r.2.mem ((c.tc : Thread Cert.ScoresReferenceIdeal.nD Cert.ScoresReferenceIdeal.τ).loc Cert.ScoresReferenceIdeal.main_arg6) = m ((c.tc : Thread Cert.ScoresReferenceIdeal.nD Cert.ScoresReferenceIdeal.τ).loc Cert.ScoresReferenceIdeal.main_arg6)
      ∧ r.2.mem ((c.tc : Thread Cert.ScoresReferenceIdeal.nD Cert.ScoresReferenceIdeal.τ).loc Cert.ScoresReferenceIdeal.main_arg7) = m ((c.tc : Thread Cert.ScoresReferenceIdeal.nD Cert.ScoresReferenceIdeal.τ).loc Cert.ScoresReferenceIdeal.main_arg7)
      ∧ r.2.mem ((c.tc : Thread Cert.ScoresReferenceIdeal.nD Cert.ScoresReferenceIdeal.τ).loc Cert.ScoresReferenceIdeal.main_arg8) = m ((c.tc : Thread Cert.ScoresReferenceIdeal.nD Cert.ScoresReferenceIdeal.τ).loc Cert.ScoresReferenceIdeal.main_arg8))
      ∧ r.2.sem = fun _ => 0)

def preserves_Kernel_KernelIdeal : Prop :=
  IdealRules.named_const.Statement Cert.KernelIdeal.κ "per_sample" .f32 0x3B03126F#32 ((500⁻¹ : ℝ) : EReal)

def algebraic_KernelIdeal_ReferenceIdeal [hKernelIdeal : Cert.KernelIdeal.Facts] [hReferenceIdeal : Cert.ReferenceIdeal.Facts] [hPre_keys_ok : Cert.Pre_keys_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Scores_ScoresIdeal : Prop :=
  True

def algebraic_ScoresIdeal_ScoresReferenceIdeal_pre_ids_ok [hScoresIdeal : Cert.ScoresIdeal.Facts] [hScoresReferenceIdeal : Cert.ScoresReferenceIdeal.Facts] [hPre_ids_ok : Cert.Pre_ids_ok.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresReferenceIdeal.nD Cert.ScoresReferenceIdeal.τ Cert.ScoresReferenceIdeal.sig) → Buf (Elt Ideal) ℓ) (g' : Dev Cert.ScoresReferenceIdeal.nD → PrngReg), Pre_ScoresIdeal_ids_ok m →
    (∀ c : Dev Cert.ScoresIdeal.nD,
      m' ((c.tc : Thread Cert.ScoresReferenceIdeal.nD Cert.ScoresReferenceIdeal.τ).loc Cert.ScoresReferenceIdeal.main_arg0) = m ((c.tc : Thread Cert.ScoresIdeal.nD Cert.ScoresIdeal.τ).loc Cert.ScoresIdeal.main_arg0)
      ∧ m' ((c.tc : Thread Cert.ScoresReferenceIdeal.nD Cert.ScoresReferenceIdeal.τ).loc Cert.ScoresReferenceIdeal.main_arg1) = m ((c.tc : Thread Cert.ScoresIdeal.nD Cert.ScoresIdeal.τ).loc Cert.ScoresIdeal.main_arg1)
      ∧ m' ((c.tc : Thread Cert.ScoresReferenceIdeal.nD Cert.ScoresReferenceIdeal.τ).loc Cert.ScoresReferenceIdeal.main_arg2) = m ((c.tc : Thread Cert.ScoresIdeal.nD Cert.ScoresIdeal.τ).loc Cert.ScoresIdeal.main_arg2)
      ∧ m' ((c.tc : Thread Cert.ScoresReferenceIdeal.nD Cert.ScoresReferenceIdeal.τ).loc Cert.ScoresReferenceIdeal.main_arg3) = m ((c.tc : Thread Cert.ScoresIdeal.nD Cert.ScoresIdeal.τ).loc Cert.ScoresIdeal.main_arg3)
      ∧ m' ((c.tc : Thread Cert.ScoresReferenceIdeal.nD Cert.ScoresReferenceIdeal.τ).loc Cert.ScoresReferenceIdeal.main_arg4) = m ((c.tc : Thread Cert.ScoresIdeal.nD Cert.ScoresIdeal.τ).loc Cert.ScoresIdeal.main_arg4)
      ∧ m' ((c.tc : Thread Cert.ScoresReferenceIdeal.nD Cert.ScoresReferenceIdeal.τ).loc Cert.ScoresReferenceIdeal.main_arg5) = m ((c.tc : Thread Cert.ScoresIdeal.nD Cert.ScoresIdeal.τ).loc Cert.ScoresIdeal.main_arg5)
      ∧ m' ((c.tc : Thread Cert.ScoresReferenceIdeal.nD Cert.ScoresReferenceIdeal.τ).loc Cert.ScoresReferenceIdeal.main_arg6) = m ((c.tc : Thread Cert.ScoresIdeal.nD Cert.ScoresIdeal.τ).loc Cert.ScoresIdeal.main_arg6)
      ∧ m' ((c.tc : Thread Cert.ScoresReferenceIdeal.nD Cert.ScoresReferenceIdeal.τ).loc Cert.ScoresReferenceIdeal.main_arg7) = m ((c.tc : Thread Cert.ScoresIdeal.nD Cert.ScoresIdeal.τ).loc Cert.ScoresIdeal.main_arg7)
      ∧ m' ((c.tc : Thread Cert.ScoresReferenceIdeal.nD Cert.ScoresReferenceIdeal.τ).loc Cert.ScoresReferenceIdeal.main_arg8) = m ((c.tc : Thread Cert.ScoresIdeal.nD Cert.ScoresIdeal.τ).loc Cert.ScoresIdeal.main_arg8)) →
    ∃ (v0 : (c : Dev Cert.ScoresIdeal.nD) → Buf (Elt Ideal) ((c.tc : Thread Cert.ScoresIdeal.nD Cert.ScoresIdeal.τ).loc Cert.ScoresIdeal.main_v10_0)) (v1 : (c : Dev Cert.ScoresIdeal.nD) → Buf (Elt Ideal) ((c.tc : Thread Cert.ScoresIdeal.nD Cert.ScoresIdeal.τ).loc Cert.ScoresIdeal.main_v10_1)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v10_0) = v0 c
          ∧ r.2.mem ((c.tc : Thread Cert.ScoresIdeal.nD Cert.ScoresIdeal.τ).loc Cert.ScoresIdeal.main_v10_1) = v1 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
          ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
          ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4)
          ∧ r.2.mem ((c.tc : Thread Cert.ScoresIdeal.nD Cert.ScoresIdeal.τ).loc Cert.ScoresIdeal.main_arg5) = m ((c.tc : Thread Cert.ScoresIdeal.nD Cert.ScoresIdeal.τ).loc Cert.ScoresIdeal.main_arg5)
          ∧ r.2.mem ((c.tc : Thread Cert.ScoresIdeal.nD Cert.ScoresIdeal.τ).loc Cert.ScoresIdeal.main_arg6) = m ((c.tc : Thread Cert.ScoresIdeal.nD Cert.ScoresIdeal.τ).loc Cert.ScoresIdeal.main_arg6)
          ∧ r.2.mem ((c.tc : Thread Cert.ScoresIdeal.nD Cert.ScoresIdeal.τ).loc Cert.ScoresIdeal.main_arg7) = m ((c.tc : Thread Cert.ScoresIdeal.nD Cert.ScoresIdeal.τ).loc Cert.ScoresIdeal.main_arg7)
          ∧ r.2.mem ((c.tc : Thread Cert.ScoresIdeal.nD Cert.ScoresIdeal.τ).loc Cert.ScoresIdeal.main_arg8) = m ((c.tc : Thread Cert.ScoresIdeal.nD Cert.ScoresIdeal.τ).loc Cert.ScoresIdeal.main_arg8))
      ∧ θ_run (Cert.ScoresReferenceIdeal.defs (F := Ideal)) (onTc (τ := Cert.ScoresReferenceIdeal.τ) (Cert.ScoresReferenceIdeal.main (F := Ideal))) ⟨m', fun _ => 0, g'⟩ (fun r => ∀ c : Dev Cert.ScoresReferenceIdeal.nD,
          r.2.mem ((c.tc : Thread Cert.ScoresReferenceIdeal.nD Cert.ScoresReferenceIdeal.τ).loc Cert.ScoresReferenceIdeal.main_v68) = v0 c
          ∧ r.2.mem ((c.tc : Thread Cert.ScoresReferenceIdeal.nD Cert.ScoresReferenceIdeal.τ).loc Cert.ScoresReferenceIdeal.main_v84) = v1 c
          ∧ r.2.mem ((c.tc : Thread Cert.ScoresReferenceIdeal.nD Cert.ScoresReferenceIdeal.τ).loc Cert.ScoresReferenceIdeal.main_arg0) = m' ((c.tc : Thread Cert.ScoresReferenceIdeal.nD Cert.ScoresReferenceIdeal.τ).loc Cert.ScoresReferenceIdeal.main_arg0)
          ∧ r.2.mem ((c.tc : Thread Cert.ScoresReferenceIdeal.nD Cert.ScoresReferenceIdeal.τ).loc Cert.ScoresReferenceIdeal.main_arg1) = m' ((c.tc : Thread Cert.ScoresReferenceIdeal.nD Cert.ScoresReferenceIdeal.τ).loc Cert.ScoresReferenceIdeal.main_arg1)
          ∧ r.2.mem ((c.tc : Thread Cert.ScoresReferenceIdeal.nD Cert.ScoresReferenceIdeal.τ).loc Cert.ScoresReferenceIdeal.main_arg2) = m' ((c.tc : Thread Cert.ScoresReferenceIdeal.nD Cert.ScoresReferenceIdeal.τ).loc Cert.ScoresReferenceIdeal.main_arg2)
          ∧ r.2.mem ((c.tc : Thread Cert.ScoresReferenceIdeal.nD Cert.ScoresReferenceIdeal.τ).loc Cert.ScoresReferenceIdeal.main_arg3) = m' ((c.tc : Thread Cert.ScoresReferenceIdeal.nD Cert.ScoresReferenceIdeal.τ).loc Cert.ScoresReferenceIdeal.main_arg3)
          ∧ r.2.mem ((c.tc : Thread Cert.ScoresReferenceIdeal.nD Cert.ScoresReferenceIdeal.τ).loc Cert.ScoresReferenceIdeal.main_arg4) = m' ((c.tc : Thread Cert.ScoresReferenceIdeal.nD Cert.ScoresReferenceIdeal.τ).loc Cert.ScoresReferenceIdeal.main_arg4)
          ∧ r.2.mem ((c.tc : Thread Cert.ScoresReferenceIdeal.nD Cert.ScoresReferenceIdeal.τ).loc Cert.ScoresReferenceIdeal.main_arg5) = m' ((c.tc : Thread Cert.ScoresReferenceIdeal.nD Cert.ScoresReferenceIdeal.τ).loc Cert.ScoresReferenceIdeal.main_arg5)
          ∧ r.2.mem ((c.tc : Thread Cert.ScoresReferenceIdeal.nD Cert.ScoresReferenceIdeal.τ).loc Cert.ScoresReferenceIdeal.main_arg6) = m' ((c.tc : Thread Cert.ScoresReferenceIdeal.nD Cert.ScoresReferenceIdeal.τ).loc Cert.ScoresReferenceIdeal.main_arg6)
          ∧ r.2.mem ((c.tc : Thread Cert.ScoresReferenceIdeal.nD Cert.ScoresReferenceIdeal.τ).loc Cert.ScoresReferenceIdeal.main_arg7) = m' ((c.tc : Thread Cert.ScoresReferenceIdeal.nD Cert.ScoresReferenceIdeal.τ).loc Cert.ScoresReferenceIdeal.main_arg7)
          ∧ r.2.mem ((c.tc : Thread Cert.ScoresReferenceIdeal.nD Cert.ScoresReferenceIdeal.τ).loc Cert.ScoresReferenceIdeal.main_arg8) = m' ((c.tc : Thread Cert.ScoresReferenceIdeal.nD Cert.ScoresReferenceIdeal.τ).loc Cert.ScoresReferenceIdeal.main_arg8))

def Claim : Prop :=
  ∃ (hKernel : Cert.Kernel.Facts) (hKernelIdeal : Cert.KernelIdeal.Facts) (hReferenceIdeal : Cert.ReferenceIdeal.Facts) (hScores : Cert.Scores.Facts) (hScoresIdeal : Cert.ScoresIdeal.Facts) (hScoresReferenceIdeal : Cert.ScoresReferenceIdeal.Facts) (hPre_keys_ok : Cert.Pre_keys_ok.Facts) (hPre_ids_ok : Cert.Pre_ids_ok.Facts),
    quiescent_Kernel (hKernel := hKernel) (hPre_keys_ok := hPre_keys_ok)
    ∧ quiescent_KernelIdeal (hKernelIdeal := hKernelIdeal) (hPre_keys_ok := hPre_keys_ok)
    ∧ quiescent_ReferenceIdeal (hReferenceIdeal := hReferenceIdeal)
    ∧ quiescent_ReferenceIdeal_pre_keys_ok (hReferenceIdeal := hReferenceIdeal) (hPre_keys_ok := hPre_keys_ok)
    ∧ quiescent_Scores (hScores := hScores)
    ∧ quiescent_ScoresIdeal (hScoresIdeal := hScoresIdeal)
    ∧ quiescent_ScoresIdeal_pre_ids_ok (hScoresIdeal := hScoresIdeal) (hPre_ids_ok := hPre_ids_ok)
    ∧ quiescent_ScoresReferenceIdeal (hScoresReferenceIdeal := hScoresReferenceIdeal)
    ∧ quiescent_ScoresReferenceIdeal_pre_ids_ok (hScoresReferenceIdeal := hScoresReferenceIdeal) (hPre_ids_ok := hPre_ids_ok)
    ∧ preserves_Kernel_KernelIdeal
    ∧ algebraic_KernelIdeal_ReferenceIdeal (hKernelIdeal := hKernelIdeal) (hReferenceIdeal := hReferenceIdeal) (hPre_keys_ok := hPre_keys_ok)
    ∧ preserves_Scores_ScoresIdeal
    ∧ algebraic_ScoresIdeal_ScoresReferenceIdeal_pre_ids_ok (hScoresIdeal := hScoresIdeal) (hScoresReferenceIdeal := hScoresReferenceIdeal) (hPre_ids_ok := hPre_ids_ok)
-- ==== Pre_ids_ok.lean ====
abbrev S4x2048x768 : Shape := ⟨3, ![4, 2048, 768]⟩
abbrev S4x2048 : Shape := ⟨2, ![4, 2048]⟩
abbrev S768 : Shape := ⟨1, ![768]⟩
abbrev S768x384 : Shape := ⟨2, ![768, 384]⟩
abbrev S384 : Shape := ⟨1, ![384]⟩
abbrev S384x1 : Shape := ⟨2, ![384, 1]⟩
abbrev S_ : Shape := ⟨0, ![]⟩

class Facts : Prop where
  bcast_S_S4x2048 : S_.BroadcastsInDim S4x2048 (![] : Fin 0 → Fin S4x2048.rank)

variable [Facts]

def fn {F : FTy → Type} [FloatOps F] (main_arg0 : FVec F S4x2048x768 .f32) (main_arg1 : IVec S4x2048 32) (main_arg2 : FVec F S4x2048 .f32) (main_arg3 : FVec F S768 .f32) (main_arg4 : FVec F S768 .f32) (main_arg5 : FVec F S768x384 .f32) (main_arg6 : FVec F S384 .f32) (main_arg7 : FVec F S768x384 .f32) (main_arg8 : FVec F S384x1 .f32) : IVec S4x2048 1 :=
  let main_c : IVec S_ 32 := constantI S_ 32 0#32
  let main_v0 : IVec S4x2048 32 := broadcastInDim S4x2048 ![] bcast_S_S4x2048 main_c
  let main_v1 : IVec S4x2048 1 := cmpi .sge main_arg1 main_v0
  let main_c_0 : IVec S_ 32 := constantI S_ 32 30522#32
  let main_v2 : IVec S4x2048 32 := broadcastInDim S4x2048 ![] bcast_S_S4x2048 main_c_0
  let main_v3 : IVec S4x2048 1 := cmpi .slt main_arg1 main_v2
  let main_v4 : IVec S4x2048 1 := andi main_v1 main_v3
  main_v4
-- ==== Pre_keys_ok.lean ====
abbrev S4x500x2048 : Shape := ⟨3, ![4, 500, 2048]⟩
abbrev S4x1x2048 : Shape := ⟨3, ![4, 1, 2048]⟩
abbrev S4x2048x768 : Shape := ⟨3, ![4, 2048, 768]⟩
abbrev S4x1x768 : Shape := ⟨3, ![4, 1, 768]⟩
abbrev S_ : Shape := ⟨0, ![]⟩
abbrev S2000x2048 : Shape := ⟨2, ![2000, 2048]⟩
abbrev S2000x1 : Shape := ⟨2, ![2000, 1]⟩
abbrev S2000x8 : Shape := ⟨2, ![2000, 8]⟩
abbrev S2000 : Shape := ⟨1, ![2000]⟩
abbrev S2000x256x8 : Shape := ⟨3, ![2000, 256, 8]⟩

class Facts : Prop where
  bcast_S_S4x500x2048 : S_.BroadcastsInDim S4x500x2048 (![] : Fin 0 → Fin S4x500x2048.rank)
  bcast_S4x1x2048_S4x500x2048_0_1_2 : S4x1x2048.BroadcastsInDim S4x500x2048 (![0, 1, 2] : Fin 3 → Fin S4x500x2048.rank)
  shapeCasts_S4x500x2048_S2000x2048 : S4x500x2048.ShapeCasts S2000x2048
  bcast_S_S2000x2048 : S_.BroadcastsInDim S2000x2048 (![] : Fin 0 → Fin S2000x2048.rank)
  sliceFits_S2000x2048_S2000x2048 : S2000x2048.Slices (fun _ => 0) S2000x2048
  slices_S2000x2048_S2000x1_0_7 : S2000x2048.Slices ![0, 7] S2000x1
  slices_S2000x2048_S2000x8_0_0 : S2000x2048.Slices ![0, 0] S2000x8
  bcast_S2000x1_S2000x8_0_1 : S2000x1.BroadcastsInDim S2000x8 (![0, 1] : Fin 2 → Fin S2000x8.rank)
  bcast_S_S2000x8 : S_.BroadcastsInDim S2000x8 (![] : Fin 0 → Fin S2000x8.rank)
  reducesTo_S2000x8_S2000_d1 : S2000x8.ReducesTo [1] S2000
  h_S_ : 0 < S_.numel
  bcast_S2000_S2000x1_0 : S2000.BroadcastsInDim S2000x1 (![0] : Fin 1 → Fin S2000x1.rank)
  bcast_S2000x1_S2000x2048_0_1 : S2000x1.BroadcastsInDim S2000x2048 (![0, 1] : Fin 2 → Fin S2000x2048.rank)
  shapeCasts_S2000x2048_S2000x256x8 : S2000x2048.ShapeCasts S2000x256x8
  reducesTo_S2000x256x8_S2000x8_d1 : S2000x256x8.ReducesTo [1] S2000x8
  natLt_1_32 : 1 < 32
  reducesTo_S2000x2048_S2000_d1 : S2000x2048.ReducesTo [1] S2000
  bcast_S_S2000x1 : S_.BroadcastsInDim S2000x1 (![] : Fin 0 → Fin S2000x1.rank)

variable [Facts]

def fn_where {F : FTy → Type} [FloatOps F] (arg0 : IVec S2000x8 1) (arg1 : IVec S2000x8 32) (arg2 : IVec S_ 32) : IVec S2000x8 32 :=
  let v0 : IVec S_ 32 := id arg2
  let v1 : IVec S2000x8 32 := broadcastInDim S2000x8 ![] bcast_S_S2000x8 v0
  let v2 : IVec S2000x8 32 := select arg0 arg1 v1
  v2

def fn_part3 {F : FTy → Type} [FloatOps F] (main_v15 : IVec S2000x2048 32) (main_v20 : IVec S2000x2048 1) (main_v41 : IVec S2000x2048 1) (main_v45 : IVec S2000x1 32) (main_v52 : IVec S2000x1 1) : IVec S2000x2048 1 :=
  let main_v53 : IVec S2000x2048 32 := broadcastInDim S2000x2048 ![0, 1] bcast_S2000x1_S2000x2048_0_1 main_v45
  let main_v54 : IVec S2000x2048 1 := cmpi .sge main_v15 main_v53
  let main_v55 : IVec S2000x2048 32 := (extui 32 · natLt_1_32) main_v54
  let main_c_15 : IVec S_ 32 := constantI S_ 32 0#32
  let main_v56 : IVec S2000 32 := (fun x v => Host.reduce IntOp.addi x v reducesTo_S2000x2048_S2000_d1 h_S_) main_v55 main_c_15
  let main_v57 : IVec S2000x1 32 := broadcastInDim S2000x1 ![0] bcast_S2000_S2000x1_0 main_v56
  let main_c_16 : IVec S_ 32 := constantI S_ 32 256#32
  let main_v58 : IVec S2000x1 32 := broadcastInDim S2000x1 ![] bcast_S_S2000x1 main_c_16
  let main_v59 : IVec S2000x1 1 := cmpi .sle main_v57 main_v58
  let main_v60 : IVec S2000x2048 1 := andi main_v20 main_v41
  let main_v61 : IVec S2000x2048 1 := broadcastInDim S2000x2048 ![0, 1] bcast_S2000x1_S2000x2048_0_1 main_v52
  let main_v62 : IVec S2000x2048 1 := andi main_v60 main_v61
  let main_v63 : IVec S2000x2048 1 := broadcastInDim S2000x2048 ![0, 1] bcast_S2000x1_S2000x2048_0_1 main_v59
  let main_v64 : IVec S2000x2048 1 := andi main_v62 main_v63
  main_v64

def fn_part2 {F : FTy → Type} [FloatOps F] (main_v10 : IVec S2000x2048 32) (main_v15 : IVec S2000x2048 32) (main_v20 : IVec S2000x2048 1) (main_indices : IVec S2000x2048 32) (main_v25 : IVec S2000x2048 32) (main_v26 : IVec S2000x1 32) (main_v33 : IVec S2000x1 32) (main_c_9 : IVec S_ 32) : IVec S2000x2048 1 :=
  let main_v34 : IVec S2000x2048 32 := broadcastInDim S2000x2048 ![] bcast_S_S2000x2048 main_c_9
  let main_v35 : IVec S2000x2048 1 := cmpi .slt main_v10 main_v34
  let main_v36 : IVec S2000x2048 32 := broadcastInDim S2000x2048 ![0, 1] bcast_S2000x1_S2000x2048_0_1 main_v26
  let main_v37 : IVec S2000x2048 1 := cmpi .slt main_v25 main_v36
  let main_v38 : IVec S2000x2048 1 := ori main_v35 main_v37
  let main_v39 : IVec S2000x2048 32 := broadcastInDim S2000x2048 ![0, 1] bcast_S2000x1_S2000x2048_0_1 main_v33
  let main_v40 : IVec S2000x2048 1 := cmpi .sgt main_indices main_v39
  let main_v41 : IVec S2000x2048 1 := ori main_v38 main_v40
  let main_v42 : IVec S2000x256x8 32 := shapeCast S2000x256x8 main_v15 shapeCasts_S2000x2048_S2000x256x8
  let main_c_10 : IVec S_ 32 := constantI S_ 32 2147483648#32
  let main_v43 : IVec S2000x8 32 := (fun x v => Host.reduce IntOp.maxsi x v reducesTo_S2000x256x8_S2000x8_d1 h_S_) main_v42 main_c_10
  let main_c_11 : IVec S_ 32 := constantI S_ 32 2147483647#32
  let main_v44 : IVec S2000 32 := (fun x v => Host.reduce IntOp.minsi x v reducesTo_S2000x8_S2000_d1 h_S_) main_v43 main_c_11
  let main_v45 : IVec S2000x1 32 := broadcastInDim S2000x1 ![0] bcast_S2000_S2000x1_0 main_v44
  let main_c_12 : IVec S_ 32 := constantI S_ 32 15#32
  let main_v46 : IVec S2000x2048 32 := broadcastInDim S2000x2048 ![] bcast_S_S2000x2048 main_c_12
  let main_v47 : IVec S2000x2048 1 := cmpi .sgt main_v15 main_v46
  let main_v48 : IVec S2000x2048 32 := (extui 32 · natLt_1_32) main_v47
  let main_c_13 : IVec S_ 32 := constantI S_ 32 0#32
  let main_v49 : IVec S2000 32 := (fun x v => Host.reduce IntOp.addi x v reducesTo_S2000x2048_S2000_d1 h_S_) main_v48 main_c_13
  let main_v50 : IVec S2000x1 32 := broadcastInDim S2000x1 ![0] bcast_S2000_S2000x1_0 main_v49
  let main_c_14 : IVec S_ 32 := constantI S_ 32 8#32
  let main_v51 : IVec S2000x1 32 := broadcastInDim S2000x1 ![] bcast_S_S2000x1 main_c_14
  let main_v52 : IVec S2000x1 1 := cmpi .sge main_v50 main_v51
  fn_part3 (F := F) main_v15 main_v20 main_v41 main_v45 main_v52

def fn_part1 {F : FTy → Type} [FloatOps F] (main_v4 : FVec F S2000x2048 .f32) (main_v9 : IVec S2000x2048 32) (main_v10 : IVec S2000x2048 32) (main_v15 : IVec S2000x2048 32) (main_v17 : IVec S2000x2048 1) : IVec S2000x2048 1 :=
  let main_c_4 : IVec S_ 32 := constantI S_ 32 1048576#32
  let main_v18 : IVec S2000x2048 32 := broadcastInDim S2000x2048 ![] bcast_S_S2000x2048 main_c_4
  let main_v19 : IVec S2000x2048 1 := cmpi .slt main_v9 main_v18
  let main_v20 : IVec S2000x2048 1 := andi main_v17 main_v19
  let main_values : FVec F S2000x2048 .f32 := (fun x => (Host.topK S2000x2048 1 (FloatOps.cmpfTotal .gt) x sliceFits_S2000x2048_S2000x2048).1) main_v4
  let main_indices : IVec S2000x2048 32 := (fun x => (Host.topK S2000x2048 1 (FloatOps.cmpfTotal .gt) x sliceFits_S2000x2048_S2000x2048).2) main_v4
  let main_cst_5 : FVec F S_ .f32 := constant S_ .f32 0x3F000000#32
  let main_v21 : FVec F S2000x2048 .f32 := broadcastInDim S2000x2048 ![] bcast_S_S2000x2048 main_cst_5
  let main_v22 : FVec F S2000x2048 .f32 := addf main_values main_v21
  let main_cst_6 : FVec F S_ .f32 := constant S_ .f32 0x48800000#32
  let main_v23 : FVec F S2000x2048 .f32 := broadcastInDim S2000x2048 ![] bcast_S_S2000x2048 main_cst_6
  let main_v24 : FVec F S2000x2048 .f32 := mulf main_v22 main_v23
  let main_v25 : IVec S2000x2048 32 := fptosi 32 main_v24
  let main_v26 : IVec S2000x1 32 := (extractStridedSlice S2000x1 ![0, 7] · slices_S2000x2048_S2000x1_0_7) main_v25
  let main_v27 : IVec S2000x8 32 := (extractStridedSlice S2000x8 ![0, 0] · slices_S2000x2048_S2000x8_0_0) main_v25
  let main_v28 : IVec S2000x8 32 := broadcastInDim S2000x8 ![0, 1] bcast_S2000x1_S2000x8_0_1 main_v26
  let main_v29 : IVec S2000x8 1 := cmpi .eq main_v27 main_v28
  let main_v30 : IVec S2000x8 32 := (extractStridedSlice S2000x8 ![0, 0] · slices_S2000x2048_S2000x8_0_0) main_indices
  let main_c_7 : IVec S_ 32 := constantI S_ 32 4294967295#32
  let main_v31 : IVec S2000x8 32 := fn_where (F := F) main_v29 main_v30 main_c_7
  let main_c_8 : IVec S_ 32 := constantI S_ 32 2147483648#32
  let main_v32 : IVec S2000 32 := (fun x v => Host.reduce IntOp.maxsi x v reducesTo_S2000x8_S2000_d1 h_S_) main_v31 main_c_8
  let main_v33 : IVec S2000x1 32 := broadcastInDim S2000x1 ![0] bcast_S2000_S2000x1_0 main_v32
  let main_c_9 : IVec S_ 32 := constantI S_ 32 8#32
  fn_part2 (F := F) main_v10 main_v15 main_v20 main_indices main_v25 main_v26 main_v33 main_c_9

def fn {F : FTy → Type} [FloatOps F] (main_arg0 : FVec F S4x500x2048 .f32) (main_arg1 : FVec F S4x1x2048 .f32) (main_arg2 : FVec F S4x2048x768 .f32) (main_arg3 : FVec F S4x1x768 .f32) : IVec S2000x2048 1 :=
  let main_cst : FVec F S_ .f32 := constant S_ .f32 0x3D4CCCCD#32
  let main_v0 : FVec F S4x500x2048 .f32 := broadcastInDim S4x500x2048 ![] bcast_S_S4x500x2048 main_cst
  let main_v1 : FVec F S4x500x2048 .f32 := mulf main_arg0 main_v0
  let main_v2 : FVec F S4x500x2048 .f32 := broadcastInDim S4x500x2048 ![0, 1, 2] bcast_S4x1x2048_S4x500x2048_0_1_2 main_arg1
  let main_v3 : FVec F S4x500x2048 .f32 := addf main_v2 main_v1
  let main_v4 : FVec F S2000x2048 .f32 := shapeCast S2000x2048 main_v3 shapeCasts_S4x500x2048_S2000x2048
  let main_cst_0 : FVec F S_ .f32 := constant S_ .f32 0x3F000000#32
  let main_v5 : FVec F S2000x2048 .f32 := broadcastInDim S2000x2048 ![] bcast_S_S2000x2048 main_cst_0
  let main_v6 : FVec F S2000x2048 .f32 := addf main_v4 main_v5
  let main_cst_1 : FVec F S_ .f32 := constant S_ .f32 0x48800000#32
  let main_v7 : FVec F S2000x2048 .f32 := broadcastInDim S2000x2048 ![] bcast_S_S2000x2048 main_cst_1
  let main_v8 : FVec F S2000x2048 .f32 := mulf main_v6 main_v7
  let main_v9 : IVec S2000x2048 32 := fptosi 32 main_v8
  let main_v10 : IVec S2000x2048 32 := iotaInDim S2000x2048 32 1
  let main_c : IVec S_ 32 := constantI S_ 32 2048#32
  let main_v11 : IVec S2000x2048 32 := broadcastInDim S2000x2048 ![] bcast_S_S2000x2048 main_c
  let main_v12 : IVec S2000x2048 32 := muli main_v9 main_v11
  let main_c_2 : IVec S_ 32 := constantI S_ 32 2047#32
  let main_v13 : IVec S2000x2048 32 := broadcastInDim S2000x2048 ![] bcast_S_S2000x2048 main_c_2
  let main_v14 : IVec S2000x2048 32 := subi main_v13 main_v10
  let main_v15 : IVec S2000x2048 32 := addi main_v12 main_v14
  let main_c_3 : IVec S_ 32 := constantI S_ 32 4293918720#32
  let main_v16 : IVec S2000x2048 32 := broadcastInDim S2000x2048 ![] bcast_S_S2000x2048 main_c_3
  let main_v17 : IVec S2000x2048 1 := cmpi .sge main_v9 main_v16
  fn_part1 (F := F) main_v4 main_v9 main_v10 main_v15 main_v17
-- ==== Kernel.lean ====
abbrev S4x500x2048 : Shape := ⟨3, ![4, 500, 2048]⟩
abbrev S4x1x2048 : Shape := ⟨3, ![4, 1, 2048]⟩
abbrev S4x2048x768 : Shape := ⟨3, ![4, 2048, 768]⟩
abbrev S4x1x768 : Shape := ⟨3, ![4, 1, 768]⟩
abbrev S1x500x2048 : Shape := ⟨3, ![1, 500, 2048]⟩
abbrev S1x1x2048 : Shape := ⟨3, ![1, 1, 2048]⟩
abbrev S1x2048 : Shape := ⟨2, ![1, 2048]⟩
abbrev S500x2048 : Shape := ⟨2, ![500, 2048]⟩
abbrev S4096000 : Shape := ⟨1, ![4096000]⟩
abbrev S32x65536 : Shape := ⟨2, ![32, 65536]⟩
abbrev S32768 : Shape := ⟨1, ![32768]⟩
abbrev S4096 : Shape := ⟨1, ![4096]⟩
abbrev S65536 : Shape := ⟨1, ![65536]⟩
abbrev S16 : Shape := ⟨1, ![16]⟩
abbrev S_ : Shape := ⟨0, ![]⟩
abbrev S1x65536 : Shape := ⟨2, ![1, 65536]⟩
abbrev S32x4x8x2048 : Shape := ⟨4, ![32, 4, 8, 2048]⟩
abbrev S4x9x768 : Shape := ⟨3, ![4, 9, 768]⟩
abbrev S32x1x8x2048 : Shape := ⟨4, ![32, 1, 8, 2048]⟩
abbrev S1x2048x768 : Shape := ⟨3, ![1, 2048, 768]⟩
abbrev S1x1x768 : Shape := ⟨3, ![1, 1, 768]⟩
abbrev S1x9x768 : Shape := ⟨3, ![1, 9, 768]⟩
abbrev S32x8x2048 : Shape := ⟨3, ![32, 8, 2048]⟩
abbrev S8x2048 : Shape := ⟨2, ![8, 2048]⟩
abbrev S2048x768 : Shape := ⟨2, ![2048, 768]⟩
abbrev S8x768 : Shape := ⟨2, ![8, 768]⟩
abbrev S768 : Shape := ⟨1, ![768]⟩
abbrev S1x8x768 : Shape := ⟨3, ![1, 8, 768]⟩

abbrev nBuf : Table → Nat
  | .hbm => 9
  | .local .tc .vmem => 14
  | .local .scVector .vmem => 3
  | _ => 0

abbrev bufTy : (tb : Table) → Fin (nBuf tb) → BufTy
  | .hbm, ⟨0, _⟩ => ⟨S4x500x2048, .f32⟩
  | .hbm, ⟨1, _⟩ => ⟨S4x1x2048, .f32⟩
  | .hbm, ⟨2, _⟩ => ⟨S4x2048x768, .f32⟩
  | .hbm, ⟨3, _⟩ => ⟨S4x1x768, .f32⟩
  | .hbm, ⟨4, _⟩ => ⟨S4x500x2048, .i32⟩
  | .hbm, ⟨5, _⟩ => ⟨S4096000, .i32⟩
  | .hbm, ⟨6, _⟩ => ⟨S32x65536, .f32⟩
  | .hbm, ⟨7, _⟩ => ⟨S32x4x8x2048, .f32⟩
  | .hbm, ⟨8, _⟩ => ⟨S4x9x768, .f32⟩
  | .local .tc .vmem, ⟨0, _⟩ => ⟨S1x500x2048, .f32⟩
  | .local .tc .vmem, ⟨1, _⟩ => ⟨S1x500x2048, .f32⟩
  | .local .tc .vmem, ⟨2, _⟩ => ⟨S1x1x2048, .f32⟩
  | .local .tc .vmem, ⟨3, _⟩ => ⟨S1x1x2048, .f32⟩
  | .local .tc .vmem, ⟨4, _⟩ => ⟨S1x500x2048, .i32⟩
  | .local .tc .vmem, ⟨5, _⟩ => ⟨S1x500x2048, .i32⟩
  | .local .tc .vmem, ⟨6, _⟩ => ⟨S32x1x8x2048, .f32⟩
  | .local .tc .vmem, ⟨7, _⟩ => ⟨S32x1x8x2048, .f32⟩
  | .local .tc .vmem, ⟨8, _⟩ => ⟨S1x2048x768, .f32⟩
  | .local .tc .vmem, ⟨9, _⟩ => ⟨S1x2048x768, .f32⟩
  | .local .tc .vmem, ⟨10, _⟩ => ⟨S1x1x768, .f32⟩
  | .local .tc .vmem, ⟨11, _⟩ => ⟨S1x1x768, .f32⟩
  | .local .tc .vmem, ⟨12, _⟩ => ⟨S1x9x768, .f32⟩
  | .local .tc .vmem, ⟨13, _⟩ => ⟨S1x9x768, .f32⟩
  | .local .scVector .vmem, ⟨0, _⟩ => ⟨S32768, .i32⟩
  | .local .scVector .vmem, ⟨1, _⟩ => ⟨S4096, .i32⟩
  | .local .scVector .vmem, ⟨2, _⟩ => ⟨S65536, .f32⟩
  | _, _ => ⟨S4x500x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v1_scv : Ref sig .scVector := ⟨.hbm, 5, rfl⟩
abbrev main_v2_scv : Ref sig .scVector := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc2_stg3_0 : Ref sig .tc := ⟨.vmem, 12, rfl⟩
abbrev cc2_stg3_1 : Ref sig .tc := ⟨.vmem, 13, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x500x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x500x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

@[reducible] def k1_t1_loop : Scf.Loop 32 :=
  let c0_i32 : BitVec 32 := 0#32
  let c512_i32 : BitVec 32 := 512#32
  let v4 : BitVec 32 := Scalar.addi c0_i32 c512_i32
  let c1_i32 : BitVec 32 := 1#32
  ⟨c0_i32, v4, c1_i32⟩
def k1_off1 (k1_t1 : Fin k1_t1_loop.trips) (c0_i32_5 : BitVec 32) : Fin 1 → Nat :=
  let c0_i32_4 : BitVec 32 := 0#32
  let c0_i32 : BitVec 32 := 0#32
  let c1_i32 : BitVec 32 := 1#32
  let arg7 : BitVec 32 := Scf.iv c0_i32 c1_i32 k1_t1
  let c128_i32 : BitVec 32 := 128#32
  let v10 : BitVec 32 := Scalar.muli arg7 c128_i32
  let v11 : BitVec 32 := Scalar.addi c0_i32_4 v10
  let v12 : BitVec 32 := Scalar.addi v11 c0_i32_5
  let v13 : Index := Scalar.indexCast v12
  ![v13.toNat]
@[reducible] def k1_t2_loop : Scf.Loop 32 :=
  let c0_i32_1 : BitVec 32 := 0#32
  let c4_i32 : BitVec 32 := 4#32
  let v9 : BitVec 32 := Scalar.addi c0_i32_1 c4_i32
  let c1_i32_2 : BitVec 32 := 1#32
  ⟨c0_i32_1, v9, c1_i32_2⟩
def k1_cond1 (i : grid1.Coords) (k1_t2 : Fin k1_t2_loop.trips) : BitVec 1 :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_5 : BitVec 32 := 0#32
  let c0_i32_1 : BitVec 32 := 0#32
  let c1_i32_2 : BitVec 32 := 1#32
  let arg7 : BitVec 32 := Scf.iv c0_i32_1 c1_i32_2 k1_t2
  let c1_i32_4 : BitVec 32 := 1#32
  let v10 : BitVec 32 := Scalar.muli arg7 c1_i32_4
  let v11 : BitVec 32 := Scalar.addi c0_i32_5 v10
  let c32_i32 : BitVec 32 := 32#32
  let v12 : BitVec 32 := Scalar.muli v11 c32_i32
  let v13 : BitVec 32 := Scalar.addi v3 v12
  let c125_i32 : BitVec 32 := 125#32
  let v14 : BitVec 1 := Scalar.cmpi .slt v13 c125_i32
  let v15 : BitVec 32 := Scalar.extui v14
  let c0_i32_6 : BitVec 32 := 0#32
  let v16 : BitVec 1 := Scalar.cmpi .ne v15 c0_i32_6
  v16

def k1_off2 (i : grid1.Coords) (k1_t2 : Fin k1_t2_loop.trips) : Fin 1 → Nat :=
  let c16_i32 : BitVec 32 := 16#32
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_5 : BitVec 32 := 0#32
  let c0_i32_1 : BitVec 32 := 0#32
  let c1_i32_2 : BitVec 32 := 1#32
  let arg7 : BitVec 32 := Scf.iv c0_i32_1 c1_i32_2 k1_t2
  let c1_i32_4 : BitVec 32 := 1#32
  let v10 : BitVec 32 := Scalar.muli arg7 c1_i32_4
  let v11 : BitVec 32 := Scalar.addi c0_i32_5 v10
  let c32_i32 : BitVec 32 := 32#32
  let v12 : BitVec 32 := Scalar.muli v11 c32_i32
  let v13 : BitVec 32 := Scalar.addi v3 v12
  let v17 : BitVec 32 := Scalar.muli c16_i32 v13
  let c2048_i32_7 : BitVec 32 := 2048#32
  let v18 : BitVec 32 := Scalar.muli v17 c2048_i32_7
  ![v18.toNat]
@[reducible] def k1_t3_loop : Scf.Loop 32 :=
  let c0_i32_15 : BitVec 32 := 0#32
  let c128_i32 : BitVec 32 := 128#32
  let v27 : BitVec 32 := Scalar.addi c0_i32_15 c128_i32
  let c1_i32_16 : BitVec 32 := 1#32
  ⟨c0_i32_15, v27, c1_i32_16⟩

def k1_chk1 (i : grid1.Coords) (k1_t2 : Fin k1_t2_loop.trips) (v41 : IVec S16 32) : Prop :=
  (∀ (k1_h1 : k1_cond1 i k1_t2 = 1#1), ∀ a x, ((![v41] : Fin 1 → IVec S16 32) a x).toNat < S32768.size a)
theorem k1_idx1_inb : ∀ (i : grid1.Coords) (k1_t2 : Fin k1_t2_loop.trips) (v41 : IVec S16 32) (k1_hw1 : k1_chk1 i k1_t2 v41), ∀ (k1_h1 : k1_cond1 i k1_t2 = 1#1), ∀ a x, ((![v41] : Fin 1 → IVec S16 32) a x).toNat < S32768.size a := fun i k1_t2 v41 k1_hw1 k1_h1 => k1_hw1 k1_h1

def k1_chk2 (i : grid1.Coords) (k1_t2 : Fin k1_t2_loop.trips) (v45 : IVec S16 32) : Prop :=
  (∀ (k1_h1 : k1_cond1 i k1_t2 = 1#1), ∀ a x, ((![v45] : Fin 1 → IVec S16 32) a x).toNat < S32768.size a)
theorem k1_idx2_inb : ∀ (i : grid1.Coords) (k1_t2 : Fin k1_t2_loop.trips) (v45 : IVec S16 32) (k1_hw2 : k1_chk2 i k1_t2 v45), ∀ (k1_h1 : k1_cond1 i k1_t2 = 1#1), ∀ a x, ((![v45] : Fin 1 → IVec S16 32) a x).toNat < S32768.size a := fun i k1_t2 v45 k1_hw2 k1_h1 => k1_hw2 k1_h1

def k1_chk3 (i : grid1.Coords) (k1_t2 : Fin k1_t2_loop.trips) (v49 : IVec S16 32) : Prop :=
  (∀ (k1_h1 : k1_cond1 i k1_t2 = 1#1), ∀ a x, ((![v49] : Fin 1 → IVec S16 32) a x).toNat < S32768.size a)
theorem k1_idx3_inb : ∀ (i : grid1.Coords) (k1_t2 : Fin k1_t2_loop.trips) (v49 : IVec S16 32) (k1_hw3 : k1_chk3 i k1_t2 v49), ∀ (k1_h1 : k1_cond1 i k1_t2 = 1#1), ∀ a x, ((![v49] : Fin 1 → IVec S16 32) a x).toNat < S32768.size a := fun i k1_t2 v49 k1_hw3 k1_h1 => k1_hw3 k1_h1

def k1_chk4 (i : grid1.Coords) (k1_t2 : Fin k1_t2_loop.trips) (v53 : IVec S16 32) : Prop :=
  (∀ (k1_h1 : k1_cond1 i k1_t2 = 1#1), ∀ a x, ((![v53] : Fin 1 → IVec S16 32) a x).toNat < S32768.size a)
theorem k1_idx4_inb : ∀ (i : grid1.Coords) (k1_t2 : Fin k1_t2_loop.trips) (v53 : IVec S16 32) (k1_hw4 : k1_chk4 i k1_t2 v53), ∀ (k1_h1 : k1_cond1 i k1_t2 = 1#1), ∀ a x, ((![v53] : Fin 1 → IVec S16 32) a x).toNat < S32768.size a := fun i k1_t2 v53 k1_hw4 k1_h1 => k1_hw4 k1_h1

def k1_chk5 (i : grid1.Coords) (k1_t2 : Fin k1_t2_loop.trips) (v57 : IVec S16 32) : Prop :=
  (∀ (k1_h1 : k1_cond1 i k1_t2 = 1#1), ∀ a x, ((![v57] : Fin 1 → IVec S16 32) a x).toNat < S32768.size a)
theorem k1_idx5_inb : ∀ (i : grid1.Coords) (k1_t2 : Fin k1_t2_loop.trips) (v57 : IVec S16 32) (k1_hw5 : k1_chk5 i k1_t2 v57), ∀ (k1_h1 : k1_cond1 i k1_t2 = 1#1), ∀ a x, ((![v57] : Fin 1 → IVec S16 32) a x).toNat < S32768.size a := fun i k1_t2 v57 k1_hw5 k1_h1 => k1_hw5 k1_h1

def k1_chk6 (i : grid1.Coords) (k1_t2 : Fin k1_t2_loop.trips) (v61 : IVec S16 32) : Prop :=
  (∀ (k1_h1 : k1_cond1 i k1_t2 = 1#1), ∀ a x, ((![v61] : Fin 1 → IVec S16 32) a x).toNat < S32768.size a)
theorem k1_idx6_inb : ∀ (i : grid1.Coords) (k1_t2 : Fin k1_t2_loop.trips) (v61 : IVec S16 32) (k1_hw6 : k1_chk6 i k1_t2 v61), ∀ (k1_h1 : k1_cond1 i k1_t2 = 1#1), ∀ a x, ((![v61] : Fin 1 → IVec S16 32) a x).toNat < S32768.size a := fun i k1_t2 v61 k1_hw6 k1_h1 => k1_hw6 k1_h1

def k1_chk7 (i : grid1.Coords) (k1_t2 : Fin k1_t2_loop.trips) (v65 : IVec S16 32) : Prop :=
  (∀ (k1_h1 : k1_cond1 i k1_t2 = 1#1), ∀ a x, ((![v65] : Fin 1 → IVec S16 32) a x).toNat < S32768.size a)
theorem k1_idx7_inb : ∀ (i : grid1.Coords) (k1_t2 : Fin k1_t2_loop.trips) (v65 : IVec S16 32) (k1_hw7 : k1_chk7 i k1_t2 v65), ∀ (k1_h1 : k1_cond1 i k1_t2 = 1#1), ∀ a x, ((![v65] : Fin 1 → IVec S16 32) a x).toNat < S32768.size a := fun i k1_t2 v65 k1_hw7 k1_h1 => k1_hw7 k1_h1

def k1_chk8 (i : grid1.Coords) (k1_t2 : Fin k1_t2_loop.trips) (v69 : IVec S16 32) : Prop :=
  (∀ (k1_h1 : k1_cond1 i k1_t2 = 1#1), ∀ a x, ((![v69] : Fin 1 → IVec S16 32) a x).toNat < S32768.size a)
theorem k1_idx8_inb : ∀ (i : grid1.Coords) (k1_t2 : Fin k1_t2_loop.trips) (v69 : IVec S16 32) (k1_hw8 : k1_chk8 i k1_t2 v69), ∀ (k1_h1 : k1_cond1 i k1_t2 = 1#1), ∀ a x, ((![v69] : Fin 1 → IVec S16 32) a x).toNat < S32768.size a := fun i k1_t2 v69 k1_hw8 k1_h1 => k1_hw8 k1_h1

def k1_chk9 (i : grid1.Coords) (k1_t2 : Fin k1_t2_loop.trips) (v73 : IVec S16 32) : Prop :=
  (∀ (k1_h1 : k1_cond1 i k1_t2 = 1#1), ∀ a x, ((![v73] : Fin 1 → IVec S16 32) a x).toNat < S32768.size a)
theorem k1_idx9_inb : ∀ (i : grid1.Coords) (k1_t2 : Fin k1_t2_loop.trips) (v73 : IVec S16 32) (k1_hw9 : k1_chk9 i k1_t2 v73), ∀ (k1_h1 : k1_cond1 i k1_t2 = 1#1), ∀ a x, ((![v73] : Fin 1 → IVec S16 32) a x).toNat < S32768.size a := fun i k1_t2 v73 k1_hw9 k1_h1 => k1_hw9 k1_h1

def k1_chk10 (i : grid1.Coords) (k1_t2 : Fin k1_t2_loop.trips) (v77 : IVec S16 32) : Prop :=
  (∀ (k1_h1 : k1_cond1 i k1_t2 = 1#1), ∀ a x, ((![v77] : Fin 1 → IVec S16 32) a x).toNat < S32768.size a)
theorem k1_idx10_inb : ∀ (i : grid1.Coords) (k1_t2 : Fin k1_t2_loop.trips) (v77 : IVec S16 32) (k1_hw10 : k1_chk10 i k1_t2 v77), ∀ (k1_h1 : k1_cond1 i k1_t2 = 1#1), ∀ a x, ((![v77] : Fin 1 → IVec S16 32) a x).toNat < S32768.size a := fun i k1_t2 v77 k1_hw10 k1_h1 => k1_hw10 k1_h1

def k1_chk11 (i : grid1.Coords) (k1_t2 : Fin k1_t2_loop.trips) (v81 : IVec S16 32) : Prop :=
  (∀ (k1_h1 : k1_cond1 i k1_t2 = 1#1), ∀ a x, ((![v81] : Fin 1 → IVec S16 32) a x).toNat < S32768.size a)
theorem k1_idx11_inb : ∀ (i : grid1.Coords) (k1_t2 : Fin k1_t2_loop.trips) (v81 : IVec S16 32) (k1_hw11 : k1_chk11 i k1_t2 v81), ∀ (k1_h1 : k1_cond1 i k1_t2 = 1#1), ∀ a x, ((![v81] : Fin 1 → IVec S16 32) a x).toNat < S32768.size a := fun i k1_t2 v81 k1_hw11 k1_h1 => k1_hw11 k1_h1

def k1_chk12 (i : grid1.Coords) (k1_t2 : Fin k1_t2_loop.trips) (v85 : IVec S16 32) : Prop :=
  (∀ (k1_h1 : k1_cond1 i k1_t2 = 1#1), ∀ a x, ((![v85] : Fin 1 → IVec S16 32) a x).toNat < S32768.size a)
theorem k1_idx12_inb : ∀ (i : grid1.Coords) (k1_t2 : Fin k1_t2_loop.trips) (v85 : IVec S16 32) (k1_hw12 : k1_chk12 i k1_t2 v85), ∀ (k1_h1 : k1_cond1 i k1_t2 = 1#1), ∀ a x, ((![v85] : Fin 1 → IVec S16 32) a x).toNat < S32768.size a := fun i k1_t2 v85 k1_hw12 k1_h1 => k1_hw12 k1_h1

def k1_chk13 (i : grid1.Coords) (k1_t2 : Fin k1_t2_loop.trips) (v89 : IVec S16 32) : Prop :=
  (∀ (k1_h1 : k1_cond1 i k1_t2 = 1#1), ∀ a x, ((![v89] : Fin 1 → IVec S16 32) a x).toNat < S32768.size a)
theorem k1_idx13_inb : ∀ (i : grid1.Coords) (k1_t2 : Fin k1_t2_loop.trips) (v89 : IVec S16 32) (k1_hw13 : k1_chk13 i k1_t2 v89), ∀ (k1_h1 : k1_cond1 i k1_t2 = 1#1), ∀ a x, ((![v89] : Fin 1 → IVec S16 32) a x).toNat < S32768.size a := fun i k1_t2 v89 k1_hw13 k1_h1 => k1_hw13 k1_h1

def k1_chk14 (i : grid1.Coords) (k1_t2 : Fin k1_t2_loop.trips) (v93 : IVec S16 32) : Prop :=
  (∀ (k1_h1 : k1_cond1 i k1_t2 = 1#1), ∀ a x, ((![v93] : Fin 1 → IVec S16 32) a x).toNat < S32768.size a)
theorem k1_idx14_inb : ∀ (i : grid1.Coords) (k1_t2 : Fin k1_t2_loop.trips) (v93 : IVec S16 32) (k1_hw14 : k1_chk14 i k1_t2 v93), ∀ (k1_h1 : k1_cond1 i k1_t2 = 1#1), ∀ a x, ((![v93] : Fin 1 → IVec S16 32) a x).toNat < S32768.size a := fun i k1_t2 v93 k1_hw14 k1_h1 => k1_hw14 k1_h1

def k1_chk15 (i : grid1.Coords) (k1_t2 : Fin k1_t2_loop.trips) (v97 : IVec S16 32) : Prop :=
  (∀ (k1_h1 : k1_cond1 i k1_t2 = 1#1), ∀ a x, ((![v97] : Fin 1 → IVec S16 32) a x).toNat < S32768.size a)
theorem k1_idx15_inb : ∀ (i : grid1.Coords) (k1_t2 : Fin k1_t2_loop.trips) (v97 : IVec S16 32) (k1_hw15 : k1_chk15 i k1_t2 v97), ∀ (k1_h1 : k1_cond1 i k1_t2 = 1#1), ∀ a x, ((![v97] : Fin 1 → IVec S16 32) a x).toNat < S32768.size a := fun i k1_t2 v97 k1_hw15 k1_h1 => k1_hw15 k1_h1

def k1_chk16 (i : grid1.Coords) (k1_t2 : Fin k1_t2_loop.trips) (v101 : IVec S16 32) : Prop :=
  (∀ (k1_h1 : k1_cond1 i k1_t2 = 1#1), ∀ a x, ((![v101] : Fin 1 → IVec S16 32) a x).toNat < S32768.size a)
theorem k1_idx16_inb : ∀ (i : grid1.Coords) (k1_t2 : Fin k1_t2_loop.trips) (v101 : IVec S16 32) (k1_hw16 : k1_chk16 i k1_t2 v101), ∀ (k1_h1 : k1_cond1 i k1_t2 = 1#1), ∀ a x, ((![v101] : Fin 1 → IVec S16 32) a x).toNat < S32768.size a := fun i k1_t2 v101 k1_hw16 k1_h1 => k1_hw16 k1_h1
@[reducible] def k1_t4_loop : Scf.Loop 32 :=
  let c0_i32_19 : BitVec 32 := 0#32
  let c256_i32_20 : BitVec 32 := 256#32
  let v37 : BitVec 32 := Scalar.addi c0_i32_19 c256_i32_20
  let c1_i32_21 : BitVec 32 := 1#32
  ⟨c0_i32_19, v37, c1_i32_21⟩

def k1_chk17 (i : grid1.Coords) (k1_t2 : Fin k1_t2_loop.trips) (v41 : IVec S16 32) : Prop :=
  (∀ (k1_h1 : k1_cond1 i k1_t2 = 1#1), ∀ a x, ((![v41] : Fin 1 → IVec S16 32) a x).toNat < S32768.size a)
theorem k1_idx17_inb : ∀ (i : grid1.Coords) (k1_t2 : Fin k1_t2_loop.trips) (v41 : IVec S16 32) (k1_hw17 : k1_chk17 i k1_t2 v41), ∀ (k1_h1 : k1_cond1 i k1_t2 = 1#1), ∀ a x, ((![v41] : Fin 1 → IVec S16 32) a x).toNat < S32768.size a := fun i k1_t2 v41 k1_hw17 k1_h1 => k1_hw17 k1_h1

def k1_chk18 (i : grid1.Coords) (k1_t2 : Fin k1_t2_loop.trips) (v46 : IVec S16 32) : Prop :=
  (∀ (k1_h1 : k1_cond1 i k1_t2 = 1#1), ∀ a x, ((![v46] : Fin 1 → IVec S16 32) a x).toNat < S4096.size a)
theorem k1_idx18_inb : ∀ (i : grid1.Coords) (k1_t2 : Fin k1_t2_loop.trips) (v46 : IVec S16 32) (k1_hw18 : k1_chk18 i k1_t2 v46), ∀ (k1_h1 : k1_cond1 i k1_t2 = 1#1), ∀ a x, ((![v46] : Fin 1 → IVec S16 32) a x).toNat < S4096.size a := fun i k1_t2 v46 k1_hw18 k1_h1 => k1_hw18 k1_h1

def k1_chk19 (i : grid1.Coords) (k1_t2 : Fin k1_t2_loop.trips) (v50 : IVec S16 32) : Prop :=
  (∀ (k1_h1 : k1_cond1 i k1_t2 = 1#1), ∀ a x, ((![v50] : Fin 1 → IVec S16 32) a x).toNat < S32768.size a)
theorem k1_idx19_inb : ∀ (i : grid1.Coords) (k1_t2 : Fin k1_t2_loop.trips) (v50 : IVec S16 32) (k1_hw19 : k1_chk19 i k1_t2 v50), ∀ (k1_h1 : k1_cond1 i k1_t2 = 1#1), ∀ a x, ((![v50] : Fin 1 → IVec S16 32) a x).toNat < S32768.size a := fun i k1_t2 v50 k1_hw19 k1_h1 => k1_hw19 k1_h1

def k1_chk20 (i : grid1.Coords) (k1_t2 : Fin k1_t2_loop.trips) (v55 : IVec S16 32) : Prop :=
  (∀ (k1_h1 : k1_cond1 i k1_t2 = 1#1), ∀ a x, ((![v55] : Fin 1 → IVec S16 32) a x).toNat < S4096.size a)
theorem k1_idx20_inb : ∀ (i : grid1.Coords) (k1_t2 : Fin k1_t2_loop.trips) (v55 : IVec S16 32) (k1_hw20 : k1_chk20 i k1_t2 v55), ∀ (k1_h1 : k1_cond1 i k1_t2 = 1#1), ∀ a x, ((![v55] : Fin 1 → IVec S16 32) a x).toNat < S4096.size a := fun i k1_t2 v55 k1_hw20 k1_h1 => k1_hw20 k1_h1

def k1_chk21 (i : grid1.Coords) (k1_t2 : Fin k1_t2_loop.trips) (v59 : IVec S16 32) : Prop :=
  (∀ (k1_h1 : k1_cond1 i k1_t2 = 1#1), ∀ a x, ((![v59] : Fin 1 → IVec S16 32) a x).toNat < S32768.size a)
theorem k1_idx21_inb : ∀ (i : grid1.Coords) (k1_t2 : Fin k1_t2_loop.trips) (v59 : IVec S16 32) (k1_hw21 : k1_chk21 i k1_t2 v59), ∀ (k1_h1 : k1_cond1 i k1_t2 = 1#1), ∀ a x, ((![v59] : Fin 1 → IVec S16 32) a x).toNat < S32768.size a := fun i k1_t2 v59 k1_hw21 k1_h1 => k1_hw21 k1_h1

def k1_chk22 (i : grid1.Coords) (k1_t2 : Fin k1_t2_loop.trips) (v64 : IVec S16 32) : Prop :=
  (∀ (k1_h1 : k1_cond1 i k1_t2 = 1#1), ∀ a x, ((![v64] : Fin 1 → IVec S16 32) a x).toNat < S4096.size a)
theorem k1_idx22_inb : ∀ (i : grid1.Coords) (k1_t2 : Fin k1_t2_loop.trips) (v64 : IVec S16 32) (k1_hw22 : k1_chk22 i k1_t2 v64), ∀ (k1_h1 : k1_cond1 i k1_t2 = 1#1), ∀ a x, ((![v64] : Fin 1 → IVec S16 32) a x).toNat < S4096.size a := fun i k1_t2 v64 k1_hw22 k1_h1 => k1_hw22 k1_h1

def k1_chk23 (i : grid1.Coords) (k1_t2 : Fin k1_t2_loop.trips) (v68 : IVec S16 32) : Prop :=
  (∀ (k1_h1 : k1_cond1 i k1_t2 = 1#1), ∀ a x, ((![v68] : Fin 1 → IVec S16 32) a x).toNat < S32768.size a)
theorem k1_idx23_inb : ∀ (i : grid1.Coords) (k1_t2 : Fin k1_t2_loop.trips) (v68 : IVec S16 32) (k1_hw23 : k1_chk23 i k1_t2 v68), ∀ (k1_h1 : k1_cond1 i k1_t2 = 1#1), ∀ a x, ((![v68] : Fin 1 → IVec S16 32) a x).toNat < S32768.size a := fun i k1_t2 v68 k1_hw23 k1_h1 => k1_hw23 k1_h1

def k1_chk24 (i : grid1.Coords) (k1_t2 : Fin k1_t2_loop.trips) (v73 : IVec S16 32) : Prop :=
  (∀ (k1_h1 : k1_cond1 i k1_t2 = 1#1), ∀ a x, ((![v73] : Fin 1 → IVec S16 32) a x).toNat < S4096.size a)
theorem k1_idx24_inb : ∀ (i : grid1.Coords) (k1_t2 : Fin k1_t2_loop.trips) (v73 : IVec S16 32) (k1_hw24 : k1_chk24 i k1_t2 v73), ∀ (k1_h1 : k1_cond1 i k1_t2 = 1#1), ∀ a x, ((![v73] : Fin 1 → IVec S16 32) a x).toNat < S4096.size a := fun i k1_t2 v73 k1_hw24 k1_h1 => k1_hw24 k1_h1

def k1_chk25 (i : grid1.Coords) (k1_t2 : Fin k1_t2_loop.trips) (v77 : IVec S16 32) : Prop :=
  (∀ (k1_h1 : k1_cond1 i k1_t2 = 1#1), ∀ a x, ((![v77] : Fin 1 → IVec S16 32) a x).toNat < S32768.size a)
theorem k1_idx25_inb : ∀ (i : grid1.Coords) (k1_t2 : Fin k1_t2_loop.trips) (v77 : IVec S16 32) (k1_hw25 : k1_chk25 i k1_t2 v77), ∀ (k1_h1 : k1_cond1 i k1_t2 = 1#1), ∀ a x, ((![v77] : Fin 1 → IVec S16 32) a x).toNat < S32768.size a := fun i k1_t2 v77 k1_hw25 k1_h1 => k1_hw25 k1_h1

def k1_chk26 (i : grid1.Coords) (k1_t2 : Fin k1_t2_loop.trips) (v82 : IVec S16 32) : Prop :=
  (∀ (k1_h1 : k1_cond1 i k1_t2 = 1#1), ∀ a x, ((![v82] : Fin 1 → IVec S16 32) a x).toNat < S4096.size a)
theorem k1_idx26_inb : ∀ (i : grid1.Coords) (k1_t2 : Fin k1_t2_loop.trips) (v82 : IVec S16 32) (k1_hw26 : k1_chk26 i k1_t2 v82), ∀ (k1_h1 : k1_cond1 i k1_t2 = 1#1), ∀ a x, ((![v82] : Fin 1 → IVec S16 32) a x).toNat < S4096.size a := fun i k1_t2 v82 k1_hw26 k1_h1 => k1_hw26 k1_h1

def k1_chk27 (i : grid1.Coords) (k1_t2 : Fin k1_t2_loop.trips) (v86 : IVec S16 32) : Prop :=
  (∀ (k1_h1 : k1_cond1 i k1_t2 = 1#1), ∀ a x, ((![v86] : Fin 1 → IVec S16 32) a x).toNat < S32768.size a)
theorem k1_idx27_inb : ∀ (i : grid1.Coords) (k1_t2 : Fin k1_t2_loop.trips) (v86 : IVec S16 32) (k1_hw27 : k1_chk27 i k1_t2 v86), ∀ (k1_h1 : k1_cond1 i k1_t2 = 1#1), ∀ a x, ((![v86] : Fin 1 → IVec S16 32) a x).toNat < S32768.size a := fun i k1_t2 v86 k1_hw27 k1_h1 => k1_hw27 k1_h1

def k1_chk28 (i : grid1.Coords) (k1_t2 : Fin k1_t2_loop.trips) (v91 : IVec S16 32) : Prop :=
  (∀ (k1_h1 : k1_cond1 i k1_t2 = 1#1), ∀ a x, ((![v91] : Fin 1 → IVec S16 32) a x).toNat < S4096.size a)
theorem k1_idx28_inb : ∀ (i : grid1.Coords) (k1_t2 : Fin k1_t2_loop.trips) (v91 : IVec S16 32) (k1_hw28 : k1_chk28 i k1_t2 v91), ∀ (k1_h1 : k1_cond1 i k1_t2 = 1#1), ∀ a x, ((![v91] : Fin 1 → IVec S16 32) a x).toNat < S4096.size a := fun i k1_t2 v91 k1_hw28 k1_h1 => k1_hw28 k1_h1

def k1_chk29 (i : grid1.Coords) (k1_t2 : Fin k1_t2_loop.trips) (v95 : IVec S16 32) : Prop :=
  (∀ (k1_h1 : k1_cond1 i k1_t2 = 1#1), ∀ a x, ((![v95] : Fin 1 → IVec S16 32) a x).toNat < S32768.size a)
theorem k1_idx29_inb : ∀ (i : grid1.Coords) (k1_t2 : Fin k1_t2_loop.trips) (v95 : IVec S16 32) (k1_hw29 : k1_chk29 i k1_t2 v95), ∀ (k1_h1 : k1_cond1 i k1_t2 = 1#1), ∀ a x, ((![v95] : Fin 1 → IVec S16 32) a x).toNat < S32768.size a := fun i k1_t2 v95 k1_hw29 k1_h1 => k1_hw29 k1_h1

def k1_chk30 (i : grid1.Coords) (k1_t2 : Fin k1_t2_loop.trips) (v100 : IVec S16 32) : Prop :=
  (∀ (k1_h1 : k1_cond1 i k1_t2 = 1#1), ∀ a x, ((![v100] : Fin 1 → IVec S16 32) a x).toNat < S4096.size a)
theorem k1_idx30_inb : ∀ (i : grid1.Coords) (k1_t2 : Fin k1_t2_loop.trips) (v100 : IVec S16 32) (k1_hw30 : k1_chk30 i k1_t2 v100), ∀ (k1_h1 : k1_cond1 i k1_t2 = 1#1), ∀ a x, ((![v100] : Fin 1 → IVec S16 32) a x).toNat < S4096.size a := fun i k1_t2 v100 k1_hw30 k1_h1 => k1_hw30 k1_h1

def k1_chk31 (i : grid1.Coords) (k1_t2 : Fin k1_t2_loop.trips) (v104 : IVec S16 32) : Prop :=
  (∀ (k1_h1 : k1_cond1 i k1_t2 = 1#1), ∀ a x, ((![v104] : Fin 1 → IVec S16 32) a x).toNat < S32768.size a)
theorem k1_idx31_inb : ∀ (i : grid1.Coords) (k1_t2 : Fin k1_t2_loop.trips) (v104 : IVec S16 32) (k1_hw31 : k1_chk31 i k1_t2 v104), ∀ (k1_h1 : k1_cond1 i k1_t2 = 1#1), ∀ a x, ((![v104] : Fin 1 → IVec S16 32) a x).toNat < S32768.size a := fun i k1_t2 v104 k1_hw31 k1_h1 => k1_hw31 k1_h1

def k1_chk32 (i : grid1.Coords) (k1_t2 : Fin k1_t2_loop.trips) (v109 : IVec S16 32) : Prop :=
  (∀ (k1_h1 : k1_cond1 i k1_t2 = 1#1), ∀ a x, ((![v109] : Fin 1 → IVec S16 32) a x).toNat < S4096.size a)
theorem k1_idx32_inb : ∀ (i : grid1.Coords) (k1_t2 : Fin k1_t2_loop.trips) (v109 : IVec S16 32) (k1_hw32 : k1_chk32 i k1_t2 v109), ∀ (k1_h1 : k1_cond1 i k1_t2 = 1#1), ∀ a x, ((![v109] : Fin 1 → IVec S16 32) a x).toNat < S4096.size a := fun i k1_t2 v109 k1_hw32 k1_h1 => k1_hw32 k1_h1
@[reducible] def k1_t5_loop : Scf.Loop 32 :=
  let c0_i32_23 : BitVec 32 := 0#32
  let c16_i32_24 : BitVec 32 := 16#32
  let v39 : BitVec 32 := Scalar.addi c0_i32_23 c16_i32_24
  let c1_i32_25 : BitVec 32 := 1#32
  ⟨c0_i32_23, v39, c1_i32_25⟩
@[reducible] def k1_t6_loop (v51 : BitVec 32) : Scf.Loop 32 :=
  let c0_i32_46 : BitVec 32 := 0#32
  let c16_i32_31 : BitVec 32 := 16#32
  let v52 : BitVec 32 := Scalar.addi v51 c16_i32_31
  let c1_i32_32 : BitVec 32 := 1#32
  let v53 : BitVec 32 := Scalar.subi v52 c1_i32_32
  let c0_i32_34 : BitVec 32 := 0#32
  let v55 : BitVec 1 := Scalar.cmpi .sgt v53 c0_i32_34
  let v56 : BitVec 32 := Scalar.extui v55
  let c0_i32_35 : BitVec 32 := 0#32
  let v57 : BitVec 1 := Scalar.cmpi .slt v53 c0_i32_35
  let v58 : BitVec 32 := Scalar.extui v57
  let v59 : BitVec 32 := Scalar.subi v56 v58
  let c16_i32_33 : BitVec 32 := 16#32
  let c0_i32_36 : BitVec 32 := 0#32
  let v60 : BitVec 1 := Scalar.cmpi .sgt c16_i32_33 c0_i32_36
  let v61 : BitVec 32 := Scalar.extui v60
  let c0_i32_37 : BitVec 32 := 0#32
  let v62 : BitVec 1 := Scalar.cmpi .slt c16_i32_33 c0_i32_37
  let v63 : BitVec 32 := Scalar.extui v62
  let v64 : BitVec 32 := Scalar.subi v61 v63
  let v65 : BitVec 1 := Scalar.cmpi .ne v59 v64
  let v66 : BitVec 32 := Scalar.remsi v53 c16_i32_33
  let c0_i32_38 : BitVec 32 := 0#32
  let v67 : BitVec 1 := Scalar.cmpi .ne v66 c0_i32_38
  let v68 : BitVec 1 := Scalar.andi v65 v67
  let v54 : BitVec 32 := Scalar.divsi v53 c16_i32_33
  let c1_i32_39 : BitVec 32 := 1#32
  let v69 : BitVec 32 := Scalar.subi v54 c1_i32_39
  let v70 : BitVec 32 := Scalar.select v68 v69 v54
  let v91 : BitVec 32 := Scalar.subi v70 c0_i32_46
  let c1_i32_47 : BitVec 32 := 1#32
  let v93 : BitVec 32 := Scalar.divsi v91 c1_i32_47
  let v94 : BitVec 32 := Scalar.muli v93 c1_i32_47
  let v95 : BitVec 32 := Scalar.addi c0_i32_46 v94
  let c1_i32_48 : BitVec 32 := 1#32
  ⟨c0_i32_46, v95, c1_i32_48⟩

def k1_off3 (k1_t5 : Fin k1_t5_loop.trips) (v51 : BitVec 32) (k1_t6 : Fin (k1_t6_loop v51).trips) : Fin 1 → Nat :=
  let c0_i32_28 : BitVec 32 := 0#32
  let c0_i32_23 : BitVec 32 := 0#32
  let c1_i32_25 : BitVec 32 := 1#32
  let arg8 : BitVec 32 := Scf.iv c0_i32_23 c1_i32_25 k1_t5
  let c1_i32_27 : BitVec 32 := 1#32
  let v40 : BitVec 32 := Scalar.muli arg8 c1_i32_27
  let v41 : BitVec 32 := Scalar.addi c0_i32_28 v40
  let c256_i32_65 : BitVec 32 := 256#32
  let v125 : BitVec 32 := Scalar.muli v41 c256_i32_65
  let c0_i32_46 : BitVec 32 := 0#32
  let c1_i32_48 : BitVec 32 := 1#32
  let arg9 : BitVec 32 := Scf.iv c0_i32_46 c1_i32_48 k1_t6
  let c16_i32_66 : BitVec 32 := 16#32
  let v126 : BitVec 32 := Scalar.muli arg9 c16_i32_66
  let v127 : BitVec 32 := Scalar.addi v125 v126
  let v128 : Index := Scalar.indexCast v127
  ![v128.toNat]
@[reducible] def k1_t7_loop : Scf.Loop 32 :=
  let c0_i32_69 : BitVec 32 := 0#32
  let c16_i32_70 : BitVec 32 := 16#32
  let v137 : BitVec 32 := Scalar.addi c0_i32_69 c16_i32_70
  let c1_i32_71 : BitVec 32 := 1#32
  ⟨c0_i32_69, v137, c1_i32_71⟩
@[reducible] def k1_t8_loop : Scf.Loop 32 :=
  let c0_i32_73 : BitVec 32 := 0#32
  let c16_i32_74 : BitVec 32 := 16#32
  let v139 : BitVec 32 := Scalar.addi c0_i32_73 c16_i32_74
  let c1_i32_75 : BitVec 32 := 1#32
  ⟨c0_i32_73, v139, c1_i32_75⟩
@[reducible] def k1_t9_loop : Scf.Loop 32 :=
  let c0_i32_79 : BitVec 32 := 0#32
  let c16_i32_80 : BitVec 32 := 16#32
  let v144 : BitVec 32 := Scalar.addi c0_i32_79 c16_i32_80
  let c1_i32_81 : BitVec 32 := 1#32
  ⟨c0_i32_79, v144, c1_i32_81⟩
@[reducible] def k1_t10_loop : Scf.Loop 32 :=
  let c0_i32_83 : BitVec 32 := 0#32
  let c16_i32_84 : BitVec 32 := 16#32
  let v146 : BitVec 32 := Scalar.addi c0_i32_83 c16_i32_84
  let c1_i32_85 : BitVec 32 := 1#32
  ⟨c0_i32_83, v146, c1_i32_85⟩
@[reducible] def k1_t11_loop (v51 : BitVec 32) : Scf.Loop 32 :=
  let c0_i32_46 : BitVec 32 := 0#32
  let c16_i32_31 : BitVec 32 := 16#32
  let v52 : BitVec 32 := Scalar.addi v51 c16_i32_31
  let c1_i32_32 : BitVec 32 := 1#32
  let v53 : BitVec 32 := Scalar.subi v52 c1_i32_32
  let c0_i32_34 : BitVec 32 := 0#32
  let v55 : BitVec 1 := Scalar.cmpi .sgt v53 c0_i32_34
  let v56 : BitVec 32 := Scalar.extui v55
  let c0_i32_35 : BitVec 32 := 0#32
  let v57 : BitVec 1 := Scalar.cmpi .slt v53 c0_i32_35
  let v58 : BitVec 32 := Scalar.extui v57
  let v59 : BitVec 32 := Scalar.subi v56 v58
  let c16_i32_33 : BitVec 32 := 16#32
  let c0_i32_36 : BitVec 32 := 0#32
  let v60 : BitVec 1 := Scalar.cmpi .sgt c16_i32_33 c0_i32_36
  let v61 : BitVec 32 := Scalar.extui v60
  let c0_i32_37 : BitVec 32 := 0#32
  let v62 : BitVec 1 := Scalar.cmpi .slt c16_i32_33 c0_i32_37
  let v63 : BitVec 32 := Scalar.extui v62
  let v64 : BitVec 32 := Scalar.subi v61 v63
  let v65 : BitVec 1 := Scalar.cmpi .ne v59 v64
  let v66 : BitVec 32 := Scalar.remsi v53 c16_i32_33
  let c0_i32_38 : BitVec 32 := 0#32
  let v67 : BitVec 1 := Scalar.cmpi .ne v66 c0_i32_38
  let v68 : BitVec 1 := Scalar.andi v65 v67
  let v54 : BitVec 32 := Scalar.divsi v53 c16_i32_33
  let c1_i32_39 : BitVec 32 := 1#32
  let v69 : BitVec 32 := Scalar.subi v54 c1_i32_39
  let v70 : BitVec 32 := Scalar.select v68 v69 v54
  let v91 : BitVec 32 := Scalar.subi v70 c0_i32_46
  let c1_i32_47 : BitVec 32 := 1#32
  let v93 : BitVec 32 := Scalar.divsi v91 c1_i32_47
  let v94 : BitVec 32 := Scalar.muli v93 c1_i32_47
  let v95 : BitVec 32 := Scalar.addi c0_i32_46 v94
  let v92 : BitVec 32 := Scalar.addi c0_i32_46 v91
  let c1_i32_49 : BitVec 32 := 1#32
  ⟨v95, v92, c1_i32_49⟩
def k1_off4 (k1_t5 : Fin k1_t5_loop.trips) (v51 : BitVec 32) (k1_t11 : Fin (k1_t11_loop v51).trips) : Fin 1 → Nat :=
  let c0_i32_28 : BitVec 32 := 0#32
  let c0_i32_23 : BitVec 32 := 0#32
  let c1_i32_25 : BitVec 32 := 1#32
  let arg8 : BitVec 32 := Scf.iv c0_i32_23 c1_i32_25 k1_t5
  let c1_i32_27 : BitVec 32 := 1#32
  let v40 : BitVec 32 := Scalar.muli arg8 c1_i32_27
  let v41 : BitVec 32 := Scalar.addi c0_i32_28 v40
  let c256_i32_65 : BitVec 32 := 256#32
  let v125 : BitVec 32 := Scalar.muli v41 c256_i32_65
  let c0_i32_46 : BitVec 32 := 0#32
  let c16_i32_31 : BitVec 32 := 16#32
  let v52 : BitVec 32 := Scalar.addi v51 c16_i32_31
  let c1_i32_32 : BitVec 32 := 1#32
  let v53 : BitVec 32 := Scalar.subi v52 c1_i32_32
  let c0_i32_34 : BitVec 32 := 0#32
  let v55 : BitVec 1 := Scalar.cmpi .sgt v53 c0_i32_34
  let v56 : BitVec 32 := Scalar.extui v55
  let c0_i32_35 : BitVec 32 := 0#32
  let v57 : BitVec 1 := Scalar.cmpi .slt v53 c0_i32_35
  let v58 : BitVec 32 := Scalar.extui v57
  let v59 : BitVec 32 := Scalar.subi v56 v58
  let c16_i32_33 : BitVec 32 := 16#32
  let c0_i32_36 : BitVec 32 := 0#32
  let v60 : BitVec 1 := Scalar.cmpi .sgt c16_i32_33 c0_i32_36
  let v61 : BitVec 32 := Scalar.extui v60
  let c0_i32_37 : BitVec 32 := 0#32
  let v62 : BitVec 1 := Scalar.cmpi .slt c16_i32_33 c0_i32_37
  let v63 : BitVec 32 := Scalar.extui v62
  let v64 : BitVec 32 := Scalar.subi v61 v63
  let v65 : BitVec 1 := Scalar.cmpi .ne v59 v64
  let v66 : BitVec 32 := Scalar.remsi v53 c16_i32_33
  let c0_i32_38 : BitVec 32 := 0#32
  let v67 : BitVec 1 := Scalar.cmpi .ne v66 c0_i32_38
  let v68 : BitVec 1 := Scalar.andi v65 v67
  let v54 : BitVec 32 := Scalar.divsi v53 c16_i32_33
  let c1_i32_39 : BitVec 32 := 1#32
  let v69 : BitVec 32 := Scalar.subi v54 c1_i32_39
  let v70 : BitVec 32 := Scalar.select v68 v69 v54
  let v91 : BitVec 32 := Scalar.subi v70 c0_i32_46
  let c1_i32_47 : BitVec 32 := 1#32
  let v93 : BitVec 32 := Scalar.divsi v91 c1_i32_47
  let v94 : BitVec 32 := Scalar.muli v93 c1_i32_47
  let v95 : BitVec 32 := Scalar.addi c0_i32_46 v94
  let c1_i32_49 : BitVec 32 := 1#32
  let arg9 : BitVec 32 := Scf.iv v95 c1_i32_49 k1_t11
  let c16_i32_66 : BitVec 32 := 16#32
  let v126 : BitVec 32 := Scalar.muli arg9 c16_i32_66
  let v127 : BitVec 32 := Scalar.addi v125 v126
  let v128 : Index := Scalar.indexCast v127
  ![v128.toNat]

def k1_chk33 (i : grid1.Coords) (k1_t2 : Fin k1_t2_loop.trips) (k1_t5 : Fin k1_t5_loop.trips) (v51 : BitVec 32) : Prop :=
  (∀ (k1_h1 : k1_cond1 i k1_t2 = 1#1), (k1_t6_loop v51).OK) ∧
  (∀ k1_t6 : Fin (k1_t6_loop v51).trips, ∀ (k1_h1 : k1_cond1 i k1_t2 = 1#1), ∀ a, (k1_off3 k1_t5 v51 k1_t6) a + S16.size a ≤ S4096.size a) ∧
  (∀ (k1_h1 : k1_cond1 i k1_t2 = 1#1), (k1_t11_loop v51).OK) ∧
  (∀ k1_t11 : Fin (k1_t11_loop v51).trips, ∀ (k1_h1 : k1_cond1 i k1_t2 = 1#1), ∀ a, (k1_off4 k1_t5 v51 k1_t11) a + S16.size a ≤ S4096.size a)
theorem k1_t6_ok : ∀ (i : grid1.Coords) (k1_t2 : Fin k1_t2_loop.trips) (k1_t5 : Fin k1_t5_loop.trips) (v51 : BitVec 32) (k1_hw33 : k1_chk33 i k1_t2 k1_t5 v51), ∀ (k1_h1 : k1_cond1 i k1_t2 = 1#1), (k1_t6_loop v51).OK := fun i k1_t2 k1_t5 v51 k1_hw33 k1_h1 => k1_hw33.1 k1_h1
theorem k1_off3_inb : ∀ (i : grid1.Coords) (k1_t2 : Fin k1_t2_loop.trips) (k1_t5 : Fin k1_t5_loop.trips) (v51 : BitVec 32) (k1_hw33 : k1_chk33 i k1_t2 k1_t5 v51) (k1_t6 : Fin (k1_t6_loop v51).trips), ∀ (k1_h1 : k1_cond1 i k1_t2 = 1#1), ∀ a, (k1_off3 k1_t5 v51 k1_t6) a + S16.size a ≤ S4096.size a := fun i k1_t2 k1_t5 v51 k1_hw33 k1_t6 k1_h1 => k1_hw33.2.1 k1_t6 k1_h1
theorem k1_t11_ok : ∀ (i : grid1.Coords) (k1_t2 : Fin k1_t2_loop.trips) (k1_t5 : Fin k1_t5_loop.trips) (v51 : BitVec 32) (k1_hw33 : k1_chk33 i k1_t2 k1_t5 v51), ∀ (k1_h1 : k1_cond1 i k1_t2 = 1#1), (k1_t11_loop v51).OK := fun i k1_t2 k1_t5 v51 k1_hw33 k1_h1 => k1_hw33.2.2.1 k1_h1
theorem k1_off4_inb : ∀ (i : grid1.Coords) (k1_t2 : Fin k1_t2_loop.trips) (k1_t5 : Fin k1_t5_loop.trips) (v51 : BitVec 32) (k1_hw33 : k1_chk33 i k1_t2 k1_t5 v51) (k1_t11 : Fin (k1_t11_loop v51).trips), ∀ (k1_h1 : k1_cond1 i k1_t2 = 1#1), ∀ a, (k1_off4 k1_t5 v51 k1_t11) a + S16.size a ≤ S4096.size a := fun i k1_t2 k1_t5 v51 k1_hw33 k1_t11 k1_h1 => k1_hw33.2.2.2 k1_t11 k1_h1

@[reducible] def k1_t12_loop : Scf.Loop 32 :=
  let c0_i32_69 : BitVec 32 := 0#32
  let c16_i32_70 : BitVec 32 := 16#32
  let v137 : BitVec 32 := Scalar.addi c0_i32_69 c16_i32_70
  let c1_i32_71 : BitVec 32 := 1#32
  ⟨c0_i32_69, v137, c1_i32_71⟩
@[reducible] def k1_t13_loop : Scf.Loop 32 :=
  let c0_i32_73 : BitVec 32 := 0#32
  let c16_i32_74 : BitVec 32 := 16#32
  let v139 : BitVec 32 := Scalar.addi c0_i32_73 c16_i32_74
  let c1_i32_75 : BitVec 32 := 1#32
  ⟨c0_i32_73, v139, c1_i32_75⟩
@[reducible] def k1_t14_loop : Scf.Loop 32 :=
  let c0_i32_79 : BitVec 32 := 0#32
  let c16_i32_80 : BitVec 32 := 16#32
  let v144 : BitVec 32 := Scalar.addi c0_i32_79 c16_i32_80
  let c1_i32_81 : BitVec 32 := 1#32
  ⟨c0_i32_79, v144, c1_i32_81⟩
@[reducible] def k1_t15_loop : Scf.Loop 32 :=
  let c0_i32_83 : BitVec 32 := 0#32
  let c16_i32_84 : BitVec 32 := 16#32
  let v146 : BitVec 32 := Scalar.addi c0_i32_83 c16_i32_84
  let c1_i32_85 : BitVec 32 := 1#32
  ⟨c0_i32_83, v146, c1_i32_85⟩
@[reducible] def k1_t16_loop : Scf.Loop 32 :=
  let c0_i32_52 : BitVec 32 := 0#32
  let c16_i32_53 : BitVec 32 := 16#32
  let v108 : BitVec 32 := Scalar.addi c0_i32_52 c16_i32_53
  let c1_i32_54 : BitVec 32 := 1#32
  ⟨c0_i32_52, v108, c1_i32_54⟩
@[reducible] def k1_t17_loop : Scf.Loop 32 :=
  let c0_i32_56 : BitVec 32 := 0#32
  let c16_i32_57 : BitVec 32 := 16#32
  let v110 : BitVec 32 := Scalar.addi c0_i32_56 c16_i32_57
  let c1_i32_58 : BitVec 32 := 1#32
  ⟨c0_i32_56, v110, c1_i32_58⟩

def k1_chk34 (i : grid1.Coords) (k1_t2 : Fin k1_t2_loop.trips) (v121 : IVec S16 32) : Prop :=
  (∀ (k1_h1 : k1_cond1 i k1_t2 = 1#1), ∀ a x, ((![v121] : Fin 1 → IVec S16 32) a x).toNat < S65536.size a)
theorem k1_idx33_inb : ∀ (i : grid1.Coords) (k1_t2 : Fin k1_t2_loop.trips) (v121 : IVec S16 32) (k1_hw34 : k1_chk34 i k1_t2 v121), ∀ (k1_h1 : k1_cond1 i k1_t2 = 1#1), ∀ a x, ((![v121] : Fin 1 → IVec S16 32) a x).toNat < S65536.size a := fun i k1_t2 v121 k1_hw34 k1_h1 => k1_hw34 k1_h1
def k1_off5 (i : grid1.Coords) : Fin 2 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c0_i32_4_r1 : BitVec 32 := 0#32
  ![v3.toNat, 0]
abbrev grid2 : Pipeline.Grid := ⟨1, ![4], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S32x1x8x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x2048x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x9x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "per_sample" => some ((500⁻¹ : ℝ) : EReal)
  | _ => none
-- ==== ReferenceIdeal.lean ====
abbrev S4x500x2048 : Shape := ⟨3, ![4, 500, 2048]⟩
abbrev S4x1x2048 : Shape := ⟨3, ![4, 1, 2048]⟩
abbrev S4x2048x768 : Shape := ⟨3, ![4, 2048, 768]⟩
abbrev S4x1x768 : Shape := ⟨3, ![4, 1, 768]⟩
abbrev S_ : Shape := ⟨0, ![]⟩
abbrev S4x500x8 : Shape := ⟨3, ![4, 500, 8]⟩
abbrev S4x500x8x1 : Shape := ⟨4, ![4, 500, 8, 1]⟩
abbrev S1x1x1x2048 : Shape := ⟨4, ![1, 1, 1, 2048]⟩
abbrev S4x500x8x2048 : Shape := ⟨4, ![4, 500, 8, 2048]⟩
abbrev S4x8x2048 : Shape := ⟨3, ![4, 8, 2048]⟩
abbrev S4x8x768 : Shape := ⟨3, ![4, 8, 768]⟩
abbrev S4x9x768 : Shape := ⟨3, ![4, 9, 768]⟩

abbrev nBuf : Space → Nat
  | .hbm => 25
  | .vmem => 0
  | .smem => 0
  | _ => 0

abbrev bufTy : (tb : Table) → Fin (tcTables nBuf tb) → BufTy
  | .hbm, ⟨0, _⟩ => ⟨S4x500x2048, .f32⟩
  | .hbm, ⟨1, _⟩ => ⟨S4x1x2048, .f32⟩
  | .hbm, ⟨2, _⟩ => ⟨S4x2048x768, .f32⟩
  | .hbm, ⟨3, _⟩ => ⟨S4x1x768, .f32⟩
  | .hbm, ⟨4, _⟩ => ⟨S_, .f32⟩
  | .hbm, ⟨5, _⟩ => ⟨S4x500x2048, .f32⟩
  | .hbm, ⟨6, _⟩ => ⟨S4x500x2048, .f32⟩
  | .hbm, ⟨7, _⟩ => ⟨S4x500x2048, .f32⟩
  | .hbm, ⟨8, _⟩ => ⟨S4x500x2048, .f32⟩
  | .hbm, ⟨9, _⟩ => ⟨S4x500x8, .f32⟩
  | .hbm, ⟨10, _⟩ => ⟨S4x500x8, .i32⟩
  | .hbm, ⟨11, _⟩ => ⟨S4x500x8, .i32⟩
  | .hbm, ⟨12, _⟩ => ⟨S4x500x8x1, .i32⟩
  | .hbm, ⟨13, _⟩ => ⟨S1x1x1x2048, .i32⟩
  | .hbm, ⟨14, _⟩ => ⟨S4x500x8x2048, .i32⟩
  | .hbm, ⟨15, _⟩ => ⟨S4x500x8x2048, .i32⟩
  | .hbm, ⟨16, _⟩ => ⟨S4x500x8x2048, .i1⟩
  | .hbm, ⟨17, _⟩ => ⟨S4x500x8x2048, .f32⟩
  | .hbm, ⟨18, _⟩ => ⟨S_, .f32⟩
  | .hbm, ⟨19, _⟩ => ⟨S4x8x2048, .f32⟩
  | .hbm, ⟨20, _⟩ => ⟨S_, .f32⟩
  | .hbm, ⟨21, _⟩ => ⟨S4x8x2048, .f32⟩
  | .hbm, ⟨22, _⟩ => ⟨S4x8x2048, .f32⟩
  | .hbm, ⟨23, _⟩ => ⟨S4x8x768, .f32⟩
  | .hbm, ⟨24, _⟩ => ⟨S4x9x768, .f32⟩
  | _, _ => ⟨S4x500x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_values : Ref sig .tc := ⟨.hbm, 9, rfl⟩
abbrev main_indices : Ref sig .tc := ⟨.hbm, 10, rfl⟩
abbrev main_v4 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩

abbrev nD : Nat := 1
abbrev τ : Topo := Topo.v7x

variable {F : FTy → Type} [FloatOps F]
-- ==== Scores.lean ====
abbrev S4x2048x768 : Shape := ⟨3, ![4, 2048, 768]⟩
abbrev S4x2048 : Shape := ⟨2, ![4, 2048]⟩
abbrev S768 : Shape := ⟨1, ![768]⟩
abbrev S768x384 : Shape := ⟨2, ![768, 384]⟩
abbrev S384 : Shape := ⟨1, ![384]⟩
abbrev S384x1 : Shape := ⟨2, ![384, 1]⟩
abbrev S4x2047 : Shape := ⟨2, ![4, 2047]⟩
abbrev S_ : Shape := ⟨0, ![]⟩
abbrev S4x1 : Shape := ⟨2, ![4, 1]⟩
abbrev S4x1x2048 : Shape := ⟨3, ![4, 1, 2048]⟩
abbrev S1x768 : Shape := ⟨2, ![1, 768]⟩
abbrev S1x384 : Shape := ⟨2, ![1, 384]⟩
abbrev S384x384 : Shape := ⟨2, ![384, 384]⟩
abbrev S4x1x768 : Shape := ⟨3, ![4, 1, 768]⟩
abbrev S1x2048x768 : Shape := ⟨3, ![1, 2048, 768]⟩
abbrev S1x1x2048 : Shape := ⟨3, ![1, 1, 2048]⟩
abbrev S1x1x768 : Shape := ⟨3, ![1, 1, 768]⟩
abbrev S2048x768 : Shape := ⟨2, ![2048, 768]⟩
abbrev S2048 : Shape := ⟨1, ![2048]⟩
abbrev S2048x1 : Shape := ⟨2, ![2048, 1]⟩
abbrev S2048x384 : Shape := ⟨2, ![2048, 384]⟩
abbrev S1x2048 : Shape := ⟨2, ![1, 2048]⟩
abbrev S1 : Shape := ⟨1, ![1]⟩
abbrev S1x1x1 : Shape := ⟨3, ![1, 1, 1]⟩

abbrev nBuf : Space → Nat
  | .hbm => 22
  | .vmem => 17
  | .smem => 0
  | _ => 0

abbrev bufTy : (tb : Table) → Fin (tcTables nBuf tb) → BufTy
  | .hbm, ⟨0, _⟩ => ⟨S4x2048x768, .f32⟩
  | .hbm, ⟨1, _⟩ => ⟨S4x2048, .i32⟩
  | .hbm, ⟨2, _⟩ => ⟨S4x2048, .f32⟩
  | .hbm, ⟨3, _⟩ => ⟨S768, .f32⟩
  | .hbm, ⟨4, _⟩ => ⟨S768, .f32⟩
  | .hbm, ⟨5, _⟩ => ⟨S768x384, .f32⟩
  | .hbm, ⟨6, _⟩ => ⟨S384, .f32⟩
  | .hbm, ⟨7, _⟩ => ⟨S768x384, .f32⟩
  | .hbm, ⟨8, _⟩ => ⟨S384x1, .f32⟩
  | .hbm, ⟨9, _⟩ => ⟨S4x2047, .f32⟩
  | .hbm, ⟨10, _⟩ => ⟨S_, .f32⟩
  | .hbm, ⟨11, _⟩ => ⟨S4x1, .f32⟩
  | .hbm, ⟨12, _⟩ => ⟨S4x2048, .f32⟩
  | .hbm, ⟨13, _⟩ => ⟨S4x1x2048, .i32⟩
  | .hbm, ⟨14, _⟩ => ⟨S4x1x2048, .f32⟩
  | .hbm, ⟨15, _⟩ => ⟨S1x768, .f32⟩
  | .hbm, ⟨16, _⟩ => ⟨S1x768, .f32⟩
  | .hbm, ⟨17, _⟩ => ⟨S1x384, .f32⟩
  | .hbm, ⟨18, _⟩ => ⟨S384x384, .f32⟩
  | .hbm, ⟨19, _⟩ => ⟨S384x384, .f32⟩
  | .hbm, ⟨20, _⟩ => ⟨S4x1x2048, .f32⟩
  | .hbm, ⟨21, _⟩ => ⟨S4x1x768, .f32⟩
  | .local _ .vmem, ⟨0, _⟩ => ⟨S1x2048x768, .f32⟩
  | .local _ .vmem, ⟨1, _⟩ => ⟨S1x2048x768, .f32⟩
  | .local _ .vmem, ⟨2, _⟩ => ⟨S1x1x2048, .i32⟩
  | .local _ .vmem, ⟨3, _⟩ => ⟨S1x1x2048, .i32⟩
  | .local _ .vmem, ⟨4, _⟩ => ⟨S1x1x2048, .f32⟩
  | .local _ .vmem, ⟨5, _⟩ => ⟨S1x1x2048, .f32⟩
  | .local _ .vmem, ⟨6, _⟩ => ⟨S1x768, .f32⟩
  | .local _ .vmem, ⟨7, _⟩ => ⟨S1x768, .f32⟩
  | .local _ .vmem, ⟨8, _⟩ => ⟨S768x384, .f32⟩
  | .local _ .vmem, ⟨9, _⟩ => ⟨S1x384, .f32⟩
  | .local _ .vmem, ⟨10, _⟩ => ⟨S384x384, .f32⟩
  | .local _ .vmem, ⟨11, _⟩ => ⟨S384x384, .f32⟩
  | .local _ .vmem, ⟨12, _⟩ => ⟨S384x1, .f32⟩
  | .local _ .vmem, ⟨13, _⟩ => ⟨S1x1x2048, .f32⟩
  | .local _ .vmem, ⟨14, _⟩ => ⟨S1x1x2048, .f32⟩
  | .local _ .vmem, ⟨15, _⟩ => ⟨S1x1x768, .f32⟩
  | .local _ .vmem, ⟨16, _⟩ => ⟨S1x1x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ScoresReferenceIdeal.lean ====
abbrev S4x2048x768 : Shape := ⟨3, ![4, 2048, 768]⟩
abbrev S4x2048 : Shape := ⟨2, ![4, 2048]⟩
abbrev S768 : Shape := ⟨1, ![768]⟩
abbrev S768x384 : Shape := ⟨2, ![768, 384]⟩
abbrev S384 : Shape := ⟨1, ![384]⟩
abbrev S384x1 : Shape := ⟨2, ![384, 1]⟩
abbrev S_ : Shape := ⟨0, ![]⟩
abbrev S4x2048x1 : Shape := ⟨3, ![4, 2048, 1]⟩
abbrev S1x1x768 : Shape := ⟨3, ![1, 1, 768]⟩
abbrev S4x2048x384 : Shape := ⟨3, ![4, 2048, 384]⟩
abbrev S1x1x384 : Shape := ⟨3, ![1, 1, 384]⟩
abbrev S4x1 : Shape := ⟨2, ![4, 1]⟩
abbrev S4 : Shape := ⟨1, ![4]⟩
abbrev S4x2 : Shape := ⟨2, ![4, 2]⟩
abbrev S4x384 : Shape := ⟨2, ![4, 384]⟩
abbrev S4x1x384 : Shape := ⟨3, ![4, 1, 384]⟩
abbrev S4x2047 : Shape := ⟨2, ![4, 2047]⟩
abbrev S4x1x2048 : Shape := ⟨3, ![4, 1, 2048]⟩
abbrev S4x768 : Shape := ⟨2, ![4, 768]⟩
abbrev S4x1x768 : Shape := ⟨3, ![4, 1, 768]⟩

abbrev nBuf : Space → Nat
  | .hbm => 137
  | .vmem => 0
  | .smem => 0
  | _ => 0

abbrev hbmTy0_0 (i : Nat) : BufTy := match i % 128 with
  | 0 => ⟨S4x2048x768, .f32⟩
  | 1 => ⟨S4x2048, .i32⟩
  | 2 => ⟨S4x2048, .f32⟩
  | 3 => ⟨S768, .f32⟩
  | 4 => ⟨S768, .f32⟩
  | 5 => ⟨S768x384, .f32⟩
  | 6 => ⟨S384, .f32⟩
  | 7 => ⟨S768x384, .f32⟩
  | 8 => ⟨S384x1, .f32⟩
  | 9 => ⟨S_, .f32⟩
  | 10 => ⟨S4x2048, .f32⟩
  | 11 => ⟨S4x2048x1, .f32⟩
  | 12 => ⟨S_, .f32⟩
  | 13 => ⟨S4x2048x1, .f32⟩
  | 14 => ⟨S4x2048x1, .f32⟩
  | 15 => ⟨S_, .i32⟩
  | 16 => ⟨S_, .f32⟩
  | 17 => ⟨S4x2048, .f32⟩
  | 18 => ⟨S4x2048x1, .f32⟩
  | 19 => ⟨S_, .f32⟩
  | 20 => ⟨S4x2048x1, .f32⟩
  | 21 => ⟨S4x2048x1, .f32⟩
  | 22 => ⟨S4x2048x768, .f32⟩
  | 23 => ⟨S4x2048x768, .f32⟩
  | 24 => ⟨S4x2048x768, .f32⟩
  | 25 => ⟨S_, .f32⟩
  | 26 => ⟨S_, .f32⟩
  | 27 => ⟨S_, .f32⟩
  | 28 => ⟨S_, .f32⟩
  | 29 => ⟨S4x2048, .f32⟩
  | 30 => ⟨S4x2048x1, .f32⟩
  | 31 => ⟨S4x2048x1, .f32⟩
  | 32 => ⟨S4x2048x1, .f32⟩
  | 33 => ⟨S_, .f32⟩
  | 34 => ⟨S_, .i1⟩
  | 35 => ⟨S_, .f32⟩
  | 36 => ⟨S_, .f32⟩
  | 37 => ⟨S4x2048x1, .f32⟩
  | 38 => ⟨S4x2048x1, .f32⟩
  | 39 => ⟨S4x2048x768, .f32⟩
  | 40 => ⟨S4x2048x768, .f32⟩
  | 41 => ⟨S_, .f32⟩
  | 42 => ⟨S4x2048x1, .f32⟩
  | 43 => ⟨S4x2048x1, .f32⟩
  | 44 => ⟨S4x2048x1, .f32⟩
  | 45 => ⟨S4x2048x768, .f32⟩
  | 46 => ⟨S4x2048x768, .f32⟩
  | 47 => ⟨S1x1x768, .f32⟩
  | 48 => ⟨S4x2048x768, .f32⟩
  | 49 => ⟨S4x2048x768, .f32⟩
  | 50 => ⟨S1x1x768, .f32⟩
  | 51 => ⟨S4x2048x768, .f32⟩
  | 52 => ⟨S4x2048x768, .f32⟩
  | 53 => ⟨S4x2048x384, .f32⟩
  | 54 => ⟨S1x1x384, .f32⟩
  | 55 => ⟨S4x2048x384, .f32⟩
  | 56 => ⟨S4x2048x384, .f32⟩
  | 57 => ⟨S_, .f32⟩
  | 58 => ⟨S4x2048x384, .f32⟩
  | 59 => ⟨S4x2048x384, .f32⟩
  | 60 => ⟨S4x2048x384, .f32⟩
  | 61 => ⟨S_, .f32⟩
  | 62 => ⟨S4x2048x384, .f32⟩
  | 63 => ⟨S4x2048x384, .f32⟩
  | 64 => ⟨S4x2048x384, .f32⟩
  | 65 => ⟨S4x2048x384, .f32⟩
  | 66 => ⟨S4x1, .i32⟩
  | 67 => ⟨S4x1, .i32⟩
  | 68 => ⟨S4, .i32⟩
  | 69 => ⟨S4, .i32⟩
  | 70 => ⟨S_, .i32⟩
  | 71 => ⟨S4, .i32⟩
  | 72 => ⟨S4, .i1⟩
  | 73 => ⟨S_, .i32⟩
  | 74 => ⟨S4, .i32⟩
  | 75 => ⟨S4, .i32⟩
  | 76 => ⟨S4, .i32⟩
  | 77 => ⟨S_, .i32⟩
  | 78 => ⟨S4, .i32⟩
  | 79 => ⟨S4, .i1⟩
  | 80 => ⟨S_, .i32⟩
  | 81 => ⟨S4, .i32⟩
  | 82 => ⟨S4, .i32⟩
  | 83 => ⟨S4, .i32⟩
  | 84 => ⟨S4x1, .i32⟩
  | 85 => ⟨S4x1, .i32⟩
  | 86 => ⟨S4x2, .i32⟩
  | 87 => ⟨S4x384, .f32⟩
  | 88 => ⟨S4x1x384, .f32⟩
  | 89 => ⟨S4x2048x384, .f32⟩
  | 90 => ⟨S4x2048x768, .f32⟩
  | 91 => ⟨S4x2048x384, .f32⟩
  | 92 => ⟨S_, .f32⟩
  | 93 => ⟨S4x2048x384, .f32⟩
  | 94 => ⟨S4x2048x384, .f32⟩
  | 95 => ⟨S4x2048x384, .f32⟩
  | 96 => ⟨S_, .f32⟩
  | 97 => ⟨S4x2048x384, .f32⟩
  | 98 => ⟨S4x2048x384, .f32⟩
  | 99 => ⟨S4x2048x384, .f32⟩
  | 100 => ⟨S4x2048x384, .f32⟩
  | 101 => ⟨S4x2048x1, .f32⟩
  | 102 => ⟨S4x2048x1, .f32⟩
  | 103 => ⟨S4x2048x1, .f32⟩
  | 104 => ⟨S_, .f32⟩
  | 105 => ⟨S4x2048x1, .f32⟩
  | 106 => ⟨S4x2048x1, .f32⟩
  | 107 => ⟨S_, .f32⟩
  | 108 => ⟨S4x2048x1, .f32⟩
  | 109 => ⟨S4x2048x1, .f32⟩
  | 110 => ⟨S4x2048, .f32⟩
  | 111 => ⟨S4x2047, .f32⟩
  | 112 => ⟨S_, .f32⟩
  | 113 => ⟨S4x1, .f32⟩
  | 114 => ⟨S4x2048, .f32⟩
  | 115 => ⟨S4x2048, .f32⟩
  | 116 => ⟨S4x1x2048, .f32⟩
  | 117 => ⟨S4, .i32⟩
  | 118 => ⟨S_, .i32⟩
  | 119 => ⟨S4, .i32⟩
  | 120 => ⟨S4, .i1⟩
  | 121 => ⟨S_, .i32⟩
  | 122 => ⟨S4, .i32⟩
  | 123 => ⟨S4, .i32⟩
  | 124 => ⟨S4, .i32⟩
  | 125 => ⟨S_, .i32⟩
  | 126 => ⟨S4, .i32⟩
  | 127 => ⟨S4, .i1⟩
  | _ => ⟨S4x2048x768, .f32⟩

abbrev hbmTy0_1 (i : Nat) : BufTy := match i % 128 with
  | 0 => ⟨S_, .i32⟩
  | 1 => ⟨S4, .i32⟩
  | 2 => ⟨S4, .i32⟩
  | 3 => ⟨S4, .i32⟩
  | 4 => ⟨S4x1, .i32⟩
  | 5 => ⟨S4x1, .i32⟩
  | 6 => ⟨S4x2, .i32⟩
  | 7 => ⟨S4x768, .f32⟩
  | 8 => ⟨S4x1x768, .f32⟩
  | _ => ⟨S4x2048x768, .f32⟩

abbrev hbmTy (i : Nat) : BufTy := match i / 128 with
  | 0 => hbmTy0_0 i
  | 1 => hbmTy0_1 i
  | _ => ⟨S4x2048x768, .f32⟩

abbrev bufTy : (tb : Table) → Fin (tcTables nBuf tb) → BufTy
  | .hbm, ⟨i, _⟩ => hbmTy i
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_cst_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_cst_2 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_cst_3 : Ref sig .tc := ⟨.hbm, 33, rfl⟩
abbrev main_call0_v13 : Ref sig .tc := ⟨.hbm, 34, rfl⟩
abbrev main_call0_cst_4 : Ref sig .tc := ⟨.hbm, 35, rfl⟩
abbrev main_call0_call0_v0 : Ref sig .tc := ⟨.hbm, 36, rfl⟩
abbrev main_call0_call0_v1 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_cst_1 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_cst_2 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_3 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_values : Ref sig .tc := ⟨.hbm, 66, rfl⟩
abbrev main_indices : Ref sig .tc := ⟨.hbm, 67, rfl⟩
abbrev main_v29 : Ref sig .tc := ⟨.hbm, 68, rfl⟩
abbrev main_v30 : Ref sig .tc := ⟨.hbm, 69, rfl⟩
abbrev main_c_4 : Ref sig .tc := ⟨.hbm, 70, rfl⟩
abbrev main_v31 : Ref sig .tc := ⟨.hbm, 71, rfl⟩
abbrev main_v32 : Ref sig .tc := ⟨.hbm, 72, rfl⟩
abbrev main_c_5 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_c_6 : Ref sig .tc := ⟨.hbm, 77, rfl⟩
abbrev main_v36 : Ref sig .tc := ⟨.hbm, 78, rfl⟩
abbrev main_v37 : Ref sig .tc := ⟨.hbm, 79, rfl⟩
abbrev main_c_7 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_cst_8 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_9 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_10 : Ref sig .tc := ⟨.hbm, 104, rfl⟩
abbrev main_v59 : Ref sig .tc := ⟨.hbm, 105, rfl⟩
abbrev main_v60 : Ref sig .tc := ⟨.hbm, 106, rfl⟩
abbrev main_cst_11 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_12 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_c_13 : Ref sig .tc := ⟨.hbm, 118, rfl⟩
abbrev main_v70 : Ref sig .tc := ⟨.hbm, 119, rfl⟩
abbrev main_v71 : Ref sig .tc := ⟨.hbm, 120, rfl⟩
abbrev main_c_14 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_c_15 : Ref sig .tc := ⟨.hbm, 125, rfl⟩
abbrev main_v75 : Ref sig .tc := ⟨.hbm, 126, rfl⟩
abbrev main_v76 : Ref sig .tc := ⟨.hbm, 127, rfl⟩
abbrev main_c_16 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩

abbrev nD : Nat := 1
abbrev τ : Topo := Topo.v7x

variable {F : FTy → Type} [FloatOps F]
-- ==== Proof.Lanes.lean ====
/-
  Sorting sixteen lanes by counting. The kernel sorts a vector of sixteen words by two loops: the first counts, for
  every lane, the lanes holding a smaller word; the second puts into lane `k` the largest word whose count is at
  most `k`. Here: what the largest lane is (the scan of the words with their sign bit flipped), what the two loops
  leave, and the merge of a descending and an ascending vector.
-/
module

public import Idealize.ShloMosaic.PureOps
public import Idealize.ShloMosaic.Lib.Scf
public import Mathlib.Tactic.IntervalCases

@[expose] public section

noncomputable section

namespace Cert.Proof.Lanes

open Idealize.ShloMosaic Idealize.SL.Sem

/-- Sixteen lanes. -/
abbrev V16 : Shape := ⟨1, ![16]⟩

/-- Lane `k`. -/
abbrev ln (k : Fin 16) : V16.Idx := Shape.ofLane (d := ![16]) k

theorem eq_ln (x : V16.Idx) : x = ln (x 0) := by
  funext a; obtain rfl : a = 0 := Subsingleton.elim _ _; rfl

/-! ## The largest lane -/

theorem toNat_flip (x : BitVec 32) : ((x ^^^ 2147483648#32).toNat : ℤ) = x.toInt + 2147483648 := by
  have hm : (x.toNat ^^^ 2147483648) % 2 ^ 31 = x.toNat % 2 ^ 31 := by
    rw [Nat.xor_mod_two_pow]; simp
  have hd : (x.toNat ^^^ 2147483648) / 2 ^ 31 = x.toNat / 2 ^ 31 ^^^ 1 := by
    rw [Nat.xor_div_two_pow]
  have hlt := x.isLt
  have h01 : x.toNat / 2 ^ 31 = 0 ∨ x.toNat / 2 ^ 31 = 1 := by omega
  rw [BitVec.toNat_xor, BitVec.toInt_eq_toNat_cond]
  show ((x.toNat ^^^ 2147483648 : ℕ) : ℤ) = _
  rcases h01 with h | h <;> rw [h] at hd <;> norm_num at hd <;> split <;> omega

theorem flip_flip (x : BitVec 32) : (x ^^^ 2147483648#32) ^^^ 2147483648#32 = x := by
  rw [BitVec.xor_assoc, BitVec.xor_self, BitVec.xor_zero]

theorem maxui_toNat (x y : BitVec 32) : (IntOp.maxui x y).toNat = max x.toNat y.toNat := by
  unfold IntOp.maxui; rw [BitVec.ult_eq_decide]; split <;> rename_i h <;> simp at h <;> omega

theorem maxui_or (x y : BitVec 32) : IntOp.maxui x y = x ∨ IntOp.maxui x y = y := by
  unfold IntOp.maxui; split <;> simp

theorem foldl_maxui {α : Type} (l : List α) (f : α → BitVec 32) (a : BitVec 32) :
    (a.toNat ≤ (l.foldl (fun r k => IntOp.maxui r (f k)) a).toNat) ∧
    (∀ k ∈ l, (f k).toNat ≤ (l.foldl (fun r k => IntOp.maxui r (f k)) a).toNat) ∧
    (l.foldl (fun r k => IntOp.maxui r (f k)) a = a ∨ ∃ k ∈ l, l.foldl (fun r k => IntOp.maxui r (f k)) a = f k) := by
  induction l generalizing a with
  | nil => simp
  | cons b l ih =>
    obtain ⟨h1, h2, h3⟩ := ih (IntOp.maxui a (f b))
    have hm := maxui_toNat a (f b)
    simp only [List.foldl_cons]
    refine ⟨by omega, ?_, ?_⟩
    · intro k hk
      rcases List.mem_cons.mp hk with rfl | hk
      · omega
      · exact h2 k hk
    · rcases h3 with h3 | ⟨k, hk, h3⟩
      · rcases maxui_or a (f b) with h | h
        · left; rw [h3, h]
        · right; exact ⟨b, by simp, by rw [h3, h]⟩
      · right; exact ⟨k, by simp [hk], h3⟩

/-- The largest of sixteen words read signed, as the kernel computes it. -/
def laneMax (w : IVec V16 32) : BitVec 32 :=
  extractAt ![15] (xori (scan .max (xori w (broadcast V16 2147483648#32))) (broadcast V16 2147483648#32))
    (by intro a; obtain rfl : a = 0 := Subsingleton.elim _ _; decide)

theorem laneMax_spec (w : IVec V16 32) :
    (∀ l, (w (ln l)).toInt ≤ (laneMax w).toInt) ∧ ∃ l, laneMax w = w (ln l) := by
  set g : V16.Idx → BitVec 32 := fun x => w x ^^^ 2147483648#32 with hg
  have hr : laneMax w = (((List.finRange 16).filter fun k => decide (0 < k.val ∧ k.val ≤ 15)).foldl
      (fun r k => IntOp.maxui r (g (ln k))) (g (ln 0))) ^^^ 2147483648#32 := rfl
  obtain ⟨h1, h2, h3⟩ := foldl_maxui ((List.finRange 16).filter fun k : Fin 16 => decide (0 < k.val ∧ k.val ≤ 15))
    (fun k => g (ln k)) (g (ln 0))
  set r := ((List.finRange 16).filter fun k : Fin 16 => decide (0 < k.val ∧ k.val ≤ 15)).foldl
      (fun r k => IntOp.maxui r (g (ln k))) (g (ln 0)) with hrr
  have hle : ∀ l : Fin 16, (g (ln l)).toNat ≤ r.toNat := by
    intro l
    by_cases h0 : l = 0
    · subst h0; exact h1
    · exact h2 l (by simp; omega)
  have hrl : ∃ l, r = g (ln l) := by
    rcases h3 with h | ⟨k, -, h⟩
    · exact ⟨0, h⟩
    · exact ⟨k, h⟩
  obtain ⟨l, hl⟩ := hrl
  refine ⟨fun l' => ?_, l, by rw [hr, hl]; exact flip_flip _⟩
  have h := hle l'
  rw [hr, hl, hg]
  simp only [flip_flip]
  rw [hl] at h
  have e1 := toNat_flip (w (ln l')); have e2 := toNat_flip (w (ln l))
  simp only [hg] at h
  omega

theorem laneMax_le_iff (w : IVec V16 32) (x : ℤ) : (laneMax w).toInt ≤ x ↔ ∀ l, (w (ln l)).toInt ≤ x := by
  obtain ⟨h1, l, h2⟩ := laneMax_spec w
  exact ⟨fun h k => (h1 k).trans h, fun h => h2 ▸ h l⟩

/-! ## Counted loops of pure steps -/

/-- `n` steps of `g` from `a`. -/
def upto {α : Type} (g : ℕ → α → α) (a : α) : ℕ → α
  | 0 => a
  | n + 1 => g n (upto g a n)

theorem foldl_upto {α : Type} (g : ℕ → α → α) (a : α) (n : ℕ) :
    (List.finRange n).foldl (fun acc k => g k.val acc) a = upto g a n := by
  induction n with
  | zero => rfl
  | succ n ih => rw [List.finRange_succ_last, List.foldl_append, List.foldl_map]; simp [ih, upto]

/-- A loop whose region computes and touches nothing is its fold. -/
theorem for_pure.{v} {E : Type → Type v} {σ : Type} (l : Scf.Loop 32) (hok : l.OK) (n : ℕ) (hn : l.trips = n) (g : ℕ → σ → σ) (init : σ)
    (body : Fin l.trips → σ → Prog E σ) (hb : ∀ k acc, body k acc = .ret (g k.val acc)) :
    Scf.Loop.for l hok init body = (.ret (upto g init n) : Prog E σ) := by
  show Scf.for _ _ _ _ _ _ = _
  rw [Scf.for_eq, ← hn, ← foldl_upto]
  generalize List.finRange (Scf.trips l.lb l.ub l.st) = ks
  induction ks generalizing init with
  | nil => rfl
  | cons k ks ih => rw [Scf.forFrom_cons, hb]; exact ih _

/-! ## The two loops of the sort -/

/-- The lanes' numbers. -/
abbrev lanes : IVec V16 32 := fun x => BitVec.ofNat 32 (x 0).val

/-- One step of the counting loop: lane `j`'s word against every lane. -/
def countStep (v0 v : IVec V16 32) (j : BitVec 32) (c : IVec V16 32) : IVec V16 32 :=
  addi c (extui 32 (cmpi .slt (broadcast V16 (laneMax (select (cmpi .eq v0 (broadcast V16 j)) v (broadcast V16 2147483648#32)))) v)
    (by decide))

/-- One step of the placing loop: lane `k` takes the largest word counted at most `k`. -/
def placeStep (v0 v c : IVec V16 32) (k : BitVec 32) (o : IVec V16 32) : IVec V16 32 :=
  select (cmpi .eq v0 (broadcast V16 k))
    (broadcast V16 (laneMax (select (cmpi .sle c (broadcast V16 k)) v (broadcast V16 2147483648#32)))) o

/-- The counts after the first loop, and the vector after the second. -/
def counts (v0 v : IVec V16 32) : IVec V16 32 := upto (fun j c => countStep v0 v (Scf.iv 0#32 1#32 j) c) (broadcast V16 0#32) 16
def sortUp (v0 v : IVec V16 32) : IVec V16 32 :=
  upto (fun k o => placeStep v0 v (counts v0 v) (Scf.iv 0#32 1#32 k) o) v 16

theorem toInt_small (n : ℕ) (h : n < 2147483648) : (BitVec.ofNat 32 n).toInt = n := by
  rw [BitVec.toInt_eq_toNat_cond, BitVec.toNat_ofNat, Nat.mod_eq_of_lt (by omega), if_pos (by omega)]

theorem iv01 (k : ℕ) : Scf.iv 0#32 1#32 k = BitVec.ofNat 32 k := by simp [Scf.iv]

/-- How many lanes hold a word at most `x`. -/
def cntLe (v : IVec V16 32) (x : ℤ) : ℕ := (Finset.univ.filter fun j : Fin 16 => (v (ln j)).toInt ≤ x).card
def cntLt (v : IVec V16 32) (x : ℤ) : ℕ := (Finset.univ.filter fun j : Fin 16 => (v (ln j)).toInt < x).card
def cntGe (v : IVec V16 32) (x : ℤ) : ℕ := (Finset.univ.filter fun j : Fin 16 => x ≤ (v (ln j)).toInt).card

theorem cntLe_le (v : IVec V16 32) (x : ℤ) : cntLe v x ≤ 16 := (Finset.card_filter_le _ _).trans (by simp)
theorem cntLt_le (v : IVec V16 32) (x : ℤ) : cntLt v x ≤ 16 := (Finset.card_filter_le _ _).trans (by simp)

theorem sel_true {α : Type} {c : IVec V16 1} {a b : V16.Idx → α} {x : V16.Idx} (h : c x = 1#1) : select c a b x = a x := by
  show Scalar.select _ _ _ = _; rw [h]; rfl
theorem sel_false {α : Type} {c : IVec V16 1} {a b : V16.Idx → α} {x : V16.Idx} (h : c x ≠ 1#1) : select c a b x = b x := by
  show Scalar.select _ _ _ = _; exact if_neg h

theorem ofBool_one (p : Prop) [Decidable p] : BitVec.ofBool (decide p) = 1#1 ↔ p := by
  by_cases h : p <;> simp [h]

theorem lanes_eq_iff (l : Fin 16) (j : ℕ) (hj : j < 16) : cmpi .eq lanes (broadcast V16 (BitVec.ofNat 32 j)) (ln l) = 1#1 ↔ l.val = j := by
  show BitVec.ofBool _ = 1#1 ↔ _
  have : ((BitVec.ofNat 32 l.val == BitVec.ofNat 32 j) = true) ↔ l.val = j := by
    rw [beq_iff_eq]
    constructor
    · intro h; have := congrArg BitVec.toNat h; simp at this; omega
    · rintro h; rw [h]
  show BitVec.ofBool (BitVec.ofNat 32 l.val == BitVec.ofNat 32 j) = 1#1 ↔ _
  rw [← this]; cases (BitVec.ofNat 32 l.val == BitVec.ofNat 32 j) <;> simp

theorem int_min_le (x : BitVec 32) : (2147483648#32 : BitVec 32).toInt ≤ x.toInt := by
  have := BitVec.le_toInt x; simpa using this

/-- The word of one lane, picked out. -/
theorem pick (v : IVec V16 32) (j : Fin 16) :
    laneMax (select (cmpi .eq lanes (broadcast V16 (BitVec.ofNat 32 j.val))) v (broadcast V16 2147483648#32)) = v (ln j) := by
  obtain ⟨h1, l, h2⟩ := laneMax_spec (select (cmpi .eq lanes (broadcast V16 (BitVec.ofNat 32 j.val))) v (broadcast V16 2147483648#32))
  have hj := h1 j
  rw [sel_true ((lanes_eq_iff j j.val j.isLt).mpr rfl)] at hj
  by_cases hl : l.val = j.val
  · obtain rfl := Fin.ext hl
    rw [h2, sel_true ((lanes_eq_iff l l.val l.isLt).mpr rfl)]
  · rw [sel_false (fun h => hl ((lanes_eq_iff l j.val j.isLt).mp h))] at h2
    rw [h2] at hj
    have := int_min_le (v (ln j))
    exact h2.trans (BitVec.eq_of_toInt_eq (le_antisymm this hj))

theorem slt_one (a b : BitVec 32) : IntOp.cmpi .slt a b = 1#1 ↔ a.toInt < b.toInt := ofBool_one _
theorem sle_one (a b : BitVec 32) : IntOp.cmpi .sle a b = 1#1 ↔ a.toInt ≤ b.toInt := ofBool_one _
theorem sge_one (a b : BitVec 32) : IntOp.cmpi .sge a b = 1#1 ↔ b.toInt ≤ a.toInt := ofBool_one _

theorem bit_zero_or (b : BitVec 1) : b = 1#1 ∨ b = 0#1 := by
  rcases BitVec.eq_zero_or_eq_one b with h | h <;> simp [h]

/-- A bit widened is the number 1 or 0. -/
theorem setWidth_bit (b : BitVec 1) : b.setWidth 32 = BitVec.ofNat 32 (if b = 1#1 then 1 else 0) := by
  rcases bit_zero_or b with h | h <;> subst h <;> rfl

theorem card_filter_lt_succ (n : ℕ) (hn : n < 16) (p : Fin 16 → Prop) [DecidablePred p] :
    (Finset.univ.filter fun j : Fin 16 => j.val < n + 1 ∧ p j).card
      = (Finset.univ.filter fun j : Fin 16 => j.val < n ∧ p j).card + if p ⟨n, hn⟩ then 1 else 0 := by
  by_cases h : p ⟨n, hn⟩
  · rw [if_pos h, ← Finset.card_insert_of_notMem (a := (⟨n, hn⟩ : Fin 16)) (by simp)]
    congr 1; ext j; simp only [Finset.mem_filter, Finset.mem_univ, true_and, Finset.mem_insert]
    constructor
    · rintro ⟨h1, h2⟩
      by_cases hj : j.val = n
      · left; exact Fin.ext hj
      · right; exact ⟨by omega, h2⟩
    · rintro (rfl | ⟨h1, h2⟩)
      · exact ⟨by simp, h⟩
      · exact ⟨by omega, h2⟩
  · rw [if_neg h, add_zero]; congr 1; ext j; simp only [Finset.mem_filter, Finset.mem_univ, true_and]
    constructor
    · rintro ⟨h1, h2⟩
      refine ⟨?_, h2⟩
      by_contra hc
      obtain rfl : j = ⟨n, hn⟩ := Fin.ext (by simp; omega)
      exact h h2
    · rintro ⟨h1, h2⟩; exact ⟨by omega, h2⟩

theorem counts_eq (v : IVec V16 32) (l : Fin 16) : counts lanes v (ln l) = BitVec.ofNat 32 (cntLt v (v (ln l)).toInt) := by
  have key : ∀ n ≤ 16, upto (fun j c => countStep lanes v (Scf.iv 0#32 1#32 j) c) (broadcast V16 0#32) n (ln l)
      = BitVec.ofNat 32 (Finset.univ.filter fun j : Fin 16 => j.val < n ∧ (v (ln j)).toInt < (v (ln l)).toInt).card := by
    intro n
    induction n with
    | zero => intro _; simp [upto, broadcast]
    | succ n ih =>
      intro hn
      have hlt : n < 16 := by omega
      show upto (fun j c => countStep lanes v (Scf.iv 0#32 1#32 j) c) (broadcast V16 0#32) n (ln l) + (IntOp.cmpi .slt (laneMax _) (v (ln l))).setWidth 32 = _
      rw [ih (by omega), iv01, pick v ⟨n, hlt⟩, setWidth_bit, card_filter_lt_succ n hlt, BitVec.ofNat_add]
      congr 2
      simp only [slt_one]
  have := key 16 le_rfl
  unfold counts cntLt
  rw [this]
  congr 3
  ext j; simp [j.isLt]

theorem sortUp_lane (v : IVec V16 32) (k : Fin 16) :
    sortUp lanes v (ln k) = laneMax (select (cmpi .sle (counts lanes v) (broadcast V16 (BitVec.ofNat 32 k.val))) v (broadcast V16 2147483648#32)) := by
  have key : ∀ n ≤ 16, k.val < n → upto (fun k o => placeStep lanes v (counts lanes v) (Scf.iv 0#32 1#32 k) o) v n (ln k)
      = laneMax (select (cmpi .sle (counts lanes v) (broadcast V16 (BitVec.ofNat 32 k.val))) v (broadcast V16 2147483648#32)) := by
    intro n
    induction n with
    | zero => intro _ h; omega
    | succ n ih =>
      intro hn hk
      show placeStep lanes v (counts lanes v) (Scf.iv 0#32 1#32 n) (upto _ _ n) (ln k) = _
      rw [iv01]
      by_cases h : k.val = n
      · unfold placeStep
        rw [sel_true ((lanes_eq_iff k n (by omega)).mpr h), ← h]; rfl
      · rw [← ih (by omega) (by omega)]
        exact sel_false (fun h' => h ((lanes_eq_iff k n (by omega)).mp h'))
  exact key 16 le_rfl k.isLt

/-- The sorted vector: lane `k` is at most `x` exactly when more than `k` of the words are. -/
theorem sortUp_spec (v : IVec V16 32) (k : Fin 16) (x : ℤ) : (sortUp lanes v (ln k)).toInt ≤ x ↔ k.val < cntLe v x := by
  rw [sortUp_lane, laneMax_le_iff]
  have hc : ∀ l, (cmpi .sle (counts lanes v) (broadcast V16 (BitVec.ofNat 32 k.val)) (ln l) = 1#1) ↔ cntLt v (v (ln l)).toInt ≤ k.val := by
    intro l
    show IntOp.cmpi .sle (counts lanes v (ln l)) (BitVec.ofNat 32 k.val) = 1#1 ↔ _
    rw [sle_one, counts_eq]
    have h1 := cntLt_le v (v (ln l)).toInt
    rw [toInt_small _ (by omega), toInt_small _ (by omega)]
    omega
  constructor
  · intro h
    by_contra hk
    push Not at hk
    -- some word is above `x`; the smallest such is counted `cntLe v x ≤ k` times
    have hne : (Finset.univ.filter fun j : Fin 16 => x < (v (ln j)).toInt).Nonempty := by
      by_contra hemp
      rw [Finset.not_nonempty_iff_eq_empty, Finset.filter_eq_empty_iff] at hemp
      have : cntLe v x = 16 := by
        unfold cntLe
        rw [Finset.filter_true_of_mem]
        · simp
        · intro j _; exact not_lt.mp (hemp (Finset.mem_univ j))
      omega
    obtain ⟨l, hl, hmin⟩ := Finset.exists_min_image _ (fun j : Fin 16 => (v (ln j)).toInt) hne
    simp only [Finset.mem_filter, Finset.mem_univ, true_and] at hl hmin
    have hcl : cntLt v (v (ln l)).toInt = cntLe v x := by
      unfold cntLt cntLe
      congr 1; ext j; simp only [Finset.mem_filter, Finset.mem_univ, true_and]
      constructor
      · intro hj; by_contra hj'; push Not at hj'; have := hmin j hj'; omega
      · intro hj; omega
    have := h l
    rw [sel_true ((hc l).mpr (by omega))] at this
    omega
  · intro h l
    by_cases hs : cntLt v (v (ln l)).toInt ≤ k.val
    · rw [sel_true ((hc l).mpr hs)]
      by_contra hgt
      push Not at hgt
      have : cntLe v x ≤ cntLt v (v (ln l)).toInt :=
        Finset.card_le_card fun j hj => by
          simp only [Finset.mem_filter, Finset.mem_univ, true_and] at hj ⊢; omega
      omega
    · rw [sel_false (fun h' => hs ((hc l).mp h'))]
      have hpos : 0 < cntLe v x := by omega
      obtain ⟨j, hj⟩ := Finset.card_pos.mp hpos
      simp only [Finset.mem_filter, Finset.mem_univ, true_and] at hj
      exact (int_min_le _).trans hj

/-! ## The merge -/

/-- The words' complements. -/
def compl (v : IVec V16 32) : IVec V16 32 := xori v (constantI V16 32 4294967295#32)

theorem compl_toInt (v : IVec V16 32) (x : V16.Idx) : (compl v x).toInt = -1 - (v x).toInt := by
  show (v x ^^^ 4294967295#32).toInt = _
  rw [show (4294967295#32 : BitVec 32) = BitVec.allOnes 32 from rfl, BitVec.xor_allOnes, BitVec.toInt_not]
  have h1 := BitVec.le_toInt (v x); have h2 := BitVec.toInt_lt (x := v x)
  have := BitVec.toInt_eq_toNat_cond (v x)
  rw [Int.bmod_def]
  split at this <;> split <;> omega

/-- Sorted downwards: the complement of the sorted complements. -/
def sortDown (v0 v : IVec V16 32) : IVec V16 32 := compl (sortUp v0 (compl v))

theorem sortDown_spec (v : IVec V16 32) (k : Fin 16) (y : ℤ) : y ≤ (sortDown lanes v (ln k)).toInt ↔ k.val < cntGe v y := by
  unfold sortDown
  rw [compl_toInt]
  have h := sortUp_spec (compl v) k (-1 - y)
  have he : cntLe (compl v) (-1 - y) = cntGe v y := by
    unfold cntLe cntGe; congr 1; ext j; simp only [Finset.mem_filter, Finset.mem_univ, true_and, compl_toInt]; omega
  rw [he] at h
  rw [← h]; omega

theorem maxsi_toInt (a b : BitVec 32) : (IntOp.maxsi a b).toInt = max a.toInt b.toInt := by
  unfold IntOp.maxsi; rw [BitVec.slt_eq_decide]; split <;> rename_i h <;> simp at h <;> omega
theorem minsi_toInt (a b : BitVec 32) : (IntOp.minsi a b).toInt = min a.toInt b.toInt := by
  unfold IntOp.minsi; rw [BitVec.slt_eq_decide]; split <;> rename_i h <;> simp at h <;> omega

theorem card_lt_or_ge (p q : ℕ) (hq : q ≤ 16) :
    (Finset.univ.filter fun k : Fin 16 => k.val < p ∨ 16 - q ≤ k.val).card = min 16 (p + q) := by
  by_cases hp : p ≤ 16
  · interval_cases p <;> interval_cases q <;> rfl
  · rw [Finset.filter_true_of_mem (fun k _ => Or.inl (by omega))]; simp; omega

/-- One merge: `best` is the sixteen largest so far, downwards; `v` the next sixteen words. -/
def mergeStep (v0 best v : IVec V16 32) : IVec V16 32 := sortDown v0 (maxsi best (sortUp v0 v))

theorem mergeStep_spec (best v : IVec V16 32) (y : ℤ) (p : ℕ) (hbest : ∀ k : Fin 16, y ≤ (best (ln k)).toInt ↔ k.val < p) (k : Fin 16) :
    y ≤ (mergeStep lanes best v (ln k)).toInt ↔ k.val < p + cntGe v y := by
  unfold mergeStep
  rw [sortDown_spec]
  have hcomp : cntLe v (y - 1) + cntGe v y = 16 := by
    unfold cntLe cntGe
    have := Finset.card_filter_add_card_filter_not (s := (Finset.univ : Finset (Fin 16))) (fun j => (v (ln j)).toInt ≤ y - 1)
    rw [Finset.card_univ, Fintype.card_fin] at this
    refine Eq.trans ?_ this; congr 2; ext j; simp only [Finset.mem_filter, Finset.mem_univ, true_and]; omega
  have hge : cntGe (maxsi best (sortUp lanes v)) y = min 16 (p + cntGe v y) := by
    rw [← card_lt_or_ge p (cntGe v y) (by omega)]
    unfold cntGe
    congr 1; ext j; simp only [Finset.mem_filter, Finset.mem_univ, true_and]
    show y ≤ (IntOp.maxsi (best (ln j)) (sortUp lanes v (ln j))).toInt ↔ _
    rw [maxsi_toInt, le_max_iff, hbest]
    have h := sortUp_spec v j (y - 1)
    have : y ≤ (sortUp lanes v (ln j)).toInt ↔ ¬ (sortUp lanes v (ln j)).toInt ≤ y - 1 := by omega
    rw [this, h]
    have : cntGe v y = (Finset.univ.filter fun j : Fin 16 => y ≤ (v (ln j)).toInt).card := rfl
    omega
  rw [hge]
  have := k.isLt
  omega

end Cert.Proof.Lanes

end
-- ==== Proof.Rows.lean ====
/-
  One row of 2048 keys: the eight largest, and their columns in ascending order. The threshold is the least of the
  maxima of the eight column classes modulo 8, so at least eight keys reach it; the candidates are the keys that reach
  it, in the order of their columns.
-/
module

public import proofs.«01_k».proof.Proof.Lanes

@[expose] public section

noncomputable section

namespace Cert.Proof.Rows

open Idealize.ShloMosaic Cert.Proof.Lanes

variable (row : ℕ → BitVec 32)

/-- The largest of the first `n` keys of column class `u` modulo 8. -/
def clsMax (u : ℕ) : ℕ → BitVec 32
  | 0 => 2147483648#32
  | n + 1 => IntOp.maxsi (clsMax u n) (row (8 * n + u))

/-- The threshold. -/
def thr : BitVec 32 :=
  IntOp.minsi (IntOp.minsi (IntOp.minsi (IntOp.minsi (IntOp.minsi (IntOp.minsi (IntOp.minsi (clsMax row 0 256) (clsMax row 1 256))
    (clsMax row 2 256)) (clsMax row 3 256)) (clsMax row 4 256)) (clsMax row 5 256)) (clsMax row 6 256)) (clsMax row 7 256)

/-- The candidates among the first `n` columns. -/
def cands (t : BitVec 32) (n : ℕ) : List (BitVec 32) := ((List.range n).map row).filter fun v => decide (t.toInt ≤ v.toInt)

theorem cands_succ (t : BitVec 32) (n : ℕ) :
    cands row t (n + 1) = cands row t n ++ if t.toInt ≤ (row n).toInt then [row n] else [] := by
  unfold cands
  rw [List.range_succ, List.map_append, List.filter_append]
  congr 1
  by_cases h : t.toInt ≤ (row n).toInt <;> simp [h]

theorem cands_length (t : BitVec 32) (n : ℕ) : (cands row t n).length = ((Finset.range n).filter fun c => t.toInt ≤ (row c).toInt).card := by
  induction n with
  | zero => rfl
  | succ n ih =>
    rw [cands_succ, List.length_append, ih, Finset.range_add_one, Finset.filter_insert]
    by_cases h : t.toInt ≤ (row n).toInt
    · rw [if_pos h, if_pos h, Finset.card_insert_of_notMem (by simp)]; rfl
    · rw [if_neg h, if_neg h]; rfl

theorem cands_length_mono (t : BitVec 32) {m n : ℕ} (h : m ≤ n) : (cands row t m).length ≤ (cands row t n).length := by
  rw [cands_length, cands_length]
  exact Finset.card_le_card (Finset.filter_subset_filter _ (by simpa using h))

theorem cands_countP (t : BitVec 32) (y : ℤ) (n : ℕ) :
    (cands row t n).countP (fun v => decide (y ≤ v.toInt)) = ((Finset.range n).filter fun c => t.toInt ≤ (row c).toInt ∧ y ≤ (row c).toInt).card := by
  induction n with
  | zero => rfl
  | succ n ih =>
    rw [cands_succ, List.countP_append, ih, Finset.range_add_one, Finset.filter_insert]
    by_cases h : t.toInt ≤ (row n).toInt
    · by_cases hy : y ≤ (row n).toInt
      · rw [if_pos h, if_pos ⟨h, hy⟩, Finset.card_insert_of_notMem (by simp)]; simp [hy]
      · rw [if_pos h, if_neg (fun h' => hy h'.2)]; simp [hy]
    · rw [if_neg h, if_neg (fun h' => h h'.1)]; rfl

/-- What is asked of a row: each key's low eleven bits tell its column, eight keys are above 15, and at most 256 keys
    reach the threshold. -/
structure RowOK : Prop where
  tag : ∀ c < 2048, row c &&& 2047#32 = 2047#32 - BitVec.ofNat 32 c
  some' : 8 ≤ ((Finset.range 2048).filter fun c => 15 < (row c).toInt).card
  few : ((Finset.range 2048).filter fun c => (thr row).toInt ≤ (row c).toInt).card ≤ 256

/-- How many keys of the row are larger than column `c`'s, -/
def rank (c : ℕ) : ℕ := ((Finset.range 2048).filter fun c' => (row c).toInt < (row c').toInt).card
/-- the columns of the eight largest keys, -/
def selSet : Finset ℕ := (Finset.range 2048).filter fun c => rank row c < 8
/-- and that column `i` is the `k`-th of them, from the left. -/
def Sel (k i : ℕ) : Prop := i ∈ selSet row ∧ ((selSet row).filter fun c => c < i).card = k

theorem Sel.lt {row : ℕ → BitVec 32} {k i : ℕ} (h : Sel row k i) : i < 2048 := by
  have := h.1; unfold selSet at this; simp at this; exact this.1

theorem Sel.unique {row : ℕ → BitVec 32} {k i i' : ℕ} (h : Sel row k i) (h' : Sel row k i') : i = i' := by
  have aux : ∀ {a b : ℕ}, Sel row k a → Sel row k b → ¬ a < b := by
    intro a b ha hb hab
    have : ((selSet row).filter fun c => c < a).card < ((selSet row).filter fun c => c < b).card := by
      apply Finset.card_lt_card
      rw [Finset.ssubset_iff_of_subset (fun c hc => by simp only [Finset.mem_filter] at hc ⊢; exact ⟨hc.1, by omega⟩)]
      exact ⟨a, by simp only [Finset.mem_filter]; exact ⟨ha.1, hab⟩, by simp⟩
    rw [ha.2, hb.2] at this
    omega
  have h1 := aux h h'; have h2 := aux h' h
  omega

/-! ## Class maxima and the threshold -/

theorem le_clsMax (u n : ℕ) : ∀ m < n, (row (8 * m + u)).toInt ≤ (clsMax row u n).toInt := by
  induction n with
  | zero => intro m hm; omega
  | succ n ih =>
    intro m hm
    show _ ≤ (IntOp.maxsi _ _).toInt
    rw [maxsi_toInt]
    by_cases h : m = n
    · subst h; exact le_max_right _ _
    · exact (ih m (by omega)).trans (le_max_left _ _)

theorem clsMax_attained (u : ℕ) : ∀ n, 0 < n → ∃ m < n, clsMax row u n = row (8 * m + u) := by
  have hor : ∀ a b : BitVec 32, IntOp.maxsi a b = a ∨ IntOp.maxsi a b = b := by intro a b; unfold IntOp.maxsi; split <;> simp
  intro n
  induction n with
  | zero => intro h; omega
  | succ n ih =>
    intro _
    by_cases h0 : n = 0
    · subst h0
      refine ⟨0, by omega, ?_⟩
      apply BitVec.eq_of_toInt_eq
      show (IntOp.maxsi _ _).toInt = _
      rw [maxsi_toInt]
      exact max_eq_right (int_min_le _)
    · rcases hor (clsMax row u n) (row (8 * n + u)) with h | h
      · obtain ⟨m, hm, e⟩ := ih (by omega)
        exact ⟨m, by omega, h.trans e⟩
      · exact ⟨n, by omega, h⟩

theorem thr_le (u : ℕ) (hu : u < 8) : (thr row).toInt ≤ (clsMax row u 256).toInt := by
  unfold thr
  simp only [minsi_toInt]
  interval_cases u <;> simp

/-- At least eight keys reach the threshold: one of each class. -/
theorem eight_le_thr : 8 ≤ ((Finset.range 2048).filter fun c => (thr row).toInt ≤ (row c).toInt).card := by
  choose! m hm he using fun u : ℕ => clsMax_attained row u 256 (by omega)
  have : ((Finset.range 8).image fun u => 8 * m u + u).card = 8 := by
    rw [Finset.card_image_of_injOn]
    · simp
    · intro a ha b hb h
      simp at ha hb h
      omega
  rw [← this]
  apply Finset.card_le_card
  intro c hc
  simp only [Finset.mem_image, Finset.mem_range] at hc
  obtain ⟨u, hu, rfl⟩ := hc
  simp only [Finset.mem_filter, Finset.mem_range]
  refine ⟨by have := hm u; omega, ?_⟩
  rw [← he u]
  exact thr_le row u hu

/-! ## The eight largest -/

/-- How many keys are at least `y`. -/
def above (y : ℤ) : ℕ := ((Finset.range 2048).filter fun c => y ≤ (row c).toInt).card

variable {row}

theorem row_inj (hok : RowOK row) {c c' : ℕ} (hc : c < 2048) (hc' : c' < 2048) (h : (row c).toInt = (row c').toInt) : c = c' := by
  have h1 := hok.tag c hc; have h2 := hok.tag c' hc'
  rw [BitVec.eq_of_toInt_eq h, h2] at h1
  have := congrArg BitVec.toNat h1
  rw [BitVec.toNat_sub, BitVec.toNat_sub, BitVec.toNat_ofNat, BitVec.toNat_ofNat] at this
  simp at this
  omega

/-- The keys that reach the threshold and `y` are more than `k < 8` exactly when the keys that reach `y` are. -/
theorem above_thr (k : ℕ) (hk : k < 8) (y : ℤ) :
    k < ((Finset.range 2048).filter fun c => (thr row).toInt ≤ (row c).toInt ∧ y ≤ (row c).toInt).card ↔ k < above row y := by
  have h8 := eight_le_thr row
  by_cases hy : y ≤ (thr row).toInt
  · have h1 : ((Finset.range 2048).filter fun c => (thr row).toInt ≤ (row c).toInt ∧ y ≤ (row c).toInt)
        = (Finset.range 2048).filter fun c => (thr row).toInt ≤ (row c).toInt := by
      apply Finset.filter_congr; intro c _; constructor
      · exact fun h => h.1
      · exact fun h => ⟨h, by omega⟩
    have h2 : ((Finset.range 2048).filter fun c => (thr row).toInt ≤ (row c).toInt).card ≤ above row y :=
      Finset.card_le_card fun c hc => by simp only [Finset.mem_filter] at hc ⊢; exact ⟨hc.1, by omega⟩
    rw [h1]; omega
  · have h1 : ((Finset.range 2048).filter fun c => (thr row).toInt ≤ (row c).toInt ∧ y ≤ (row c).toInt)
        = (Finset.range 2048).filter fun c => y ≤ (row c).toInt := by
      apply Finset.filter_congr; intro c _; constructor
      · exact fun h => h.2
      · exact fun h => ⟨by omega, h⟩
    rw [h1]; rfl

theorem above_succ (hok : RowOK row) {c : ℕ} (hc : c < 2048) : above row (row c).toInt = rank row c + 1 := by
  unfold above rank
  rw [← Finset.card_insert_of_notMem (a := c) (by simp)]
  congr 1; ext c'; simp only [Finset.mem_filter, Finset.mem_range, Finset.mem_insert]
  constructor
  · rintro ⟨h1, h2⟩
    by_cases h : c' = c
    · left; exact h
    · right; refine ⟨h1, lt_of_le_of_ne h2 fun e => h (row_inj hok h1 hc e.symm)⟩
  · rintro (rfl | ⟨h1, h2⟩)
    · exact ⟨hc, le_rfl⟩
    · exact ⟨h1, h2.le⟩

theorem rank_inj (hok : RowOK row) {c c' : ℕ} (hc : c < 2048) (hc' : c' < 2048) (h : rank row c = rank row c') : c = c' := by
  apply row_inj hok hc hc'
  have aux : ∀ {a b : ℕ}, a < 2048 → b < 2048 → (row a).toInt < (row b).toInt → rank row b < rank row a := by
    intro a b ha hb hab
    have h1 := above_succ hok hb
    have h2 : above row (row b).toInt ≤ rank row a :=
      Finset.card_le_card fun c hc => by simp only [Finset.mem_filter] at hc ⊢; exact ⟨hc.1, by omega⟩
    omega
  rcases lt_trichotomy (row c).toInt (row c').toInt with h' | h' | h'
  · have := aux hc hc' h'; omega
  · exact h'
  · have := aux hc' hc h'; omega

/-- What the merge leaves in lane `k < 8` is the key with `k` larger ones. -/
theorem best_key (hok : RowOK row) (b : BitVec 32) (k : ℕ) (hk : k < 8)
    (hb : ∀ y : ℤ, 15 < y → (y ≤ b.toInt ↔ k < ((Finset.range 2048).filter fun c => (thr row).toInt ≤ (row c).toInt ∧ y ≤ (row c).toInt).card)) :
    ∃ c < 2048, b = row c ∧ rank row c = k := by
  have hb' : ∀ y : ℤ, 15 < y → (y ≤ b.toInt ↔ k < above row y) := fun y hy => (hb y hy).trans (above_thr k hk y)
  have h16 : (16 : ℤ) ≤ b.toInt := by
    rw [hb' 16 (by omega)]
    have := hok.some'
    have e : above row 16 = ((Finset.range 2048).filter fun c => 15 < (row c).toInt).card := by
      unfold above; congr 1
    omega
  have h1 := (hb' b.toInt (by omega)).mp le_rfl
  have h2 : ¬ k < above row (b.toInt + 1) := fun h => by have := (hb' (b.toInt + 1) (by omega)).mpr h; omega
  have hex : ∃ c < 2048, (row c).toInt = b.toInt := by
    by_contra hno
    push Not at hno
    have : above row b.toInt ≤ above row (b.toInt + 1) :=
      Finset.card_le_card fun c hc => by
        simp only [Finset.mem_filter, Finset.mem_range] at hc ⊢
        exact ⟨hc.1, by have := hno c hc.1; omega⟩
    omega
  obtain ⟨c, hc, e⟩ := hex
  refine ⟨c, hc, (BitVec.eq_of_toInt_eq e).symm, ?_⟩
  have h3 := above_succ hok hc
  have h4 : above row (b.toInt + 1) = rank row c := by
    unfold above rank; congr 1; ext c'; simp only [Finset.mem_filter, e, Int.add_one_le_iff]
  rw [e] at h3
  omega

/-! ## Their columns, ascending -/

/-- The columns as the kernel lists them before the last sort: the eight selected, then numbers past the row. -/
theorem sel_sorted (hok : RowOK row) (sv : IVec V16 32)
    (hlo : ∀ j : Fin 16, j.val < 8 → ∃ c < 2048, sv (ln j) = BitVec.ofNat 32 c ∧ rank row c = j.val)
    (hhi : ∀ j : Fin 16, 8 ≤ j.val → sv (ln j) = BitVec.ofNat 32 (4064 + j.val)) (k : Fin 16) (hk : k.val < 8) :
    Sel row k.val (sortUp lanes sv (ln k)).toNat := by
  set s := sortUp lanes sv (ln k) with hs
  have hspec : ∀ x : ℤ, s.toInt ≤ x ↔ k.val < cntLe sv x := fun x => sortUp_spec sv k x
  choose! col hcol hsv hrank using hlo
  -- below 4064 the lanes at most `x` are the selected columns at most `x`
  have hcnt : ∀ x : ℤ, x < 4064 → cntLe sv x = ((selSet row).filter fun c : ℕ => (c : ℤ) ≤ x).card := by
    intro x hx
    have hinj : ∀ i : Fin 16, i.val < 8 → ∀ j : Fin 16, j.val < 8 → col i = col j → i = j := by
      intro i hi j hj h
      have h1 := hrank i hi; have h2 := hrank j hj
      rw [h] at h1; exact Fin.ext (h1.symm.trans h2)
    have himg : (selSet row).filter (fun c : ℕ => (c : ℤ) ≤ x)
        = (Finset.univ.filter fun j : Fin 16 => (sv (ln j)).toInt ≤ x).image col := by
      ext c
      simp only [Finset.mem_filter, Finset.mem_image, Finset.mem_univ, true_and]
      constructor
      · rintro ⟨hc, hcx⟩
        unfold selSet at hc
        simp only [Finset.mem_filter, Finset.mem_range] at hc
        have hj8 : (⟨rank row c, by omega⟩ : Fin 16).val < 8 := hc.2
        refine ⟨⟨rank row c, by omega⟩, ?_, ?_⟩
        · rw [hsv _ hj8, toInt_small _ (by have := hcol _ hj8; omega)]
          rw [rank_inj hok (hcol _ hj8) hc.1 (hrank _ hj8)]
          exact hcx
        · exact rank_inj hok (hcol _ hj8) hc.1 (hrank _ hj8)
      · rintro ⟨j, hj, rfl⟩
        by_cases h8 : j.val < 8
        · rw [hsv _ h8, toInt_small _ (by have := hcol _ h8; omega)] at hj
          refine ⟨?_, hj⟩
          unfold selSet
          simp only [Finset.mem_filter, Finset.mem_range]
          exact ⟨hcol _ h8, by rw [hrank _ h8]; exact h8⟩
        · rw [hhi j (by omega), toInt_small _ (by omega)] at hj
          push_cast at hj; omega
    rw [himg, Finset.card_image_of_injOn]
    · rfl
    · intro i hi j hj h
      simp only [Finset.coe_filter, Finset.mem_univ, true_and, Set.mem_setOf_eq] at hi hj
      have aux : ∀ j : Fin 16, (sv (ln j)).toInt ≤ x → j.val < 8 := by
        intro j hj
        by_contra h8
        rw [hhi j (by omega), toInt_small _ (by omega)] at hj
        push_cast at hj; omega
      exact hinj i (aux i hi) j (aux j hj) h
  -- all eight are at most 2047, none is negative
  have h8 : cntLe sv 2047 ≥ 8 := by
    have : (Finset.univ.filter fun j : Fin 16 => j.val < 8).card = 8 := by decide
    rw [← this]
    apply Finset.card_le_card
    intro j hj
    simp only [Finset.mem_filter, Finset.mem_univ, true_and] at hj ⊢
    rw [hsv j hj, toInt_small _ (by have := hcol j hj; omega)]
    have := hcol j hj; omega
  have hub : s.toInt ≤ 2047 := (hspec 2047).mpr (by omega)
  have hlb : 0 ≤ s.toInt := by
    by_contra hneg
    have h := (hspec (-1)).mp (by omega)
    rw [hcnt (-1) (by omega), Finset.card_eq_zero.mpr] at h
    · omega
    · rw [Finset.filter_eq_empty_iff]; intro c _; omega
  have hnat : (s.toNat : ℤ) = s.toInt := by
    have := BitVec.toInt_eq_toNat_cond s
    have := s.isLt
    split at * <;> omega
  have h1 := (hspec s.toInt).mp le_rfl
  have h2 : ¬ k.val < cntLe sv (s.toInt - 1) := fun h => by have := (hspec _).mpr h; omega
  rw [hcnt _ (by omega)] at h1 h2
  have hlt : ((selSet row).filter fun c : ℕ => (c : ℤ) ≤ s.toInt - 1) = (selSet row).filter fun c => c < s.toNat := by
    apply Finset.filter_congr; intro c _; omega
  rw [hlt] at h2
  by_cases hmem : s.toNat ∈ selSet row
  · refine ⟨hmem, ?_⟩
    have : ((selSet row).filter fun c : ℕ => (c : ℤ) ≤ s.toInt) = insert s.toNat ((selSet row).filter fun c => c < s.toNat) := by
      ext c; simp only [Finset.mem_filter, Finset.mem_insert]
      constructor
      · rintro ⟨ha, hb⟩
        by_cases e : c = s.toNat
        · left; exact e
        · right; exact ⟨ha, by omega⟩
      · rintro (rfl | ⟨ha, hb⟩)
        · exact ⟨hmem, by omega⟩
        · exact ⟨ha, by omega⟩
    rw [this, Finset.card_insert_of_notMem (by simp)] at h1
    omega
  · exfalso
    have : ((selSet row).filter fun c : ℕ => (c : ℤ) ≤ s.toInt) = (selSet row).filter fun c => c < s.toNat := by
      apply Finset.filter_congr; intro c hc
      have : c ≠ s.toNat := fun e => hmem (e ▸ hc)
      omega
    rw [this] at h1
    exact h2 h1

end Cert.Proof.Rows

end
-- ==== Proof.Tile.lean ====
/-
  A rank-one buffer of a tile read and written by the lanes' addresses, and what the two passes over a group of 16 rows
  leave: the class maxima, the candidates of each row in order, and how many there are.
-/
module

public import proofs.«01_k».proof.Proof.Rows

@[expose] public section

noncomputable section

namespace Cert.Proof.Tile

open Idealize.ShloMosaic Cert.Proof.Lanes Cert.Proof.Rows

/-! ## A rank-one buffer at a number -/

abbrev V (N : ℕ) : Shape := ⟨1, ![N]⟩

/-- The buffer's element `n`. -/
def rd {N : ℕ} [NeZero N] {α : Type} (f : (V N).Idx → α) (n : ℕ) : α := f (Shape.ofLane (d := ![N]) ⟨n % N, Nat.mod_lt _ (NeZero.pos N)⟩)

theorem idx_eq {N : ℕ} {i j : (V N).Idx} (h : (i 0).val = (j 0).val) : i = j := by
  funext a; obtain rfl : a = 0 := Subsingleton.elim _ _; exact Fin.ext h

theorem rd_of {N : ℕ} [NeZero N] {α : Type} (f : (V N).Idx → α) (i : (V N).Idx) : rd f (i 0).val = f i := by
  unfold rd
  congr 1
  apply idx_eq
  exact Nat.mod_eq_of_lt (i 0).isLt

theorem rd_ext {N : ℕ} [NeZero N] {α : Type} {f g : (V N).Idx → α} (h : ∀ n < N, rd f n = rd g n) : f = g := by
  funext i; rw [← rd_of f i, ← rd_of g i]; exact h _ (i 0).isLt

variable {F : FTy → Type} [FloatOps F]

theorem load_at {N : ℕ} [NeZero N] {e : EltTy} (f : Vec F (V N) e) (v : IVec V16 32)
    (h : ∀ a x, ((![v] : Fin 1 → IVec V16 32) a x).toNat < (V N).size a) :
    loadIdx f ![v] h = fun x => rd f (v x).toNat := by
  funext x
  show f (idxAt ![v] h x) = _
  exact (rd_of (f : (V N).Idx → Elt F e) (idxAt ![v] h x)).symm

section Store

variable {N : ℕ} [NeZero N] {e : EltTy} (v : IVec V16 32) (w : Vec F V16 e) (mask : IVec V16 1) (add : Bool)
  (h : ∀ a x, ((![v] : Fin 1 → IVec V16 32) a x).toNat < (V N).size a)

/-- One lane's write. -/
def put (g : Vec F (V N) e) (k : Fin 16) : Vec F (V N) e :=
  let x := ln k
  if mask x = 1 then
    let i := idxAt ![v] h x
    let y := if add then Elt.idxAdd e (g i) (w x) else w x
    fun j => if (∀ a, (j a).val = (i a).val) then y else g j
  else g

theorem storeIdx_eq (f : Vec F (V N) e) : storeIdx f ![v] w mask add h = (List.finRange 16).foldl (put v w mask add h) f := rfl

theorem put_miss (g : Vec F (V N) e) (k : Fin 16) (n : ℕ) (hn : n < N) (hk : mask (ln k) = 1 → (v (ln k)).toNat ≠ n) :
    rd (put v w mask add h g k) n = rd g n := by
  unfold put
  by_cases hm : mask (ln k) = 1
  · simp only [hm, if_true]
    unfold rd
    refine if_neg fun h' => hk hm ?_
    have := h' 0
    exact this.symm.trans (Nat.mod_eq_of_lt hn)
  · simp only [hm, if_false]

theorem put_hit (g : Vec F (V N) e) (k : Fin 16) (hm : mask (ln k) = 1) :
    rd (put v w mask add h g k) (v (ln k)).toNat
      = if add then Elt.idxAdd e (rd g (v (ln k)).toNat) (w (ln k)) else w (ln k) := by
  have hlt : (v (ln k)).toNat < N := h 0 (ln k)
  have hi : rd g (v (ln k)).toNat = g (idxAt ![v] h (ln k)) := rd_of (g : (V N).Idx → Elt F e) (idxAt ![v] h (ln k))
  rw [hi]
  unfold put
  simp only [hm, if_true]
  unfold rd
  refine if_pos fun a => ?_
  obtain rfl : a = 0 := Subsingleton.elim _ _
  exact Nat.mod_eq_of_lt hlt

theorem fold_miss (n : ℕ) (hn : n < N) (l : List (Fin 16)) : ∀ (g : Vec F (V N) e), (∀ k ∈ l, mask (ln k) = 1 → (v (ln k)).toNat ≠ n) →
    rd (l.foldl (put v w mask add h) g) n = rd g n := by
  induction l with
  | nil => intro g _; rfl
  | cons k l ih =>
    intro g hk
    rw [List.foldl_cons, ih _ fun k' hk' => hk k' (List.mem_cons_of_mem _ hk'), put_miss v w mask add h g k n hn (hk k List.mem_cons_self)]

/-- An element no set lane names is kept, -/
theorem store_miss (f : Vec F (V N) e) (n : ℕ) (hn : n < N) (hk : ∀ k : Fin 16, mask (ln k) = 1 → (v (ln k)).toNat ≠ n) :
    rd (storeIdx f ![v] w mask add h) n = rd f n := by
  rw [storeIdx_eq]; exact fold_miss v w mask add h n hn _ f fun k _ => hk k

/-- and one that a single set lane names is written (or added to) once. -/
theorem store_hit (f : Vec F (V N) e) (k : Fin 16) (hm : mask (ln k) = 1)
    (hd : ∀ k' : Fin 16, mask (ln k') = 1 → (v (ln k')).toNat = (v (ln k)).toNat → k' = k) :
    rd (storeIdx f ![v] w mask add h) (v (ln k)).toNat
      = if add then Elt.idxAdd e (rd f (v (ln k)).toNat) (w (ln k)) else w (ln k) := by
  have hlt : (v (ln k)).toNat < N := h 0 (ln k)
  obtain ⟨l1, l2, hl⟩ := List.append_of_mem (List.mem_finRange k)
  have hnd := List.nodup_finRange 16
  rw [hl] at hnd
  have h12 := List.nodup_append.mp hnd
  have hk2 : k ∉ l2 := (List.nodup_cons.mp h12.2.1).1
  have hk1 : k ∉ l1 := fun hk => h12.2.2 k hk k List.mem_cons_self rfl
  rw [storeIdx_eq, hl, List.foldl_append, List.foldl_cons,
    fold_miss v w mask add h _ hlt l2 _ fun k' hk' hm' e => hk2 (hd k' hm' e ▸ hk'),
    put_hit v w mask add h _ k hm, fold_miss v w mask add h _ hlt l1 _ fun k' hk' hm' e => hk1 (hd k' hm' e ▸ hk')]

end Store

/-! ## Sixteen rows of 2048 keys -/

/-- Row `l` of the group held in the key buffer. -/
def rowAt (f : (V 32768).Idx → BitVec 32) (l : ℕ) : ℕ → BitVec 32 := fun c => rd f (l * 2048 + c)

/-- Each lane's address of column `n` of its row, -/
def flatV (n : ℕ) : IVec V16 32 := fun x => BitVec.ofNat 32 ((x 0).val * 2048 + n)
/-- the keys there, -/
def colV (f : (V 32768).Idx → BitVec 32) (n : ℕ) : IVec V16 32 := fun x => rowAt f (x 0).val n
/-- the largest of its first `n` keys of class `u`, -/
def maxV (f : (V 32768).Idx → BitVec 32) (u n : ℕ) : IVec V16 32 := fun x => clsMax (rowAt f (x 0).val) u n
/-- its threshold, -/
def thrV (f : (V 32768).Idx → BitVec 32) : IVec V16 32 := fun x => thr (rowAt f (x 0).val)
/-- how many of its first `n` keys reach it. -/
def lenV (f : (V 32768).Idx → BitVec 32) (n : ℕ) : IVec V16 32 :=
  fun x => BitVec.ofNat 32 (cands (rowAt f (x 0).val) (thr (rowAt f (x 0).val)) n).length

theorem x_lt (x : V16.Idx) : (x 0).val < 16 := (x 0).isLt

theorem flatV_add (n u : ℕ) : (fun x => flatV n x + BitVec.ofNat 32 u : IVec V16 32) = flatV (n + u) := by
  funext x
  unfold flatV
  rw [← BitVec.ofNat_add, Nat.add_assoc]

theorem flatV_toNat (n : ℕ) (hn : n < 2048) (x : V16.Idx) : (flatV n x).toNat = (x 0).val * 2048 + n := by
  unfold flatV
  rw [BitVec.toNat_ofNat, Nat.mod_eq_of_lt]
  have := x_lt x; omega

theorem flatV_inb (n : ℕ) (hn : n < 2048) : ∀ a x, ((![flatV n] : Fin 1 → IVec V16 32) a x).toNat < (V 32768).size a := by
  intro a x
  obtain rfl : a = 0 := Subsingleton.elim _ _
  show (flatV n x).toNat < 32768
  rw [flatV_toNat n hn]
  have := x_lt x; omega

theorem load_flat (f : (V 32768).Idx → BitVec 32) (n : ℕ) (hn : n < 2048) (h) : loadIdx (F := F) (e := .i32) f ![flatV n] h = colV f n := by
  refine (load_at (F := F) (e := .i32) f (flatV n) h).trans ?_
  funext x
  show rd f (flatV n x).toNat = rd f ((x 0).val * 2048 + n)
  rw [flatV_toNat n hn]

/-! ## The candidates of the sixteen rows -/

/-- What is asked of the keys of a group. -/
def TileOK (f : (V 32768).Idx → BitVec 32) : Prop := ∀ l < 16, RowOK (rowAt f l)

/-- The candidate buffer holds, from `256 * l` on, the candidates of row `l` among its first `n` columns. -/
def CandOK (f : (V 32768).Idx → BitVec 32) (n : ℕ) (g : (V 4096).Idx → BitVec 32) : Prop :=
  ∀ l < 16, ∀ (j : ℕ) (hj : j < (cands (rowAt f l) (thr (rowAt f l)) n).length), rd g (l * 256 + j) = (cands (rowAt f l) (thr (rowAt f l)) n)[j]

theorem CandOK_zero (f : (V 32768).Idx → BitVec 32) (g : (V 4096).Idx → BitVec 32) : CandOK f 0 g := fun _ _ j hj => absurd hj (Nat.not_lt_zero j)

theorem len_le (f : (V 32768).Idx → BitVec 32) (hf : TileOK f) (l : ℕ) (hl : l < 16) (n : ℕ) (hn : n ≤ 2048) :
    (cands (rowAt f l) (thr (rowAt f l)) n).length ≤ 256 :=
  (cands_length_mono _ _ hn).trans (by rw [cands_length]; exact (hf l hl).few)

/-- Where each lane writes its next candidate: `v8` its row's base, `c` how many there are. -/
def slotV (f : (V 32768).Idx → BitVec 32) (n : ℕ) : IVec V16 32 :=
  fun x => BitVec.ofNat 32 ((x 0).val) * 256#32 + IntOp.minsi (lenV f n x) 255#32

theorem slotV_toNat (f : (V 32768).Idx → BitVec 32) (hf : TileOK f) (n : ℕ) (hn : n ≤ 2048) (x : V16.Idx) :
    (slotV f n x).toNat = (x 0).val * 256 + min (cands (rowAt f (x 0).val) (thr (rowAt f (x 0).val)) n).length 255 := by
  have hlen := len_le f hf (x 0).val (x_lt x) n hn
  have hx := x_lt x
  have hmin : IntOp.minsi (lenV f n x) 255#32 = BitVec.ofNat 32 (min (cands (rowAt f (x 0).val) (thr (rowAt f (x 0).val)) n).length 255) := by
    apply BitVec.eq_of_toInt_eq
    rw [minsi_toInt]
    show min (BitVec.ofNat 32 _).toInt (BitVec.ofNat 32 255).toInt = _
    rw [toInt_small _ (by omega), toInt_small _ (by omega), toInt_small _ (by omega)]
    push_cast; rfl
  unfold slotV
  rw [hmin, show (256#32 : BitVec 32) = BitVec.ofNat 32 256 from rfl, ← BitVec.ofNat_mul, ← BitVec.ofNat_add, BitVec.toNat_ofNat]
  apply Nat.mod_eq_of_lt
  omega

theorem slotV_inb (f : (V 32768).Idx → BitVec 32) (hf : TileOK f) (n : ℕ) (hn : n ≤ 2048) :
    ∀ a x, ((![slotV f n] : Fin 1 → IVec V16 32) a x).toNat < (V 4096).size a := by
  intro a x
  obtain rfl : a = 0 := Subsingleton.elim _ _
  show (slotV f n x).toNat < 4096
  rw [slotV_toNat f hf n hn]
  have := x_lt x; omega

/-- The lanes whose key of column `n` reaches their threshold. -/
def hitV (f : (V 32768).Idx → BitVec 32) (n : ℕ) : IVec V16 1 := fun x => IntOp.cmpi .sge (colV f n x) (thrV f x)

theorem hitV_one (f : (V 32768).Idx → BitVec 32) (n : ℕ) (x : V16.Idx) :
    hitV f n x = 1 ↔ (thr (rowAt f (x 0).val)).toInt ≤ (rowAt f (x 0).val n).toInt := sge_one _ _

theorem lenV_succ (f : (V 32768).Idx → BitVec 32) (n : ℕ) :
    (fun x => lenV f n x + BitVec.setWidth 32 (hitV f n x) : IVec V16 32) = lenV f (n + 1) := by
  funext x
  unfold lenV
  rw [cands_succ, List.length_append]
  by_cases hx : (thr (rowAt f (x 0).val)).toInt ≤ (rowAt f (x 0).val n).toInt
  · rw [if_pos hx, (hitV_one f n x).mpr hx, BitVec.ofNat_add]; rfl
  · rw [if_neg hx]
    rcases bit_zero_or (hitV f n x) with h1 | h0
    · exact absurd ((hitV_one f n x).mp h1) hx
    · rw [h0]; simp

/-- How many candidates row `l` has among its first `n` columns. -/
def len (f : (V 32768).Idx → BitVec 32) (l n : ℕ) : ℕ := (cands (rowAt f l) (thr (rowAt f l)) n).length

theorem len_hit (f : (V 32768).Idx → BitVec 32) (n : ℕ) (k : Fin 16) (hk : hitV f n (ln k) = 1) : len f k.val (n + 1) = len f k.val n + 1 := by
  unfold len
  rw [cands_succ, List.length_append, if_pos (show (thr (rowAt f k.val)).toInt ≤ (rowAt f k.val n).toInt from (hitV_one f n (ln k)).mp hk)]; rfl

theorem slot_at (f : (V 32768).Idx → BitVec 32) (hf : TileOK f) (n : ℕ) (hn : n < 2048) (k : Fin 16) (hk : hitV f n (ln k) = 1) :
    (slotV f n (ln k)).toNat = k.val * 256 + len f k.val n ∧ len f k.val n < 256 := by
  have h1 := len_hit f n k hk
  have h2 : len f k.val (n + 1) ≤ 256 := len_le f hf k.val k.isLt (n + 1) (by omega)
  refine ⟨?_, by omega⟩
  rw [slotV_toNat f hf n (by omega)]
  show k.val * 256 + min (len f k.val n) 255 = _
  omega

/-- One column written: the candidates of one column more. -/
theorem store_cand (f : (V 32768).Idx → BitVec 32) (hf : TileOK f) (n : ℕ) (hn : n < 2048) (g : (V 4096).Idx → BitVec 32) (hg : CandOK f n g) (h) :
    CandOK f (n + 1) (storeIdx (F := F) (e := .i32) g ![slotV f n] (colV f n) (hitV f n) false h) := by
  intro l hl j hj
  have hcs := cands_succ (rowAt f l) (thr (rowAt f l)) n
  have hb : len f l (n + 1) ≤ 256 := len_le f hf l hl (n + 1) (by omega)
  have hj' : j < len f l (n + 1) := hj
  by_cases hlast : j < len f l n
  · refine (store_miss (F := F) (e := .i32) (slotV f n) (colV f n) (hitV f n) false h g (l * 256 + j) (by omega) ?_).trans ?_
    · intro k hk e
      obtain ⟨h1, h2⟩ := slot_at f hf n hn k hk
      rw [h1] at e
      have hkl : k.val = l := by omega
      rw [hkl] at e
      omega
    · rw [hg l hl j hlast]
      simp only [hcs]
      rw [List.getElem_append_left hlast]
  · by_cases hx : (thr (rowAt f l)).toInt ≤ (rowAt f l n).toInt
    · have hk : hitV f n (ln ⟨l, hl⟩) = 1 := (hitV_one f n (ln ⟨l, hl⟩)).mpr hx
      obtain ⟨h1, h2⟩ := slot_at f hf n hn ⟨l, hl⟩ hk
      have h3 := len_hit f n ⟨l, hl⟩ hk
      simp only at h1 h2 h3
      have hjn : j = len f l n := by omega
      subst hjn
      rw [← h1]
      refine (store_hit (F := F) (e := .i32) (slotV f n) (colV f n) (hitV f n) false h g ⟨l, hl⟩ hk ?_).trans ?_
      · intro k' hk' e
        obtain ⟨h4, h5⟩ := slot_at f hf n hn k' hk'
        rw [h1, h4] at e
        apply Fin.ext
        show k'.val = l
        omega
      · simp only [hcs, if_pos hx]
        unfold len
        rw [List.getElem_append_right (le_of_eq rfl)]
        simp
        rfl
    · rw [hcs, if_neg hx, List.append_nil] at hj
      exact absurd hj hlast

end Cert.Proof.Tile

end
-- ==== Proof.Base.lean ====
/-
  The program as the launch theorem sees it, a vector subcore's three buffers, and the rules for what its task does with
  them: a checked gather of one key per lane, a checked scatter of candidates, sixteen words read, sixteen words zeroed.
-/
module

public import proofs.«01_k».proof.Defs
public import proofs.«01_k».proof.Proof.Tile
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.WritesUnit
public import proofs.«01_k».proof.Proof.Gen.KernelIdeal
public import proofs.«01_k».proof.Proof.Gen.KernelIdeal.Skeleton

@[expose] public section

noncomputable section

namespace Cert.Proof.Base

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Lanes Cert.Proof.Rows Cert.Proof.Tile

variable {F : FTy → Type}

/-! ## The program -/

abbrev ΛP : Labels := Pipeline.Sig Λ₀ (Fin 2) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds; the rounds of the pipeline's staging cells and the transfers' counters are beside them. -/
abbrev EH : Emb UH (MT nD τ sig (HIx 1) (Elt F) ℕ UU ℕ) := embL
/-- The rounds of the pipeline's staging cells. -/
abbrev EP : Emb UP (MT nD τ sig (HIx 1) (Elt F) ℕ UU ℕ) := Emb.trans (Emb.inl : Emb UP (UP × Counters)) embR

/-! ## A vector subcore and its buffers -/

abbrev cV (L : grid1.Coords) : Fin τ.nSC := (L 0).castLE hcore1
abbrev jV (L : grid1.Coords) : Fin τ.nSub := (L 1).castLE hsub1
abbrev thr' (d : Dev nD) (L : grid1.Coords) : Thread nD τ := V d (cV L) (jV L)

abbrev xV : Memref sig .scVector .hbm S4096000 .i32 := Memref.whole main_v1_scv
abbrev oV : Memref sig .scVector .hbm S32x65536 .f32 := Memref.whole main_v2_scv
abbrev sK : Memref sig .scVector .vmem S32768 .i32 := Memref.whole cc1_scratch0
abbrev sC : Memref sig .scVector .vmem S4096 .i32 := Memref.whole cc1_scratch1
abbrev sN : Memref sig .scVector .vmem S65536 .f32 := Memref.whole cc1_scratch2

variable [FloatOps F] [Named F] (d : Dev nD) (L : grid1.Coords)

/-- The key buffer, the candidate buffer and the count buffer of the tile, at given contents. -/
abbrev kPts (f : Buf (Elt F) ((thr' d L).loc cc1_scratch0)) : sProp 𝕄 := (thr' d L).loc cc1_scratch0 ↦{fullShare} f
abbrev cPts (g : Buf (Elt F) ((thr' d L).loc cc1_scratch1)) : sProp 𝕄 := (thr' d L).loc cc1_scratch1 ↦{fullShare} g
abbrev nPts (c : Buf (Elt F) ((thr' d L).loc cc1_scratch2)) : sProp 𝕄 := (thr' d L).loc cc1_scratch2 ↦{fullShare} c

/-- A program of the tile's. -/
abbrev TProg (α : Type) : Type 1 := Prog (TpuEff nD τ sig (Elt F) Λ₀ (.scVector (cV L) (jV L))) α

abbrev wpT {α : Type} (p : TProg (F := F) L α) (Q : α → sProp 𝕄) : sProp 𝕄 :=
  wp frame (wpE (defs₀ (F := F)) 𝒱₀ (thr' d L) none) Set.univ p Q

variable {d L}

/-! ## The operations -/

/-- A gather of column `n` of the sixteen rows. -/
theorem wp_gather {α : Type} {f : Buf (Elt F) ((thr' d L).loc cc1_scratch0)} (n : ℕ) (hn : n < 2048) {v : IVec S16 32} (hv : v = flatV n)
    {h : ∀ a x, ((![v] : Fin 1 → IVec S16 32) a x).toNat < S32768.size a} {hl : (sK).view.Loads}
    {k : Vec F S16 .i32 → TProg (F := F) L α} {Q : α → sProp 𝕄} :
    kPts d L f ⊢ iprop((kPts d L f -∗ wpT d L (k (colV f n)) Q) -∗ wpT d L (SparseCore.vectorLoadIdx sK ![v] h hl >>= k) Q) := by
  subst hv
  iintro H Hk
  iapply (SparseCore.wp_vectorLoadIdx 𝒱₀ (thr' d L) none Set.univ (base := sK) (S := Finset.univ) (Finset.subset_univ _)) $$ H
  rw [show ((sK).access (.whole S32768)).read (Elt F) f = f from Memref.read_access_whole (Elt F) (cc1_scratch0 : Ref sig .scVector) f]
  rw [show loadIdx (F := F) (e := .i32) f ![flatV n] h = colV f n from load_flat (F := F) f n hn h]
  iexact Hk

/-- A scatter into the candidate buffer. -/
theorem wp_scatter {α : Type} {g : Buf (Elt F) ((thr' d L).loc cc1_scratch1)} {v : IVec S16 32} {w : Vec F S16 .i32} {mask : IVec S16 1}
    {h : ∀ a x, ((![v] : Fin 1 → IVec S16 32) a x).toNat < S4096.size a} {hs : ((sC).access (.whole S4096)).Stores Finset.univ}
    {k : PUnit → TProg (F := F) L α} {Q : α → sProp 𝕄} :
    cPts d L g ⊢ iprop((cPts d L (storeIdx (F := F) (e := .i32) g ![v] w mask false h) -∗ wpT d L (k ⟨⟩) Q)
      -∗ wpT d L (SparseCore.vectorStoreIdx sC ![v] w mask false h hs >>= k) Q) := by
  have hset : ((sC).access (.whole S4096)).set = Finset.univ := Memref.set_access_whole (cc1_scratch1 : Ref sig .scVector)
  have hr := SparseCore.wp_vectorStoreIdx (defs := defs₀ (F := F)) 𝒱₀ (thr' d L) none Set.univ (Q := Q) (base := sC) (idxs := ![v]) (v := w) (mask := mask)
    (add := false) (h := h) (hs := hs) (k := k) (f := g)
  rw [hset] at hr
  rw [show ((sC).access (.whole S4096)).read (Elt F) g = g from Memref.read_access_whole (Elt F) (cc1_scratch1 : Ref sig .scVector) g,
    show ∀ w', ((sC).access (.whole S4096)).write (Elt F) g w' Finset.univ = w' from fun w' => Memref.write_access_whole_univ (Elt F) (cc1_scratch1 : Ref sig .scVector) g w'] at hr
  exact hr

/-- A scatter-add into the count buffer. -/
theorem wp_scatterAdd {α : Type} {g : Buf (Elt F) ((thr' d L).loc cc1_scratch2)} {v : IVec S16 32} {w : Vec F S16 .f32} {mask : IVec S16 1}
    {h : ∀ a x, ((![v] : Fin 1 → IVec S16 32) a x).toNat < S65536.size a} {hs : ((sN).access (.whole S65536)).Stores Finset.univ}
    {k : PUnit → TProg (F := F) L α} {Q : α → sProp 𝕄} :
    nPts d L g ⊢ iprop((nPts d L (storeIdx (F := F) (e := .f32) g ![v] w mask true h) -∗ wpT d L (k ⟨⟩) Q)
      -∗ wpT d L (SparseCore.vectorStoreIdx sN ![v] w mask true h hs >>= k) Q) := by
  have hset : ((sN).access (.whole S65536)).set = Finset.univ := Memref.set_access_whole (cc1_scratch2 : Ref sig .scVector)
  have hr := SparseCore.wp_vectorStoreIdx (defs := defs₀ (F := F)) 𝒱₀ (thr' d L) none Set.univ (Q := Q) (base := sN) (idxs := ![v]) (v := w) (mask := mask)
    (add := true) (h := h) (hs := hs) (k := k) (f := g)
  rw [hset] at hr
  rw [show ((sN).access (.whole S65536)).read (Elt F) g = g from Memref.read_access_whole (Elt F) (cc1_scratch2 : Ref sig .scVector) g,
    show ∀ w', ((sN).access (.whole S65536)).write (Elt F) g w' Finset.univ = w' from fun w' => Memref.write_access_whole_univ (Elt F) (cc1_scratch2 : Ref sig .scVector) g w'] at hr
  exact hr

/-- Sixteen candidates read from offset `o`. -/
theorem wp_read16 {α : Type} {g : Buf (Elt F) ((thr' d L).loc cc1_scratch1)} {off : Fin 1 → ℕ} (o : ℕ) (ho : off 0 = o)
    {hi : ∀ a, off a + S16.size a ≤ S4096.size a} {hl}
    {k : Vec F S16 .i32 → TProg (F := F) L α} {Q : α → sProp 𝕄} :
    cPts d L g ⊢ iprop((cPts d L g -∗ wpT d L (k (fun x => rd (N := 4096) (α := BitVec 32) g (o + (x 0).val))) Q)
      -∗ wpT d L (.op (.load sC (Rect.unit (s := S4096) off S16.size hi).toLoadRect hl) k) Q) := by
  iintro H Hk
  iapply (wp_load 𝒱₀ (thr' d L) none Set.univ (m := sC) (S := Finset.univ) (Finset.subset_univ _)) $$ H
  have : (sC).view.readAt (Elt F) (Rect.unit (s := S4096) off S16.size hi).toLoadRect g = fun x => rd (N := 4096) (α := BitVec 32) g (o + (x 0).val) := by
    funext x
    simp only [View.readAt_apply, Memref.view_whole, View.read_whole]
    refine (rd_of (N := 4096) (α := BitVec 32) g ((Rect.unit (s := S4096) off S16.size hi).toLoadRect.idx x)).symm.trans ?_
    congr 1
    rw [LoadRect.idx_apply]
    show off 0 + 1 * (x 0).val = _
    rw [ho]; omega
  rw [this]
  iexact Hk

/-! ## Zeroing the counts -/

/-- The first `n` counts are `z`. -/
def Below (z : F .f32) (n : ℕ) (c : (Tile.V 65536).Idx → F .f32) : Prop := ∀ m < n, rd c m = z

theorem below_step {c : (Tile.V 65536).Idx → F .f32} {z : F .f32} {off : Fin 1 → ℕ} {n : ℕ} (ho : off 0 = n)
    (hi : ∀ a, off a + S16.size a ≤ S65536.size a) (hc : Below z n c) :
    Below z (n + 16) (((sN).access (Rect.unit (s := S65536) off S16.size hi)).write (Elt F) c (fun _ => z) Finset.univ) := by
  intro m hm
  have hb : n + 16 ≤ 65536 := ho ▸ hi 0
  let y : S65536.Idx := Shape.ofLane (d := ![65536]) ⟨m % 65536, Nat.mod_lt _ (by decide)⟩
  have hy : (y 0).val = m := Nat.mod_eq_of_lt (by omega)
  have hr := View.read_writes_cons_unit (Val := Elt F) (v := (sN).view) (f := c) hi (fun _ => z) [] y rfl
  refine hr.trans ?_
  split
  · rfl
  · rename_i hno
    have : m < n := by
      by_contra hmn
      refine hno fun a => ?_
      obtain rfl : a = 0 := Subsingleton.elim _ _
      rw [hy]
      exact ⟨by omega, by show m < off 0 + 16; omega⟩
    exact hc m this

/-- Sixteen words at offset `n` zeroed, the load before the store included. -/
theorem wp_zero16 {α : Type} {c : Buf (Elt F) ((thr' d L).loc cc1_scratch2)} {z : F .f32} {off : Fin 1 → ℕ} (n : ℕ) (ho : off 0 = n)
    (hc : Below z n c) {hi : ∀ a, off a + S16.size a ≤ S65536.size a} {hl} {hx} {hm} {w : Vec F S16 .f32} (hw : w = fun _ => z)
    {k : PUnit → TProg (F := F) L α} {Q : α → sProp 𝕄} :
    nPts d L c ⊢ iprop((∀ c' : Buf (Elt F) ((thr' d L).loc cc1_scratch2), ⌜Below z (n + 16) c'⌝ -∗ nPts d L c' -∗ wpT d L (k ⟨⟩) Q)
      -∗ wpT d L (.op (.load sN (Rect.unit (s := S65536) off S16.size hi).toLoadRect hl) fun _ =>
          .op (.store sN (Rect.unit (s := S65536) off S16.size hi) w Finset.univ hx hm) k) Q) := by
  subst hw
  iintro H Hk
  iapply (wp_load 𝒱₀ (thr' d L) none Set.univ (m := sN) (S := Finset.univ) (Finset.subset_univ _)) $$ H
  iintro H
  iapply (wp_store 𝒱₀ (thr' d L) none Set.univ (m := sN) (r := Rect.unit (s := S65536) off S16.size hi) (Mk := Finset.univ) (S := Finset.univ) (Finset.subset_univ _)) $$ H
  iintro H
  iapply Hk $$ [] H
  ipureintro
  exact below_step ho hi hc

end Cert.Proof.Base

end
-- ==== Proof.Passes.lean ====
/-
  The two passes over a group of sixteen rows: the largest key of every class of columns, then the keys that reach the
  smallest of the class maxima, compacted row by row; and before all groups the zeroing of the counts.
-/
module

public import proofs.«01_k».proof.Proof.Base

@[expose] public section

noncomputable section

namespace Cert.Proof.Passes

open Cert.KernelIdeal Cert.KernelIdeal.Gen

open Idealize.ShloMosaic
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Lanes Cert.Proof.Rows Cert.Proof.Tile Cert.Proof.Base

variable {F : FTy → Type} [FloatOps F] [Named F]

local notation "𝕄" => MT nD τ sig (HIx 1) (Elt F) ℕ UU ℕ

variable (d : Dev nD) (L : grid1.Coords)

/-! ## Checked operations -/

variable {d L} in
/-- A gather of column `n`, its check before it. -/
theorem gstep {α : Type} {f : Buf (Elt F) ((thr' d L).loc cc1_scratch0)} (n : ℕ) (hn : n < 2048) {v : IVec S16 32} (hv : v = flatV n)
    {P : Prop} {dec : Decidable P} (hP : (∀ a x, ((![v] : Fin 1 → IVec S16 32) a x).toNat < S32768.size a) → P)
    {h : PLift P → ∀ a x, ((![v] : Fin 1 → IVec S16 32) a x).toNat < S32768.size a} {hl : (sK).view.Loads}
    {k : PLift P → Vec F S16 .i32 → TProg (F := F) L α} {Q : α → sProp 𝕄}
    {R : sProp 𝕄} (hk : ∀ p, iprop(kPts d L f ∗ R) ⊢ wpT d L (k p (colV f n)) Q) :
    iprop(kPts d L f ∗ R) ⊢ wpT d L (.op (.assume P dec) fun p => SparseCore.vectorLoadIdx sK ![v] (h p) hl >>= k p) Q := by
  have hP' : P := hP (by rw [hv]; exact flatV_inb n hn)
  unfold wpT
  rw [wp_assume_of _ _ _ _ hP']
  iintro ⟨H, HR⟩
  iapply (wp_gather n hn hv) $$ H
  iintro H
  iapply (hk _)
  isplitl [H] <;> iassumption

variable {d L} in
/-- A loop, by an invariant. -/
theorem wp_loop {σ : Type} (ℓ : Scf.Loop 32) (hok : ℓ.OK) (init : σ) (body : Fin ℓ.trips → σ → TProg (F := F) L σ) (I : ℕ → σ → sProp 𝕄)
    (hbody : ∀ (k : Fin ℓ.trips) (acc : σ), I k.val acc ⊢ wpT d L (body k acc) (I (k.val + 1))) :
    I 0 init ⊢ wpT d L (Scf.Loop.for ℓ hok init body) (I ℓ.trips) := by
  iintro HI
  iapply (Scf.wp_for frame (wpE (defs₀ (F := F)) 𝒱₀ (thr' d L) none) Set.univ ℓ.lb ℓ.ub ℓ.st hok init body I hbody)
  isplitl [HI]; · iexact HI
  iintro %acc H; iexact H

variable {d L} in
theorem ret_eq {α : Type} {R : sProp 𝕄} {a b : α} (h : a = b) : R ⊢ wpT (F := F) d L (.ret a) fun acc => iprop(⌜acc = b⌝ ∗ R) := by
  unfold wpT
  rw [wp_ret]
  iintro H
  imodintro
  isplitr; swap; · iexact H
  ipureintro
  exact h

/-- The address of a later column. -/
theorem addV (n u m : ℕ) (h : n + u = m) : addi (flatV n : IVec S16 32) (broadcast S16 (BitVec.ofNat 32 u)) = flatV m := by
  subst h; exact flatV_add n u

variable {d L} in
/-- A scatter of the column's candidates, its check before it. -/
theorem sstep {α : Type} {f : Buf (Elt F) ((thr' d L).loc cc1_scratch0)} (hf : TileOK f) (n : ℕ) (hn : n < 2048)
    {g : Buf (Elt F) ((thr' d L).loc cc1_scratch1)} (hg : CandOK f n g)
    {v : IVec S16 32} {w : Vec F S16 .i32} {mask : IVec S16 1} (hv : v = slotV f n) (hw : w = colV f n) (hm : mask = hitV f n)
    {P : Prop} {dec : Decidable P} (hP : (∀ a x, ((![v] : Fin 1 → IVec S16 32) a x).toNat < S4096.size a) → P)
    {h : PLift P → ∀ a x, ((![v] : Fin 1 → IVec S16 32) a x).toNat < S4096.size a} {hs : ((sC).access (.whole S4096)).Stores Finset.univ}
    {k : PLift P → PUnit → TProg (F := F) L α} {Q : α → sProp 𝕄} {R : sProp 𝕄}
    (hk : ∀ p (g' : Buf (Elt F) ((thr' d L).loc cc1_scratch1)), CandOK f (n + 1) g' → iprop(R ∗ cPts d L g') ⊢ wpT d L (k p ⟨⟩) Q) :
    iprop(R ∗ cPts d L g) ⊢ wpT d L (.op (.assume P dec) fun p => SparseCore.vectorStoreIdx sC ![v] w mask false (h p) hs >>= k p) Q := by
  subst hv hw hm
  have hin := slotV_inb f hf n (by omega)
  unfold wpT
  rw [wp_assume_of _ _ _ _ (hP hin)]
  iintro ⟨HR, H⟩
  iapply wp_scatter $$ H
  iintro H
  iapply (hk _ _ (store_cand (F := F) f hf n hn g hg hin))
  isplitl [HR] <;> iassumption

/-! ## The first pass -/

abbrev St3 : Type := IVec S16 32 × IVec S16 32 × IVec S16 32 × IVec S16 32 × IVec S16 32 × IVec S16 32 × IVec S16 32 × IVec S16 32 × IVec S16 32

/-- The addresses and the eight class maxima after `k` trips. -/
def st3 (f : (Tile.V 32768).Idx → BitVec 32) (k : ℕ) : St3 :=
  (flatV (8 * (2 * k)), maxV f 0 (2 * k), maxV f 1 (2 * k), maxV f 2 (2 * k), maxV f 3 (2 * k), maxV f 4 (2 * k), maxV f 5 (2 * k), maxV f 6 (2 * k), maxV f 7 (2 * k))

theorem st3_zero (f : (Tile.V 32768).Idx → BitVec 32) : ((k1_pay2, k1_pay4, k1_pay5, k1_pay6, k1_pay7, k1_pay8, k1_pay9, k1_pay10, k1_pay11) : St3) = st3 f 0 := by
  have h : k1_pay2 = flatV (8 * (2 * 0)) := by
    funext x
    show BitVec.ofNat 32 (0 * 16 + (x 0).val) * 2048#32 = BitVec.ofNat 32 ((x 0).val * 2048 + 8 * (2 * 0))
    rw [← BitVec.ofNat_mul]; simp
  rw [h]; rfl

theorem trip3 (k1_t2 : Fin k1_t2_loop.trips) (k1_h1 : k1_cond1 L k1_t2 = 1#1) (f : Buf (Elt F) ((thr' d L).loc cc1_scratch0))
    (k : Fin k1_t3_loop.trips) :
    iprop(kPts d L f ∗ emp) ⊢ wpT d L (k1_t3_body L xV (Memref.isWhole_whole _) oV (Memref.isWhole_whole _) sK (Memref.isWhole_whole _) sC (Memref.isWhole_whole _)
        sN (Memref.isWhole_whole _) cc1_scoped0 cc1_scoped1 k1_t2 k1_h1 k (st3 f k.val))
      fun acc => iprop(⌜acc = st3 f (k.val + 1)⌝ ∗ kPts d L f ∗ emp) := by
  have hk : k.val < 128 := k.isLt
  unfold k1_t3_body st3
  simp only [k1_part1_eq_skeleton]; unfold k1_part1_skel
  simp only [Prog.lift, Prog.bind_op, Prog.bind_ret, Prog.pure_eq_ret, bind_assoc]
  refine gstep (8 * (2 * k.val) + 0) (by omega) (addV (8 * (2 * k.val)) 0 _ (by omega)) (fun h _ => h) fun _ => ?_
  refine gstep (8 * (2 * k.val) + 1) (by omega) (addV (8 * (2 * k.val)) 1 _ (by omega)) (fun h _ => h) fun _ => ?_
  refine gstep (8 * (2 * k.val) + 2) (by omega) (addV (8 * (2 * k.val)) 2 _ (by omega)) (fun h _ => h) fun _ => ?_
  refine gstep (8 * (2 * k.val) + 3) (by omega) (addV (8 * (2 * k.val)) 3 _ (by omega)) (fun h _ => h) fun _ => ?_
  refine gstep (8 * (2 * k.val) + 4) (by omega) (addV (8 * (2 * k.val)) 4 _ (by omega)) (fun h _ => h) fun _ => ?_
  refine gstep (8 * (2 * k.val) + 5) (by omega) (addV (8 * (2 * k.val)) 5 _ (by omega)) (fun h _ => h) fun _ => ?_
  refine gstep (8 * (2 * k.val) + 6) (by omega) (addV (8 * (2 * k.val)) 6 _ (by omega)) (fun h _ => h) fun _ => ?_
  refine gstep (8 * (2 * k.val) + 7) (by omega) (addV (8 * (2 * k.val)) 7 _ (by omega)) (fun h _ => h) fun _ => ?_
  refine gstep (8 * (2 * k.val + 1) + 0) (by omega) (addV (8 * (2 * k.val)) 8 _ (by omega)) (fun h _ => h) fun _ => ?_
  refine gstep (8 * (2 * k.val + 1) + 1) (by omega) (addV (8 * (2 * k.val)) 9 _ (by omega)) (fun h _ => h) fun _ => ?_
  refine gstep (8 * (2 * k.val + 1) + 2) (by omega) (addV (8 * (2 * k.val)) 10 _ (by omega)) (fun h _ => h) fun _ => ?_
  refine gstep (8 * (2 * k.val + 1) + 3) (by omega) (addV (8 * (2 * k.val)) 11 _ (by omega)) (fun h _ => h) fun _ => ?_
  refine gstep (8 * (2 * k.val + 1) + 4) (by omega) (addV (8 * (2 * k.val)) 12 _ (by omega)) (fun h _ => h) fun _ => ?_
  refine gstep (8 * (2 * k.val + 1) + 5) (by omega) (addV (8 * (2 * k.val)) 13 _ (by omega)) (fun h _ => h) fun _ => ?_
  refine gstep (8 * (2 * k.val + 1) + 6) (by omega) (addV (8 * (2 * k.val)) 14 _ (by omega)) (fun h _ => h) fun _ => ?_
  refine gstep (8 * (2 * k.val + 1) + 7) (by omega) (addV (8 * (2 * k.val)) 15 _ (by omega)) (fun h _ => h) fun _ => ?_
  refine ret_eq ?_
  simp only [Prod.mk.injEq]
  exact ⟨addV (8 * (2 * k.val)) 16 _ (by omega), rfl, rfl, rfl, rfl, rfl, rfl, rfl, rfl⟩

/-- The first pass leaves the class maxima of the sixteen rows. -/
theorem pass1 (k1_t2 : Fin k1_t2_loop.trips) (k1_h1 : k1_cond1 L k1_t2 = 1#1) (f : Buf (Elt F) ((thr' d L).loc cc1_scratch0)) (hok) :
    kPts d L f ⊢ wpT d L (Scf.Loop.for k1_t3_loop hok ((k1_pay2, k1_pay4, k1_pay5, k1_pay6, k1_pay7, k1_pay8, k1_pay9, k1_pay10, k1_pay11) : St3)
        (k1_t3_body L xV (Memref.isWhole_whole _) oV (Memref.isWhole_whole _) sK (Memref.isWhole_whole _) sC (Memref.isWhole_whole _)
        sN (Memref.isWhole_whole _) cc1_scoped0 cc1_scoped1 k1_t2 k1_h1))
      fun acc => iprop(⌜acc = st3 f 128⌝ ∗ kPts d L f ∗ emp) := by
  iintro H
  iapply (wp_loop (d := d) (L := L) k1_t3_loop hok _ _ (fun k acc => iprop(⌜acc = st3 f k⌝ ∗ kPts d L f ∗ emp)) ?_)
  · intro k acc
    iintro ⟨%h, H⟩
    subst h
    iapply (trip3 d L k1_t2 k1_h1 f k) $$ H
  · isplitr; · ipureintro; exact st3_zero f
    isplitl [H]; · iexact H
    iempintro

/-! ## The second pass -/

/-- The addresses and the number of candidates after `k` trips. -/
def st4 (f : (Tile.V 32768).Idx → BitVec 32) (k : ℕ) : IVec S16 32 × IVec S16 32 := (flatV (8 * k), lenV f (8 * k))

theorem cnt_succ {f : (Tile.V 32768).Idx → BitVec 32} {n : ℕ} {c t : IVec S16 32} (hc : c = lenV f n) (ht : t = thrV f) :
    addi c (extui 32 (cmpi .sge (colV f n : IVec S16 32) t) natLt_1_32) = lenV f (n + 1) := by
  subst hc ht; exact lenV_succ f n

theorem slot_of {f : (Tile.V 32768).Idx → BitVec 32} {n : ℕ} {c : IVec S16 32} (hc : c = lenV f n) :
    addi k1_pay3 (minsi c (broadcast S16 255#32)) = slotV f n := by
  subst hc
  funext x
  show BitVec.ofNat 32 (0 * 16 + (x 0).val) * 256#32 + _ = _
  rw [Nat.zero_mul, Nat.zero_add]; rfl

theorem hit_of {f : (Tile.V 32768).Idx → BitVec 32} {n : ℕ} {t : IVec S16 32} (ht : t = thrV f) : cmpi .sge (colV f n : IVec S16 32) t = hitV f n := by
  subst ht; rfl

theorem trip4 (k1_t2 : Fin k1_t2_loop.trips) (k1_h1 : k1_cond1 L k1_t2 = 1#1) (f : Buf (Elt F) ((thr' d L).loc cc1_scratch0)) (hf : TileOK f)
    {w1 w2 w3 w4 w5 w6 w7 w8 : IVec S16 32} (ht : k1_pay26 w1 w2 w3 w4 w5 w6 w7 w8 = thrV f)
    (k : Fin k1_t4_loop.trips) (g : Buf (Elt F) ((thr' d L).loc cc1_scratch1)) (hg : CandOK f (8 * k.val) g) :
    iprop(kPts d L f ∗ cPts d L g) ⊢ wpT d L (k1_t4_body L xV (Memref.isWhole_whole _) oV (Memref.isWhole_whole _) sK (Memref.isWhole_whole _) sC (Memref.isWhole_whole _)
        sN (Memref.isWhole_whole _) cc1_scoped0 cc1_scoped1 k1_t2 k1_h1 w1 w2 w3 w4 w5 w6 w7 w8 k (st4 f k.val))
      fun acc => iprop(⌜acc = st4 f (k.val + 1)⌝ ∗ kPts d L f ∗ ∃ g', ⌜CandOK f (8 * (k.val + 1)) g'⌝ ∗ cPts d L g') := by
  have hk : k.val < 256 := k.isLt
  have c0 : lenV f (8 * k.val) = lenV f (8 * k.val + 0) := rfl
  have c1 := cnt_succ c0 ht
  have c2 := cnt_succ c1 ht
  have c3 := cnt_succ c2 ht
  have c4 := cnt_succ c3 ht
  have c5 := cnt_succ c4 ht
  have c6 := cnt_succ c5 ht
  have c7 := cnt_succ c6 ht
  have c8 := cnt_succ c7 ht
  unfold k1_t4_body st4
  simp only [k1_part2_eq_skeleton]; unfold k1_part2_skel
  simp only [Prog.lift, Prog.bind_op, Prog.bind_ret, Prog.pure_eq_ret, bind_assoc]
  refine gstep (8 * k.val + 0) (by omega) (addV (8 * k.val) 0 _ rfl) (fun h _ => h) fun _ => ?_
  refine sstep hf (8 * k.val + 0) (by omega) hg (slot_of c0) rfl (hit_of ht) (fun h _ => h) fun _ g hg => ?_
  refine gstep (8 * k.val + 1) (by omega) (addV (8 * k.val) 1 _ rfl) (fun h _ => h) fun _ => ?_
  refine sstep hf (8 * k.val + 1) (by omega) hg (slot_of c1) rfl (hit_of ht) (fun h _ => h) fun _ g hg => ?_
  refine gstep (8 * k.val + 2) (by omega) (addV (8 * k.val) 2 _ rfl) (fun h _ => h) fun _ => ?_
  refine sstep hf (8 * k.val + 2) (by omega) hg (slot_of c2) rfl (hit_of ht) (fun h _ => h) fun _ g hg => ?_
  refine gstep (8 * k.val + 3) (by omega) (addV (8 * k.val) 3 _ rfl) (fun h _ => h) fun _ => ?_
  refine sstep hf (8 * k.val + 3) (by omega) hg (slot_of c3) rfl (hit_of ht) (fun h _ => h) fun _ g hg => ?_
  refine gstep (8 * k.val + 4) (by omega) (addV (8 * k.val) 4 _ rfl) (fun h _ => h) fun _ => ?_
  refine sstep hf (8 * k.val + 4) (by omega) hg (slot_of c4) rfl (hit_of ht) (fun h _ => h) fun _ g hg => ?_
  refine gstep (8 * k.val + 5) (by omega) (addV (8 * k.val) 5 _ rfl) (fun h _ => h) fun _ => ?_
  refine sstep hf (8 * k.val + 5) (by omega) hg (slot_of c5) rfl (hit_of ht) (fun h _ => h) fun _ g hg => ?_
  refine gstep (8 * k.val + 6) (by omega) (addV (8 * k.val) 6 _ rfl) (fun h _ => h) fun _ => ?_
  refine sstep hf (8 * k.val + 6) (by omega) hg (slot_of c6) rfl (hit_of ht) (fun h _ => h) fun _ g hg => ?_
  refine gstep (8 * k.val + 7) (by omega) (addV (8 * k.val) 7 _ rfl) (fun h _ => h) fun _ => ?_
  refine sstep hf (8 * k.val + 7) (by omega) hg (slot_of c7) rfl (hit_of ht) (fun h _ => h) fun _ g hg => ?_
  iintro ⟨H, Hc⟩
  iapply (ret_eq (d := d) (L := L) (R := iprop(kPts d L f ∗ ∃ g', ⌜CandOK f (8 * (k.val + 1)) g'⌝ ∗ cPts d L g')) ?_)
  · simp only [Prod.mk.injEq]
    exact ⟨addV (8 * k.val) 8 _ rfl, c8⟩
  · isplitl [H]; · iexact H
    iexists g
    isplitr; · ipureintro; exact hg
    iexact Hc

/-- The second pass leaves the candidates of the sixteen rows and their number. -/
theorem pass2 (k1_t2 : Fin k1_t2_loop.trips) (k1_h1 : k1_cond1 L k1_t2 = 1#1) (f : Buf (Elt F) ((thr' d L).loc cc1_scratch0)) (hf : TileOK f)
    {w1 w2 w3 w4 w5 w6 w7 w8 : IVec S16 32} (ht : k1_pay26 w1 w2 w3 w4 w5 w6 w7 w8 = thrV f)
    (g : Buf (Elt F) ((thr' d L).loc cc1_scratch1)) (hok) :
    iprop(kPts d L f ∗ cPts d L g) ⊢ wpT d L (Scf.Loop.for k1_t4_loop hok (k1_pay2, k1_pay27)
        (k1_t4_body L xV (Memref.isWhole_whole _) oV (Memref.isWhole_whole _) sK (Memref.isWhole_whole _) sC (Memref.isWhole_whole _)
        sN (Memref.isWhole_whole _) cc1_scoped0 cc1_scoped1 k1_t2 k1_h1 w1 w2 w3 w4 w5 w6 w7 w8))
      fun acc => iprop(⌜acc = st4 f 256⌝ ∗ kPts d L f ∗ ∃ g', ⌜CandOK f 2048 g'⌝ ∗ cPts d L g') := by
  iintro ⟨H, Hc⟩
  iapply (wp_loop (d := d) (L := L) k1_t4_loop hok _ _ (fun k acc => iprop(⌜acc = st4 f k⌝ ∗ kPts d L f ∗ ∃ g', ⌜CandOK f (8 * k) g'⌝ ∗ cPts d L g')) ?_)
  · intro k acc
    iintro ⟨%h, H, %g, %hg, Hc⟩
    subst h
    iapply (trip4 d L k1_t2 k1_h1 f hf ht k g hg)
    isplitl [H] <;> iassumption
  · isplitr
    · ipureintro
      unfold st4
      rw [Prod.mk.injEq]
      exact ⟨congrArg Prod.fst (st3_zero f), rfl⟩
    isplitl [H]; · iexact H
    iexists g
    isplitr; · ipureintro; exact CandOK_zero f g
    iexact Hc

theorem thr_eq (f : (Tile.V 32768).Idx → BitVec 32) :
    k1_pay26 (maxV f 0 256) (maxV f 1 256) (maxV f 2 256) (maxV f 3 256) (maxV f 4 256) (maxV f 5 256) (maxV f 6 256) (maxV f 7 256) = thrV f := rfl

/-! ## Zeroing the counts -/

/-- The word zero, as the count buffer is filled with it. -/
abbrev z : F .f32 := Scalar.ofBits .f32 0x00000000#32

theorem off1 (k : Fin k1_t1_loop.trips) (u : ℕ) (hu : u < 128) : (k1_off1 k (BitVec.ofNat 32 u)) 0 = 128 * k.val + u := by
  have hk : k.val < 512 := k.isLt
  have hiv : Scf.iv 0#32 1#32 k.val = BitVec.ofNat 32 k.val := by simp [Scf.iv]
  show (0#32 + Scf.iv 0#32 1#32 k.val * 128#32 + BitVec.ofNat 32 u).toNat = _
  rw [hiv]
  simp only [BitVec.toNat_add, BitVec.toNat_mul, BitVec.toNat_ofNat]
  omega

variable {d L} in
theorem zstep {α : Type} {c : Buf (Elt F) ((thr' d L).loc cc1_scratch2)} {off : Fin 1 → ℕ} (n : ℕ) (hc : Below z n c) (ho : off 0 = n)
    {hi : ∀ a, off a + S16.size a ≤ S65536.size a} {hl} {hx} {hm} {k : PUnit → TProg (F := F) L α} {Q : α → sProp 𝕄}
    (hk : ∀ c' : Buf (Elt F) ((thr' d L).loc cc1_scratch2), Below z (n + 16) c' → nPts d L c' ⊢ wpT d L (k ⟨⟩) Q) :
    nPts d L c ⊢ wpT d L (.op (.load sN (Rect.unit (s := S65536) off S16.size hi).toLoadRect hl) fun _ =>
          .op (.store sN (Rect.unit (s := S65536) off S16.size hi) (k1_pay1 (F := F)) Finset.univ hx hm) k) Q := by
  iintro H
  iapply (wp_zero16 n ho hc rfl) $$ H
  iintro %c' %hc' H
  iapply (hk c' hc') $$ H

theorem trip1 (k : Fin k1_t1_loop.trips) (c : Buf (Elt F) ((thr' d L).loc cc1_scratch2)) (hc : Below z (128 * k.val) c) :
    nPts d L c ⊢ wpT d L (k1_t1_body L xV (Memref.isWhole_whole _) oV (Memref.isWhole_whole _) sK (Memref.isWhole_whole _) sC (Memref.isWhole_whole _)
        sN (Memref.isWhole_whole _) cc1_scoped0 cc1_scoped1 k ⟨⟩)
      fun _ => iprop(∃ c', ⌜Below z (128 * (k.val + 1)) c'⌝ ∗ nPts d L c') := by
  unfold k1_t1_body
  simp only [Prog.lift, Prog.bind_op, Prog.bind_ret, Prog.pure_eq_ret, bind_assoc]
  refine zstep (128 * k.val + 0) hc (off1 k 0 (by decide)) fun c hc => ?_
  refine zstep (128 * k.val + 16) hc (off1 k 16 (by decide)) fun c hc => ?_
  refine zstep (128 * k.val + 32) hc (off1 k 32 (by decide)) fun c hc => ?_
  refine zstep (128 * k.val + 48) hc (off1 k 48 (by decide)) fun c hc => ?_
  refine zstep (128 * k.val + 64) hc (off1 k 64 (by decide)) fun c hc => ?_
  refine zstep (128 * k.val + 80) hc (off1 k 80 (by decide)) fun c hc => ?_
  refine zstep (128 * k.val + 96) hc (off1 k 96 (by decide)) fun c hc => ?_
  refine zstep (128 * k.val + 112) hc (off1 k 112 (by decide)) fun c hc => ?_
  unfold wpT
  rw [wp_ret]
  iintro H
  imodintro
  iexists c
  isplitr; · ipureintro; exact hc
  iexact H

/-- The first loop zeroes the counts. -/
theorem zeros (c : Buf (Elt F) ((thr' d L).loc cc1_scratch2)) (hok) :
    nPts d L c ⊢ wpT d L (Scf.Loop.for k1_t1_loop hok ⟨⟩ (k1_t1_body L xV (Memref.isWhole_whole _) oV (Memref.isWhole_whole _) sK (Memref.isWhole_whole _) sC (Memref.isWhole_whole _)
        sN (Memref.isWhole_whole _) cc1_scoped0 cc1_scoped1))
      fun _ => iprop(∃ c', ⌜Below z 65536 c'⌝ ∗ nPts d L c') := by
  iintro H
  iapply (wp_loop (d := d) (L := L) k1_t1_loop hok _ _ (fun k _ => iprop(∃ c', ⌜Below z (128 * k) c'⌝ ∗ nPts d L c')) ?_)
  · intro k _
    iintro ⟨%c, %hc, H⟩
    iapply (trip1 d L k c hc) $$ H
  · iexists c
    isplitr; · ipureintro; exact fun m hm => absurd hm (Nat.not_lt_zero m)
    iexact H

end Cert.Proof.Passes

end
-- ==== Proof.Merge.lean ====
/-
  The merge of one row's candidates, sixteen at a time, into a descending vector of the largest sixteen; and the columns
  it ends with.
-/
module

public import proofs.«01_k».proof.Proof.Rows

@[expose] public section

noncomputable section

namespace Cert.Proof.Merge

open Idealize.ShloMosaic Cert.Proof.Lanes Cert.Proof.Rows

/-- How many of the first `n` entries of a list are at least `y`. -/
def upTo (c : List (BitVec 32)) (n : ℕ) (y : ℤ) : ℕ := (c.take n).countP fun v => decide (y ≤ v.toInt)

theorem upTo_add (c : List (BitVec 32)) (y : ℤ) (b : ℕ) : ∀ m, upTo c (b + m) y
    = upTo c b y + ((Finset.range m).filter fun j => ∃ h : b + j < c.length, y ≤ (c[b + j]).toInt).card := by
  intro m
  induction m with
  | zero => rfl
  | succ m ih =>
    unfold upTo at ih ⊢
    rw [← Nat.add_assoc, List.take_add_one, List.countP_append, ih, Finset.range_add_one, Finset.filter_insert]
    by_cases hl : b + m < c.length
    · rw [List.getElem?_eq_getElem hl]
      by_cases hy : y ≤ (c[b + m]).toInt
      · rw [if_pos ⟨hl, hy⟩, Finset.card_insert_of_notMem (by simp)]
        simp [hy]; omega
      · rw [if_neg (fun h => hy h.2)]
        simp [hy]
    · rw [if_neg (fun h => hl h.1), List.getElem?_eq_none (by omega)]
      simp

theorem card_lanes (p : ℕ → Prop) [DecidablePred p] :
    (Finset.univ.filter fun j : Fin 16 => p j.val).card = ((Finset.range 16).filter p).card := by
  rw [← Finset.card_map Fin.valEmbedding]
  congr 1
  ext n
  simp only [Finset.mem_map, Finset.mem_filter, Finset.mem_univ, true_and, Fin.valEmbedding_apply, Finset.mem_range]
  constructor
  · rintro ⟨j, hj, rfl⟩; exact ⟨j.isLt, hj⟩
  · rintro ⟨hn, hp⟩; exact ⟨⟨n, hn⟩, hp, rfl⟩

/-- The `n`-th sixteen candidates, the lanes past the last one filled with their own number. -/
def chunk (cl n : ℕ) (v : IVec V16 32) : IVec V16 32 := fun x => if 16 * n + (x 0).val < cl then v x else lanes x

/-- Sixteen candidates more: for a bound above 15 the fillers do not count. -/
theorem cntGe_chunk (c : List (BitVec 32)) (n : ℕ) (v : IVec V16 32)
    (hv : ∀ j : Fin 16, ∀ h : 16 * n + j.val < c.length, v (ln j) = c[16 * n + j.val]) (y : ℤ) (hy : 15 < y) :
    upTo c (16 * n) y + cntGe (chunk c.length n v) y = upTo c (16 * (n + 1)) y := by
  classical
  rw [show 16 * (n + 1) = 16 * n + 16 by omega, upTo_add]
  congr 1
  rw [← card_lanes]
  unfold cntGe
  congr 1
  apply Finset.filter_congr
  intro j _
  show y ≤ (if 16 * n + j.val < c.length then v (ln j) else lanes (ln j)).toInt ↔ _
  by_cases h : 16 * n + j.val < c.length
  · rw [if_pos h, hv j h]
    exact ⟨fun h' => ⟨h, h'⟩, fun h' => h'.2⟩
  · rw [if_neg h]
    constructor
    · intro h'
      exfalso
      have : (lanes (ln j)).toInt = j.val := toInt_small j.val (by have := j.isLt; omega)
      have := j.isLt
      omega
    · intro h'; exact absurd h'.1 h

/-- After `n` steps lane `k` reaches `y` exactly when more than `k` of the candidates merged do. -/
def MergeInv (c : List (BitVec 32)) (n : ℕ) (best : IVec V16 32) : Prop :=
  ∀ y : ℤ, 15 < y → ∀ k : Fin 16, y ≤ (best (ln k)).toInt ↔ k.val < upTo c (16 * n) y

theorem MergeInv.zero (c : List (BitVec 32)) : MergeInv c 0 (fun x => 15#32 - lanes x) := by
  intro y hy k
  have : (15#32 - lanes (ln k)).toInt = 15 - (k.val : ℤ) := by
    revert k; decide
  show y ≤ (15#32 - lanes (ln k)).toInt ↔ k.val < 0
  omega

theorem MergeInv.step {c : List (BitVec 32)} {n : ℕ} {best : IVec V16 32} (hb : MergeInv c n best) (v : IVec V16 32)
    (hv : ∀ j : Fin 16, ∀ h : 16 * n + j.val < c.length, v (ln j) = c[16 * n + j.val]) :
    MergeInv c (n + 1) (mergeStep lanes best (chunk c.length n v)) := by
  intro y hy k
  rw [mergeStep_spec best (chunk c.length n v) y (upTo c (16 * n) y) (hb y hy) k, cntGe_chunk c n v hv y hy]

/-- The columns of the first eight lanes, numbers past the row in the rest. -/
def colsOf (best : IVec V16 32) : IVec V16 32 := fun x => if (x 0).val < 8 then 2047#32 - (best x &&& 2047#32) else 4064#32 + lanes x

/-- The row's eight columns in ascending order. -/
theorem finish {row : ℕ → BitVec 32} (hok : RowOK row) {n : ℕ} {best : IVec V16 32} (hb : MergeInv (cands row (thr row) 2048) n best)
    (hn : (cands row (thr row) 2048).length ≤ 16 * n) (k : Fin 16) (hk : k.val < 8) :
    Sel row k.val (sortUp lanes (colsOf best) (ln k)).toNat := by
  refine sel_sorted hok _ ?_ ?_ k hk
  · intro j hj
    obtain ⟨c, hc, e, hr⟩ := best_key hok (best (ln j)) j.val hj fun y hy => by
      rw [hb y hy j]
      unfold upTo
      rw [List.take_of_length_le hn, cands_countP]
    refine ⟨c, hc, ?_, hr⟩
    show (if j.val < 8 then 2047#32 - (best (ln j) &&& 2047#32) else _) = _
    rw [if_pos hj, e, hok.tag c hc]
    bv_omega
  · intro j hj
    show (if j.val < 8 then _ else 4064#32 + BitVec.ofNat 32 j.val) = _
    rw [if_neg (by omega)]
    exact (BitVec.ofNat_add 4064 j.val).symm

end Cert.Proof.Merge

end
-- ==== Proof.Words.lean ====
/-
  The words a tile's task computes from its place in the grid and from its loops: which groups of rows it takes, how many
  merge steps a row's candidates need, which eight rows of counts a row of keys belongs to.
-/
module

public import proofs.«01_k».proof.Proof.Base

@[expose] public section

noncomputable section

namespace Cert.Proof.Words

open Cert.KernelIdeal Cert.KernelIdeal.Gen
open Idealize.ShloMosaic Cert.Proof.Lanes

/-- The number of a tile among the thirty-two. -/
def wid (L : grid1.Coords) : ℕ := 2 * (L 1).val + (L 0).val

theorem wid_lt (L : grid1.Coords) : wid L < 32 := by
  have h0 : (L 0).val < 2 := (L 0).isLt
  have h1 : (L 1).val < 16 := (L 1).isLt
  unfold wid; omega

/-- Its number as the kernel computes it, -/
def widW (L : grid1.Coords) : BitVec 32 := Scalar.addi (Scalar.muli (BitVec.ofNat 32 (L 1).val) 2#32) (BitVec.ofNat 32 (L 0).val)

theorem widW_eq (L : grid1.Coords) : widW L = BitVec.ofNat 32 (wid L) := by
  show BitVec.ofNat 32 (L 1).val * BitVec.ofNat 32 2 + BitVec.ofNat 32 (L 0).val = _
  rw [← BitVec.ofNat_mul, ← BitVec.ofNat_add]; unfold wid; congr 1; omega

/-- and the group it takes at trip `t`. -/
def groupW (L : grid1.Coords) (t : ℕ) : BitVec 32 :=
  Scalar.addi (widW L) (Scalar.muli (Scalar.addi 0#32 (Scalar.muli (Scf.iv 0#32 1#32 t) 1#32)) 32#32)

theorem groupW_eq (L : grid1.Coords) (t : ℕ) : groupW L t = BitVec.ofNat 32 (wid L + 32 * t) := by
  unfold groupW
  rw [widW_eq, iv01]
  show BitVec.ofNat 32 (wid L) + (BitVec.ofNat 32 0 + BitVec.ofNat 32 t * BitVec.ofNat 32 1) * BitVec.ofNat 32 32 = _
  rw [← BitVec.ofNat_mul, ← BitVec.ofNat_add, ← BitVec.ofNat_mul, ← BitVec.ofNat_add]
  congr 1; omega

theorem cond_iff (L : grid1.Coords) (t : Fin k1_t2_loop.trips) : k1_cond1 L t = 1#1 ↔ wid L + 32 * t.val < 125 := by
  have ht : t.val < 4 := t.isLt
  have hw := wid_lt L
  have h : ∀ g : Fin 160, (Scalar.cmpi .ne (Scalar.extui (Scalar.cmpi .slt (BitVec.ofNat 32 g.val) 125#32) : BitVec 32) 0#32 : BitVec 1) = 1#1 ↔ g.val < 125 := by
    decide +kernel
  have := h ⟨wid L + 32 * t.val, by omega⟩
  rw [← groupW_eq] at this
  exact this

theorem off2 (L : grid1.Coords) (t : Fin k1_t2_loop.trips) : k1_off2 L t 0 = 32768 * (wid L + 32 * t.val) := by
  have ht : t.val < 4 := t.isLt
  have hw := wid_lt L
  show (16#32 * groupW L t.val * 2048#32).toNat = _
  rw [groupW_eq]
  simp only [BitVec.toNat_mul, BitVec.toNat_ofNat]
  omega

theorem off5 (L : grid1.Coords) : k1_off5 L 0 = wid L := by
  have hw := wid_lt L
  show (widW L).toNat = _
  rw [widW_eq, BitVec.toNat_ofNat]; omega

/-- The merge loop's trips, at every number of candidates. -/
theorem merge_loop : ∀ cl : Fin 257, (k1_t6_loop (BitVec.ofNat 32 cl.val)).trips = (cl.val + 15) / 16 ∧ (k1_t6_loop (BitVec.ofNat 32 cl.val)).OK
    ∧ (k1_t11_loop (BitVec.ofNat 32 cl.val)).trips = 0 ∧ (k1_t11_loop (BitVec.ofNat 32 cl.val)).OK := by decide +kernel

theorem off3 (l : Fin k1_t5_loop.trips) (v : BitVec 32) (k : Fin (k1_t6_loop v).trips) (hk : k.val < 16) : k1_off3 l v k 0 = l.val * 256 + 16 * k.val := by
  have hl : l.val < 16 := l.isLt
  show ((0#32 + Scf.iv 0#32 1#32 l.val * 1#32) * 256#32 + Scf.iv 0#32 1#32 k.val * 16#32).toNat = _
  rw [iv01, iv01]
  simp only [BitVec.toNat_add, BitVec.toNat_mul, BitVec.toNat_ofNat]
  omega

/-- The batch of a row, as the kernel divides. -/
def batchW (r : BitVec 32) : BitVec 32 :=
  Scalar.select (Scalar.andi (Scalar.cmpi .ne (Scalar.subi (Scalar.extui (Scalar.cmpi .sgt r 0#32)) (Scalar.extui (Scalar.cmpi .slt r 0#32)) : BitVec 32)
      (Scalar.subi (Scalar.extui (Scalar.cmpi .sgt 500#32 0#32)) (Scalar.extui (Scalar.cmpi .slt 500#32 0#32))))
      (Scalar.cmpi .ne (Scalar.remsi r 500#32) 0#32))
    (Scalar.subi (Scalar.divsi r 500#32) 1#32) (Scalar.divsi r 500#32)

theorem batchW_eq : ∀ r : Fin 2000, batchW (BitVec.ofNat 32 r.val) = BitVec.ofNat 32 (r.val / 500) := by decide +kernel

end Cert.Proof.Words

end
-- ==== Proof.Count.lean ====
/-
  The counters of a tile: a counter holds as many ones added to zero as rows chose its column in its place, and a row's
  scatter-add raises by one the eight counters of its columns.
-/
module

public import proofs.«01_k».proof.Proof.Words

@[expose] public section

noncomputable section

namespace Cert.Proof.Count

open Idealize.ShloMosaic Cert.Proof.Lanes Cert.Proof.Rows Cert.Proof.Tile

theorem thr_congr {row row' : ℕ → BitVec 32} (h : ∀ c < 2048, row c = row' c) : selSet row = selSet row' := by
  have hr : ∀ c < 2048, rank row c = rank row' c := by
    intro c hc
    unfold rank
    rw [h c hc]
    congr 1
    apply Finset.filter_congr
    intro c' hc'
    rw [h c' (Finset.mem_range.mp hc')]
  unfold selSet
  apply Finset.filter_congr
  intro c hc
  rw [hr c (Finset.mem_range.mp hc)]

theorem Sel_congr {row row' : ℕ → BitVec 32} (h : ∀ c < 2048, row c = row' c) (k i : ℕ) : Sel row k i ↔ Sel row' k i := by
  unfold Sel; rw [thr_congr h]

/-- Row `r` of the keys. -/
def rowOf (K : (Tile.V 4096000).Idx → BitVec 32) (r : ℕ) : ℕ → BitVec 32 := fun c => rd K (r * 2048 + c)

/-- Counter `n` of batch `b` and place `k` is the one of column `n % 2048` at `n / 2048 = b * 8 + k`. -/
def HitRow (row : ℕ → BitVec 32) (b n : ℕ) : Prop := ∃ k < 8, n / 2048 = b * 8 + k ∧ Sel row k (n % 2048)
/-- Row `r` raises counter `n`. -/
def Hit (K : (Tile.V 4096000).Idx → BitVec 32) (r n : ℕ) : Prop := HitRow (rowOf K r) (r / 500) n

open Classical in
/-- How many rows below `m` that worker `w` takes raise counter `n`. -/
def hits (K : (Tile.V 4096000).Idx → BitVec 32) (w m n : ℕ) : ℕ :=
  ((Finset.range m).filter fun r => r < 2000 ∧ (r / 16) % 32 = w ∧ Hit K r n).card

theorem hits_zero (K : (Tile.V 4096000).Idx → BitVec 32) (w n : ℕ) : hits K w 0 n = 0 := by simp [hits]

theorem hits_succ (K : (Tile.V 4096000).Idx → BitVec 32) (w m n : ℕ) [Decidable (m < 2000 ∧ (m / 16) % 32 = w ∧ Hit K m n)] :
    hits K w (m + 1) n = hits K w m n + if m < 2000 ∧ (m / 16) % 32 = w ∧ Hit K m n then 1 else 0 := by
  unfold hits
  rw [Finset.range_add_one, Finset.filter_insert]
  by_cases hh : m < 2000 ∧ (m / 16) % 32 = w ∧ Hit K m n
  · rw [if_pos hh, if_pos hh, Finset.card_insert_of_notMem (by simp)]
  · rw [if_neg hh, if_neg hh]; rfl

/-- Rows the worker does not take change nothing. -/
theorem hits_skip (K : (Tile.V 4096000).Idx → BitVec 32) (w m n : ℕ) : ∀ p, (∀ r, m ≤ r → r < m + p → ¬ (r < 2000 ∧ (r / 16) % 32 = w)) → hits K w (m + p) n = hits K w m n := by
  classical
  intro p
  induction p with
  | zero => intro _; rfl
  | succ p ih =>
    intro h
    rw [← Nat.add_assoc, hits_succ, ih fun r h1 h2 => h r h1 (by omega), if_neg fun hh => h (m + p) (by omega) (by omega) ⟨hh.1, hh.2.1⟩]; rfl

variable {F : FTy → Type} [FloatOps F]

/-- Zero and one as the kernel writes them, and `n` ones added to zero. -/
def zF : F .f32 := Scalar.ofBits .f32 0x00000000#32
def oneF : F .f32 := Scalar.ofBits .f32 0x3F800000#32
def onesF (n : ℕ) : F .f32 := (fun v => Elt.idxAdd (F := F) .f32 v oneF)^[n] zF

theorem onesF_succ (n : ℕ) : (Elt.idxAdd (F := F) .f32 (onesF (F := F) n) oneF : F .f32) = onesF (n + 1) := by
  unfold onesF; rw [Function.iterate_succ_apply']

/-- The counters are at `h`. -/
def CntOK (h : ℕ → ℕ) (c : (Tile.V 65536).Idx → F .f32) : Prop := ∀ n < 65536, rd c n = onesF (h n)

/-- Where a row of batch `b` scatters, its columns in the lanes of `o`. -/
def addrV (b : ℕ) (o : IVec V16 32) : IVec V16 32 := fun x => (BitVec.ofNat 32 (b * 8) + IntOp.minsi (lanes x) 7#32) * 2048#32 + IntOp.minsi (o x) 2047#32

theorem min7 : ∀ x : Fin 16, IntOp.minsi (BitVec.ofNat 32 x.val) 7#32 = BitVec.ofNat 32 (min x.val 7) := by decide +kernel

theorem addr_small (b : ℕ) (hb : b < 4) (o : IVec V16 32) (k : Fin 16) (h : (o (ln k)).toNat < 2048) :
    (addrV b o (ln k)).toNat = (b * 8 + min k.val 7) * 2048 + (o (ln k)).toNat := by
  have hm : IntOp.minsi (o (ln k)) 2047#32 = o (ln k) := by
    apply BitVec.eq_of_toInt_eq
    rw [minsi_toInt, BitVec.toInt_eq_toNat_cond, if_pos (by omega)]
    simp; omega
  show ((BitVec.ofNat 32 (b * 8) + IntOp.minsi (BitVec.ofNat 32 k.val) 7#32) * 2048#32 + IntOp.minsi (o (ln k)) 2047#32).toNat = _
  rw [hm, min7]
  simp only [BitVec.toNat_add, BitVec.toNat_mul, BitVec.toNat_ofNat]
  have := k.isLt
  omega

theorem addr_inb (b : ℕ) (hb : b < 4) (o : IVec V16 32) (h : ∀ k : Fin 16, 0 ≤ (o (ln k)).toInt) :
    ∀ a x, ((![addrV b o] : Fin 1 → IVec V16 32) a x).toNat < (Tile.V 65536).size a := by
  intro a x
  obtain rfl : a = 0 := Subsingleton.elim _ _
  show (addrV b o x).toNat < 65536
  obtain ⟨k, rfl⟩ : ∃ k : Fin 16, x = ln k := ⟨x 0, eq_ln x⟩
  have hm : (IntOp.minsi (o (ln k)) 2047#32).toNat ≤ 2047 := by
    have h1 := minsi_toInt (o (ln k)) 2047#32
    have h2 := h k
    have : (IntOp.minsi (o (ln k)) 2047#32).toInt = ((IntOp.minsi (o (ln k)) 2047#32).toNat : ℤ) := by
      rw [BitVec.toInt_eq_toNat_cond] at h1 ⊢
      have : (2047#32).toInt = 2047 := by decide
      split at h1 <;> rename_i hc
      · rw [if_pos hc]
      · exfalso; omega
    have h3 : (2047#32).toInt = 2047 := by decide
    omega
  show ((BitVec.ofNat 32 (b * 8) + IntOp.minsi (BitVec.ofNat 32 k.val) 7#32) * 2048#32 + IntOp.minsi (o (ln k)) 2047#32).toNat < 65536
  rw [min7]
  simp only [BitVec.toNat_add, BitVec.toNat_mul, BitVec.toNat_ofNat]
  have := k.isLt
  omega

/-- The lanes that scatter. -/
def maskV : IVec V16 1 := fun x => IntOp.cmpi .slt (lanes x) 8#32

theorem mask_iff : ∀ k : Fin 16, maskV (ln k) = 1 ↔ k.val < 8 := by decide +kernel

open Classical in
/-- A row's scatter-add. -/
theorem count_step (row : ℕ → BitVec 32) (b : ℕ) (hb : b < 4) (o : IVec V16 32) (ho : ∀ k : Fin 16, k.val < 8 → Sel row k.val (o (ln k)).toNat)
    (h : ℕ → ℕ) (c : (Tile.V 65536).Idx → F .f32) (hc : CntOK h c) (hin) :
    CntOK (fun n => h n + if HitRow row b n then 1 else 0) (storeIdx (F := F) (e := .f32) c ![addrV b o] (broadcast V16 (oneF (F := F))) maskV true hin) := by
  have hlt : ∀ k : Fin 16, k.val < 8 → (o (ln k)).toNat < 2048 := fun k hk => (ho k hk).lt
  have ha : ∀ k : Fin 16, k.val < 8 → (addrV b o (ln k)).toNat = (b * 8 + k.val) * 2048 + (o (ln k)).toNat := fun k hk => by
    rw [addr_small b hb o k (hlt k hk), Nat.min_eq_left (by omega)]
  intro n hn
  by_cases hh : HitRow row b n
  · obtain ⟨k, hk, he, hs⟩ := hh
    have hk' : k < 16 := by omega
    have hu : n % 2048 = (o (ln ⟨k, hk'⟩)).toNat := hs.unique (ho ⟨k, hk'⟩ hk)
    have hav : (addrV b o (ln ⟨k, hk'⟩)).toNat = n := by rw [ha ⟨k, hk'⟩ hk, ← hu]; show (b * 8 + k) * 2048 + _ = _; omega
    have := store_hit (F := F) (e := .f32) (addrV b o) (broadcast V16 (oneF (F := F))) maskV true hin c ⟨k, hk'⟩ ((mask_iff _).mpr hk) fun k' hm' he' => by
      have hk8 := (mask_iff k').mp hm'
      have := hlt k' hk8
      have := hlt ⟨k, hk'⟩ hk
      rw [ha k' hk8, ha ⟨k, hk'⟩ hk] at he'
      apply Fin.ext
      show k'.val = k
      have : ((⟨k, hk'⟩ : Fin 16)).val = k := rfl
      omega
    rw [hav] at this
    rw [this, if_pos rfl, hc n hn]
    refine (onesF_succ (F := F) (h n)).trans ?_
    show onesF _ = onesF (h n + if HitRow row b n then 1 else 0)
    rw [if_pos ⟨k, hk, he, hs⟩]
  · show _ = onesF (h n + if HitRow row b n then 1 else 0)
    rw [if_neg hh, store_miss (F := F) (e := .f32) (addrV b o) (broadcast V16 (oneF (F := F))) maskV true hin c n hn fun k hm he => by
      have hk8 := (mask_iff k).mp hm
      have hl := hlt k hk8
      rw [ha k hk8] at he
      refine hh ⟨k.val, hk8, by omega, ?_⟩
      have : n % 2048 = (o (ln k)).toNat := by omega
      rw [this]; exact ho k hk8]
    exact hc n hn

end Cert.Proof.Count

end
-- ==== Proof.Row.lean ====
/-
  One row of a group: its candidates merged sixteen at a time into the sixteen largest, its eight columns in ascending
  order, and the scatter-add of eight ones.
-/
module

public import proofs.«01_k».proof.Proof.Passes
public import proofs.«01_k».proof.Proof.Merge
public import proofs.«01_k».proof.Proof.Count

@[expose] public section

noncomputable section

namespace Cert.Proof.Row

open Cert.KernelIdeal Cert.KernelIdeal.Gen

open Idealize.ShloMosaic
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Lanes Cert.Proof.Rows Cert.Proof.Tile Cert.Proof.Base Cert.Proof.Passes Cert.Proof.Merge Cert.Proof.Words Cert.Proof.Count

/-! ## Loops without effects -/

/-- The two loops of a sort. -/
theorem sort_loops.{v} {E : Type → Type v} {α : Type} (l1 l2 : Scf.Loop 32) (h1 : l1.OK) (h2 : l2.OK) (n1 : l1.trips = 16) (n2 : l2.trips = 16) (v : IVec V16 32)
    (b1 : Fin l1.trips → IVec V16 32 → Prog E (IVec V16 32)) (hb1 : ∀ k acc, b1 k acc = .ret (countStep lanes v (Scf.iv 0#32 1#32 k.val) acc))
    (b2 : IVec V16 32 → Fin l2.trips → IVec V16 32 → Prog E (IVec V16 32)) (hb2 : ∀ c k acc, b2 c k acc = .ret (placeStep lanes v c (Scf.iv 0#32 1#32 k.val) acc))
    (kk : IVec V16 32 → Prog E α) :
    (Scf.Loop.for l1 h1 (broadcast V16 0#32) b1 >>= fun c => Scf.Loop.for l2 h2 v (b2 c) >>= kk) = kk (sortUp lanes v) := by
  rw [for_pure l1 h1 16 n1 (fun k c => countStep lanes v (Scf.iv 0#32 1#32 k) c) _ b1 hb1]
  show (Scf.Loop.for l2 h2 v (b2 (counts lanes v)) >>= kk) = _
  rw [for_pure l2 h2 16 n2 (fun k o => placeStep lanes v (counts lanes v) (Scf.iv 0#32 1#32 k) o) _ (b2 (counts lanes v)) (hb2 _)]
  rfl

/-- A loop of no trips. -/
theorem loop_none.{v} {E : Type → Type v} {σ : Type} (l : Scf.Loop 32) (h : l.OK) (hn : l.trips = 0) (init : σ) (b : Fin l.trips → σ → Prog E σ) :
    Scf.Loop.for l h init b = .ret init := by
  rw [for_pure l h 0 hn (fun _ a => a) init b fun k => absurd k.isLt (by omega)]; rfl

variable {F : FTy → Type} [FloatOps F] [Named F]

local notation "𝕄" => MT nD τ sig (HIx 1) (Elt F) ℕ UU ℕ

/-! ## Vectors -/

/-- The count in one lane, picked by the maximum of the others' zeros. -/
theorem pick0 (v : IVec V16 32) (j : Fin 16) (h : 0 ≤ (v (ln j)).toInt) :
    laneMax (select (cmpi .eq lanes (broadcast V16 (BitVec.ofNat 32 j.val))) v (broadcast V16 0#32)) = v (ln j) := by
  obtain ⟨h1, l, h2⟩ := laneMax_spec (select (cmpi .eq lanes (broadcast V16 (BitVec.ofNat 32 j.val))) v (broadcast V16 0#32))
  have hj := h1 j
  rw [sel_true ((lanes_eq_iff j j.val j.isLt).mpr rfl)] at hj
  by_cases hl : l.val = j.val
  · obtain rfl := Fin.ext hl
    rw [h2, sel_true ((lanes_eq_iff l l.val l.isLt).mpr rfl)]
  · rw [sel_false (fun h => hl ((lanes_eq_iff l j.val j.isLt).mp h))] at h2
    rw [h2] at hj ⊢
    have h0 : (broadcast V16 0#32 (ln l) : BitVec 32).toInt = 0 := rfl
    rw [h0] at hj
    apply BitVec.eq_of_toInt_eq
    rw [h0]; omega

theorem chunk_eq (cl : ℕ) (hcl : cl ≤ 256) (v51 : BitVec 32) (hv : v51 = BitVec.ofNat 32 cl) (k : Fin (k1_t6_loop v51).trips) (hk : k.val < 16) (v : Vec F S16 .i32) :
    k1_pay84 (F := F) lanes v51 k v = chunk cl k.val v := by
  subst hv
  funext x
  have hx := x_lt x
  have hc : IntOp.cmpi .slt (Scf.iv 0#32 1#32 k.val * 16#32 + lanes x) (BitVec.ofNat 32 cl) = 1 ↔ 16 * k.val + (x 0).val < cl := by
    refine (slt_one _ _).trans ?_
    rw [iv01]
    have e : BitVec.ofNat 32 k.val * 16#32 + lanes x = BitVec.ofNat 32 (16 * k.val + (x 0).val) := by
      show BitVec.ofNat 32 k.val * BitVec.ofNat 32 16 + BitVec.ofNat 32 (x 0).val = _
      rw [← BitVec.ofNat_mul, ← BitVec.ofNat_add]; congr 1; omega
    rw [e, toInt_small _ (by omega), toInt_small _ (by omega)]
    omega
  show Scalar.select (IntOp.cmpi .slt (Scf.iv 0#32 1#32 k.val * 16#32 + lanes x) (BitVec.ofNat 32 cl)) (v x) (lanes x) = if 16 * k.val + (x 0).val < cl then v x else lanes x
  unfold Scalar.select
  by_cases h : 16 * k.val + (x 0).val < cl
  · rw [if_pos h, if_pos (hc.mpr h)]
  · rw [if_neg h, if_neg (fun hh => h (hc.mp hh))]

theorem cols_eq (best : IVec V16 32) : k1_pay102 lanes best = colsOf best := by
  funext x
  have hx := x_lt x
  show Scalar.select (IntOp.cmpi .slt (lanes x) 8#32) (2047#32 - (best x &&& 2047#32)) (4064#32 + lanes x) = if (x 0).val < 8 then 2047#32 - (best x &&& 2047#32) else 4064#32 + lanes x
  unfold Scalar.select
  have hc : IntOp.cmpi .slt (lanes x) 8#32 = 1 ↔ (x 0).val < 8 := by
    have := mask_iff ⟨(x 0).val, hx⟩
    exact this
  by_cases h : (x 0).val < 8
  · rw [if_pos h, if_pos (hc.mpr h)]
  · rw [if_neg h, if_neg (fun hh => h (hc.mp hh))]

theorem cols_nonneg (best : IVec V16 32) (k : Fin 16) : 0 ≤ (colsOf best (ln k)).toInt := by
  unfold colsOf
  have hx : ((ln k) 0).val = k.val := rfl
  rw [hx]
  split
  · have h : (best (ln k) &&& 2047#32).toNat ≤ 2047 := by
      rw [BitVec.toNat_and]; exact Nat.and_le_right
    rw [BitVec.toInt_eq_toNat_cond, BitVec.toNat_sub]
    have : (2047#32).toNat = 2047 := rfl
    rw [if_pos (by omega)]; omega
  · revert k; decide +kernel

theorem sorted_nonneg (best : IVec V16 32) (k : Fin 16) : 0 ≤ (sortUp lanes (colsOf best) (ln k)).toInt := by
  by_contra h
  have := (sortUp_spec (colsOf best) k (-1)).mp (by omega)
  have h0 : cntLe (colsOf best) (-1) = 0 := by
    unfold cntLe
    rw [Finset.card_eq_zero, Finset.filter_eq_empty_iff]
    intro j _
    have := cols_nonneg best j
    omega
  omega

/-- The addresses of the scatter-add. -/
theorem addr_eq (r : ℕ) (hr : r < 2000) (v71 : BitVec 32) (h71 : v71 = BitVec.ofNat 32 r) (o : IVec V16 32) :
    k1_pay44 o (k1_pay106 lanes v71 500#32 (Scalar.divsi v71 500#32)
      (Scalar.subi (Scalar.extui (Scalar.cmpi .sgt v71 0#32)) (Scalar.extui (Scalar.cmpi .slt v71 0#32))) (Scalar.extui (Scalar.cmpi .sgt 500#32 0#32)))
      = addrV (r / 500) o := by
  have hb : batchW v71 * 8#32 = BitVec.ofNat 32 (r / 500 * 8) := by
    rw [h71, batchW_eq ⟨r, hr⟩]
    exact (BitVec.ofNat_mul ..).symm
  funext x
  show (batchW v71 * 8#32 + IntOp.minsi (lanes x) 7#32) * 2048#32 + IntOp.minsi (o x) 2047#32 = _
  rw [hb]; rfl

theorem mask_eq : k1_pay46 = maskV := by
  funext x
  show IntOp.cmpi .slt (BitVec.ofNat 32 (0 * 16 + (x 0).val)) 8#32 = IntOp.cmpi .slt (BitVec.ofNat 32 (x 0).val) 8#32
  rw [Nat.zero_mul, Nat.zero_add]

variable (d : Dev nD) (L : grid1.Coords)

variable {d L} in
/-- A program and what follows it. -/
theorem wp_seq {α β : Type} {p : TProg (F := F) L α} {kk : α → TProg (F := F) L β} {P R : sProp 𝕄} {Q' : α → sProp 𝕄} {Q : β → sProp 𝕄}
    (h : P ⊢ wpT d L p Q') (hk : ∀ a, iprop(Q' a ∗ R) ⊢ wpT d L (kk a) Q) : iprop(P ∗ R) ⊢ wpT d L (p >>= kk) Q := by
  unfold wpT
  rw [wp_bind]
  iintro ⟨HP, HR⟩
  iapply (wp_wand_r Idealize.ShloMosaic.frame (wpE (defs₀ (F := F)) 𝒱₀ (thr' d L) none) Set.univ)
  isplitl [HP]
  · iapply h $$ HP
  · iintro %a Ha
    iapply (hk a)
    isplitl [Ha] <;> iassumption

/-! ## The merge -/

section
variable (k1_t2 : Fin k1_t2_loop.trips) (k1_h1 : k1_cond1 L k1_t2 = 1#1) (f : (Tile.V 32768).Idx → BitVec 32) (hf : TileOK f)
  (g : Buf (Elt F) ((thr' d L).loc cc1_scratch1)) (hg : CandOK f 2048 g) (l : Fin k1_t5_loop.trips)
  (v41 v51 : BitVec 32) (hv : v51 = BitVec.ofNat 32 (len f l.val 2048)) (hw : k1_chk33 L k1_t2 l v51) (v70 v71 c500 v72 v77 v79 : BitVec 32)

theorem t7_eq (k : Fin (k1_t6_loop v51).trips) (vv : Vec F S16 .i32) (j : Fin k1_t7_loop.trips) (acc : IVec V16 32) :
    k1_t7_body (F := F) L xV (Memref.isWhole_whole _) oV (Memref.isWhole_whole _) sK (Memref.isWhole_whole _) sC (Memref.isWhole_whole _)
        sN (Memref.isWhole_whole _) cc1_scoped0 cc1_scoped1 lanes k1_t2 k1_h1 l v41 v51 hw v70 v71 c500 v72 v77 v79 k vv j acc
      = .ret (countStep lanes (k1_pay84 (F := F) lanes v51 k vv) (Scf.iv 0#32 1#32 j.val) acc) := by
  unfold k1_t7_body k1_pay86; rfl

theorem t8_eq (k : Fin (k1_t6_loop v51).trips) (vv : Vec F S16 .i32) (c : IVec V16 32) (j : Fin k1_t8_loop.trips) (acc : IVec V16 32) :
    k1_t8_body (F := F) L xV (Memref.isWhole_whole _) oV (Memref.isWhole_whole _) sK (Memref.isWhole_whole _) sC (Memref.isWhole_whole _)
        sN (Memref.isWhole_whole _) cc1_scoped0 cc1_scoped1 lanes k1_t2 k1_h1 l v41 v51 hw v70 v71 c500 v72 v77 v79 k vv c j acc
      = .ret (placeStep lanes (k1_pay84 (F := F) lanes v51 k vv) c (Scf.iv 0#32 1#32 j.val) acc) := by
  unfold k1_t8_body k1_pay87; rfl

theorem t9_eq (best : IVec V16 32) (s : Vec F S16 .i32) (j : Fin k1_t9_loop.trips) (acc : IVec V16 32) :
    k1_t9_body (F := F) L xV (Memref.isWhole_whole _) oV (Memref.isWhole_whole _) sK (Memref.isWhole_whole _) sC (Memref.isWhole_whole _)
        sN (Memref.isWhole_whole _) cc1_scoped0 cc1_scoped1 lanes k1_t2 k1_h1 l v41 v51 hw v70 v71 c500 v72 v77 v79 best s j acc
      = .ret (countStep lanes (k1_pay88 (F := F) best s) (Scf.iv 0#32 1#32 j.val) acc) := by
  unfold k1_t9_body k1_pay90; rfl

theorem t10_eq (best : IVec V16 32) (s : Vec F S16 .i32) (c : IVec V16 32) (j : Fin k1_t10_loop.trips) (acc : IVec V16 32) :
    k1_t10_body (F := F) L xV (Memref.isWhole_whole _) oV (Memref.isWhole_whole _) sK (Memref.isWhole_whole _) sC (Memref.isWhole_whole _)
        sN (Memref.isWhole_whole _) cc1_scoped0 cc1_scoped1 lanes k1_t2 k1_h1 l v41 v51 hw v70 v71 c500 v72 v77 v79 best s c j acc
      = .ret (placeStep lanes (k1_pay88 (F := F) best s) c (Scf.iv 0#32 1#32 j.val) acc) := by
  unfold k1_t10_body k1_pay91; rfl

theorem t6_eq (k : Fin (k1_t6_loop v51).trips) (best : IVec V16 32) :
    k1_t6_body (F := F) L xV (Memref.isWhole_whole _) oV (Memref.isWhole_whole _) sK (Memref.isWhole_whole _) sC (Memref.isWhole_whole _)
        sN (Memref.isWhole_whole _) cc1_scoped0 cc1_scoped1 lanes k1_t2 k1_h1 l v41 v51 hw v70 v71 c500 v72 v77 v79 k best
      = (Prog.lift (.load sC (Rect.unit (s := S4096) (k1_off3 l v51 k) S16.size (k1_off3_inb L k1_t2 l v51 hw k k1_h1)).toLoadRect (View.loadsAt_vmem h_S16)) >>= fun vv =>
          .ret (mergeStep lanes best (k1_pay84 (F := F) lanes v51 k vv))) := by
  unfold k1_t6_body
  refine congrArg (Prog.lift _ >>= ·) (funext fun vv => ?_)
  refine (sort_loops k1_t7_loop k1_t8_loop (k1_t7_ok L k1_t2 k1_h1) (k1_t8_ok L k1_t2 k1_h1) rfl rfl (k1_pay84 (F := F) lanes v51 k vv)
    _ (t7_eq L k1_t2 k1_h1 l v41 v51 hw v70 v71 c500 v72 v77 v79 k vv) _ (t8_eq L k1_t2 k1_h1 l v41 v51 hw v70 v71 c500 v72 v77 v79 k vv) _).trans ?_
  exact sort_loops k1_t9_loop k1_t10_loop (k1_t9_ok L k1_t2 k1_h1) (k1_t10_ok L k1_t2 k1_h1) rfl rfl (k1_pay88 (F := F) best _)
    _ (t9_eq L k1_t2 k1_h1 l v41 v51 hw v70 v71 c500 v72 v77 v79 best _) _ (t10_eq L k1_t2 k1_h1 l v41 v51 hw v70 v71 c500 v72 v77 v79 best _) _

include hf hg hv in
theorem merge_trip (k : Fin (k1_t6_loop v51).trips) (best : IVec S16 32) :
    iprop(⌜MergeInv (cands (rowAt f l.val) (thr (rowAt f l.val)) 2048) k.val best⌝ ∗ cPts d L g) ⊢
      wpT d L (k1_t6_body L xV (Memref.isWhole_whole _) oV (Memref.isWhole_whole _) sK (Memref.isWhole_whole _) sC (Memref.isWhole_whole _)
        sN (Memref.isWhole_whole _) cc1_scoped0 cc1_scoped1 lanes k1_t2 k1_h1 l v41 v51 hw v70 v71 c500 v72 v77 v79 k best)
      fun acc => iprop(⌜MergeInv (cands (rowAt f l.val) (thr (rowAt f l.val)) 2048) (k.val + 1) acc⌝ ∗ cPts d L g) := by
  have hl : l.val < 16 := l.isLt
  have hlen : len f l.val 2048 ≤ 256 := len_le f hf l.val hl 2048 (le_refl _)
  have hk : k.val < 16 := by
    have h1 : k.val < (k1_t6_loop v51).trips := k.isLt
    have h2 := (merge_loop ⟨len f l.val 2048, by omega⟩).1
    rw [← hv] at h2
    have h3 : k.val < (len f l.val 2048 + 15) / 16 := lt_of_lt_of_eq h1 h2
    omega
  rw [t6_eq]
  simp only [Prog.lift, Prog.bind_op, Prog.bind_ret]
  unfold wpT
  iintro ⟨%hm, H⟩
  iapply (wp_read16 (l.val * 256 + 16 * k.val) (off3 l v51 k hk)) $$ H
  rw [chunk_eq (F := F) (len f l.val 2048) hlen v51 hv k hk]
  iintro H
  unfold wpT
  rw [wp_ret]
  imodintro
  isplitr; swap; · iexact H
  ipureintro
  refine hm.step _ fun j h => ?_
  show rd g (l.val * 256 + 16 * k.val + j.val) = _
  rw [Nat.add_assoc]; exact hg l.val hl _ h

/-! ## The row -/

theorem t16_eq (best : IVec V16 32) (j : Fin k1_t16_loop.trips) (acc : IVec V16 32) :
    k1_t16_body (F := F) L xV (Memref.isWhole_whole _) oV (Memref.isWhole_whole _) sK (Memref.isWhole_whole _) sC (Memref.isWhole_whole _)
        sN (Memref.isWhole_whole _) cc1_scoped0 cc1_scoped1 lanes k1_t2 k1_h1 l v41 v51 hw v70 v71 c500 v72 v77 v79 best j acc
      = .ret (countStep lanes (k1_pay102 lanes best) (Scf.iv 0#32 1#32 j.val) acc) := by
  unfold k1_t16_body k1_pay104; rfl

theorem t17_eq (best : IVec V16 32) (c : IVec V16 32) (j : Fin k1_t17_loop.trips) (acc : IVec V16 32) :
    k1_t17_body (F := F) L xV (Memref.isWhole_whole _) oV (Memref.isWhole_whole _) sK (Memref.isWhole_whole _) sC (Memref.isWhole_whole _)
        sN (Memref.isWhole_whole _) cc1_scoped0 cc1_scoped1 lanes k1_t2 k1_h1 l v41 v51 hw v70 v71 c500 v72 v77 v79 best c j acc
      = .ret (placeStep lanes (k1_pay102 lanes best) c (Scf.iv 0#32 1#32 j.val) acc) := by
  unfold k1_t17_body k1_pay105; rfl

include hf hg hv in
/-- The merge and the sort of the columns, whatever follows. -/
theorem part4 (hk11 : (k1_t11_loop v51).trips = 0) {α : Type} {Q : α → sProp 𝕄} {R : sProp 𝕄}
    (kk : (Σ' (_ : IVec S16 32), IVec S16 32) → TProg (F := F) L α)
    (hkk : ∀ o : IVec S16 32, (∀ k : Fin 16, k.val < 8 → Sel (rowAt f l.val) k.val (o (ln k)).toNat) → (∀ k : Fin 16, 0 ≤ (o (ln k)).toInt) →
      iprop(cPts d L g ∗ R) ⊢ wpT d L (kk ⟨o, k1_pay106 lanes v71 c500 v72 v77 v79⟩) Q) :
    iprop(cPts d L g ∗ R) ⊢
      wpT d L (k1_part4 L xV (Memref.isWhole_whole _) oV (Memref.isWhole_whole _) sK (Memref.isWhole_whole _) sC (Memref.isWhole_whole _)
        sN (Memref.isWhole_whole _) cc1_scoped0 cc1_scoped1 lanes k1_t2 k1_h1 l v41 v51 hw v70 v71 c500 v72 v77 v79 >>= kk) Q := by
  have hl : l.val < 16 := l.isLt
  have hlen : len f l.val 2048 ≤ 256 := len_le f hf l.val hl 2048 (le_refl _)
  have hn : (k1_t6_loop v51).trips = (len f l.val 2048 + 15) / 16 := by
    rw [hv]; exact (merge_loop ⟨len f l.val 2048, by omega⟩).1
  have key : ∀ best : IVec V16 32, MergeInv (cands (rowAt f l.val) (thr (rowAt f l.val)) 2048) (k1_t6_loop v51).trips best →
      iprop(cPts d L g ∗ R) ⊢ wpT d L (kk ⟨sortUp lanes (k1_pay102 lanes best), k1_pay106 lanes v71 c500 v72 v77 v79⟩) Q := by
    intro best hb
    rw [cols_eq]
    refine hkk _ (fun k hk => finish (hf l.val hl) hb ?_ k hk) (sorted_nonneg best)
    rw [hn]
    show len f l.val 2048 ≤ _
    omega
  rw [k1_part4_eq_skeleton]
  unfold k1_part4_skel
  simp only [bind_assoc]
  have hloop := wp_loop (k1_t6_loop v51) (k1_t6_ok L k1_t2 l v51 hw k1_h1) (k1_pay83 lanes)
    (k1_t6_body (F := F) L xV (Memref.isWhole_whole _) oV (Memref.isWhole_whole _) sK (Memref.isWhole_whole _) sC (Memref.isWhole_whole _)
        sN (Memref.isWhole_whole _) cc1_scoped0 cc1_scoped1 lanes k1_t2 k1_h1 l v41 v51 hw v70 v71 c500 v72 v77 v79)
    (fun k acc => iprop(⌜MergeInv (cands (rowAt f l.val) (thr (rowAt f l.val)) 2048) k acc⌝ ∗ cPts d L g))
    (merge_trip d L k1_t2 k1_h1 f hf g hg l v41 v51 hv hw v70 v71 c500 v72 v77 v79)
  have h0 : cPts d L g ⊢ iprop(⌜MergeInv (cands (rowAt f l.val) (thr (rowAt f l.val)) 2048) 0 (k1_pay83 lanes)⌝ ∗ cPts d L g) := by
    iintro H
    isplitr; swap; · iexact H
    ipureintro; exact MergeInv.zero _
  refine wp_seq (h0.trans hloop) fun best => ?_
  have e1 := loop_none (k1_t11_loop v51) (k1_t11_ok L k1_t2 l v51 hw k1_h1) hk11 best
    (k1_t11_body (F := F) L xV (Memref.isWhole_whole _) oV (Memref.isWhole_whole _) sK (Memref.isWhole_whole _) sC (Memref.isWhole_whole _)
        sN (Memref.isWhole_whole _) cc1_scoped0 cc1_scoped1 lanes k1_t2 k1_h1 l v41 v51 hw v70 v71 c500 v72 v77 v79)
  rw [e1, Prog.bind_ret]
  have e2 := sort_loops k1_t16_loop k1_t17_loop (k1_t16_ok L k1_t2 k1_h1) (k1_t17_ok L k1_t2 k1_h1) rfl rfl (k1_pay102 lanes best)
    _ (t16_eq (F := F) L k1_t2 k1_h1 l v41 v51 hw v70 v71 c500 v72 v77 v79 best) _ (t17_eq (F := F) L k1_t2 k1_h1 l v41 v51 hw v70 v71 c500 v72 v77 v79 best)
    (fun v111 => kk ⟨v111, k1_pay106 lanes v71 c500 v72 v77 v79⟩)
  refine BIBase.Entails.trans ?_ (BIBase.Entails.of_eq (congrArg (fun p => wpT d L p Q) e2.symm))
  iintro ⟨⟨%hb, H⟩, HR⟩
  iapply (key best hb)
  isplitl [H] <;> iassumption

end

theorem count_pick (f : (Tile.V 32768).Idx → BitVec 32) (hf : TileOK f) (l : Fin k1_t5_loop.trips) :
    extractAt ![15] (k1_pay82 lanes (lenV f 2048) 0#32 1#32 l) inpos_S16_p15 = BitVec.ofNat 32 (len f l.val 2048) := by
  have hl : l.val < 16 := l.isLt
  have hlen : len f l.val 2048 ≤ 256 := len_le f hf l.val hl 2048 (le_refl _)
  have hiv : Scalar.addi 0#32 (Scalar.muli (Scf.iv 0#32 1#32 l.val) 1#32) = BitVec.ofNat 32 l.val := by
    rw [iv01]
    show BitVec.ofNat 32 0 + BitVec.ofNat 32 l.val * BitVec.ofNat 32 1 = _
    rw [← BitVec.ofNat_mul, ← BitVec.ofNat_add]; congr 1; omega
  have h : laneMax (select (cmpi .eq lanes (broadcast V16 (Scalar.addi 0#32 (Scalar.muli (Scf.iv 0#32 1#32 l.val) 1#32)))) (lenV f 2048) (broadcast V16 0#32))
      = BitVec.ofNat 32 (len f l.val 2048) := by
    rw [hiv]
    refine pick0 (lenV f 2048) ⟨l.val, hl⟩ ?_
    show 0 ≤ (BitVec.ofNat 32 (len f l.val 2048)).toInt
    rw [toInt_small _ (by omega)]; omega
  exact h

theorem chk33 (k1_t2 : Fin k1_t2_loop.trips) (l : Fin k1_t5_loop.trips) (cl : ℕ) (hcl : cl ≤ 256) (v51 : BitVec 32) (hv : v51 = BitVec.ofNat 32 cl) :
    k1_chk33 L k1_t2 l v51 ∧ (k1_t11_loop v51).trips = 0 := by
  have hl : l.val < 16 := l.isLt
  obtain ⟨m1, m2, m3, m4⟩ := merge_loop ⟨cl, by omega⟩
  rw [← hv] at m1 m2 m3 m4
  refine ⟨⟨fun _ => m2, fun k => ?_, fun _ => m4, fun k => absurd k.isLt (by omega)⟩, m3⟩
  intro _ a
  obtain rfl : a = 0 := Subsingleton.elim _ _
  have hk : k.val < (cl + 15) / 16 := lt_of_lt_of_eq k.isLt m1
  have : k.val < 16 := by omega
  rw [off3 l v51 k this]
  show l.val * 256 + 16 * k.val + 16 ≤ 4096
  omega

/-- The row's count picked and checked, whatever follows. -/
theorem part3 (k1_t2 : Fin k1_t2_loop.trips) (f : (Tile.V 32768).Idx → BitVec 32) (hf : TileOK f) (v17 : BitVec 32) (l : Fin k1_t5_loop.trips)
    {α : Type} {Q : α → sProp 𝕄} {P : sProp 𝕄}
    (kk : (Σ' (_ : BitVec 32) (v51 : BitVec 32) (_ : k1_chk33 L k1_t2 l v51) (_ : BitVec 32) (_ : BitVec 32) (_ : BitVec 32) (_ : BitVec 32) (_ : BitVec 32), BitVec 32) → TProg (F := F) L α)
    (hkk : ∀ (v41 v51 : BitVec 32) (hw : k1_chk33 L k1_t2 l v51) (v70 v71 : BitVec 32), v51 = BitVec.ofNat 32 (len f l.val 2048) → (k1_t11_loop v51).trips = 0 →
      v71 = Scalar.addi v17 (Scalar.addi 0#32 (Scalar.muli (Scf.iv 0#32 1#32 l.val) 1#32)) →
      P ⊢ wpT d L (kk ⟨v41, v51, hw, v70, v71, 500#32, Scalar.divsi v71 500#32,
        Scalar.subi (Scalar.extui (Scalar.cmpi .sgt v71 0#32)) (Scalar.extui (Scalar.cmpi .slt v71 0#32)), Scalar.extui (Scalar.cmpi .sgt 500#32 0#32)⟩) Q) :
    P ⊢ wpT d L (k1_part3 L xV (Memref.isWhole_whole _) oV (Memref.isWhole_whole _) sK (Memref.isWhole_whole _) sC (Memref.isWhole_whole _)
        sN (Memref.isWhole_whole _) cc1_scoped0 cc1_scoped1 lanes k1_t2 v17 (lenV f 2048) 0#32 1#32 l >>= kk) Q := by
  have hlen : len f l.val 2048 ≤ 256 := len_le f hf l.val l.isLt 2048 (le_refl _)
  have hv := count_pick f hf l
  obtain ⟨h33, h11⟩ := chk33 L k1_t2 l _ hlen _ hv
  rw [k1_part3_eq_skeleton]
  unfold k1_part3_skel
  simp only [Prog.lift, Prog.bind_op, Prog.bind_ret, Prog.pure_eq_ret]
  unfold wpT
  rw [wp_assume_of _ _ _ _ h33]
  exact hkk _ _ h33 _ _ hv h11 rfl

variable {d L} in
open Classical in
/-- The scatter-add, its check before it. -/
theorem add_step (r : ℕ) (hr : r < 2000) (row : ℕ → BitVec 32) (o : IVec V16 32) (ho : ∀ k : Fin 16, k.val < 8 → Sel row k.val (o (ln k)).toNat)
    (ho' : ∀ k : Fin 16, 0 ≤ (o (ln k)).toInt) (h : ℕ → ℕ) (c : Buf (Elt F) ((thr' d L).loc cc1_scratch2)) (hc : CntOK h c)
    {v : IVec S16 32} (hv : v = addrV (r / 500) o)
    {P : Prop} {dec : Decidable P} (hP : (∀ a x, ((![v] : Fin 1 → IVec S16 32) a x).toNat < S65536.size a) → P)
    {hi : PLift P → ∀ a x, ((![v] : Fin 1 → IVec S16 32) a x).toNat < S65536.size a} {hs : ((sN).access (.whole S65536)).Stores Finset.univ} {R : sProp 𝕄} :
    iprop(R ∗ nPts d L c) ⊢ wpT d L (.op (.assume P dec) fun p => SparseCore.vectorStoreIdx sN ![v] (k1_pay45 (F := F)) k1_pay46 true (hi p) hs >>= fun _ => .ret PUnit.unit)
      fun (_ : PUnit) => iprop(R ∗ ∃ c' : Buf (Elt F) ((thr' d L).loc cc1_scratch2), ⌜CntOK (fun n => h n + if HitRow row (r / 500) n then 1 else 0) c'⌝ ∗ nPts d L c') := by
  have hin := addr_inb (r / 500) (by omega) o ho'
  subst hv
  unfold wpT
  rw [wp_assume_of _ _ _ _ (hP hin), mask_eq]
  iintro ⟨HR, H⟩
  iapply wp_scatterAdd $$ H
  iintro H
  unfold wpT
  rw [wp_ret]
  imodintro
  isplitl [HR]; · iexact HR
  iexists _
  isplitr; swap; · iexact H
  ipureintro
  exact count_step (F := F) row (r / 500) (by omega) o ho h c hc hin

open Classical in
/-- One row. -/
theorem row_step (k1_t2 : Fin k1_t2_loop.trips) (k1_h1 : k1_cond1 L k1_t2 = 1#1) (f : (Tile.V 32768).Idx → BitVec 32) (hf : TileOK f)
    (g : Buf (Elt F) ((thr' d L).loc cc1_scratch1)) (hg : CandOK f 2048 g) (G : ℕ) (hG : G < 125) (v17 : BitVec 32) (hv17 : v17 = BitVec.ofNat 32 (16 * G))
    (l : Fin k1_t5_loop.trips) (h : ℕ → ℕ) (c : Buf (Elt F) ((thr' d L).loc cc1_scratch2)) (hc : CntOK h c) :
    iprop(cPts d L g ∗ nPts d L c) ⊢ wpT d L (k1_t5_body L xV (Memref.isWhole_whole _) oV (Memref.isWhole_whole _) sK (Memref.isWhole_whole _) sC (Memref.isWhole_whole _)
        sN (Memref.isWhole_whole _) cc1_scoped0 cc1_scoped1 lanes k1_t2 k1_h1 v17 (lenV f 2048) l ⟨⟩)
      fun _ => iprop(cPts d L g ∗ ∃ c' : Buf (Elt F) ((thr' d L).loc cc1_scratch2),
        ⌜CntOK (fun n => h n + if HitRow (rowAt f l.val) ((16 * G + l.val) / 500) n then 1 else 0) c'⌝ ∗ nPts d L c') := by
  have hl : l.val < 16 := l.isLt
  have hlen : len f l.val 2048 ≤ 256 := len_le f hf l.val hl 2048 (le_refl _)
  unfold k1_t5_body
  refine part3 d L k1_t2 f hf v17 l _ fun v41 v51 hw v70 v71 hv h11 h71 => ?_
  have h71' : v71 = BitVec.ofNat 32 (16 * G + l.val) := by
    rw [h71, hv17, iv01]
    show BitVec.ofNat 32 (16 * G) + (BitVec.ofNat 32 0 + BitVec.ofNat 32 l.val * BitVec.ofNat 32 1) = _
    rw [← BitVec.ofNat_mul, ← BitVec.ofNat_add, ← BitVec.ofNat_add]; congr 1; omega
  refine part4 d L k1_t2 k1_h1 f hf g hg l v41 v51 hv hw v70 v71 _ _ _ _ h11 _ fun o ho ho' => ?_
  refine add_step (16 * G + l.val) (by omega) (rowAt f l.val) o ho ho' h c hc (addr_eq (16 * G + l.val) (by omega) v71 h71' o) (fun hh _ => hh)

end Cert.Proof.Row

end
-- ==== Proof.Dma.lean ====
/-
  A tile's two copies: sixteen rows of keys into its key buffer, and its counts to its row of the result.
-/
module

public import proofs.«01_k».proof.Proof.Row

@[expose] public section

noncomputable section

namespace Cert.Proof.Dma

open Cert.KernelIdeal Cert.KernelIdeal.Gen

open Idealize.ShloMosaic
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Lanes Cert.Proof.Rows Cert.Proof.Tile Cert.Proof.Base Cert.Proof.Passes Cert.Proof.Words Cert.Proof.Count

variable {F : FTy → Type} [FloatOps F] [Named F]

local notation "𝕄" => MT nD τ sig (HIx 1) (Elt F) ℕ UU ℕ

variable (d : Dev nD) (L : grid1.Coords)

/-- What the tile's waits are recorded in, beyond `W`. -/
def Own (O : CellTallies nD τ sig (HIx 1)) (W : Waits sig (HIx 1)) : sProp 𝕄 :=
  iprop(∃ W', ⌜∀ p ∈ W', p ∈ W ∨ p.2 = none⌝ ∗ owes (thr' d L) O W')

/-- The keys as the tile addresses them, at a share. -/
abbrev xPts (q : PosShare TreeShare) (X : Buf (Elt F) ((xV).view.loc (thr' d L))) : sProp 𝕄 := (xV).view.loc (thr' d L) ↦{q} X

theorem fetched (X : Buf (Elt F) ((xV).view.loc (thr' d L))) (f₀ : Buf (Elt F) ((thr' d L).loc cc1_scratch0)) (t : Fin k1_t2_loop.trips) (h : k1_cond1 L t = 1#1) (l : ℕ) (hl : l < 16) (c : ℕ) (hc : c < 2048) :
    rowAt ((sK).view.write (Elt F) f₀ (((xV).slice (Rect.unit (s := S4096000) (k1_off2 L t) S32768.size (k1_off2_inb L t h)) (fun _ => rfl)).view.read (Elt F) X) Finset.univ) l c
      = rowOf X (16 * (wid L + 32 * t.val) + l) c := by
  have hg := (cond_iff L t).mp h
  rw [show ∀ w, (sK).view.write (Elt F) f₀ w Finset.univ = w from fun w => View.write_whole_univ _ _ _]
  show rd (N := 32768) (α := BitVec 32) _ (l * 2048 + c) = rd (N := 4096000) (α := BitVec 32) X ((16 * (wid L + 32 * t.val) + l) * 2048 + c)
  unfold rd
  refine (View.read_apply _ _).trans ((cast_eq _ _).trans ?_)
  congr 1
  apply idx_eq
  show k1_off2 L t 0 + 1 * ((l * 2048 + c) % 32768) = ((16 * (wid L + 32 * t.val) + l) * 2048 + c) % 4096000
  rw [off2]
  omega

theorem fetch (q : PosShare TreeShare) (X : Buf (Elt F) ((xV).view.loc (thr' d L))) (f₀ : Buf (Elt F) ((thr' d L).loc cc1_scratch0))
    (O : CellTallies nD τ sig (HIx 1)) (W : Waits sig (HIx 1)) (t : Fin k1_t2_loop.trips) (h : k1_cond1 L t = 1#1)
    {h1 h2 h3 h4 h5} {α : Type} {k : PUnit → TProg (F := F) L α} {Q : α → sProp 𝕄} {R : sProp 𝕄}
    (hk : ∀ f : Buf (Elt F) ((thr' d L).loc cc1_scratch0), (∀ l < 16, ∀ c < 2048, rowAt f l c = rowOf X (16 * (wid L + 32 * t.val) + l) c) →
      iprop(kPts d L f ∗ Transfers.MayWaits (thr' d L) (none : HIx 1) O ∗ xPts d L q X ∗ semVal (thr' d L, SemLoc.dma cc1_scoped0.sem) 0 ∗ Own d L O W ∗ R) ⊢ wpT d L (k ⟨⟩) Q) :
    iprop(kPts d L f₀ ∗ Transfers.MayWaits (thr' d L) (none : HIx 1) O ∗ xPts d L q X ∗ semVal (thr' d L, SemLoc.dma cc1_scoped0.sem) 0 ∗ Own d L O W ∗ R)
      ⊢ wpT d L (.op (.enqueueDma ((xV).slice (Rect.unit (s := S4096000) (k1_off2 L t) S32768.size (k1_off2_inb L t h)) (fun _ => rfl)) (.here sK) (.dma cc1_scoped0.sem) h1 h2 h3) fun _ =>
          .op (.waitDma2 cc1_scoped0.sem ((xV).slice (Rect.unit (s := S4096000) (k1_off2 L t) S32768.size (k1_off2_inb L t h)) (fun _ => rfl)) sK h4 h5) k) Q := by
  have hk' := hk _ (fun l hl c hc => fetched d L X f₀ t h l hl c hc)
  unfold wpT at hk' ⊢
  unfold Own at hk' ⊢
  rw [show kPts d L f₀ = ((sK).view.loc (thr' d L) ↦{fullShare} f₀ : sProp 𝕄) from rfl]
  iintro ⟨Hk, Hmw, Hx, Hsem, ⟨%W', %hW', HO⟩, HR⟩
  sl_exec (disch := exact View.amount_pos _ _ (by decide))
  iapply hk'
  isplitl [Hk]; · iexact Hk
  isplitl [Hmw]; · iexact Hmw
  isplitl [Hx]; · iexact Hx
  isplitl [Hsem]; · iexact Hsem
  isplitl [HO]
  · iexists (insert (SemLoc.dma cc1_scoped0.sem, (default : HIx 1)) W'); isplitr
    · ipureintro; intro p hp
      rcases Finset.mem_insert.mp hp with hp | hp
      · exact .inr (hp ▸ rfl)
      · exact hW' p hp
    · iexact HO
  · iexact HR

/-! ## The way out -/

/-- The tile's row of the result as its copy addresses it. -/
abbrev oRow : Memref sig .scVector .hbm S65536 .f32 :=
  ((oV).slice (Rect.unit (s := S32x65536) (k1_off5 L) S1x65536.size (k1_off5_inb L)) (fun _ => rfl)).squeeze S65536 squeezes_S1x65536_S65536

abbrev oPts (f : Buf (Elt F) ((oRow L).view.loc (thr' d L))) : sProp 𝕄 := (oRow L).view.loc (thr' d L) ↦[(oRow L).view.set]{fullShare} f

/-- Element `n` of row `w`. -/
def at2 (w n : ℕ) (hw : w < 32) (hn : n < 65536) : S32x65536.Idx := fun a => ⟨if a = 0 then w else n, by
  match a with
  | 0 => exact hw
  | 1 => exact hn⟩

theorem row_emb (j : S65536.Idx) : (oRow L).view.emb j = at2 (wid L) (j 0).val (wid_lt L) (j 0).isLt := by
  have h : Shape.reshapeEquiv squeezes_S1x65536_S65536.numel_eq j = Fin.cons ⟨0, Nat.one_pos⟩ j :=
    Shape.reshapeEquiv_cons_one (n := 1) (d := ![65536]) _ j
  show ((Rect.unit (s := S32x65536) (k1_off5 L) S1x65536.size (k1_off5_inb L)).emb (Shape.reshapeEquiv squeezes_S1x65536_S65536.numel_eq j)) = _
  rw [h]
  funext a
  apply Fin.ext
  match a with
  | 0 =>
    show k1_off5 L 0 + 1 * 0 = wid L
    rw [off5]; omega
  | 1 =>
    show k1_off5 L 1 + 1 * (j 0).val = (j 0).val
    rw [show k1_off5 L 1 = 0 from by rw [k1_off5_eq]; rfl]
    omega

theorem landed (w : S65536.Idx → F .f32) (f : Buf (Elt F) ((oRow L).view.loc (thr' d L))) (n : ℕ) (hn : n < 65536) :
    ((oRow L).view.writes (Elt F) f [⟨Rect.whole S65536, w⟩]) (at2 (wid L) n (wid_lt L) hn) = rd (N := 65536) (α := F .f32) w n := by
  have hj : ((oRow L).view.slice (Rect.whole S65536)).emb (Shape.ofLane (d := ![65536]) ⟨n % 65536, Nat.mod_lt _ (by decide)⟩) = at2 (wid L) n (wid_lt L) hn := by
    have h1 : (Rect.whole S65536).emb (Shape.ofLane (d := ![65536]) ⟨n % 65536, Nat.mod_lt _ (by decide)⟩) = Shape.ofLane (d := ![65536]) ⟨n % 65536, Nat.mod_lt _ (by decide)⟩ := by
      apply idx_eq
      show 0 + 1 * (n % 65536) = n % 65536
      omega
    refine (congrArg (oRow L).view.emb h1).trans ((row_emb L _).trans ?_)
    have : n % 65536 = n := Nat.mod_eq_of_lt hn
    funext a
    apply Fin.ext
    match a with
    | 0 => rfl
    | 1 => exact this
  rw [← hj]
  refine (View.write_emb_of_mem _ _ (Finset.mem_univ _)).trans ?_
  exact cast_eq _ _

theorem writeOut (c : Buf (Elt F) ((thr' d L).loc cc1_scratch2)) (f : Buf (Elt F) ((oRow L).view.loc (thr' d L)))
    (O : CellTallies nD τ sig (HIx 1)) (W : Waits sig (HIx 1))
    {h1 h2 h3 h4 h5} {α : Type} {k : PUnit → TProg (F := F) L α} {Q : α → sProp 𝕄} {R : sProp 𝕄}
    (hk : ∀ f' : Buf (Elt F) ((oRow L).view.loc (thr' d L)), (∀ (n : ℕ) (hn : n < 65536), f' (at2 (wid L) n (wid_lt L) hn) = rd (N := 65536) (α := F .f32) c n) →
      iprop(nPts d L c ∗ oPts d L f' ∗ Transfers.MayWaits (thr' d L) (none : HIx 1) O ∗ semVal (thr' d L, SemLoc.dma cc1_scoped1.sem) 0 ∗ Own d L O W ∗ R) ⊢ wpT d L (k ⟨⟩) Q) :
    iprop(nPts d L c ∗ oPts d L f ∗ Transfers.MayWaits (thr' d L) (none : HIx 1) O ∗ semVal (thr' d L, SemLoc.dma cc1_scoped1.sem) 0 ∗ Own d L O W ∗ R)
      ⊢ wpT d L (.op (.enqueueDma sN (.here (oRow L)) (.dma cc1_scoped1.sem) h1 h2 h3) fun _ =>
          .op (.waitDma2 cc1_scoped1.sem sN (oRow L) h4 h5) k) Q := by
  have hk' := hk _ (landed d L c f)
  unfold wpT at hk' ⊢
  unfold Own at hk' ⊢
  rw [show nPts d L c = ((sN).view.loc (thr' d L) ↦{fullShare} c : sProp 𝕄) from rfl]
  iintro ⟨Hn, Ho, Hmw, Hsem, ⟨%W', %hW', HO⟩, HR⟩
  sl_exec (disch := exact View.amount_pos _ _ (by decide))
  iapply hk'
  isplitl [Hn]; · iexact Hn
  isplitl [Ho]; · iexact Ho
  isplitl [Hmw]; · iexact Hmw
  isplitl [Hsem]; · iexact Hsem
  isplitl [HO]
  · iexists (insert (SemLoc.dma cc1_scoped1.sem, (default : HIx 1)) W'); isplitr
    · ipureintro; intro p hp
      rcases Finset.mem_insert.mp hp with hp | hp
      · exact .inr (hp ▸ rfl)
      · exact hW' p hp
    · iexact HO
  · iexact HR

end Cert.Proof.Dma

end
-- ==== Proof.Group.lean ====
/-
  One trip of a tile's loop over its groups: sixteen rows are fetched, their thresholds and candidates found, and each
  row's hits added to the counts; a trip beyond the last group does nothing.
-/
module

public import proofs.«01_k».proof.Proof.Dma

@[expose] public section

noncomputable section

namespace Cert.Proof.Group

open Cert.KernelIdeal Cert.KernelIdeal.Gen

open Idealize.ShloMosaic
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Lanes Cert.Proof.Rows Cert.Proof.Tile Cert.Proof.Base Cert.Proof.Passes Cert.Proof.Words Cert.Proof.Count Cert.Proof.Row Cert.Proof.Dma

theorem clsMax_congr {row row' : ℕ → BitVec 32} (h : ∀ c < 2048, row c = row' c) (u : ℕ) (hu : u < 8) : ∀ n ≤ 256, clsMax row u n = clsMax row' u n
  | 0, _ => rfl
  | n + 1, hn => by
    show IntOp.maxsi (clsMax row u n) (row (8 * n + u)) = IntOp.maxsi (clsMax row' u n) (row' (8 * n + u))
    rw [clsMax_congr h u hu n (by omega), h _ (by omega)]

theorem thr_same {row row' : ℕ → BitVec 32} (h : ∀ c < 2048, row c = row' c) : thr row = thr row' := by
  unfold thr
  rw [clsMax_congr h 0 (by omega) 256 (le_refl _), clsMax_congr h 1 (by omega) 256 (le_refl _), clsMax_congr h 2 (by omega) 256 (le_refl _),
    clsMax_congr h 3 (by omega) 256 (le_refl _), clsMax_congr h 4 (by omega) 256 (le_refl _), clsMax_congr h 5 (by omega) 256 (le_refl _),
    clsMax_congr h 6 (by omega) 256 (le_refl _), clsMax_congr h 7 (by omega) 256 (le_refl _)]

/-- What is asked of a row is asked of its first 2048 keys. -/
theorem RowOK_congr {row row' : ℕ → BitVec 32} (h : ∀ c < 2048, row c = row' c) (hr : RowOK row) : RowOK row' := by
  have ht := thr_same h
  have hf : ∀ (p : BitVec 32 → Prop) [DecidablePred p], ((Finset.range 2048).filter fun c => p (row' c)) = ((Finset.range 2048).filter fun c => p (row c)) := fun p _ =>
    Finset.filter_congr fun c hc => by rw [h c (Finset.mem_range.mp hc)]
  refine ⟨fun c hc => ?_, ?_, ?_⟩
  · rw [← h c hc]; exact hr.tag c hc
  · rw [hf fun v => 15 < v.toInt]; exact hr.some'
  · rw [hf fun v => (thr row').toInt ≤ v.toInt, ← ht]; exact hr.few

variable {F : FTy → Type} [FloatOps F] [Named F]

local notation "𝕄" => MT nD τ sig (HIx 1) (Elt F) ℕ UU ℕ

variable (d : Dev nD) (L : grid1.Coords)

/-- What every row of keys satisfies. -/
def KeysOK (X : (Tile.V 4096000).Idx → BitVec 32) : Prop := ∀ r < 2000, RowOK (rowOf X r)

/-- A step with a known value. -/
theorem wp_val {α β : Type} {P P' R : sProp 𝕄} {p : TProg (F := F) L α} {b : α} {kk : α → TProg (F := F) L β} {Q : β → sProp 𝕄}
    (h : P ⊢ wpT d L p fun a => iprop(⌜a = b⌝ ∗ P')) (hk : iprop(P' ∗ R) ⊢ wpT d L (kk b) Q) : iprop(P ∗ R) ⊢ wpT d L (p >>= kk) Q := by
  refine wp_seq (d := d) (L := L) h fun a => ?_
  iintro ⟨⟨%hab, HP⟩, HR⟩
  subst hab
  iapply hk
  isplitl [HP]; · iexact HP
  iexact HR

open Classical in
theorem hits_row (X : (Tile.V 4096000).Idx → BitVec 32) (t : Fin k1_t2_loop.trips) (h1 : k1_cond1 L t = 1#1) (row : ℕ → BitVec 32) (l : ℕ) (hl : l < 16)
    (hrow : ∀ c < 2048, row c = rowOf X (16 * (wid L + 32 * t.val) + l) c) (n : ℕ) :
    hits X (wid L) (16 * (wid L + 32 * t.val) + l) n + (if HitRow row ((16 * (wid L + 32 * t.val) + l) / 500) n then 1 else 0)
      = hits X (wid L) (16 * (wid L + 32 * t.val) + (l + 1)) n := by
  have hg := (cond_iff L t).mp h1
  have hw := wid_lt L
  have hiff : HitRow row ((16 * (wid L + 32 * t.val) + l) / 500) n ↔
      (16 * (wid L + 32 * t.val) + l < 2000 ∧ ((16 * (wid L + 32 * t.val) + l) / 16) % 32 = wid L ∧ Hit X (16 * (wid L + 32 * t.val) + l) n) := by
    constructor
    · rintro ⟨k, hk, hn, hs⟩
      exact ⟨by omega, by omega, k, hk, hn, (Sel_congr hrow k _).mp hs⟩
    · rintro ⟨-, -, k, hk, hn, hs⟩
      exact ⟨k, hk, hn, (Sel_congr hrow k _).mpr hs⟩
  rw [← Nat.add_assoc, hits_succ]
  by_cases hc : HitRow row ((16 * (wid L + 32 * t.val) + l) / 500) n
  · rw [if_pos hc, if_pos (hiff.mp hc)]
  · rw [if_neg hc, if_neg (fun h => hc (hiff.mpr h))]

/-- The sixteen rows of a group. -/
theorem rows (X : (Tile.V 4096000).Idx → BitVec 32) (t : Fin k1_t2_loop.trips) (h1 : k1_cond1 L t = 1#1) (f : (Tile.V 32768).Idx → BitVec 32) (hf : TileOK f)
    (hrow : ∀ l < 16, ∀ c < 2048, rowAt f l c = rowOf X (16 * (wid L + 32 * t.val) + l) c)
    (g : Buf (Elt F) ((thr' d L).loc cc1_scratch1)) (hg : CandOK f 2048 g) (v17 : BitVec 32) (hv17 : v17 = BitVec.ofNat 32 (16 * (wid L + 32 * t.val)))
    (c : Buf (Elt F) ((thr' d L).loc cc1_scratch2)) (hc : CntOK (F := F) (hits X (wid L) (16 * (wid L + 32 * t.val))) c) (hok) :
    iprop(cPts d L g ∗ nPts d L c) ⊢ wpT d L (Scf.Loop.for k1_t5_loop hok ⟨⟩
        (k1_t5_body L xV (Memref.isWhole_whole _) oV (Memref.isWhole_whole _) sK (Memref.isWhole_whole _) sC (Memref.isWhole_whole _)
        sN (Memref.isWhole_whole _) cc1_scoped0 cc1_scoped1 lanes t h1 v17 (lenV f 2048)))
      fun _ => iprop(cPts d L g ∗ ∃ c' : Buf (Elt F) ((thr' d L).loc cc1_scratch2),
        ⌜CntOK (F := F) (hits X (wid L) (16 * (wid L + 32 * t.val) + 16)) c'⌝ ∗ nPts d L c') := by
  have hG := (cond_iff L t).mp h1
  iintro ⟨Hc, Hn⟩
  iapply (wp_loop (d := d) (L := L) k1_t5_loop hok _ _ (fun l _ => iprop(cPts d L g ∗ ∃ c' : Buf (Elt F) ((thr' d L).loc cc1_scratch2),
        ⌜CntOK (F := F) (hits X (wid L) (16 * (wid L + 32 * t.val) + l)) c'⌝ ∗ nPts d L c')) ?_)
  · intro l _
    have hl : l.val < 16 := l.isLt
    iintro ⟨Hc, %c', %hc', Hn⟩
    have hs := row_step d L t h1 f hf g hg (wid L + 32 * t.val) hG v17 hv17 l (hits X (wid L) (16 * (wid L + 32 * t.val) + l.val)) c' hc'
    rw [show (fun n => hits X (wid L) (16 * (wid L + 32 * t.val) + l.val) n + (open Classical in if HitRow (rowAt f l.val) ((16 * (wid L + 32 * t.val) + l.val) / 500) n then 1 else 0))
      = hits X (wid L) (16 * (wid L + 32 * t.val) + (l.val + 1)) from funext fun n => hits_row L X t h1 (rowAt f l.val) l.val hl (hrow l.val hl) n] at hs
    iapply hs
    isplitl [Hc]; · iexact Hc
    iexact Hn
  · isplitl [Hc]; · iexact Hc
    iexists c
    isplitr; · ipureintro; exact hc
    iexact Hn

/-- What a tile holds before group `t`. -/
def Held (q : PosShare TreeShare) (X : Buf (Elt F) ((xV).view.loc (thr' d L))) (O : CellTallies nD τ sig (HIx 1)) (W : Waits sig (HIx 1)) (t : ℕ) : sProp 𝕄 :=
  iprop((∃ f, kPts d L f) ∗ (∃ g, cPts d L g) ∗ (∃ c : Buf (Elt F) ((thr' d L).loc cc1_scratch2), ⌜CntOK (F := F) (hits X (wid L) (16 * (wid L + 32 * t))) c⌝ ∗ nPts d L c)
    ∗ Transfers.MayWaits (thr' d L) (none : HIx 1) O ∗ xPts d L q X ∗ semVal (thr' d L, SemLoc.dma cc1_scoped0.sem) 0 ∗ Own d L O W)

theorem skip (X : (Tile.V 4096000).Idx → BitVec 32) (t : Fin k1_t2_loop.trips) (h1 : k1_cond1 L t = 1#1) :
    hits X (wid L) (16 * (wid L + 32 * t.val) + 16) = hits X (wid L) (16 * (wid L + 32 * (t.val + 1))) := by
  have hw := wid_lt L
  funext n
  rw [← hits_skip X (wid L) (16 * (wid L + 32 * t.val) + 16) n 496 (fun r h1 h2 h3 => by omega)]
  congr 1

theorem skip' (X : (Tile.V 4096000).Idx → BitVec 32) (t : Fin k1_t2_loop.trips) (h1 : ¬ k1_cond1 L t = 1#1) :
    hits X (wid L) (16 * (wid L + 32 * t.val)) = hits X (wid L) (16 * (wid L + 32 * (t.val + 1))) := by
  have hG := Nat.le_of_not_lt fun h => h1 ((cond_iff L t).mpr h)
  funext n
  rw [← hits_skip X (wid L) (16 * (wid L + 32 * t.val)) n 512 (fun r h1 h2 h3 => by omega)]
  congr 1

theorem group (q : PosShare TreeShare) (X : Buf (Elt F) ((xV).view.loc (thr' d L))) (hX : KeysOK X) (O : CellTallies nD τ sig (HIx 1)) (W : Waits sig (HIx 1)) (t : Fin k1_t2_loop.trips) :
    Held d L q X O W t.val ⊢ wpT d L (k1_t2_body L xV (Memref.isWhole_whole _) oV (Memref.isWhole_whole _) sK (Memref.isWhole_whole _) sC (Memref.isWhole_whole _)
        sN (Memref.isWhole_whole _) cc1_scoped0 cc1_scoped1 lanes (widW L) t ⟨⟩) fun _ => Held d L q X O W (t.val + 1) := by
  unfold k1_t2_body
  by_cases h1 : k1_cond1 L t = 1#1
  · have hG := (cond_iff L t).mp h1
    simp only [dif_pos h1, Prog.lift, Prog.bind_op, Prog.bind_ret, Prog.pure_eq_ret, bind_assoc]
    unfold Held
    iintro ⟨⟨%f₀, Hk⟩, ⟨%g, Hc⟩, ⟨%c, %hc, Hn⟩, Hmw, Hx, Hsem, HO⟩
    iapply (fetch d L q X f₀ O W t h1 (R := iprop(cPts d L g ∗ nPts d L c)) fun f hrow => ?_)
    rotate_left
    · isplitl [Hk]; · iexact Hk
      isplitl [Hmw]; · iexact Hmw
      isplitl [Hx]; · iexact Hx
      isplitl [Hsem]; · iexact Hsem
      isplitl [HO]; · iexact HO
      isplitl [Hc]; · iexact Hc
      iexact Hn
    have hf : TileOK f := fun l hl => RowOK_congr (fun c hc => (hrow l hl c hc).symm) (hX _ (by omega))
    iintro ⟨Hk, Hmw, Hx, Hsem, HO, Hc, Hn⟩
    iapply (wp_val d L (pass1 d L t h1 f _) (R := iprop(cPts d L g ∗ nPts d L c ∗ Transfers.MayWaits (thr' d L) (none : HIx 1) O ∗ xPts d L q X ∗ semVal (thr' d L, SemLoc.dma cc1_scoped0.sem) 0 ∗ Own d L O W)) ?_)
    rotate_left
    · isplitl [Hk]; · iexact Hk
      isplitl [Hc]; · iexact Hc
      isplitl [Hn]; · iexact Hn
      isplitl [Hmw]; · iexact Hmw
      isplitl [Hx]; · iexact Hx
      isplitl [Hsem]; · iexact Hsem
      iexact HO
    iintro ⟨⟨Hk, -⟩, Hc, Hn, Hmw, Hx, Hsem, HO⟩
    simp only [st3]
    iapply (wp_seq (d := d) (L := L) (pass2 d L t h1 f hf (thr_eq f) g _) (R := iprop(nPts d L c ∗ Transfers.MayWaits (thr' d L) (none : HIx 1) O ∗ xPts d L q X ∗ semVal (thr' d L, SemLoc.dma cc1_scoped0.sem) 0 ∗ Own d L O W)) fun a => ?_)
    rotate_left
    · isplitl [Hk Hc]
      · isplitl [Hk]; · iexact Hk
        iexact Hc
      isplitl [Hn]; · iexact Hn
      isplitl [Hmw]; · iexact Hmw
      isplitl [Hx]; · iexact Hx
      isplitl [Hsem]; · iexact Hsem
      iexact HO
    iintro ⟨⟨%ha, Hk, %g', %hg', Hc⟩, Hn, Hmw, Hx, Hsem, HO⟩
    subst ha
    iapply (wp_seq (d := d) (L := L) (rows d L X t h1 f hf hrow g' hg' _ ?_ c hc _) (R := iprop(kPts d L f ∗ Transfers.MayWaits (thr' d L) (none : HIx 1) O ∗ xPts d L q X ∗ semVal (thr' d L, SemLoc.dma cc1_scoped0.sem) 0 ∗ Own d L O W)) fun a => ?_)
    · show 16#32 * groupW L t.val = _
      rw [groupW_eq, BitVec.ofNat_mul]
    · unfold wpT
      rw [wp_ret]
      iintro ⟨⟨Hc, %c', %hc', Hn⟩, Hk, Hmw, Hx, Hsem, HO⟩
      imodintro
      isplitl [Hk]; · iexists f; iexact Hk
      isplitl [Hc]; · iexists g'; iexact Hc
      isplitl [Hn]
      · iexists c'
        isplitr; · ipureintro; rw [← skip L X t h1]; exact hc'
        iexact Hn
      isplitl [Hmw]; · iexact Hmw
      isplitl [Hx]; · iexact Hx
      isplitl [Hsem]; · iexact Hsem
      iexact HO
    · isplitl [Hc Hn]
      · isplitl [Hc]; · iexact Hc
        iexact Hn
      isplitl [Hk]; · iexact Hk
      isplitl [Hmw]; · iexact Hmw
      isplitl [Hx]; · iexact Hx
      isplitl [Hsem]; · iexact Hsem
      iexact HO
  · simp only [dif_neg h1, Prog.pure_eq_ret, Prog.bind_ret]
    unfold wpT
    rw [wp_ret]
    unfold Held
    rw [skip' L X t h1]
    iintro H
    imodintro
    iexact H

end Cert.Proof.Group

end
-- ==== Proof.Keys.lean ====
/-
  The packed key of one sample and column: the step of the perturbed score, and under it the column counted from the
  right. Its low 11 bits tell the column whatever the step; where the step fits above them, keys are ordered first by
  their steps.
-/
module

public import proofs.«01_k».proof.Proof.Rows
public import Idealize.ShloMosaic.PureOps.Ideal.Laws
public import Idealize.ShloMosaic.Lib.SortFacts

@[expose] public section

noncomputable section

namespace Cert.Proof.Keys

open Idealize.ShloMosaic Cert.Proof.Rows

variable {F : FTy → Type} [FloatOps F]

/-- A score with a sample's noise. -/
def perturb (score noise : F .f32) : F .f32 := FloatOps.addf score (FloatOps.mulf noise (FloatOps.ofBits .f32 0x3D4CCCCD#32))

/-- The step a perturbed score falls into. -/
def step (x : F .f32) : BitVec 32 :=
  FloatOps.fptosi 32 (FloatOps.mulf (FloatOps.addf x (FloatOps.ofBits .f32 0x3F000000#32)) (FloatOps.ofBits .f32 0x48800000#32))

/-- The key of step `w` and column `n`. -/
def key (w : BitVec 32) (n : ℕ) : BitVec 32 := IntOp.addi (IntOp.muli w 2048#32) (IntOp.subi 2047#32 (BitVec.ofNat 32 n))

/-- A key tells its column. -/
theorem key_tag (w : BitVec 32) {n : ℕ} (h : n < 2048) : key w n &&& 2047#32 = 2047#32 - BitVec.ofNat 32 n := by
  apply BitVec.eq_of_toNat_eq
  rw [BitVec.toNat_and, show (2047#32 : BitVec 32).toNat = 2 ^ 11 - 1 from rfl, Nat.and_two_pow_sub_one_eq_mod]
  unfold key IntOp.addi IntOp.muli IntOp.subi
  simp only [BitVec.toNat_add, BitVec.toNat_mul, BitVec.toNat_sub, BitVec.toNat_ofNat]
  have := w.isLt
  omega

/-- A key whose step fits, as a number. -/
theorem key_toInt (w : BitVec 32) {n : ℕ} (h : n < 2048) (hl : -1048576 ≤ w.toInt) (hu : w.toInt < 1048576) :
    (key w n).toInt = w.toInt * 2048 + 2047 - n := by
  unfold key IntOp.addi IntOp.muli IntOp.subi
  have hw := w.isLt
  rw [BitVec.toInt_eq_toNat_cond] at hl hu ⊢
  rw [BitVec.toInt_eq_toNat_cond]
  simp only [BitVec.toNat_add, BitVec.toNat_mul, BitVec.toNat_sub, BitVec.toNat_ofNat]
  split at hl <;> split <;> omega

/-! ## Steps at the ideal values -/

/-- Rounding toward zero keeps the order. -/
theorem toward_mono {r s : ℝ} (h : r ≤ s) : (if 0 ≤ r then ⌊r⌋ else ⌈r⌉) ≤ (if 0 ≤ s then ⌊s⌋ else ⌈s⌉) := by
  by_cases hr : 0 ≤ r
  · rw [if_pos hr, if_pos (hr.trans h)]
    exact Int.floor_le_floor h
  · rw [if_neg hr]
    by_cases hs : 0 ≤ s
    · rw [if_pos hs]
      refine (Int.ceil_le.2 ?_).trans (Int.floor_nonneg.2 hs)
      push_cast
      exact (not_le.1 hr).le
    · rw [if_neg hs]
      exact Int.ceil_le_ceil h

theorem clamped_range (lo hi : ℤ) (h : lo ≤ hi) (x : EReal) : lo ≤ Ideal.toIntClamped lo hi x ∧ Ideal.toIntClamped lo hi x ≤ hi := by
  induction x using EReal.rec with
  | bot => exact ⟨le_refl _, h⟩
  | top => exact ⟨h, le_refl _⟩
  | coe r =>
    rw [Ideal.toIntClamped_coe]
    exact ⟨le_max_left _ _, max_le h (min_le_left _ _)⟩

theorem clamped_mono (lo hi : ℤ) (h : lo ≤ hi) {x y : EReal} (hxy : x ≤ y) : Ideal.toIntClamped lo hi x ≤ Ideal.toIntClamped lo hi y := by
  induction x using EReal.rec with
  | bot => exact (clamped_range lo hi h y).1
  | top =>
    rw [top_le_iff.1 hxy]
  | coe r =>
    induction y using EReal.rec with
    | bot => exact absurd hxy (by simp)
    | top => exact (clamped_range lo hi h _).2
    | coe s =>
      rw [Ideal.toIntClamped_coe, Ideal.toIntClamped_coe]
      exact max_le_max (le_refl _) (min_le_min (le_refl _) (toward_mono (EReal.coe_le_coe_iff.1 hxy)))

theorem fptosi_toInt (x : EReal) : (Ideal.fptosi 32 x).toInt = Ideal.toIntClamped (-2147483648) 2147483647 x := by
  obtain ⟨h1, h2⟩ := clamped_range (-2147483648) 2147483647 (by norm_num) x
  unfold Ideal.fptosi
  rw [show (-((2 ^ (32 - 1) : ℕ) : ℤ)) = -2147483648 by norm_num, show (((2 ^ (32 - 1) : ℕ) : ℤ) - 1) = 2147483647 by norm_num, BitVec.toInt_ofInt]
  rw [Int.bmod_def]
  omega

theorem half : (Ideal.ofBits .f32 0x3F000000#32 : EReal) = ((1 / 2 : ℝ) : EReal) := by
  simp [Ideal.ofBits, Ideal.ieee, -EReal.coe_mul]; norm_num

theorem scale : (Ideal.ofBits .f32 0x48800000#32 : EReal) = ((262144 : ℝ) : EReal) := by
  simp [Ideal.ofBits, Ideal.ieee, -EReal.coe_mul]; norm_num

/-- A larger perturbed score is in no earlier step. -/
theorem step_mono {x y : Ideal .f32} (h : (x : EReal) ≤ y) : (step (F := Ideal) x).toInt ≤ (step (F := Ideal) y).toInt := by
  show (Ideal.fptosi 32 _).toInt ≤ (Ideal.fptosi 32 _).toInt
  rw [fptosi_toInt, fptosi_toInt]
  refine clamped_mono _ _ (by norm_num) ?_
  show ((x : EReal) + Ideal.ofBits .f32 0x3F000000#32) * Ideal.ofBits .f32 0x48800000#32 ≤ ((y : EReal) + Ideal.ofBits .f32 0x3F000000#32) * Ideal.ofBits .f32 0x48800000#32
  rw [scale]
  exact mul_le_mul_of_nonneg_right (add_le_add_left h _) (EReal.coe_nonneg.2 (by norm_num))

/-! ## A row's choice -/

/-- The order of a row's perturbed scores: the largest first. -/
def before (f : Fin 2048 → F .f32) (a b : Fin 2048) : Bool := FloatOps.cmpfTotal .gt (f a) (f b) == 1#1

/-- A row of perturbed scores whose steps fit, and of which the scores beyond the eight largest stand, if in the eighth's
step, to the right of those of the eight that are in it. -/
structure Good (f : Fin 2048 → F .f32) : Prop where
  lo : ∀ n, -1048576 ≤ (step (f n)).toInt
  hi : ∀ n, (step (f n)).toInt < 1048576
  apart : ∀ j : Fin 2048, 8 ≤ j.val → (step (f (sortedFrom (before f) j))).toInt < (step (f (sortedFrom (before f) 7))).toInt
    ∨ ∀ i : Fin 2048, i.val < 8 → step (f (sortedFrom (before f) i)) = step (f (sortedFrom (before f) 7))
      → (sortedFrom (before f) i).val < (sortedFrom (before f) j).val

theorem before_eq (f : Fin 2048 → Ideal .f32) (a b : Fin 2048) : before f a b = decide ((f b : EReal) < f a) := by
  unfold before
  rw [Ideal.cmpfTotal_def]
  show (BitVec.ofBool (decide ((f b : EReal) < f a)) == 1#1) = _
  by_cases h : (f b : EReal) < f a <;> simp [h]

/-- Along the order the perturbed scores do not increase. -/
theorem sorted_le (f : Fin 2048 → Ideal .f32) {i j : Fin 2048} (h : i ≤ j) : (f (sortedFrom (before f) j) : EReal) ≤ f (sortedFrom (before f) i) := by
  rcases eq_or_lt_of_le h with rfl | h
  · exact le_refl _
  have h := sortedFrom_noInversion (before f) (before f)
    (by intro a b h; rw [before_eq] at h ⊢; simp only [decide_eq_true_eq, decide_eq_false_iff_not, not_lt] at h ⊢; exact h.le) (fun _ _ h => h)
    (by intro a b c h1 h2; rw [before_eq] at h1 h2 ⊢; simp only [decide_eq_false_iff_not, not_lt] at h1 h2 ⊢; first | exact h1.trans h2 | exact h2.trans h1) i j h
  rw [before_eq] at h
  simpa using h

variable {row : ℕ → BitVec 32}

/-- THE EIGHT of the largest perturbed scores are the eight of the largest keys. -/
theorem selSet_eq (f : Fin 2048 → Ideal .f32) (hf : Good f) (hrow : ∀ n : Fin 2048, row n.val = key (step (f n)) n.val) (c : ℕ) :
    c ∈ selSet row ↔ ∃ a : Fin 8, (sortedFrom (before f) (a.castLE (by omega))).val = c := by
  have hlt : ∀ i j : Fin 2048, i.val < 8 → 8 ≤ j.val →
      (row (sortedFrom (before f) j).val).toInt < (row (sortedFrom (before f) i).val).toInt := by
    intro i j hi hj
    rw [hrow, hrow, key_toInt _ (Fin.isLt _) (hf.lo _) (hf.hi _), key_toInt _ (Fin.isLt _) (hf.lo _) (hf.hi _)]
    have h7 := step_mono (sorted_le f (show i ≤ (7 : Fin 2048) from by show i.val ≤ 7; omega))
    have h8 := step_mono (sorted_le f (show (7 : Fin 2048) ≤ j from by show 7 ≤ j.val; omega))
    have ci := (sortedFrom (before f) i).isLt
    have cj := (sortedFrom (before f) j).isLt
    rcases hf.apart j hj with h | h
    · omega
    · by_cases e : step (f (sortedFrom (before f) i)) = step (f (sortedFrom (before f) 7))
      · have := h i hi e
        rw [e]
        omega
      · have : (step (f (sortedFrom (before f) i))).toInt ≠ (step (f (sortedFrom (before f) 7))).toInt := fun h => e (BitVec.eq_of_toInt_eq h)
        omega
  unfold selSet
  simp only [Finset.mem_filter, Finset.mem_range]
  constructor
  · rintro ⟨hc, hr⟩
    obtain ⟨j, e⟩ := sortedFrom_surjective (before f) ⟨c, hc⟩
    have ec : (sortedFrom (before f) j).val = c := congrArg Fin.val e
    by_cases hj : j.val < 8
    · exact ⟨⟨j.val, hj⟩, ec⟩
    exfalso
    have : (Finset.univ.image fun a : Fin 8 => (sortedFrom (before f) (a.castLE (by omega))).val).card ≤ rank row c := by
      unfold rank
      refine Finset.card_le_card fun x hx => ?_
      obtain ⟨a, -, rfl⟩ := Finset.mem_image.1 hx
      refine Finset.mem_filter.2 ⟨Finset.mem_range.2 (Fin.isLt _), ?_⟩
      have hx' := hlt (a.castLE (by omega)) j a.isLt (not_lt.1 hj)
      rwa [ec] at hx'
    rw [Finset.card_image_of_injective] at this
    · simp at this; omega
    · intro a b e
      have := sortedFrom_injective (before f) (Fin.ext e)
      exact Fin.ext (congrArg (fun z : Fin 2048 => z.val) this)
  · rintro ⟨a, rfl⟩
    refine ⟨Fin.isLt _, ?_⟩
    have : rank row (sortedFrom (before f) (a.castLE (by omega))).val
        ≤ ((Finset.univ.erase a).image fun b : Fin 8 => (sortedFrom (before f) (b.castLE (by omega))).val).card := by
      unfold rank
      refine Finset.card_le_card fun x hx => ?_
      obtain ⟨hx, hk⟩ := Finset.mem_filter.1 hx
      obtain ⟨j, e⟩ := sortedFrom_surjective (before f) ⟨x, Finset.mem_range.1 hx⟩
      have ex : (sortedFrom (before f) j).val = x := congrArg Fin.val e
      rw [← ex] at hk
      have hj : j.val < 8 := by
        by_contra hj
        exact absurd (hlt (a.castLE (by omega)) j a.isLt (not_lt.1 hj)) (not_lt.2 hk.le)
      refine Finset.mem_image.2 ⟨⟨j.val, hj⟩, Finset.mem_erase.2 ⟨fun h => ?_, Finset.mem_univ _⟩, ex⟩
      have : j = a.castLE (by omega) := Fin.ext (congrArg (fun z : Fin 8 => z.val) h)
      rw [this] at hk
      exact absurd hk (lt_irrefl _)
    refine (this.trans Finset.card_image_le).trans_lt ?_
    rw [Finset.card_erase_of_mem (Finset.mem_univ _)]
    simp

end Cert.Proof.Keys

end
-- ==== Proof.RefTop.lean ====
/-
  The reference's choice of columns: the stable sort of a row of perturbed scores, cut to eight, then the columns sorted. Entry
  `k` of the outcome is the `k`-th selected column from the left.
-/
module

public import proofs.«01_k».proof.Proof.Group
public import proofs.«01_k».proof.Proof.Keys
public import proofs.«01_k».proof.Proof.Gen.ReferenceIdeal
public import Idealize.ShloMosaic.Lib.SortFacts
public import Idealize.ShloMosaic.Lib.StackMember
public import Idealize.ShloMosaic.Lib.Pipeline.Value

@[expose] public section

noncomputable section

namespace Cert.Proof.RefTop

open Idealize.ShloMosaic Cert.Proof.Rows Cert.Proof.Count Cert.Proof.Group Cert.Proof.Keys

/-- A sort by a one-to-one integer key puts at `k` the position with `k` smaller keys. -/
theorem sortedFrom_rank {n : ℕ} (f : Fin n → ℤ) (hf : Function.Injective f) (B : Fin n → Fin n → Bool)
    (hB : ∀ a b, B a b = decide (f a < f b)) (k : Fin n) :
    (Finset.univ.filter fun c => f c < f (sortedFrom B k)).card = k.val := by
  have hmono : ∀ i j : Fin n, i < j → f (sortedFrom B i) < f (sortedFrom B j) := by
    intro i j hij
    have h := sortedFrom_noInversion B B
      (by intro a b h; rw [hB] at h ⊢; simp only [decide_eq_true_eq, decide_eq_false_iff_not] at h ⊢; omega) (fun _ _ h => h)
      (by intro a b c h1 h2; rw [hB] at h1 h2 ⊢; simp only [decide_eq_false_iff_not] at h1 h2 ⊢; omega) i j hij
    rw [hB] at h
    simp only [decide_eq_false_iff_not, not_lt] at h
    refine lt_of_le_of_ne h fun e => ?_
    have := sortedFrom_injective B (hf e)
    exact absurd this (ne_of_lt hij)
  have : (Finset.univ.filter fun c => f c < f (sortedFrom B k)) = (Finset.univ.filter fun i : Fin n => i < k).image (sortedFrom B) := by
    ext c
    simp only [Finset.mem_filter, Finset.mem_univ, true_and, Finset.mem_image]
    constructor
    · intro h
      obtain ⟨i, rfl⟩ := sortedFrom_surjective B c
      refine ⟨i, ?_, rfl⟩
      by_contra hik
      rcases lt_or_eq_of_le (not_lt.mp hik) with h' | h'
      · exact absurd (hmono _ _ h') (by omega)
      · subst h'; exact absurd h (lt_irrefl _)
    · rintro ⟨i, hi, rfl⟩
      exact hmono _ _ hi
  rw [this, Finset.card_image_of_injective _ (sortedFrom_injective B)]
  rw [show (Finset.univ.filter fun i : Fin n => i < k) = Finset.Iio k by ext; simp]
  exact Fin.card_Iio k

theorem card_fin (n : ℕ) (p : ℕ → Prop) [DecidablePred p] :
    (Finset.univ.filter fun c : Fin n => p c.val).card = ((Finset.range n).filter p).card := by
  rw [← Finset.card_image_of_injective (f := fun c : Fin n => c.val) _ Fin.val_injective]
  congr 1
  ext c
  simp only [Finset.mem_image, Finset.mem_filter, Finset.mem_univ, true_and, Finset.mem_range]
  constructor
  · rintro ⟨a, ha, rfl⟩; exact ⟨a.isLt, ha⟩
  · rintro ⟨h, hp⟩; exact ⟨⟨c, h⟩, hp, rfl⟩

/-- Sorting the selected columns puts at `k` the `k`-th of them. -/
theorem choice {row : ℕ → BitVec 32} (g : Fin 8 → ℕ) (hinj : Function.Injective g) (hsel : ∀ c : ℕ, c ∈ selSet row ↔ ∃ a : Fin 8, g a = c)
    (C : Fin 8 → Fin 8 → Bool) (hC : ∀ a b, C a b = decide (g a < g b)) (k : Fin 8) :
    Sel row k.val (g (sortedFrom C k)) := by
  refine ⟨(hsel _).2 ⟨_, rfl⟩, ?_⟩
  have hr := sortedFrom_rank (fun a : Fin 8 => (g a : ℤ))
    (fun a b e => hinj (Int.ofNat_inj.mp e)) C (fun a b => by rw [hC]; congr 1; simp) k
  rw [← hr, ← Finset.card_image_of_injective _ hinj]
  congr 1
  ext c
  simp only [Finset.mem_filter, Finset.mem_image, Finset.mem_univ, true_and, hsel]
  constructor
  · rintro ⟨⟨a, rfl⟩, hlt⟩; exact ⟨a, by exact_mod_cast hlt, rfl⟩
  · rintro ⟨a, hlt, rfl⟩; exact ⟨⟨a, rfl⟩, by exact_mod_cast hlt⟩

/-! ## The reference's arrays -/

open Cert.ReferenceIdeal Cert.ReferenceIdeal.Gen Idealize.ShloMosaic.ValueIdx

/-- The perturbed scores. -/
abbrev scores (noise : FVec Ideal S4x500x2048 .f32) (sc : FVec Ideal S4x1x2048 .f32) : FVec Ideal S4x500x2048 .f32 :=
  addf (broadcastInDim S4x500x2048 ![0, 1, 2] bcast_S4x1x2048_S4x500x2048_0_1_2 sc)
    (mulf noise (broadcastInDim S4x500x2048 ![] bcast_S_S4x500x2048 (constant S_ .f32 0x3D4CCCCD#32)))

theorem scores_at (noise : FVec Ideal S4x500x2048 .f32) (sc : FVec Ideal S4x1x2048 .f32) (b : Fin 4) (s : Fin 500) (n : Fin 2048) :
    scores noise sc (ix3 b s n) = perturb (sc (ix3 b 0 n)) (noise (ix3 b s n)) := by
  unfold perturb
  refine congrArg₂ FloatOps.addf ?_ rfl
  unfold broadcastInDim
  refine congrArg sc ?_
  funext a
  match a with
  | ⟨0, _⟩ => rfl
  | ⟨1, _⟩ => rfl
  | ⟨2, _⟩ => rfl

theorem ofBool_eq (b : Bool) : (BitVec.ofBool b == 1#1) = b := by cases b <;> rfl

theorem along_eq (j : S4x500x2048.Idx) (b : Fin 4) (s : Fin 500) (h : j 0 = b) (h' : j 1 = s) (h1 : 2 < S4x500x2048.rank) (k : Fin 2048) :
    Shape.Idx.along j ⟨2, h1⟩ k = ix3 b s k := by
  funext a
  match a with
  | ⟨0, _⟩ => exact (Function.update_of_ne (fun e => absurd (congrArg Fin.val e) (by simp)) _ _).trans h
  | ⟨1, _⟩ => exact (Function.update_of_ne (fun e => absurd (congrArg Fin.val e) (by simp)) _ _).trans h'
  | ⟨2, _⟩ => exact Function.update_self _ _ _

theorem along_eq8 (j : S4x500x8.Idx) (b : Fin 4) (s : Fin 500) (h : j 0 = b) (h' : j 1 = s) (h1 : 2 < S4x500x8.rank) (k : Fin 8) :
    Shape.Idx.along j ⟨2, h1⟩ k = ix3 b s k := by
  funext a
  match a with
  | ⟨0, _⟩ => exact (Function.update_of_ne (fun e => absurd (congrArg Fin.val e) (by simp)) _ _).trans h
  | ⟨1, _⟩ => exact (Function.update_of_ne (fun e => absurd (congrArg Fin.val e) (by simp)) _ _).trans h'
  | ⟨2, _⟩ => exact Function.update_self _ _ _

/-- The column of the `a`-th largest score of a sample. -/
def topCol (P : FVec Ideal S4x500x2048 .f32) (b : Fin 4) (s : Fin 500) (a : Fin 8) : Fin 2048 :=
  sortedFrom (before fun n => P (ix3 b s n)) (a.castLE (by omega))

theorem topK_at (P : FVec Ideal S4x500x2048 .f32) (b : Fin 4) (s : Fin 500) (a : Fin 8) :
    (Host.topK S4x500x8 2 (FloatOps.cmpfTotal .gt) P sliceFits_S4x500x2048_S4x500x8).2 (ix3 b s a) = BitVec.ofNat 32 (topCol P b s a).val := by
  unfold topCol before Host.topK Host.sort2
  simp only [show (2 : ℕ) < S4x500x2048.rank by decide, dif_pos, extractStridedSlice, Nat.zero_add]
  refine (congrArg (iotaInDim S4x500x2048 32 2) (by exact along_eq _ b s rfl rfl _ _)).trans ?_
  simp only [iotaInDim]
  refine congrArg (fun B => BitVec.ofNat 32 (sortedFrom B (a.castLE (by omega : 8 ≤ 2048))).val) (?_ : (_ : Fin 2048 → Fin 2048 → Bool) = _)
  funext k k'
  refine congrArg₂ (fun x y => FloatOps.cmpfTotal .gt (P x) (P y) == 1#1) (by exact along_eq _ b s rfl rfl _ k) (by exact along_eq _ b s rfl rfl _ k')

/-- The reference's columns: the eight of the largest perturbed scores, from the left. -/
abbrev colsArr (P : FVec Ideal S4x500x2048 .f32) : IVec S4x500x8 32 :=
  Host.sort S4x500x8 2 comparator_i32_d2 (Host.topK S4x500x8 2 (FloatOps.cmpfTotal .gt) P sliceFits_S4x500x2048_S4x500x8).2

theorem cols_at (P : FVec Ideal S4x500x2048 .f32) (b : Fin 4) (s : Fin 500) {row : ℕ → BitVec 32} (hf : Good fun n => P (ix3 b s n))
    (hrow : ∀ n : Fin 2048, row n.val = key (step (P (ix3 b s n))) n.val) (k : Fin 8) :
    ∃ i < 2048, colsArr P (ix3 b s k) = BitVec.ofNat 32 i ∧ Sel row k.val i := by
  have hch := choice (row := row) (fun a => (topCol P b s a).val)
    (fun a a' e => Fin.ext (congrArg (fun z : Fin 2048 => z.val) (sortedFrom_injective _ (Fin.ext e))))
    (selSet_eq _ hf hrow)
    (fun a a' => comparator_i32_d2 (BitVec.ofNat 32 (topCol P b s a).val) (BitVec.ofNat 32 (topCol P b s a').val) == 1#1)
    (fun a a' => by
      have ha := (topCol P b s a).isLt
      have hb := (topCol P b s a').isLt
      unfold comparator_i32_d2 IntOp.cmpi
      have e : ∀ n : ℕ, n < 2048 → (BitVec.ofNat 32 n).toInt = n := by
        intro n hn
        rw [BitVec.toInt_eq_toNat_of_lt (by rw [BitVec.toNat_ofNat]; omega), BitVec.toNat_ofNat]
        omega
      simp only [BitVec.slt, e _ ha, e _ hb]
      rw [ofBool_eq]
      exact decide_eq_decide.2 (by exact_mod_cast Iff.rfl)) k
  refine ⟨_, (topCol P b s _).isLt, ?_, hch⟩
  unfold colsArr Host.sort
  simp only [show (2 : ℕ) < S4x500x8.rank by decide, dif_pos]
  have hal := along_eq8 (ix3 b s k) b s rfl rfl (by decide)
  refine (congrArg _ (hal _)).trans ((topK_at P b s _).trans ?_)
  refine congrArg (fun B : Fin 8 → Fin 8 → Bool => BitVec.ofNat 32 (topCol P b s (sortedFrom B k)).val) ?_
  funext a a'
  refine congrArg₂ (fun x y => comparator_i32_d2 x y == 1#1) ?_ ?_
  · exact (congrArg _ (hal _)).trans (topK_at P b s _)
  · exact (congrArg _ (hal _)).trans (topK_at P b s _)

end Cert.Proof.RefTop

end
-- ==== Proof.Task.lean ====
/-
  A tile's whole task: the counts zeroed, four trips of groups, the counts written to the tile's row of the result.
-/
module

public import proofs.«01_k».proof.Proof.Group

@[expose] public section

noncomputable section

namespace Cert.Proof.Task

open Cert.KernelIdeal Cert.KernelIdeal.Gen

open Idealize.ShloMosaic
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Lanes Cert.Proof.Rows Cert.Proof.Tile Cert.Proof.Base Cert.Proof.Passes Cert.Proof.Words Cert.Proof.Count Cert.Proof.Row Cert.Proof.Dma Cert.Proof.Group

variable {F : FTy → Type} [FloatOps F] [Named F]

local notation "𝕄" => MT nD τ sig (HIx 1) (Elt F) ℕ UU ℕ

variable (d : Dev nD) (L : grid1.Coords)

/-- What the kernel computes: for each worker, the number of its rows that hit a place. -/
def res (X : (Tile.V 4096000).Idx → BitVec 32) : S32x65536.Idx → F .f32 := fun i => onesF (F := F) (hits X (i 0).val 2000 (i 1).val)

theorem iota_lanes : (iota .scVector S16 32 [0] iota_S16_d0_w32_scVector : IVec S16 32) = lanes := by
  funext x
  show BitVec.ofNat 32 (0 * 16 + (x 0).val) = BitVec.ofNat 32 (x 0).val
  rw [Nat.zero_mul, Nat.zero_add]

theorem start (X : (Tile.V 4096000).Idx → BitVec 32) (c : (Tile.V 65536).Idx → F .f32) (hc : Below (z (F := F)) 65536 c) : CntOK (F := F) (hits X (wid L) (16 * (wid L + 32 * 0))) c := by
  have hw := wid_lt L
  intro n hn
  have h0 : hits X (wid L) (0 + 16 * (wid L + 32 * 0)) n = 0 :=
    (hits_skip X (wid L) 0 n (16 * (wid L + 32 * 0)) (fun r h1 h2 h3 => by omega)).trans (hits_zero X (wid L) n)
  rw [Nat.zero_add] at h0
  rw [h0]
  exact hc n hn

theorem finish (X : (Tile.V 4096000).Idx → BitVec 32) (n : ℕ) : hits X (wid L) (16 * (wid L + 32 * 4)) n = hits X (wid L) 2000 n := by
  rw [← hits_skip X (wid L) 2000 n (16 * wid L + 48) (fun r h1 h2 h3 => by omega)]
  congr 1
  omega

/-- What a tile's task is given, -/
def Given (q : PosShare TreeShare) (X : Buf (Elt F) ((xV).view.loc (thr' d L))) (o : Buf (Elt F) ((oRow L).view.loc (thr' d L))) (O : CellTallies nD τ sig (HIx 1)) (W : Waits sig (HIx 1)) : sProp 𝕄 :=
  iprop((∃ f, kPts d L f) ∗ (∃ g, cPts d L g) ∗ (∃ c, nPts d L c) ∗ Transfers.MayWaits (thr' d L) (none : HIx 1) O ∗ xPts d L q X
    ∗ semVal (thr' d L, SemLoc.dma cc1_scoped0.sem) 0 ∗ semVal (thr' d L, SemLoc.dma cc1_scoped1.sem) 0 ∗ oPts d L o ∗ Own d L O W)

theorem task (q : PosShare TreeShare) (X : Buf (Elt F) ((xV).view.loc (thr' d L))) (hX : KeysOK X) (o : Buf (Elt F) ((oRow L).view.loc (thr' d L)))
    (O : CellTallies nD τ sig (HIx 1)) (W : Waits sig (HIx 1)) :
    Given d L q X o O W ⊢ wpT d L (cc1__sc_topk L xV (Memref.isWhole_whole _) oV (Memref.isWhole_whole _) sK (Memref.isWhole_whole _) sC (Memref.isWhole_whole _)
        sN (Memref.isWhole_whole _) cc1_scoped0 cc1_scoped1) fun _ => iprop(∃ o', ⌜∀ (n : ℕ) (hn : n < 65536), o' (at2 (wid L) n (wid_lt L) hn) = onesF (F := F) (hits X (wid L) 2000 n)⌝ ∗ Given d L q X o' O W) := by
  rw [cc1__sc_topk_eq_skeleton]
  unfold cc1__sc_topk_skel Given
  rw [iota_lanes]
  simp only [Prog.lift, Prog.bind_op, Prog.bind_ret, Prog.pure_eq_ret, bind_assoc]
  iintro ⟨Hk, Hc, ⟨%c, Hn⟩, Hmw, Hx, Hs0, Hs1, Ho, HO⟩
  iapply (wp_seq (d := d) (L := L) (zeros d L c _) (R := iprop((∃ f, kPts d L f) ∗ (∃ g, cPts d L g) ∗ Transfers.MayWaits (thr' d L) (none : HIx 1) O ∗ xPts d L q X
    ∗ semVal (thr' d L, SemLoc.dma cc1_scoped0.sem) 0 ∗ semVal (thr' d L, SemLoc.dma cc1_scoped1.sem) 0 ∗ oPts d L o ∗ Own d L O W)) fun a => ?_)
  rotate_left
  · isplitl [Hn]; · iexact Hn
    isplitl [Hk]; · iexact Hk
    isplitl [Hc]; · iexact Hc
    isplitl [Hmw]; · iexact Hmw
    isplitl [Hx]; · iexact Hx
    isplitl [Hs0]; · iexact Hs0
    isplitl [Hs1]; · iexact Hs1
    isplitl [Ho]; · iexact Ho
    iexact HO
  iintro ⟨⟨%c', %hc', Hn⟩, Hk, Hc, Hmw, Hx, Hs0, Hs1, Ho, HO⟩
  iapply (wp_seq (d := d) (L := L) (wp_loop (d := d) (L := L) k1_t2_loop _ ⟨⟩ _ (fun t _ => Group.Held d L q X O W t) (fun t _ => group d L q X hX O W t))
    (R := iprop(semVal (thr' d L, SemLoc.dma cc1_scoped1.sem) 0 ∗ oPts d L o)) fun a => ?_)
  rotate_left
  · isplitr [Hs1 Ho]
    · unfold Group.Held
      isplitl [Hk]; · iexact Hk
      isplitl [Hc]; · iexact Hc
      isplitl [Hn]
      · iexists c'
        isplitr; · ipureintro; exact start L X c' hc'
        iexact Hn
      isplitl [Hmw]; · iexact Hmw
      isplitl [Hx]; · iexact Hx
      isplitl [Hs0]; · iexact Hs0
      iexact HO
    isplitl [Hs1]; · iexact Hs1
    iexact Ho
  unfold Group.Held
  iintro ⟨⟨Hk, Hc, ⟨%c'', %hc'', Hn⟩, Hmw, Hx, Hs0, HO⟩, Hs1, Ho⟩
  iapply (writeOut d L c'' o O W (R := iprop((∃ f, kPts d L f) ∗ (∃ g, cPts d L g) ∗ xPts d L q X ∗ semVal (thr' d L, SemLoc.dma cc1_scoped0.sem) 0)) fun o' ho' => ?_)
  · unfold wpT
    rw [wp_ret]
    iintro ⟨Hn, Ho, Hmw, Hs1, HO, Hk, Hc, Hx, Hs0⟩
    imodintro
    iexists o'
    isplitr
    · ipureintro
      intro n hn
      rw [ho' n hn, ← finish L X n]
      exact hc'' n hn
    isplitl [Hk]; · iexact Hk
    isplitl [Hc]; · iexact Hc
    isplitl [Hn]; · iexists c''; iexact Hn
    isplitl [Hmw]; · iexact Hmw
    isplitl [Hx]; · iexact Hx
    isplitl [Hs0]; · iexact Hs0
    isplitl [Hs1]; · iexact Hs1
    isplitl [Ho]; · iexact Ho
    iexact HO
  · isplitl [Hn]; · iexact Hn
    isplitl [Ho]; · iexact Ho
    isplitl [Hmw]; · iexact Hmw
    isplitl [Hs1]; · iexact Hs1
    isplitl [HO]; · iexact HO
    isplitl [Hk]; · iexact Hk
    isplitl [Hc]; · iexact Hc
    isplitl [Hx]; · iexact Hx
    iexact Hs0

end Cert.Proof.Task

end
-- ==== Proof.Launch.lean ====
/-
  The launch of the SparseCore call: the keys' share and the sixteen rows of the result that each SparseCore is handed, a
  tile's share and row, and what a tile does with them.
-/
module

public import proofs.«01_k».proof.Proof.Task

@[expose] public section

noncomputable section

namespace Cert.Proof.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Base Cert.Proof.Words Cert.Proof.Count Cert.Proof.Dma Cert.Proof.Group Cert.Proof.Task

variable {F : FTy → Type}

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

local notation "𝕄" => MT nD τ sig (HIx 1) (Elt F) ℕ UU ℕ

variable (m : (ℓ : Loc nD τ sig) → Buf (Elt F) ℓ) (ρ : Dev nD → PrngReg)

abbrev xLoc (d : Dev nD) : Loc nD τ sig := (SparseCore.T d).loc main_v1
abbrev oLoc (d : Dev nD) : Loc nD τ sig := (SparseCore.T d).loc main_v2

-- The keys, as the call finds them.
variable (X : (d : Dev nD) → Buf (Elt F) (xLoc d))

variable [FloatOps F] [Named F]

/-! ## Shares and rows -/

/-- A SparseCore's share of the keys, and a tile's of that. -/
def qC (c : Fin 2) : PosShare TreeShare := Transfers.dealOf fullShare Finset.univ c
def qT (c : Fin 2) (i : Fin 16) : PosShare TreeShare := Transfers.dealOf (qC c) Finset.univ i

/-- The rows of the result a SparseCore's tiles write, and one tile's. -/
def coreSet (c : Fin 2) : Finset S32x65536.Idx := Finset.univ.filter fun i => (i 0).val % 2 = c.val
def rowSet (c : Fin 2) (j : Fin 16) : Finset S32x65536.Idx := Finset.univ.filter fun i => (i 0).val = 2 * j.val + c.val

def forCore (d : Dev nD) (o : Buf (Elt F) (oLoc d)) (c : Fin 2) : sProp 𝕄 := iprop((xLoc d ↦{qC c} X d) ∗ oLoc d ↦[coreSet c]{fullShare} o)
def forTile (d : Dev nD) (o : Buf (Elt F) (oLoc d)) (c : Fin 2) (j : Fin 16) : sProp 𝕄 := iprop((xLoc d ↦{qT c j} X d) ∗ oLoc d ↦[rowSet c j]{fullShare} o)

instance forCore_storable (d : Dev nD) (o : Buf (Elt F) (oLoc d)) (c : Fin 2) : BI.Storable (upEmb : UEmb _ 𝕄) (forCore X d o c) := by unfold forCore; infer_instance
instance forTile_storable (d : Dev nD) (o : Buf (Elt F) (oLoc d)) (c : Fin 2) (j : Fin 16) : BI.Storable (upEmb : UEmb _ 𝕄) (forTile X d o c j) := by unfold forTile; infer_instance

/-- The result of the call. -/
abbrev out (d : Dev nD) : Buf (Elt F) (oLoc d) := res (F := F) (X d)

def P : (K (F := F)).Pay (nD := nD) (Val := Elt F) (Name := ℕ) (U := UU) where
  st := fun q d c => match q with | 0 => forCore X d (m (oLoc d)) (Fin.cast nCore_zero c)
  dn := fun q d c => match q with | 0 => forCore X d (out X d) (Fin.cast nCore_zero c)
  go := fun q d c i => match q with | 0 => forTile X d (m (oLoc d)) (Fin.cast nCore_zero c) (Fin.cast nSub_zero i)
  td := fun q d c i => match q with | 0 => forTile X d (out X d) (Fin.cast nCore_zero c) (Fin.cast nSub_zero i)
  x := fun _ _ => iprop(emp)

instance P_storable : (P (F := F) m X).IsStorable where
  st q d c := match q with | 0 => forCore_storable X d _ _
  dn q d c := match q with | 0 => forCore_storable X d _ _
  go q d c i := match q with | 0 => forTile_storable X d _ _ _
  td q d c i := match q with | 0 => forTile_storable X d _ _ _

theorem cores_split (d : Dev nD) (o : Buf (Elt F) (oLoc d)) :
    (iprop((xLoc d ↦{fullShare} X d) ∗ oLoc d ↦{fullShare} o) : sProp 𝕄) = bigSep Finset.univ fun c : Fin 2 => forCore X d o c := by
  unfold forCore
  rw [bigSep_sep', ← pointsTo_biUnion Finset.univ (ℓ := oLoc d) coreSet, show Finset.univ.biUnion coreSet = Finset.univ from ?_]
  · congr 1
    exact Transfers.pointsTo_deal (ℓ := xLoc d) (S := Finset.univ) (f := X d) (Finset.univ : Finset (Fin 2)) ⟨0, Finset.mem_univ _⟩ fullShare
  rotate_left 1
  · intro c _ c' _ h
    refine Finset.disjoint_left.mpr fun i h1 h2 => h ?_
    exact Fin.ext ((Finset.mem_filter.mp h1).2.symm.trans (Finset.mem_filter.mp h2).2)
  · refine Finset.eq_univ_of_forall fun i => Finset.mem_biUnion.mpr ⟨⟨(i 0).val % 2, Nat.mod_lt _ (by decide)⟩, Finset.mem_univ _, ?_⟩
    exact Finset.mem_filter.mpr ⟨Finset.mem_univ _, rfl⟩

theorem tiles_split (d : Dev nD) (o : Buf (Elt F) (oLoc d)) (c : Fin 2) :
    (forCore X d o c : sProp 𝕄) = bigSep Finset.univ fun j : Fin 16 => forTile X d o c j := by
  unfold forCore forTile
  rw [bigSep_sep', ← pointsTo_biUnion Finset.univ (ℓ := oLoc d) (rowSet c), show Finset.univ.biUnion (rowSet c) = coreSet c from ?_]
  · congr 1
    exact Transfers.pointsTo_deal (ℓ := xLoc d) (S := Finset.univ) (f := X d) (Finset.univ : Finset (Fin 16)) ⟨0, Finset.mem_univ _⟩ (qC c)
  rotate_left 1
  · intro j _ j' _ h
    refine Finset.disjoint_left.mpr fun i h1 h2 => h ?_
    have e1 := (Finset.mem_filter.mp h1).2
    have e2 := (Finset.mem_filter.mp h2).2
    exact Fin.ext (by omega)
  · ext i
    have hc := c.isLt
    have hi : (i 0).val < 32 := (i 0).isLt
    constructor
    · intro h
      obtain ⟨j, -, hj⟩ := Finset.mem_biUnion.mp h
      have e := (Finset.mem_filter.mp hj).2
      exact Finset.mem_filter.mpr ⟨Finset.mem_univ _, by omega⟩
    · intro h
      have e := (Finset.mem_filter.mp h).2
      refine Finset.mem_biUnion.mpr ⟨⟨(i 0).val / 2, by omega⟩, Finset.mem_univ _, Finset.mem_filter.mpr ⟨Finset.mem_univ _, ?_⟩⟩
      show (i 0).val = 2 * ((i 0).val / 2) + c.val
      omega

/-! ## A tile -/

section Tile

variable (d : Dev nD) (L : grid1.Coords)

abbrev cL (L : grid1.Coords) : Fin 2 := ⟨(L 0).val, (L 0).isLt⟩
abbrev jL (L : grid1.Coords) : Fin 16 := ⟨(L 1).val, (L 1).isLt⟩
abbrev s0cell : GSem nD τ sig := (thr' d L, SemLoc.dma cc1_scoped0.sem)
abbrev s1cell : GSem nD τ sig := (thr' d L, SemLoc.dma cc1_scoped1.sem)

theorem ownSems0_V :
    (ownSems0 (thr' d L) : sProp 𝕄) = iprop(semVal (s0cell d L) 0 ∗ semVal (s1cell d L) 0
      ∗ bigSep (((ownCells (thr' d L)).erase (s0cell d L)).erase (s1cell d L)) fun g => semVal g 0) := by
  unfold SparseCore.Cfg.ownSems0
  rw [SparseCore.bigSep_erase' ((mem_ownCells (g := s0cell d L)).mpr ⟨rfl, by
      show (SemLoc.dma cc1_scoped0.sem : SemLoc sig).isScoped .scVector = true; decide⟩),
    SparseCore.bigSep_erase' (Finset.mem_erase.mpr ⟨by simp [s0cell, s1cell]; decide, (mem_ownCells (g := s1cell d L)).mpr ⟨rfl, by
      show (SemLoc.dma cc1_scoped1.sem : SemLoc sig).isScoped .scVector = true; decide⟩⟩)]

theorem ownBufs_V :
    (ownBufs (thr' d L) : sProp 𝕄)
      = iprop((∃ f, kPts d L f) ∗ (∃ f, cPts d L f) ∗ (∃ f, nPts d L f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

theorem row_set : (oRow L).view.set = rowSet (cL L) (jL L) := by
  ext i
  constructor
  · intro h
    obtain ⟨j, -, rfl⟩ := Finset.mem_map.mp h
    refine Finset.mem_filter.mpr ⟨Finset.mem_univ _, ?_⟩
    rw [row_emb]; rfl
  · intro h
    have e := (Finset.mem_filter.mp h).2
    refine Finset.mem_map.mpr ⟨Shape.ofLane (d := ![65536]) (i 1), Finset.mem_univ _, ?_⟩
    rw [row_emb]
    funext a
    apply Fin.ext
    match a with
    | 0 => exact e.symm
    | 1 => rfl

theorem oPts_eq (f : Buf (Elt F) (oLoc d)) : (oPts d L f : sProp 𝕄) = oLoc d ↦[rowSet (cL L) (jL L)]{fullShare} f := by
  unfold oPts
  rw [row_set]

theorem xPts_eq (q : PosShare TreeShare) (f : Buf (Elt F) (xLoc d)) : (xPts d L q f : sProp 𝕄) = xLoc d ↦{q} f := by
  unfold xPts
  simp only [Memref.view_whole, View.set_whole]

theorem landed_row (X : Buf (Elt F) (xLoc d)) (f : Buf (Elt F) (oLoc d))
    (hf : ∀ (n : ℕ) (hn : n < 65536), f (at2 (wid L) n (wid_lt L) hn) = onesF (F := F) (hits X (wid L) 2000 n)) :
    (oLoc d ↦[rowSet (cL L) (jL L)]{fullShare} f : sProp 𝕄) = oLoc d ↦[rowSet (cL L) (jL L)]{fullShare} (res (F := F) X) := by
  refine pointsTo_congr fun i hi => ?_
  have e := (Finset.mem_filter.mp hi).2
  have hi2 : (i 1).val < 65536 := (i 1).isLt
  have hi' : i = at2 (wid L) (i 1).val (wid_lt L) hi2 := by
    funext a
    apply Fin.ext
    match a with
    | 0 => exact e
    | 1 => rfl
  rw [hi', hf]
  rfl

theorem tile_body (hX : KeysOK (X d)) (O : CellTallies nD τ sig (HIx 1)) (W : Waits sig (HIx 1)) (hO : ∀ g, O g none = 0) :
    iprop(levAts (K (F := F)).L (K (F := F)).lev ∗ emp ∗ forTile X d (m (oLoc d)) (cL L) (jL L)
        ∗ scopedBufs (thr' d L) ∗ scopedSems0 (thr' d L) ∗ owes (thr' d L) O W)
      ⊢ wp frame (wpE (defs₀ (F := F)) 𝒱₀ (thr' d L) none) Set.univ
          (cc1__sc_topk L xV (Memref.isWhole_whole _) oV (Memref.isWhole_whole _) sK (Memref.isWhole_whole _) sC (Memref.isWhole_whole _)
            sN (Memref.isWhole_whole _) cc1_scoped0 cc1_scoped1)
          fun _ => iprop(forTile X d (out X d) (cL L) (jL L) ∗ scopedBufs (thr' d L) ∗ scopedSems0 (thr' d L)
            ∗ ∃ W', ⌜∀ p ∈ W', p ∈ W ∨ p.2 = none⌝ ∗ owes (thr' d L) O W') := by
  rw [(K (F := F)).scopedBufs_V facts d (cV L) (jV L), SparseCore.Cfg.scopedSems0_V (Val := Elt F) d (cV L) (jV L), ownSems0_V, ownBufs_V]
  unfold forTile
  iintro ⟨#Hlv, -, ⟨Hx, Ho⟩, ⟨Hk, Hc, Hn, Hbufs⟩, ⟨Hs0, Hs1, Hsems⟩, HO⟩
  ihave Hmw := ((K (F := F)).mayWaits_none (thr := thr' d L) hO) $$ Hlv
  ihave Hx' := (Entails.of_eq (xPts_eq (F := F) d L (qT (cL L) (jL L)) (X d)).symm) $$ Hx
  ihave Ho' := (Entails.of_eq (oPts_eq (F := F) d L (m (oLoc d))).symm) $$ Ho
  iapply (wp_wand_r Idealize.ShloMosaic.frame (wpE (defs₀ (F := F)) 𝒱₀ (thr' d L) none) Set.univ)
  isplitl [Hmw Hx' Ho' Hk Hc Hn Hs0 Hs1 HO]
  · iapply (task d L (qT (cL L) (jL L)) (X d) hX (m (oLoc d)) O W)
    unfold Given Own
    isplitl [Hk]; · iexact Hk
    isplitl [Hc]; · iexact Hc
    isplitl [Hn]; · iexact Hn
    isplitl [Hmw]; · iexact Hmw
    isplitl [Hx']; · iexact Hx'
    isplitl [Hs0]; · iexact Hs0
    isplitl [Hs1]; · iexact Hs1
    isplitl [Ho']; · iexact Ho'
    iexists W
    isplitr; · ipureintro; exact fun p hp => .inl hp
    iexact HO
  · unfold Given Own
    iintro %_ ⟨%o', %ho', Hk, Hc, Hn, -, Hx, Hs0, Hs1, Ho, HO⟩
    isplitl [Hx Ho]
    · isplitl [Hx]
      · iapply (Entails.of_eq (xPts_eq (F := F) d L (qT (cL L) (jL L)) (X d))) $$ Hx
      · iapply (Entails.of_eq ((oPts_eq (F := F) d L o').trans (landed_row d L (X d) o' ho'))) $$ Ho
    isplitl [Hk Hc Hn Hbufs]
    · isplitl [Hk]; · iexact Hk
      isplitl [Hc]; · iexact Hc
      isplitl [Hn]; · iexact Hn
      iexact Hbufs
    isplitl [Hs0 Hs1 Hsems]
    · isplitl [Hs0]; · iexact Hs0
      isplitl [Hs1]; · iexact Hs1
      iexact Hsems
    iexact HO

end Tile

/-! ## The launch theorem's obligations -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_topk (coordsV c s)
          xV (Memref.isWhole_whole _) oV (Memref.isWhole_whole _) sK (Memref.isWhole_whole _) sC (Memref.isWhole_whole _)
            sN (Memref.isWhole_whole _) cc1_scoped0 cc1_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hX : ∀ d : Dev nD, KeysOK (X d)) : (K (F := F)).TileObl (D (F := F)) 𝒱 (P m X) v₀ 0 := by
  intro d c i O W hO _ _
  simp only [show (P m X).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body m X d (coordsV ⟨_, hc.1⟩ ⟨_, hc.2⟩) (hX d) O W hO).trans (wp_mono frame _ _ fun _ => obl_post)

theorem vecSplit : (K (F := F)).VecSplit' (P m X) 0 := by
  intro d c
  show forCore X d (m (oLoc d)) (Fin.cast nCore_zero c) ⊢ |={Set.univ}=> iprop(
      (bigSep (Finset.univ : Finset (Fin 16)) fun i => forTile X d (m (oLoc d)) (Fin.cast nCore_zero c) i)
      ∗ ((bigSep (Finset.univ : Finset (Fin 16)) fun i => forTile X d (out X d) (Fin.cast nCore_zero c) i) -∗ forCore X d (out X d) (Fin.cast nCore_zero c)))
  rw [← tiles_split, ← tiles_split]
  iintro H; imodintro
  isplitl [H]; · iexact H
  iintro H; iexact H

end Cert.Proof.Launch

end
-- ==== Proof.Pack.lean ====
/-
  The packing call: one point of its grid is one batch. The body loads the batch's noise and its scores and stores the
  keys of its samples. The call's proof data are stated at any contents of the TensorCore's buffers; all the while the
  core owes the start of the SparseCore call that follows.
-/
module

public import proofs.«01_k».proof.Proof.Base
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Regions
public import Idealize.ShloMosaic.Lib.Ring
public import Idealize.ShloMosaic.Lib.VecWindow
public import Idealize.ShloMosaic.Lib.Tactic

@[expose] public section

set_option maxRecDepth 16384

noncomputable section

namespace Cert.Proof.Pack

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Base (UU)

variable {F : FTy → Type} [FloatOps F] [Named F]

local notation "𝕄" => MT nD τ sig (HIx 1) (Elt F) ℕ UU ℕ

/-! ## The body -/

/-- What the body stores. -/
def pieces (x0 : Vec F S1x500x2048 .f32) (x1 : Vec F S1x1x2048 .f32) : List (View.Piece (Elt F) S1x500x2048 .i32) :=
  [⟨Rect.unit (s := S1x500x2048) ![0, 0, 0] S1x500x2048.size inb_S1x500x2048_S1x500x2048_0_0_0, k0_pay1 x1 x0⟩]

set_option maxHeartbeats 1000000 in
/-- The body's run on whole staging buffers. -/
theorem kernelRun (c : Dev nD) (i : grid0.Coords) (arg1 : Memref sig .tc .vmem S1x500x2048 .f32) (harg1 : arg1.IsWhole) (arg2 : Memref sig .tc .vmem S1x1x2048 .f32) (harg2 : arg2.IsWhole)
    (arg3 : Memref sig .tc .vmem S1x500x2048 .i32) (harg3 : arg3.IsWhole)
    (x0 : Vec F S1x500x2048 .f32) (x1 : Vec F S1x1x2048 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
          ∗ (∃ f, arg3.view.loc (c : Thread nD τ) ↦[arg3.view.set]{fullShare} arg3.view.writes (Elt F) f (pieces x0 x1))) -∗ K ⟨⟩))
      ⊢ wp frame (wpE (defs₀ (F := F)) Variants.none c none) E (cc0__pack_kernel i arg1 harg1 arg2 harg2 arg3 harg3) K := by
  simp only [cc0__pack_kernel_eq_skeleton]; unfold cc0__pack_kernel_skel
  unfold owns
  iintro ⟨⟨%f0, %hf0, H0⟩, ⟨%f1, %hf1, H1⟩, ⟨%d2, %f2, -, H2⟩, Hk⟩
  have e0 := (arg1.view.readAt_full (Val := Elt F) f0 inb_S1x500x2048_S1x500x2048_0_0_0).trans hf0
  have e1 := (arg2.view.readAt_full (Val := Elt F) f1 inb_S1x1x2048_S1x1x2048_0_0_0).trans hf1
  subst e0 e1
  sl_exec
  sl_step
  iapply Hk
  isplitl [H0]
  · iexists f0; isplitr; · ipureintro; exact hf0
    iexact H0
  isplitl [H1]
  · iexists f1; isplitr; · ipureintro; exact hf1
    iexact H1
  iexists f2
  unfold pieces
  iexact H2

/-- The store covers the block. -/
theorem cover (x0 : Vec F S1x500x2048 .f32) (x1 : Vec F S1x1x2048 .f32) (y : S1x500x2048.Idx) : ∃ pc ∈ pieces x0 x1, y ∈ pc.1.set :=
  View.cover_of_tiledBy (pieces x0 x1) ![1, 500, 2048] (by sl_kernel_rfl) y

/-- One staging buffer of the keys. -/
abbrev VO : View sig .tc .vmem S1x500x2048 .i32 := (Memref.whole cc0_stg2_0 : Memref sig .tc .vmem S1x500x2048 .i32).view

/-- What the body leaves in the keys' staging buffer. -/
def blockOut (x0 : Vec F S1x500x2048 .f32) (x1 : Vec F S1x1x2048 .f32) : Vec F S1x500x2048 .i32 :=
  VO.read (Elt F) (VO.writes (Elt F) VO.junk (pieces x0 x1))

/-! ## The proof data -/

variable (V : (c : Dev nD) → (b : Ref sig .tc) → Buf (Elt F) ((c : Thread nD τ).loc b))

/-- A window's block at a point, read off its array. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The keys' block at a point. -/
def outsAt (c : Dev nD) (t : Fin cfg0.N) : Vec F S1x500x2048 .i32 := blockOut (iblk V c 0 t) (iblk V c 1 t)

/-- What the core owes while the call runs: the start of the SparseCore call. -/
abbrev dues (c : Dev nD) : CellTallies nD τ sig (HIx 1) := (Base.K (F := F)).Otc c 0

/-- The call's proof data: its arrays at `V`; after the body each operand's buffer at its block and the result's at
    `outsAt`; the SparseCore call's start owed and no wait of a later call recorded; full shares. -/
def dats (_ : Fin 1) (c : Dev nD) : Dat τ (Elt F) (HIx 1) ℕ UU ℕ cfg0 c where
  A w := V c (Pipeline.arrRef spec0 w)
  after w t := match w with
    | ⟨0, _⟩ => iblk V c 0 t
    | ⟨1, _⟩ => iblk V c 1 t
    | ⟨2, _⟩ => outsAt V c t
  Φ _ := Pipeline.scopedRest (Ix := HIx 1) (Name := ℕ) (U := UU) (Lvl := ℕ) (Val := Elt F) spec0 c
  q _ := fullShare
  owed _ := dues (F := F) c
  recorded _ := {p | p.2 = none}

theorem A_eq (c : Dev nD) (w : Fin cfg0.W) : (dats V 0 c).A w = V c (Pipeline.arrRef spec0 w) := by dsimp only [dats]

theorem after_0 (c : Dev nD) (t : Fin cfg0.N) : (dats V 0 c).after 0 t = iblk V c 0 t := by dsimp only [dats]
theorem after_1 (c : Dev nD) (t : Fin cfg0.N) : (dats V 0 c).after 1 t = iblk V c 1 t := by dsimp only [dats]
theorem after_2 (c : Dev nD) (t : Fin cfg0.N) : (dats V 0 c).after 2 t = outsAt V c t := by dsimp only [dats]

/-- An operand's staging buffer holds its block when the body runs. -/
theorem before_0 (c : Dev nD) (t : Fin cfg0.N) (d) : (dats V 0 c).before 0 t d = iblk V c 0 t :=
  ((dats V 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin cfg0.N) (d) : (dats V 0 c).before 1 t d = iblk V c 1 t :=
  ((dats V 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)

/-! ## The body at a point -/

def bodyPre (c : Dev nD) (t : Fin cfg0.N) : sProp 𝕄 :=
  iprop((dats V 0 c).Φ t.castSucc ∗ (dats V 0 c).owesAt none t.castSucc
    ∗ (∃ d, owns (c : Thread nD τ) (st0_0 t) fullShare ((dats V 0 c).before 0 t d))
    ∗ (∃ d, owns (c : Thread nD τ) (st0_1 t) fullShare ((dats V 0 c).before 1 t d))
    ∗ (∃ d, owns (c : Thread nD τ) (st0_2 t) fullShare ((dats V 0 c).before 2 t d)))

def bodyPost (c : Dev nD) (t : Fin cfg0.N) : sProp 𝕄 :=
  iprop((dats V 0 c).Φ t.succ ∗ (dats V 0 c).owesAt none t.succ
    ∗ owns (c : Thread nD τ) (st0_0 t) fullShare ((dats V 0 c).after 0 t)
    ∗ owns (c : Thread nD τ) (st0_1 t) fullShare ((dats V 0 c).after 1 t)
    ∗ owns (c : Thread nD τ) (st0_2 t) fullShare ((dats V 0 c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dats V 0 c).Φ t.succ = (dats V 0 c).Φ t.castSucc from rfl,
    show (dats V 0 c).owesAt none t.succ = (dats V 0 c).owesAt none t.castSucc from rfl,
    after_0, after_1, after_2]
  unfold outsAt blockOut
  iintro ⟨HΦ, Ho, ⟨%d0, H0⟩, ⟨%d1, H1⟩, ⟨%d2, H2⟩⟩
  iapply (kernelRun c (grid0.coords t) _ _ _ _ _ _ (iblk V c 0 t) (iblk V c 1 t) Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover _ _)

/-- The body's row of the table of bodies. -/
theorem defs₀_row (t : Fin cfg0.N) : defs₀ (F := F) .tc cfg0.body (cfg0.bodyArgs t (cfg0.slots t)) = bodyAt0 t := rfl

theorem body_obligation (c : Dev nD) : BodyObligation (dats (F := F) V 0 c) (defs₀ (F := F)) Variants.none none Set.univ := fun t => by
  rw [bigSep_W0, bigSep_W0, defs₀_row]
  exact triple_restated (sound_body V c t) rfl .rfl fun _ => .rfl

end Cert.Proof.Pack

end
-- ==== Proof.Select.lean ====
/-
  The product call: one point of its grid is one batch. The body loads the batch's block of counts, of features and of
  the class feature, and stores the class feature in row 0 and the scaled product in rows 1 to 8. The call's proof data
  are stated at any contents of the TensorCore's buffers.
-/
module

public import proofs.«01_k».proof.Proof.Base
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Regions
public import Idealize.ShloMosaic.Lib.Ring
public import Idealize.ShloMosaic.Lib.VecWindow
public import Idealize.ShloMosaic.Lib.Tactic

@[expose] public section

set_option maxRecDepth 16384

noncomputable section

namespace Cert.Proof.Select

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Base (UU)

variable {F : FTy → Type} [FloatOps F] [Named F]

local notation "𝕄" => MT nD τ sig (HIx 1) (Elt F) ℕ UU ℕ

/-! ## The body -/

/-- What the body stores, the last store first. -/
def pieces (x0 : Vec F S32x1x8x2048 .f32) (x1 : Vec F S1x2048x768 .f32) (x2 : Vec F S1x1x768 .f32) : List (View.Piece (Elt F) S1x9x768 .f32) :=
  [⟨Rect.unit (s := S1x9x768) ![0, 1, 0] S1x8x768.size inb_S1x9x768_S1x8x768_0_1_0, k2_pay2 x0 x1⟩,
    ⟨Rect.unit (s := S1x9x768) ![0, 0, 0] S1x1x768.size inb_S1x9x768_S1x1x768_0_0_0, k2_pay1 x2⟩]

set_option maxHeartbeats 1000000 in
/-- The body's run on whole staging buffers. -/
theorem kernelRun (c : Dev nD) (i : grid2.Coords) (arg1 : Memref sig .tc .vmem S32x1x8x2048 .f32) (harg1 : arg1.IsWhole) (arg2 : Memref sig .tc .vmem S1x2048x768 .f32) (harg2 : arg2.IsWhole)
    (arg3 : Memref sig .tc .vmem S1x1x768 .f32) (harg3 : arg3.IsWhole) (arg4 : Memref sig .tc .vmem S1x9x768 .f32) (harg4 : arg4.IsWhole)
    (x0 : Vec F S32x1x8x2048 .f32) (x1 : Vec F S1x2048x768 .f32) (x2 : Vec F S1x1x768 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2
          ∗ (∃ f, arg4.view.loc (c : Thread nD τ) ↦[arg4.view.set]{fullShare} arg4.view.writes (Elt F) f (pieces x0 x1 x2))) -∗ K ⟨⟩))
      ⊢ wp frame (wpE (defs₀ (F := F)) Variants.none c none) E (cc2__select_kernel i arg1 harg1 arg2 harg2 arg3 harg3 arg4 harg4) K := by
  simp only [cc2__select_kernel_eq_skeleton]; unfold cc2__select_kernel_skel
  unfold owns
  iintro ⟨⟨%f0, %hf0, H0⟩, ⟨%f1, %hf1, H1⟩, ⟨%f2, %hf2, H2⟩, ⟨%d3, %f3, -, H3⟩, Hk⟩
  have e0 := (arg1.view.readAt_full (Val := Elt F) f0 inb_S32x1x8x2048_S32x1x8x2048_0_0_0_0).trans hf0
  have e1 := (arg2.view.readAt_full (Val := Elt F) f1 inb_S1x2048x768_S1x2048x768_0_0_0).trans hf1
  have e2 := (arg3.view.readAt_full (Val := Elt F) f2 inb_S1x1x768_S1x1x768_0_0_0).trans hf2
  subst e0 e1 e2
  sl_exec
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  iexists f3
  unfold pieces
  iexact H3

/-- The two stores cover the block. -/
theorem cover (x0 : Vec F S32x1x8x2048 .f32) (x1 : Vec F S1x2048x768 .f32) (x2 : Vec F S1x1x768 .f32) (y : S1x9x768.Idx) :
    ∃ pc ∈ pieces x0 x1 x2, y ∈ pc.1.set :=
  View.cover_of_tiledBy (pieces x0 x1 x2) ![1, 1, 768] (by sl_kernel_rfl) y

/-- One staging buffer of the result. -/
abbrev VO : View sig .tc .vmem S1x9x768 .f32 := (Memref.whole cc2_stg3_0 : Memref sig .tc .vmem S1x9x768 .f32).view

/-- What the body leaves in the result's staging buffer. -/
def blockOut (x0 : Vec F S32x1x8x2048 .f32) (x1 : Vec F S1x2048x768 .f32) (x2 : Vec F S1x1x768 .f32) : Vec F S1x9x768 .f32 :=
  VO.read (Elt F) (VO.writes (Elt F) VO.junk (pieces x0 x1 x2))

/-! ## The proof data -/

variable (V : (c : Dev nD) → (b : Ref sig .tc) → Buf (Elt F) ((c : Thread nD τ).loc b))

/-- A window's block at a point, read off its array. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The result's block at a point. -/
def outsAt (c : Dev nD) (t : Fin cfg2.N) : Vec F S1x9x768 .f32 := blockOut (iblk V c 0 t) (iblk V c 1 t) (iblk V c 2 t)

/-- The call's proof data: its arrays at `V`; after the body each operand's buffer at its block and the result's at
    `outsAt`; nothing owed; full shares. -/
def dats (_ : Fin 1) (c : Dev nD) : Dat τ (Elt F) (HIx 1) ℕ UU ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => outsAt V c t
  Φ _ := Pipeline.scopedRest (Ix := HIx 1) (Name := ℕ) (U := UU) (Lvl := ℕ) (Val := Elt F) spec2 c
  q _ := fullShare
  owed _ := 0

theorem A_eq (c : Dev nD) (w : Fin cfg2.W) : (dats V 0 c).A w = V c (Pipeline.arrRef spec2 w) := by dsimp only [dats]

theorem after_0 (c : Dev nD) (t : Fin cfg2.N) : (dats V 0 c).after 0 t = iblk V c 0 t := by dsimp only [dats]
theorem after_1 (c : Dev nD) (t : Fin cfg2.N) : (dats V 0 c).after 1 t = iblk V c 1 t := by dsimp only [dats]
theorem after_2 (c : Dev nD) (t : Fin cfg2.N) : (dats V 0 c).after 2 t = iblk V c 2 t := by dsimp only [dats]
theorem after_3 (c : Dev nD) (t : Fin cfg2.N) : (dats V 0 c).after 3 t = outsAt V c t := by dsimp only [dats]

/-- An operand's staging buffer holds its block when the body runs. -/
theorem before_0 (c : Dev nD) (t : Fin cfg2.N) (d) : (dats V 0 c).before 0 t d = iblk V c 0 t :=
  ((dats V 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin cfg2.N) (d) : (dats V 0 c).before 1 t d = iblk V c 1 t :=
  ((dats V 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)
theorem before_2 (c : Dev nD) (t : Fin cfg2.N) (d) : (dats V 0 c).before 2 t d = iblk V c 2 t :=
  ((dats V 0 c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)

/-! ## The body at a point -/

def bodyPre (c : Dev nD) (t : Fin cfg2.N) : sProp 𝕄 :=
  iprop((dats V 0 c).Φ t.castSucc ∗ (dats V 0 c).owesAt none t.castSucc
    ∗ (∃ d, owns (c : Thread nD τ) (st2_0 t) fullShare ((dats V 0 c).before 0 t d))
    ∗ (∃ d, owns (c : Thread nD τ) (st2_1 t) fullShare ((dats V 0 c).before 1 t d))
    ∗ (∃ d, owns (c : Thread nD τ) (st2_2 t) fullShare ((dats V 0 c).before 2 t d))
    ∗ (∃ d, owns (c : Thread nD τ) (st2_3 t) fullShare ((dats V 0 c).before 3 t d)))

def bodyPost (c : Dev nD) (t : Fin cfg2.N) : sProp 𝕄 :=
  iprop((dats V 0 c).Φ t.succ ∗ (dats V 0 c).owesAt none t.succ
    ∗ owns (c : Thread nD τ) (st2_0 t) fullShare ((dats V 0 c).after 0 t)
    ∗ owns (c : Thread nD τ) (st2_1 t) fullShare ((dats V 0 c).after 1 t)
    ∗ owns (c : Thread nD τ) (st2_2 t) fullShare ((dats V 0 c).after 2 t)
    ∗ owns (c : Thread nD τ) (st2_3 t) fullShare ((dats V 0 c).after 3 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dats V 0 c).Φ t.succ = (dats V 0 c).Φ t.castSucc from rfl,
    show (dats V 0 c).owesAt none t.succ = (dats V 0 c).owesAt none t.castSucc from rfl,
    after_0, after_1, after_2, after_3]
  unfold outsAt blockOut
  iintro ⟨HΦ, Ho, ⟨%d0, H0⟩, ⟨%d1, H1⟩, ⟨%d2, H2⟩, ⟨%d3, H3⟩⟩
  iapply (kernelRun c (grid2.coords t) _ _ _ _ _ _ _ _ (iblk V c 0 t) (iblk V c 1 t) (iblk V c 2 t) Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover _ _ _)

/-- The body's row of the table of bodies. -/
theorem defs₀_row (t : Fin cfg2.N) : defs₀ (F := F) .tc cfg2.body (cfg2.bodyArgs t (cfg2.slots t)) = bodyAt2 t := rfl

theorem body_obligation (c : Dev nD) : BodyObligation (dats (F := F) V 0 c) (defs₀ (F := F)) Variants.none none Set.univ := fun t => by
  rw [bigSep_W2, bigSep_W2, defs₀_row]
  exact triple_restated (sound_body V c t) rfl .rfl fun _ => .rfl

end Cert.Proof.Select

end
-- ==== Proof.SelectRegion.lean ====
/-
  The product call as one step of the TensorCore's program: entered with the unscoped buffers at `V`, left with them at
  `Vp`, which differs from `V` in the result's array only; and that array, block by block.
-/
module

public import proofs.«01_k».proof.Proof.Pack
public import proofs.«01_k».proof.Proof.Select
public import Idealize.ShloMosaic.Lib.Pipeline.RegionsLoop

@[expose] public section

set_option maxRecDepth 16384

noncomputable section

namespace Cert.Proof.Select

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Base (UU EP 𝒱₀)

variable {F : FTy → Type} [FloatOps F] [Named F]

local notation "𝕄" => MT nD τ sig (HIx 1) (Elt F) ℕ UU ℕ

variable (V : (c : Dev nD) → (b : Ref sig .tc) → Buf (Elt F) ((c : Thread nD τ).loc b))

/-! ## The region -/

abbrev adm : (p : Fin 2) → (pcfgs (F := F) p).Adm := fun p => (cfgs p).toPCfg_adm

/-- The proof data of the two calls. -/
abbrev pdats (p : Fin 2) (c : Dev nD) : Dat τ (Elt F) (HIx 1) ℕ UU ℕ (Pipeline.pin (pcfgs (F := F)) adm p) c :=
  match p with
  | ⟨0, _⟩ => Pack.dats V 0 c
  | ⟨1, _⟩ => dats V 0 c

/-- The result's array after the call. -/
def product (c : Dev nD) : Buf (Elt F) ((c : Thread nD τ).loc main_v4) := (dats V 0 c).arrAt 3 cfg2.N

abbrev KL : GSem nD τ sig → Finset (HIx 1) := (Base.K (F := F)).L
abbrev Klev : GSem nD τ sig → HIx 1 → ℕ := (Base.K (F := F)).lev

variable (Vp : (c : Dev nD) → (b : Ref sig .tc) → Buf (Elt F) ((c : Thread nD τ).loc b))

set_option backward.isDefEq.respectTransparency.types false in
/-- The call entered with every unscoped buffer at `V` and left with them at `Vp`. -/
def reg (hVp_out : ∀ c, Vp c main_v4 = product V c) (hVp_ne : ∀ c (b : Ref sig .tc), b ≠ main_v4 → Vp c b = V c b) :
    Pipeline.RegionSeg (pcfgs (F := F)) adm (pdats V) none defs₀ 𝒱₀ (KL (F := F)) (Klev (F := F)) 1 where
  win := (launch2).win.to₀
  block_pos := (launch2).block_pos
  stage_whole := (launch2).stage_whole
  K := PEmpty
  osem k := k.elim
  ho := Pipeline.OwnSemFacts.none _
  hbody c := (body_obligation V c).loose
  hwaits := Pipeline.hwaits_of_owed_zero _ _ _ _ (KL (F := F)) (Klev (F := F)) 1 fun _ _ => rfl
  pre c := iprop(unscopedBufs c (V c) ∗ ∃ W, owes (c : Thread nD τ) (0 : CellTallies nD τ sig (HIx 1)) W)
  post c := iprop(unscopedBufs c (Vp c) ∗ ∃ W, owes (c : Thread nD τ) (0 : CellTallies nD τ sig (HIx 1)) W)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats V) (launch2).win (launch2).arr_whole c
      ((pdats V 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pdats V 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) (launch2).win (launch2).arr_whole c
      (pdats V) ((pdats V 1 c).share_full fun _ => rfl) (V c) (Vp c) ((pdats V 1 c).arrAt · cfg2.N)
      (fun w => by
        fin_cases w
        · exact ((pdats V 1 c).arrAt_in 0 rfl _).trans (hVp_ne c main_v3 (by decide)).symm
        · exact ((pdats V 1 c).arrAt_in 1 rfl _).trans (hVp_ne c main_arg2 (by decide)).symm
        · exact ((pdats V 1 c).arrAt_in 2 rfl _).trans (hVp_ne c main_arg3 (by decide)).symm
        · exact (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The calls' staging cells are distinct. -/
theorem phinj : Function.Injective (Pipeline.cellOf (nD := nD) (τ := τ) (Pipeline.pin (pcfgs (F := F)) adm)) := cellOf_inj

/-- The call's step on a core. -/
theorem reg_wp [∀ e, Nonempty (Elt F e)] (hVp_out : ∀ c, Vp c main_v4 = product V c) (hVp_ne : ∀ c (b : Ref sig .tc), b ≠ main_v4 → Vp c b = V c b) (c : Dev nD)
    (Q : PUnit → sProp 𝕄) :
    iprop((iprop(boundary (c.tc : Thread nD τ) ∗ unscopedBufs c (Vp c) ∗ ∃ W, owes (c : Thread nD τ) (0 : CellTallies nD τ sig (HIx 1)) W) -∗ Q ⟨⟩)
        ∗ boundary (c.tc : Thread nD τ) ∗ (unscopedBufs c (V c) ∗ ∃ W, owes (c : Thread nD τ) (0 : CellTallies nD τ sig (HIx 1)) W)
        ∗ levAts (KL (F := F)) (Klev (F := F))
        ∗ Pipeline.cellsGhost (Pipeline.pin (pcfgs (F := F)) adm) EP 1 c ∗ Pipeline.toksInit (Pipeline.pin (pcfgs (F := F)) adm) EP 1 c)
      ⊢ wp frame (wpE (Base.D (F := F)) Base.𝒱 (c.tc : Thread nD τ) none) Set.univ (Prog.lift (.customCall (Pipeline.entry 1) ())) Q := by
  refine BI.Entails.trans ?_ (Pipeline.RegionSeg.wp (pcfgs (F := F)) adm (pdats V) none phinj EP defs₀ 𝒱₀ (KL (F := F)) (Klev (F := F)) (reg V Vp hVp_out hVp_ne) c none
    (fun _ h => nomatch h) (fun x => .ret x) Q)
  change _ ⊢ iprop((iprop(boundary (c.tc : Thread nD τ) ∗ unscopedBufs c (Vp c) ∗ ∃ W, owes (c : Thread nD τ) (0 : CellTallies nD τ sig (HIx 1)) W)
        -∗ wp frame (wpE (Base.D (F := F)) Base.𝒱 (c.tc : Thread nD τ) none) Set.univ (.ret ⟨⟩) Q) ∗ _)
  iintro ⟨Hk, Hr⟩
  isplitl [Hk]
  · iintro H
    rw [wp_ret]
    imodintro
    iapply Hk; iexact H
  iexact Hr

end Cert.Proof.Select

end
-- ==== Proof.SelectValue.lean ====
/-
  The product call's result, entry by entry: row 0 of a batch is the class feature, row `k + 1` is row `k` of the block's
  scaled product.
-/
module

public import proofs.«01_k».proof.Proof.SelectRegion
public import Idealize.ShloMosaic.Lib.Writes
public import Idealize.ShloMosaic.Lib.Pipeline.Value
public import Idealize.ShloMosaic.Lib.WritesUnit
public import Idealize.ShloMosaic.Lib.ValueIdx

@[expose] public section

set_option maxRecDepth 16384

noncomputable section

namespace Cert.Proof.Select

open Cert.KernelIdeal Cert.KernelIdeal.Gen

open Idealize.ShloMosaic Idealize.ShloMosaic.TcCoe Idealize.ShloMosaic.ValueIdx
open Idealize.ShloMosaic.Pipeline (Dat Cfg Window)

variable {F : FTy → Type} [FloatOps F] [Named F]

variable (V : (c : Dev nD) → (b : Ref sig .tc) → Buf (Elt F) ((c : Thread nD τ).loc b))

/-! ## What the body leaves in a block -/

theorem pay1_at (x2 : Vec F S1x1x768 .f32) (j : Fin 768) : k2_pay1 x2 (ix3 0 0 j) = x2 (ix3 0 0 j) := by
  unfold k2_pay1
  exact congrFun (shapeCast_shapeCast x2 _ _) _

/-- The two pieces, any payloads. -/
abbrev two (p2 : Vec F S1x8x768 .f32) (p1 : Vec F S1x1x768 .f32) : List (View.Piece (Elt F) S1x9x768 .f32) :=
  [⟨Rect.unit (s := S1x9x768) ![0, 1, 0] S1x8x768.size inb_S1x9x768_S1x8x768_0_1_0, p2⟩,
    ⟨Rect.unit (s := S1x9x768) ![0, 0, 0] S1x1x768.size inb_S1x9x768_S1x1x768_0_0_0, p1⟩]

abbrev rect0 : Rect S1x9x768 := Rect.unit (s := S1x9x768) ![0, 0, 0] S1x1x768.size inb_S1x9x768_S1x1x768_0_0_0
abbrev rect1 : Rect S1x9x768 := Rect.unit (s := S1x9x768) ![0, 1, 0] S1x8x768.size inb_S1x9x768_S1x8x768_0_1_0

theorem row0_not_mem (j : Fin 768) : (ix3 0 0 j : S1x9x768.Idx) ∉ rect1.set :=
  Rect.not_mem_set_of_axis rect1 (ix3 0 0 j : S1x9x768.Idx) (1 : Fin 3) 1 8 rfl rfl rfl (.inl (by show 0 < 1; omega))

theorem row0_emb (j : Fin 768) : rect0.emb (ix3 0 0 j : S1x1x768.Idx) = (ix3 0 0 j : S1x9x768.Idx) := by
  refine rect0.emb_eq_of_coords _ _ fun a => ?_
  match a with
  | ⟨0, _⟩ => rfl
  | ⟨1, _⟩ => rfl
  | ⟨2, _⟩ => show j.val = 0 + 1 * j.val; omega

theorem row_emb (k : Fin 8) (j : Fin 768) : rect1.emb (ix3 0 k j : S1x8x768.Idx) = (ix3 0 k.succ j : S1x9x768.Idx) := by
  refine rect1.emb_eq_of_coords _ _ fun a => ?_
  match a with
  | ⟨0, _⟩ => rfl
  | ⟨1, _⟩ => show k.val + 1 = 1 + 1 * k.val; omega
  | ⟨2, _⟩ => show j.val = 0 + 1 * j.val; omega

theorem read_row0 (v : View sig .tc .vmem S1x9x768 .f32) (p2 : Vec F S1x8x768 .f32) (p1 : Vec F S1x1x768 .f32) (f) (j : Fin 768) :
    v.read (Elt F) (v.writes (Elt F) f (two p2 p1)) (ix3 0 0 j : S1x9x768.Idx) = p1 (ix3 0 0 j : S1x1x768.Idx) := by
  refine (View.read_writes_cons_miss (Val := Elt F) v f ⟨rect1, p2⟩ [⟨rect0, p1⟩] (ix3 0 0 j : S1x9x768.Idx) (row0_not_mem j)).trans ?_
  exact View.read_writes_cons_hit (Val := Elt F) v f rect0 p1 [] (ix3 0 0 j : S1x1x768.Idx) _ (row0_emb j)

theorem read_row (v : View sig .tc .vmem S1x9x768 .f32) (p2 : Vec F S1x8x768 .f32) (p1 : Vec F S1x1x768 .f32) (f) (k : Fin 8) (j : Fin 768) :
    v.read (Elt F) (v.writes (Elt F) f (two p2 p1)) (ix3 0 k.succ j : S1x9x768.Idx) = p2 (ix3 0 k j : S1x8x768.Idx) :=
  View.read_writes_cons_hit (Val := Elt F) v f rect1 p2 [⟨rect0, p1⟩] (ix3 0 k j : S1x8x768.Idx) _ (row_emb k j)

theorem blockOut_row0 (x0 : Vec F S32x1x8x2048 .f32) (x1 : Vec F S1x2048x768 .f32) (x2 : Vec F S1x1x768 .f32) (j : Fin 768) :
    blockOut x0 x1 x2 (ix3 0 0 j : S1x9x768.Idx) = x2 (ix3 0 0 j : S1x1x768.Idx) :=
  (read_row0 VO (k2_pay2 x0 x1) (k2_pay1 x2) VO.junk j).trans (pay1_at x2 j)

theorem blockOut_row (x0 : Vec F S32x1x8x2048 .f32) (x1 : Vec F S1x2048x768 .f32) (x2 : Vec F S1x1x768 .f32) (k : Fin 8) (j : Fin 768) :
    blockOut x0 x1 x2 (ix3 0 k.succ j : S1x9x768.Idx) = k2_pay2 x0 x1 (ix3 0 k j : S1x8x768.Idx) :=
  read_row VO (k2_pay2 x0 x1) (k2_pay1 x2) VO.junk k j

/-! ## The blocks of the arrays -/

theorem N_four : cfg2.N = 4 := N_2

/-- The point that takes batch `b`. -/
abbrev pt (b : Fin 4) : Fin cfg2.N := b.cast N_four.symm

theorem index0 : ∀ (t : Fin grid2.N) (a : Fin 4), cc2_transform_0 (grid2.coords t) a = (![0, t.val, 0, 0] : Fin 4 → ℕ) a := by decide +kernel
theorem index1 : ∀ (t : Fin grid2.N) (a : Fin 3), cc2_transform_1 (grid2.coords t) a = (![t.val, 0, 0] : Fin 3 → ℕ) a := by decide +kernel
theorem index2 : ∀ (t : Fin grid2.N) (a : Fin 3), cc2_transform_2 (grid2.coords t) a = (![t.val, 0, 0] : Fin 3 → ℕ) a := by decide +kernel
theorem index3 : ∀ (t : Fin grid2.N) (a : Fin 3), cc2_transform_3 (grid2.coords t) a = (![t.val, 0, 0] : Fin 3 → ℕ) a := by decide +kernel

theorem emb0 (b : Fin 4) (w : Fin 32) (k : Fin 8) (l : Fin 2048) :
    ((cfg2.win 0).blk (pt b)).view.emb (ix4 w 0 k l : S32x1x8x2048.Idx) = (ix4 w b k l : S32x4x8x2048.Idx) := by
  funext a
  apply Fin.ext
  show cc2_transform_0 (grid2.coords (pt b)) a * S32x1x8x2048.size a + 1 * ((ix4 w 0 k l : S32x1x8x2048.Idx) a).val = _
  rw [index0]
  match a with
  | ⟨0, _⟩ => show 0 * _ + 1 * w.val = w.val; omega
  | ⟨1, _⟩ => show b.val * 1 + 1 * 0 = b.val; omega
  | ⟨2, _⟩ => show 0 * _ + 1 * k.val = k.val; omega
  | ⟨3, _⟩ => show 0 * _ + 1 * l.val = l.val; omega

theorem emb1 (b : Fin 4) (l : Fin 2048) (j : Fin 768) :
    ((cfg2.win 1).blk (pt b)).view.emb (ix3 0 l j : S1x2048x768.Idx) = (ix3 b l j : S4x2048x768.Idx) := by
  funext a
  apply Fin.ext
  show cc2_transform_1 (grid2.coords (pt b)) a * S1x2048x768.size a + 1 * ((ix3 0 l j : S1x2048x768.Idx) a).val = _
  rw [index1]
  match a with
  | ⟨0, _⟩ => show b.val * 1 + 1 * 0 = b.val; omega
  | ⟨1, _⟩ => show 0 * _ + 1 * l.val = l.val; omega
  | ⟨2, _⟩ => show 0 * _ + 1 * j.val = j.val; omega

theorem emb2 (b : Fin 4) (j : Fin 768) :
    ((cfg2.win 2).blk (pt b)).view.emb (ix3 0 0 j : S1x1x768.Idx) = (ix3 b 0 j : S4x1x768.Idx) := by
  funext a
  apply Fin.ext
  show cc2_transform_2 (grid2.coords (pt b)) a * S1x1x768.size a + 1 * ((ix3 0 0 j : S1x1x768.Idx) a).val = _
  rw [index2]
  match a with
  | ⟨0, _⟩ => show b.val * 1 + 1 * 0 = b.val; omega
  | ⟨1, _⟩ => show 0 * _ + 1 * 0 = 0; omega
  | ⟨2, _⟩ => show 0 * _ + 1 * j.val = j.val; omega

theorem emb3 (b : Fin 4) (k : Fin 9) (j : Fin 768) :
    ((cfg2.win 3).blk (pt b)).view.emb (ix3 0 k j : S1x9x768.Idx) = (ix3 b k j : S4x9x768.Idx) := by
  funext a
  apply Fin.ext
  show cc2_transform_3 (grid2.coords (pt b)) a * S1x9x768.size a + 1 * ((ix3 0 k j : S1x9x768.Idx) a).val = _
  rw [index3]
  match a with
  | ⟨0, _⟩ => show b.val * 1 + 1 * 0 = b.val; omega
  | ⟨1, _⟩ => show 0 * _ + 1 * k.val = k.val; omega
  | ⟨2, _⟩ => show 0 * _ + 1 * j.val = j.val; omega

/-- The batch's block of counts and of features. -/
def countsOf (A : FVec F S32x4x8x2048 .f32) (b : Fin 4) : Vec F S32x1x8x2048 .f32 := fun y => A (ix4 (y 0) b (y 2) (y 3))
def featuresOf (A : FVec F S4x2048x768 .f32) (b : Fin 4) : Vec F S1x2048x768 .f32 := fun y => A (ix3 b (y 1) (y 2))

theorem shape0 (y : S32x1x8x2048.Idx) : y = (ix4 (y 0) 0 (y 2) (y 3) : S32x1x8x2048.Idx) := by
  funext a
  match a with
  | ⟨0, _⟩ => rfl
  | ⟨1, _⟩ => exact Fin.ext (Nat.lt_one_iff.mp (y 1).isLt)
  | ⟨2, _⟩ => rfl
  | ⟨3, _⟩ => rfl

theorem shape1 (y : S1x2048x768.Idx) : y = (ix3 0 (y 1) (y 2) : S1x2048x768.Idx) := by
  funext a
  match a with
  | ⟨0, _⟩ => exact Fin.ext (Nat.lt_one_iff.mp (y 0).isLt)
  | ⟨1, _⟩ => rfl
  | ⟨2, _⟩ => rfl

theorem iblk0 (c : Dev nD) (b : Fin 4) : iblk V c 0 (pt b) = countsOf (F := F) (V c main_v3) b := by
  funext y
  refine (congrArg (iblk V c 0 (pt b)) (shape0 y)).trans ?_
  exact congrArg (V c main_v3) (emb0 b _ _ _)

theorem iblk1 (c : Dev nD) (b : Fin 4) : iblk V c 1 (pt b) = featuresOf (F := F) (V c main_arg2) b := by
  funext y
  refine (congrArg (iblk V c 1 (pt b)) (shape1 y)).trans ?_
  exact congrArg (V c main_arg2) (emb1 b _ _)

theorem iblk2 (c : Dev nD) (b : Fin 4) (j : Fin 768) : iblk V c 2 (pt b) (ix3 0 0 j : S1x1x768.Idx) = V c main_arg3 (ix3 b 0 j : S4x1x768.Idx) :=
  congrArg (V c main_arg3) (emb2 b j)

/-! ## The result -/

theorem idx_inj3 : ∀ t t' : Fin cfg2.N, win2_3.index t = win2_3.index t' → t = t' :=
  (by decide +kernel : ∀ t t' : Fin grid2.N, win2_3.index t = win2_3.index t' → t = t')

theorem disjoint3 : ∀ t t' : Fin cfg2.N, (cfg2.win 3).flush t = true → (cfg2.win 3).flush t' = true → t ≠ t' →
    Disjoint ((cfg2.win 3).blk t).view.set ((cfg2.win 3).blk t').view.set :=
  fun t t' _ _ hne => (cfg2.win 3).disjoint_blk fun h => hne (idx_inj3 t t' h)

theorem product_block (c : Dev nD) (b : Fin 4) (k : Fin 9) (j : Fin 768) :
    product V c (ix3 b k j : S4x9x768.Idx) = outsAt V c (pt b) (ix3 0 k j : S1x9x768.Idx) := by
  have h := congrFun ((dats V 0 c).read_blk_arrAt_eq_flushed 3 disjoint3 cfg2.N (pt b) (pt b).isLt (flush2_3 (pt b))) (ix3 0 k j : S1x9x768.Idx)
  rw [← emb3 b k j]
  refine h.trans ?_
  show (cfg2.win 3).cut (grid2.coords (pt b)) ((dats V 0 c).after 3 (pt b)) _ = _
  rw [after_3]
  rfl

theorem product_row0 (c : Dev nD) (b : Fin 4) (j : Fin 768) : product V c (ix3 b 0 j : S4x9x768.Idx) = V c main_arg3 (ix3 b 0 j : S4x1x768.Idx) :=
  (product_block V c b 0 j).trans ((blockOut_row0 _ _ _ j).trans (iblk2 V c b j))

theorem product_row (c : Dev nD) (b : Fin 4) (k : Fin 8) (j : Fin 768) :
    product V c (ix3 b k.succ j : S4x9x768.Idx)
      = k2_pay2 (countsOf (F := F) (V c main_v3) b) (featuresOf (F := F) (V c main_arg2) b) (ix3 0 k j : S1x8x768.Idx) := by
  rw [product_block, ← iblk0, ← iblk1]
  exact blockOut_row _ _ _ k j

end Cert.Proof.Select

end
-- ==== Proof.PackRegion.lean ====
/-
  The packing call as one step of the TensorCore's program: entered with the unscoped buffers at `V`, left with them at
  `Vp`, which differs from `V` in the keys' array only. The core owes the SparseCore call's start throughout: its waits
  at the staging cells are of a lower level.
-/
module

public import proofs.«01_k».proof.Proof.SelectRegion
public import Idealize.ShloMosaic.Lib.Pipeline.RegionsLoop

@[expose] public section

set_option maxRecDepth 16384

noncomputable section

namespace Cert.Proof.Pack

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Base (UU EP 𝒱₀)
open Cert.Proof.Select (adm pdats KL Klev phinj)

variable {F : FTy → Type} [FloatOps F] [Named F]

local notation "𝕄" => MT nD τ sig (HIx 1) (Elt F) ℕ UU ℕ

variable (V : (c : Dev nD) → (b : Ref sig .tc) → Buf (Elt F) ((c : Thread nD τ).loc b))

/-! ## The region -/

/-- The keys after the call. -/
def packed (c : Dev nD) : Buf (Elt F) ((c : Thread nD τ).loc main_v0) := (dats V 0 c).arrAt 2 cfg0.N

/-- The core's dues while the call runs, with what it has waited for so far. -/
abbrev owing (c : Dev nD) : sProp 𝕄 :=
  iprop(∃ W : Waits sig (HIx 1), ⌜∀ p ∈ W, p.2 = none⌝ ∗ owes (c : Thread nD τ) (dues (F := F) c) W)

variable (Vp : (c : Dev nD) → (b : Ref sig .tc) → Buf (Elt F) ((c : Thread nD τ).loc b))

set_option backward.isDefEq.respectTransparency.types false in
/-- The call entered with every unscoped buffer at `V` and left with them at `Vp`. -/
def reg (hVp_out : ∀ c, Vp c main_v0 = packed V c) (hVp_ne : ∀ c (b : Ref sig .tc), b ≠ main_v0 → Vp c b = V c b) :
    Pipeline.RegionSeg (pcfgs (F := F)) adm (pdats V) none defs₀ 𝒱₀ (KL (F := F)) (Klev (F := F)) 0 where
  win := (launch0).win.to₀
  block_pos := (launch0).block_pos
  stage_whole := (launch0).stage_whole
  K := PEmpty
  osem k := k.elim
  ho := Pipeline.OwnSemFacts.none _
  hbody c := (body_obligation V c).loose
  hwaits c := Pipeline.cellsWaits_of_cut _ (pdats V) none 0 c (lev := Klev (F := F)) 0 (dues (F := F) c) (fun _ => rfl)
    (fun _ _ => Finset.mem_univ _) (fun _ _ => le_refl _) fun g i hg =>
      ⟨Finset.mem_univ _, lt_of_lt_of_le (Nat.succ_pos _) (SparseCore.Cfg.lev_of_Otc_pos hg)⟩
  pre c := iprop(unscopedBufs c (V c) ∗ owing c)
  post c := iprop(unscopedBufs c (Vp c) ∗ owing c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V) (launch0).win (launch0).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0).win (launch0).arr_whole c
      (pdats V) ((pdats V 0 c).share_full fun _ => rfl) (V c) (Vp c) ((pdats V 0 c).arrAt · cfg0.N)
      (fun w => by
        fin_cases w
        · exact ((pdats V 0 c).arrAt_in 0 rfl _).trans (hVp_ne c main_arg0 (by decide)).symm
        · exact ((pdats V 0 c).arrAt_in 1 rfl _).trans (hVp_ne c main_arg1 (by decide)).symm
        · exact (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | h
      · exact h
      · obtain ⟨w, s, rfl⟩ := h; rfl
    iexact HO

/-- The call's step on a core. -/
theorem reg_wp [∀ e, Nonempty (Elt F e)] (hVp_out : ∀ c, Vp c main_v0 = packed V c) (hVp_ne : ∀ c (b : Ref sig .tc), b ≠ main_v0 → Vp c b = V c b) (c : Dev nD)
    (Q : PUnit → sProp 𝕄) :
    iprop((iprop(boundary (c.tc : Thread nD τ) ∗ unscopedBufs c (Vp c) ∗ owing c) -∗ Q ⟨⟩)
        ∗ boundary (c.tc : Thread nD τ) ∗ (unscopedBufs c (V c) ∗ owing c)
        ∗ levAts (KL (F := F)) (Klev (F := F))
        ∗ Pipeline.cellsGhost (Pipeline.pin (pcfgs (F := F)) adm) EP 0 c ∗ Pipeline.toksInit (Pipeline.pin (pcfgs (F := F)) adm) EP 0 c)
      ⊢ wp frame (wpE (Base.D (F := F)) Base.𝒱 (c.tc : Thread nD τ) none) Set.univ (Prog.lift (.customCall (Pipeline.entry 0) ())) Q := by
  refine BI.Entails.trans ?_ (Pipeline.RegionSeg.wp (pcfgs (F := F)) adm (pdats V) none phinj EP defs₀ 𝒱₀ (KL (F := F)) (Klev (F := F)) (reg V Vp hVp_out hVp_ne) c none
    (fun _ h => nomatch h) (fun x => .ret x) Q)
  change _ ⊢ iprop((iprop(boundary (c.tc : Thread nD τ) ∗ unscopedBufs c (Vp c) ∗ owing c)
        -∗ wp frame (wpE (Base.D (F := F)) Base.𝒱 (c.tc : Thread nD τ) none) Set.univ (.ret ⟨⟩) Q) ∗ _)
  iintro ⟨Hk, Hr⟩
  isplitl [Hk]
  · iintro H
    rw [wp_ret]
    imodintro
    iapply Hk; iexact H
  iexact Hr

end Cert.Proof.Pack

end
-- ==== Proof.Main.lean ====
/-
  The whole program: the packing call, the keys laid out in one row, the SparseCore call, its result laid out by batch,
  the product call.
-/
module

public import proofs.«01_k».proof.Proof.Launch
public import proofs.«01_k».proof.Proof.SelectValue
public import proofs.«01_k».proof.Proof.PackRegion

@[expose] public section

noncomputable section

namespace Cert.Proof.Main

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Launch
open Cert.Proof.Select (adm phinj product reg_wp)
open Cert.Proof.Pack (packed owing dues)
open Cert.Proof.Base Cert.Proof.Words Cert.Proof.Count Cert.Proof.Dma Cert.Proof.Group Cert.Proof.Task

variable {F : FTy → Type}

local notation "𝕄" => MT nD τ sig (HIx 1) (Elt F) ℕ UU ℕ

variable (m : (ℓ : Loc nD τ sig) → Buf (Elt F) ℓ) (ρ : Dev nD → PrngReg)

variable [FloatOps F] [Named F]

/-! ## The launch element -/

/-- What a core is given for the call on staging cells `p`. -/
def ghostAt (p : Fin 2) (d : Dev nD) : sProp 𝕄 :=
  iprop(Pipeline.cellsGhost (Pipeline.pin (pcfgs (F := F)) adm) EP p d ∗ Pipeline.toksInit (Pipeline.pin (pcfgs (F := F)) adm) EP p d)

/-- What a core is given for the two calls. -/
def ghost (d : Dev nD) : sProp 𝕄 := iprop(ghostAt (F := F) 0 d ∗ ghostAt (F := F) 1 d)

/-- The rounds of the two calls' staging cells. -/
def uP : UP := initOf (Pipeline.cells (Pipeline.pin (pcfgs (F := F)) adm) phinj) (Pipeline.launchToks (Pipeline.pin (pcfgs (F := F)) adm) phinj)

def u₀ : UU := (initOf (K (F := F)).hsCells (K (F := F)).hsToks, (uP (F := F), 1))

theorem bigSep_emp' {I : Type} (s : Finset I) : (bigSep s fun _ => iprop(emp)) = (iprop(emp) : sProp 𝕄) := bigSep_emp_const s

theorem ghost_dealt : (BI.own (EP (uP (F := F))) : sProp 𝕄) ⊢ iprop(|==> bigSep Finset.univ fun d : Dev nD => ghost (F := F) d) := by
  refine (Pipeline.fund_ghost (Pipeline.pin (pcfgs (F := F)) adm) EP phinj).trans (BI.bupd_mono ?_)
  rw [← bigSep_sep']
  refine BI.bigSep_mono fun d _ => ?_
  unfold ghost ghostAt
  simp only [show (Finset.univ : Finset (Fin 2)) = insert 0 {1} from rfl]
  rw [SparseCore.bigSep_insert' (by decide), bigSep_singleton, SparseCore.bigSep_insert' (by decide), bigSep_singleton]
  change _ ⊢ (iprop(_ ∗ _) : sProp 𝕄)
  iintro ⟨⟨HA, HB⟩, HC, HD⟩
  isplitl [HA HC]
  · isplitl [HA] <;> iassumption
  isplitl [HB] <;> iassumption

/-! ## The buffers along the program -/

/-- The buffers at the start, -/
def W0 (d : Dev nD) : Valuation τ sig (Elt F) := fun b => m (d, b)
abbrev V0 (c : Dev nD) (b : Ref sig .tc) : Buf (Elt F) ((c : Thread nD τ).loc b) := W0 m c (Proc.devRef .tc b)
/-- after the packing call, -/
def A0 (d : Dev nD) : Valuation τ sig (Elt F) := Function.update (W0 m d) (Proc.devRef .tc main_v0) (packed (V0 m) d)
abbrev VA (c : Dev nD) (b : Ref sig .tc) : Buf (Elt F) ((c : Thread nD τ).loc b) := A0 m c (Proc.devRef .tc b)
/-- the operation that lays the keys out in one row, -/
abbrev layKeys : HloOp τ sig (Elt F) := StableHlo.reshape main_v0 main_v1 (rfl : (.i32 : EltTy) = .i32) shapeCasts_S4x500x2048_S4096000
/-- after it, -/
def B0 (d : Dev nD) : Valuation τ sig (Elt F) := layKeys.result (A0 m d)
/-- the keys as the SparseCore call finds them, -/
def keys (d : Dev nD) : Buf (Elt F) (xLoc d) := shapeCast S4096000 (packed (V0 m) d) shapeCasts_S4x500x2048_S4096000
/-- after the SparseCore call, -/
def W1 (d : Dev nD) : Valuation τ sig (Elt F) := Function.update (B0 m d) (Proc.devRef .tc main_v2) (out (keys m) d)
/-- the operation that lays its result out by batch, -/
abbrev layOut : HloOp τ sig (Elt F) := StableHlo.reshape main_v2 main_v3 (rfl : (.f32 : EltTy) = .f32) shapeCasts_S32x65536_S32x4x8x2048
/-- after it, -/
def W2 (d : Dev nD) : Valuation τ sig (Elt F) := layOut.result (W1 m d)
/-- the same, as the product call finds them, -/
abbrev V2 (c : Dev nD) (b : Ref sig .tc) : Buf (Elt F) ((c : Thread nD τ).loc b) := W2 m c (Proc.devRef .tc b)
/-- and at the end. -/
def V3 (c : Dev nD) : (b : Ref sig .tc) → Buf (Elt F) ((c : Thread nD τ).loc b) := Function.update (V2 m c) main_v4 (product (V2 m) c)

theorem VA_out (c : Dev nD) : VA m c main_v0 = packed (V0 m) c := Function.update_self _ _ _
theorem VA_ne (c : Dev nD) (b : Ref sig .tc) (h : b ≠ main_v0) : VA m c b = V0 m c b :=
  Function.update_of_ne (fun e => h (Proc.devRef_injective _ e)) _ _

theorem B0_ne (d : Dev nD) {b : Ref sig .tc} (h : b ≠ main_v0) (h' : b ≠ main_v1) : B0 m d (Proc.devRef .tc b) = m ((SparseCore.T d).loc b) :=
  (StableHlo.reshape_result_ne _ _ _ _ _ _ _ h').trans (VA_ne m d b h)
theorem B0_v1 (d : Dev nD) : B0 m d (Proc.devRef .tc main_v1) = keys m d := by
  refine (StableHlo.reshape_result _ _ _ _ _ _ _).trans ?_
  funext i
  show shapeCast _ (VA m d main_v0) _ i = _
  rw [VA_out]
  rfl

theorem W1_ne (d : Dev nD) {b : Ref sig .tc} (h : b ≠ main_v2) : W1 m d (Proc.devRef .tc b) = B0 m d (Proc.devRef .tc b) :=
  Function.update_of_ne (fun e => h (Proc.devRef_injective _ e)) _ _
theorem W1_v2 (d : Dev nD) : W1 m d (Proc.devRef .tc main_v2) = out (keys m) d := Function.update_self _ _ _

theorem V2_ne (d : Dev nD) {b : Ref sig .tc} (h : b ≠ main_v0) (h' : b ≠ main_v1) (h2 : b ≠ main_v2) (h3 : b ≠ main_v3) :
    V2 m d b = m ((SparseCore.T d).loc b) :=
  (StableHlo.reshape_result_ne _ _ _ _ _ _ _ h3).trans ((W1_ne m d h2).trans (B0_ne m d h h'))
theorem V2_v3 (d : Dev nD) : V2 m d main_v3 = shapeCast S32x4x8x2048 (out (keys m) d) shapeCasts_S32x65536_S32x4x8x2048 := by
  refine (StableHlo.reshape_result _ _ _ _ _ _ _).trans ?_
  funext i
  show shapeCast _ (W1 m d (Proc.devRef .tc main_v2)) _ i = _
  rw [W1_v2]
  rfl

theorem V3_out (c : Dev nD) : V3 m c main_v4 = product (V2 m) c := Function.update_self _ _ _
theorem V3_ne (c : Dev nD) (b : Ref sig .tc) (h : b ≠ main_v4) : V3 m c b = V2 m c b := Function.update_of_ne h _ _

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P m (keys m)).x q thr) := by
  unfold u₀
  iintro Hu
  ihave H := (ownU_pair _ _) $$ Hu
  icases H with ⟨HH, HR⟩
  ihave H := (own_pair_emb embR _ _) $$ HR
  icases H with ⟨HP, -⟩
  imod (ghost_dealt (F := F)) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- The TensorCore's unscoped references. -/
def ucRefs : Finset (DevRef τ sig) := (StableHlo.tcRefs τ sig).filter fun b => ¬ b.isScoped

theorem unscopedBufs_held (d : Dev nD) (W : Valuation τ sig (Elt F)) :
    (unscopedBufs d (fun b => W (Proc.devRef .tc b)) : sProp 𝕄) = StableHlo.held (d : Thread nD τ) ucRefs W := by
  unfold unscopedBufs StableHlo.held ucRefs StableHlo.tcRefs
  rw [Finset.filter_map, bigSep_map]
  rfl

/-- The unscoped buffers, one by one. -/
theorem unscopedBufs_eq (d : Dev nD) (W : (b : Ref sig .tc) → Buf (Elt F) ((d.tc : Thread nD τ).loc b)) :
    (unscopedBufs d W : sProp 𝕄) = iprop((xLoc d ↦{fullShare} W main_v1) ∗ (oLoc d ↦{fullShare} W main_v2)
      ∗ ((SparseCore.T d).loc main_v4 ↦{fullShare} W main_v4) ∗ ((SparseCore.T d).loc main_arg0 ↦{fullShare} W main_arg0)
      ∗ ((SparseCore.T d).loc main_arg1 ↦{fullShare} W main_arg1) ∗ ((SparseCore.T d).loc main_arg2 ↦{fullShare} W main_arg2)
      ∗ ((SparseCore.T d).loc main_arg3 ↦{fullShare} W main_arg3) ∗ ((SparseCore.T d).loc main_v0 ↦{fullShare} W main_v0)
      ∗ (SparseCore.T d).loc main_v3 ↦{fullShare} W main_v3) := by
  unfold unscopedBufs
  rw [show (Finset.univ.filter fun b : Ref sig .tc => ¬ b.isScoped) = {main_v1, main_v2, main_v4, main_arg0, main_arg1, main_arg2, main_arg3, main_v0, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-! ## The program -/

theorem st0_eq (d : Dev nD) : (bigSep Finset.univ fun c : Fin ((K (F := F)).nCore 0) => (P m (keys m)).st 0 d c)
    = iprop((xLoc d ↦{fullShare} keys m d) ∗ oLoc d ↦{fullShare} m (oLoc d)) := (cores_split (keys m) d (m (oLoc d))).symm
theorem dn0_eq (d : Dev nD) : (bigSep Finset.univ fun c : Fin ((K (F := F)).nCore 0) => (P m (keys m)).dn 0 d c)
    = iprop((xLoc d ↦{fullShare} keys m d) ∗ oLoc d ↦{fullShare} out (keys m) d) := (cores_split (keys m) d (out (keys m) d)).symm

/-- The call's operands out of the buffers, and the buffers after it put together. -/
theorem call_split (d : Dev nD) :
    (unscopedBufs d (fun b => B0 m d (Proc.devRef .tc b)) : sProp 𝕄)
      ⊢ iprop(((xLoc d ↦{fullShare} keys m d) ∗ oLoc d ↦{fullShare} m (oLoc d))
        ∗ (((xLoc d ↦{fullShare} keys m d) ∗ oLoc d ↦{fullShare} out (keys m) d) -∗ StableHlo.held (d : Thread nD τ) ucRefs (W1 m d))) := by
  rw [← unscopedBufs_held, unscopedBufs_eq, unscopedBufs_eq, W1_v2, W1_ne m d (show main_v1 ≠ main_v2 by decide), W1_ne m d (show main_v4 ≠ main_v2 by decide),
    W1_ne m d (show main_arg0 ≠ main_v2 by decide), W1_ne m d (show main_arg1 ≠ main_v2 by decide), W1_ne m d (show main_arg2 ≠ main_v2 by decide),
    W1_ne m d (show main_arg3 ≠ main_v2 by decide), W1_ne m d (show main_v0 ≠ main_v2 by decide), W1_ne m d (show main_v3 ≠ main_v2 by decide),
    B0_v1, B0_ne m d (show main_v2 ≠ main_v0 by decide) (by decide)]
  iintro ⟨Hx, Ho, Hr⟩
  isplitl [Hx Ho]
  · isplitl [Hx]; · iexact Hx
    iexact Ho
  iintro ⟨Hx, Ho⟩
  isplitl [Hx]; · iexact Hx
  isplitl [Ho]; · iexact Ho
  iexact Hr

/-- The core's dues taken out of its state before the call, and put back. -/
theorem dues_out (d : Dev nD) :
    ((K (F := F)).tcSt EH d 0 : sProp 𝕄) ⊢ iprop(owing (F := F) d ∗ (owing (F := F) d -∗ (K (F := F)).tcSt EH d 0)) := by
  unfold SparseCore.Cfg.tcSt
  iintro ⟨⟨%W, %hW, HO⟩, Hr⟩
  isplitl [HO]
  · iexists W
    isplitr
    · ipureintro
      intro p hp
      have h := hW p hp
      obtain ⟨sm, ι⟩ := p
      match ι with
      | none => rfl
      | some q =>
        have h' := (K (F := F)).lev_some_pos (SparseCore.T d, sm) q
        exact absurd (lt_of_lt_of_le h' h) (lt_irrefl _)
    iexact HO
  iintro ⟨%W', %hW', HO⟩
  isplitl [HO]
  · iexists W'
    isplitr
    · ipureintro
      intro p hp
      rw [hW' p hp]
      exact le_of_eq_of_le (SparseCore.Cfg.lev_none _ _) (Nat.zero_le _)
    iexact HO
  iexact Hr

/-- After the one call every wait is of level at most eight. -/
theorem wbelow (thr : Thread nD τ) (W : Waits sig (HIx 1)) : (K (F := F)).WBelow thr W 8 := by
  intro p _
  obtain ⟨sm, ι⟩ := p
  match ι with
  | none => show (K (F := F)).lev _ none ≤ 8; rw [SparseCore.Cfg.lev_none]; omega
  | some q =>
    have := (K (F := F)).lev_some_le (thr, sm) q
    exact this.trans (by omega)

/-- The core's owes taken out of its state after the call, and put back. -/
theorem owes_out (d : Dev nD) :
    ((K (F := F)).tcSt EH d 1 : sProp 𝕄) ⊢ iprop((∃ W, owes (d : Thread nD τ) (0 : CellTallies nD τ sig (HIx 1)) W)
      ∗ ((∃ W, owes (d : Thread nD τ) (0 : CellTallies nD τ sig (HIx 1)) W) -∗ (K (F := F)).tcSt EH d 1)) := by
  unfold SparseCore.Cfg.tcSt
  rw [(K (F := F)).Otc_end d (le_refl 1)]
  iintro ⟨⟨%W, -, HO⟩, Hr⟩
  isplitl [HO]; · iexists W; iexact HO
  iintro ⟨%W', HO⟩
  isplitl [HO]
  · iexists W'
    isplitr; · ipureintro; exact wbelow _ _
    iexact HO
  iexact Hr

abbrev FIN (d : Dev nD) : sProp 𝕄 := unscopedBufs d (V3 m d)

abbrev wpM {α : Type} (d : Dev nD) (p : Prog (TpuEff nD τ sig (Elt F) (SparseCore.Sig (ΛP (F := F)) 1) .tc) α) (Q : α → sProp 𝕄) : sProp 𝕄 :=
  wp frame (wpE ((K (F := F)).defs (D (F := F))) 𝒱 (SparseCore.T d) none) Set.univ p Q

/-- The packing step. -/
theorem step_pack [∀ e, Nonempty (Elt F e)] (d : Dev nD) (Q : PUnit → sProp 𝕄) :
    iprop((iprop(boundary (d : Thread nD τ) ∗ unscopedBufs d (VA m d) ∗ owing d) -∗ Q ⟨⟩)
        ∗ boundary (d : Thread nD τ) ∗ (unscopedBufs d (V0 m d) ∗ owing d)
        ∗ levAts (K (F := F)).L (K (F := F)).lev ∗ ghostAt (F := F) 0 d)
      ⊢ wpM d (Prog.lift (.customCall (SparseCore.inner (Pipeline.entry 0)) ())) Q :=
  (Pack.reg_wp (V0 m) (VA m) (VA_out m) (VA_ne m) d Q).trans
    ((K (F := F)).wp_liftProg (D (F := F)) 𝒱 (d : Thread nD τ) Set.univ none (Prog.lift (.customCall (Pipeline.entry 0) ())) Q)

/-- The layout step of the keys. -/
theorem step_layKeys (d : Dev nD) (Q : PUnit → sProp 𝕄) :
    iprop((boundary (d : Thread nD τ) ∗ unscopedBufs d (VA m d))
        ∗ ((boundary (d : Thread nD τ) ∗ unscopedBufs d (fun b => B0 m d (Proc.devRef .tc b))) -∗ Q ⟨⟩))
      ⊢ wpM d (hlo rfl layKeys fun _ => .ret ⟨⟩) Q := by
  rw [show (unscopedBufs d (fun b => B0 m d (Proc.devRef .tc b)) : sProp 𝕄) = StableHlo.held (d : Thread nD τ) ucRefs (B0 m d) from unscopedBufs_held d (B0 m d),
    show (unscopedBufs d (VA m d) : sProp 𝕄) = StableHlo.held (d : Thread nD τ) ucRefs (A0 m d) from unscopedBufs_held d (A0 m d)]
  iintro ⟨H, Hk⟩
  iapply (StableHlo.wp_hlo_within 𝒱 (d : Thread nD τ) none Set.univ (op := layKeys) (S := ucRefs)
    (show ({Proc.devRef .tc main_v0, Proc.devRef .tc main_v1} : Finset (DevRef τ sig)) ⊆ ucRefs by decide) (V := A0 m d)) $$ H
  iintro H
  rw [wp_ret]
  imodintro
  iapply Hk; iexact H

/-- The layout step of the counts. -/
theorem step_layOut (d : Dev nD) (Q : PUnit → sProp 𝕄) :
    iprop((boundary (d : Thread nD τ) ∗ StableHlo.held (d : Thread nD τ) ucRefs (W1 m d))
        ∗ ((boundary (d : Thread nD τ) ∗ unscopedBufs d (V2 m d)) -∗ Q ⟨⟩))
      ⊢ wpM d (hlo rfl layOut fun _ => .ret ⟨⟩) Q := by
  rw [show (unscopedBufs d (V2 m d) : sProp 𝕄) = StableHlo.held (d : Thread nD τ) ucRefs (W2 m d) from unscopedBufs_held d (W2 m d)]
  iintro ⟨H, Hk⟩
  iapply (StableHlo.wp_hlo_within 𝒱 (d : Thread nD τ) none Set.univ (op := layOut) (S := ucRefs)
    (show ({Proc.devRef .tc main_v2, Proc.devRef .tc main_v3} : Finset (DevRef τ sig)) ⊆ ucRefs by decide) (V := W1 m d)) $$ H
  iintro H
  rw [wp_ret]
  imodintro
  iapply Hk; iexact H

/-- The product step. -/
theorem step_product [∀ e, Nonempty (Elt F e)] (d : Dev nD) (Q : PUnit → sProp 𝕄) :
    iprop((iprop(boundary (d : Thread nD τ) ∗ unscopedBufs d (V3 m d) ∗ ∃ W, owes (d : Thread nD τ) (0 : CellTallies nD τ sig (HIx 1)) W) -∗ Q ⟨⟩)
        ∗ boundary (d : Thread nD τ) ∗ (unscopedBufs d (V2 m d) ∗ ∃ W, owes (d : Thread nD τ) (0 : CellTallies nD τ sig (HIx 1)) W)
        ∗ levAts (K (F := F)).L (K (F := F)).lev ∗ ghostAt (F := F) 1 d)
      ⊢ wpM d (Prog.lift (.customCall (SparseCore.inner (Pipeline.entry 1)) ())) Q :=
  (reg_wp (V2 m) (V3 m) (V3_out m) (V3_ne m) d Q).trans
    ((K (F := F)).wp_liftProg (D (F := F)) 𝒱 (d : Thread nD τ) Set.univ none (Prog.lift (.customCall (Pipeline.entry 1) ())) Q)

theorem hmain [∀ e, Nonempty (Elt F e)] (κ : GSem nD τ sig → ℕ) (d : Dev nD) :
    iprop((K (F := F)).ctx EH (P m (keys m)) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  unfold ghost
  iintro ⟨#Hctx, Hst, ⟨Hb, Hu, Hts, -⟩, HG0, HG⟩
  ihave H := (dues_out d) $$ Hst
  icases H with ⟨HO, Hst⟩
  iapply (step_pack m d)
  isplitr [Hb Hu HO HG0]
  swap
  · isplitl [Hb]; · iexact Hb
    isplitl [Hu HO]
    · isplitl [Hu]; · iexact Hu
      iexact HO
    isplitr; · iapply (SparseCore.Cfg.ctx_levAts κ); iexact Hctx
    iexact HG0
  iintro ⟨Hb, Hu, HO⟩
  ihave Hst := Hst $$ HO
  iapply (step_layKeys m d)
  isplitl [Hb Hu]
  · isplitl [Hb]; · iexact Hb
    iexact Hu
  iintro ⟨Hb, Hu⟩
  ihave H := (call_split m d) $$ Hu
  icases H with ⟨Hops, Hback⟩
  iapply ((K (F := F)).wp_run (D (F := F)) 𝒱 (EH := EH) (P := P m (keys m)) κ d 0) $$ [Hst Hops Hback Hb Hts HG]
  isplitr; · iexact Hctx
  isplitl [Hst]; · iexact Hst
  isplitl [Hops]; · rw [st0_eq]; iexact Hops
  iintro ⟨Hst1, Hdn⟩
  ihave Hst := (Entails.of_eq (show (K (F := F)).tcSt EH d ((0 : Fin 1).val + 1) = (K (F := F)).tcSt EH d 1 from rfl)) $$ Hst1
  ihave Hdn' := (Entails.of_eq (dn0_eq m d)) $$ Hdn
  ihave Hheld := Hback $$ Hdn'
  iapply (step_layOut m d)
  isplitl [Hb Hheld]
  · isplitl [Hb]; · iexact Hb
    iexact Hheld
  iintro ⟨Hb, Hu⟩
  ihave H := (owes_out d) $$ Hst
  icases H with ⟨HO, Hst⟩
  iapply (step_product m d)
  isplitr [Hb Hu HO HG]
  · iintro ⟨Hb, Hu, HO⟩
    imodintro
    isplitl [Hst HO]; · iapply Hst; iexact HO
    isplitl [Hu]; · iexact Hu
    isplitl [Hb] <;> iassumption
  isplitl [Hb]; · iexact Hb
  isplitl [Hu HO]
  · isplitl [Hu]; · iexact Hu
    iexact HO
  isplitr; · iapply (SparseCore.Cfg.ctx_levAts κ); iexact Hctx
  iexact HG

/-- What the final memory holds: the result and the arguments. -/
def fq (d : Dev nD) (s' : Phys nD τ sig (Elt F)) : Prop :=
  s'.mem.mem ((SparseCore.T d).loc main_v4) = product (V2 m) d ∧ s'.mem.mem ((SparseCore.T d).loc main_arg0) = m ((SparseCore.T d).loc main_arg0)
    ∧ s'.mem.mem ((SparseCore.T d).loc main_arg1) = m ((SparseCore.T d).loc main_arg1) ∧ s'.mem.mem ((SparseCore.T d).loc main_arg2) = m ((SparseCore.T d).loc main_arg2)
    ∧ s'.mem.mem ((SparseCore.T d).loc main_arg3) = m ((SparseCore.T d).loc main_arg3)

theorem agree (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  unfold FIN
  rw [unscopedBufs_eq, V3_out, V3_ne m d main_arg0 (by decide), V3_ne m d main_arg1 (by decide), V3_ne m d main_arg2 (by decide), V3_ne m d main_arg3 (by decide),
    V2_ne m d (show main_arg0 ≠ main_v0 by decide) (by decide) (by decide) (by decide), V2_ne m d (show main_arg1 ≠ main_v0 by decide) (by decide) (by decide) (by decide),
    V2_ne m d (show main_arg2 ≠ main_v0 by decide) (by decide) (by decide) (by decide), V2_ne m d (show main_arg3 ≠ main_v0 by decide) (by decide) (by decide) (by decide)]
  iintro ⟨⟨-, -, Ho, H0, H1, H2, H3, -⟩, HSI⟩
  ihave H := (agree _ _ s') $$ [Ho HSI]
  · isplitl [Ho] <;> iassumption
  icases H with ⟨%ho, HSI⟩
  ihave H := (agree _ _ s') $$ [H0 HSI]
  · isplitl [H0] <;> iassumption
  icases H with ⟨%h0, HSI⟩
  ihave H := (agree _ _ s') $$ [H1 HSI]
  · isplitl [H1] <;> iassumption
  icases H with ⟨%h1, HSI⟩
  ihave H := (agree _ _ s') $$ [H2 HSI]
  · isplitl [H2] <;> iassumption
  icases H with ⟨%h2, HSI⟩
  ihave H := (agree _ _ s') $$ [H3 HSI]
  · isplitl [H3] <;> iassumption
  icases H with ⟨%h3, -⟩
  ipureintro; exact ⟨ho, h0, h1, h2, h3⟩

/-- What a run ends with. -/
def QC : PUnit × MemSt nD τ sig (Elt F) → Prop := fun r => (∀ c : Dev nD, r.2.mem ((SparseCore.T c).loc main_v4) = product (V2 m) c
    ∧ r.2.mem ((SparseCore.T c).loc main_arg0) = m ((SparseCore.T c).loc main_arg0)
    ∧ r.2.mem ((SparseCore.T c).loc main_arg1) = m ((SparseCore.T c).loc main_arg1) ∧ r.2.mem ((SparseCore.T c).loc main_arg2) = m ((SparseCore.T c).loc main_arg2)
    ∧ r.2.mem ((SparseCore.T c).loc main_arg3) = m ((SparseCore.T c).loc main_arg3)) ∧ r.2.sem = fun _ => 0

theorem run_main [∀ e, Nonempty (Elt F e)] (hX : ∀ d : Dev nD, KeysOK (keys m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (keys m)) (A := ∅) facts v₀
    (fun q hq => match q with | 0 => nomatch hq)
    (fun q _ => match q with | 0 => tileObl m (keys m) hX)
    (fun q _ => match q with | 0 => SparseCore.Cfg.VecSplit.of_plain (vecSplit m (keys m)))
    m ρ main (fun d => ghost (F := F) d) (FIN m) (u₀ (F := F)) (sep_elim_left.trans (hu₀ m)) (hmain m ρ) (fq m) (hfin m) (QC m) (fun _ h hz => ⟨h, hz⟩)

end Cert.Proof.Main

end
-- ==== Proof.PackValue.lean ====
/-
  The packing call's result, entry by entry: the key of a batch, sample and column is that of the column's perturbed
  score; and the same row by row of the keys laid out in one row.
-/
module

public import proofs.«01_k».proof.Proof.Main
public import proofs.«01_k».proof.Proof.Keys
public import Idealize.ShloMosaic.Lib.ValueLayout
public import Idealize.ShloMosaic.Lib.StackMember

@[expose] public section

set_option maxRecDepth 16384

noncomputable section

namespace Cert.Proof.PackValue

open Cert.KernelIdeal Cert.KernelIdeal.Gen

open Idealize.ShloMosaic Idealize.ShloMosaic.TcCoe Idealize.ShloMosaic.ValueIdx
open Idealize.ShloMosaic.Pipeline (Dat Cfg Window)
open Cert.Proof.Pack Cert.Proof.Keys

variable {F : FTy → Type} [FloatOps F] [Named F]

variable (V : (c : Dev nD) → (b : Ref sig .tc) → Buf (Elt F) ((c : Thread nD τ).loc b))

/-! ## What the body leaves in a block -/

/-- The body's keys. -/
theorem pay1_at (v1 : Vec F S1x1x2048 .f32) (v3 : Vec F S1x500x2048 .f32) (s : Fin 500) (n : Fin 2048) :
    k0_pay1 v1 v3 (ix3 0 s n) = key (step (perturb (v1 (ix3 0 0 n)) (v3 (ix3 0 s n)))) n.val := by
  unfold k0_pay1
  dsimp only
  refine (shapeCast_ab_1ab_apply _ _ 0 s n).trans ?_
  refine congrArg₂ IntOp.addi (congrArg (fun w => IntOp.muli w 2048#32) ?_) ?_
  · unfold step perturb
    refine congrArg (fun z => FloatOps.fptosi 32 (FloatOps.mulf (FloatOps.addf z _) _)) ?_
    refine congrArg₂ FloatOps.addf ?_ (congrArg (fun z => FloatOps.mulf z _) ?_)
    · exact (broadcastTo_1b_ab_apply _ _ s n).trans (shapeCast_1ab_ab_apply v1 _ 0 n)
    · exact shapeCast_1ab_ab_apply v3 _ s n
  · exact (broadcastTo_1b_ab_apply _ _ s n).trans (congrArg (IntOp.subi 2047#32) (iota_single_apply .tc S1x2048 32 1 iota_S1x2048_d1_w32 (ix2 0 n)))

abbrev rect : Rect S1x500x2048 := Rect.unit (s := S1x500x2048) ![0, 0, 0] S1x500x2048.size inb_S1x500x2048_S1x500x2048_0_0_0

theorem rect_emb (s : Fin 500) (n : Fin 2048) : rect.emb (ix3 0 s n : S1x500x2048.Idx) = (ix3 0 s n : S1x500x2048.Idx) := by
  refine rect.emb_eq_of_coords _ _ fun a => ?_
  match a with
  | ⟨0, _⟩ => rfl
  | ⟨1, _⟩ => show s.val = 0 + 1 * s.val; omega
  | ⟨2, _⟩ => show n.val = 0 + 1 * n.val; omega

theorem blockOut_at (x0 : Vec F S1x500x2048 .f32) (x1 : Vec F S1x1x2048 .f32) (s : Fin 500) (n : Fin 2048) :
    blockOut x0 x1 (ix3 0 s n : S1x500x2048.Idx) = key (step (perturb (x1 (ix3 0 0 n)) (x0 (ix3 0 s n)))) n.val :=
  (View.read_writes_cons_hit (Val := Elt F) VO VO.junk rect (k0_pay1 x1 x0) [] (ix3 0 s n : S1x500x2048.Idx) _ (rect_emb s n)).trans (pay1_at x1 x0 s n)

/-! ## The blocks of the arrays -/

theorem N_four : cfg0.N = 4 := N_0

/-- The point that takes batch `b`. -/
abbrev pt (b : Fin 4) : Fin cfg0.N := b.cast N_four.symm

theorem index0 : ∀ (t : Fin grid0.N) (a : Fin 3), cc0_transform_0 (grid0.coords t) a = (![t.val, 0, 0] : Fin 3 → ℕ) a := by decide +kernel
theorem index1 : ∀ (t : Fin grid0.N) (a : Fin 3), cc0_transform_1 (grid0.coords t) a = (![t.val, 0, 0] : Fin 3 → ℕ) a := by decide +kernel
theorem index2 : ∀ (t : Fin grid0.N) (a : Fin 3), cc0_transform_2 (grid0.coords t) a = (![t.val, 0, 0] : Fin 3 → ℕ) a := by decide +kernel

theorem emb0 (b : Fin 4) (s : Fin 500) (n : Fin 2048) :
    ((cfg0.win 0).blk (pt b)).view.emb (ix3 0 s n : S1x500x2048.Idx) = (ix3 b s n : S4x500x2048.Idx) := by
  funext a
  apply Fin.ext
  show cc0_transform_0 (grid0.coords (pt b)) a * S1x500x2048.size a + 1 * ((ix3 0 s n : S1x500x2048.Idx) a).val = _
  rw [index0]
  match a with
  | ⟨0, _⟩ => show b.val * 1 + 1 * 0 = b.val; omega
  | ⟨1, _⟩ => show 0 * _ + 1 * s.val = s.val; omega
  | ⟨2, _⟩ => show 0 * _ + 1 * n.val = n.val; omega

theorem emb1 (b : Fin 4) (n : Fin 2048) :
    ((cfg0.win 1).blk (pt b)).view.emb (ix3 0 0 n : S1x1x2048.Idx) = (ix3 b 0 n : S4x1x2048.Idx) := by
  funext a
  apply Fin.ext
  show cc0_transform_1 (grid0.coords (pt b)) a * S1x1x2048.size a + 1 * ((ix3 0 0 n : S1x1x2048.Idx) a).val = _
  rw [index1]
  match a with
  | ⟨0, _⟩ => show b.val * 1 + 1 * 0 = b.val; omega
  | ⟨1, _⟩ => show 0 * _ + 1 * 0 = 0; omega
  | ⟨2, _⟩ => show 0 * _ + 1 * n.val = n.val; omega

theorem emb2 (b : Fin 4) (s : Fin 500) (n : Fin 2048) :
    ((cfg0.win 2).blk (pt b)).view.emb (ix3 0 s n : S1x500x2048.Idx) = (ix3 b s n : S4x500x2048.Idx) := by
  funext a
  apply Fin.ext
  show cc0_transform_2 (grid0.coords (pt b)) a * S1x500x2048.size a + 1 * ((ix3 0 s n : S1x500x2048.Idx) a).val = _
  rw [index2]
  match a with
  | ⟨0, _⟩ => show b.val * 1 + 1 * 0 = b.val; omega
  | ⟨1, _⟩ => show 0 * _ + 1 * s.val = s.val; omega
  | ⟨2, _⟩ => show 0 * _ + 1 * n.val = n.val; omega

theorem iblk0 (c : Dev nD) (b : Fin 4) (s : Fin 500) (n : Fin 2048) :
    iblk V c 0 (pt b) (ix3 0 s n : S1x500x2048.Idx) = V c main_arg0 (ix3 b s n : S4x500x2048.Idx) := congrArg (V c main_arg0) (emb0 b s n)

theorem iblk1 (c : Dev nD) (b : Fin 4) (n : Fin 2048) :
    iblk V c 1 (pt b) (ix3 0 0 n : S1x1x2048.Idx) = V c main_arg1 (ix3 b 0 n : S4x1x2048.Idx) := congrArg (V c main_arg1) (emb1 b n)

/-! ## The result -/

theorem idx_inj2 : ∀ t t' : Fin cfg0.N, win0_2.index t = win0_2.index t' → t = t' :=
  (by decide +kernel : ∀ t t' : Fin grid0.N, win0_2.index t = win0_2.index t' → t = t')

theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

theorem packed_block (c : Dev nD) (b : Fin 4) (s : Fin 500) (n : Fin 2048) :
    packed V c (ix3 b s n : S4x500x2048.Idx) = outsAt V c (pt b) (ix3 0 s n : S1x500x2048.Idx) := by
  have h := congrFun ((dats V 0 c).read_blk_arrAt_eq_flushed 2 disjoint2 cfg0.N (pt b) (pt b).isLt (flush0_2 (pt b))) (ix3 0 s n : S1x500x2048.Idx)
  rw [← emb2 b s n]
  refine h.trans ?_
  show (cfg0.win 2).cut (grid0.coords (pt b)) ((dats V 0 c).after 2 (pt b)) _ = _
  rw [after_2]
  rfl

/-- The perturbed score of a batch, sample and column. -/
def score (noise : FVec F S4x500x2048 .f32) (sc : FVec F S4x1x2048 .f32) (b : Fin 4) (s : Fin 500) (n : Fin 2048) : F .f32 :=
  perturb (sc (ix3 b 0 n)) (noise (ix3 b s n))

theorem packed_at (c : Dev nD) (b : Fin 4) (s : Fin 500) (n : Fin 2048) :
    packed V c (ix3 b s n : S4x500x2048.Idx) = key (step (score (V c main_arg0) (V c main_arg1) b s n)) n.val := by
  refine (packed_block V c b s n).trans ((blockOut_at _ _ s n).trans ?_)
  rw [iblk0, iblk1]
  rfl

/-! ## The rows -/

variable (m : (ℓ : Loc nD τ sig) → Buf (Elt F) ℓ)

/-- The batch and the sample of a row. -/
abbrev batch (p : Fin 2000) : Fin 4 := ⟨p.val / 500, by have := p.isLt; omega⟩
abbrev sample (p : Fin 2000) : Fin 500 := ⟨p.val % 500, Nat.mod_lt _ (by omega)⟩

/-- Row `p` of perturbed scores. -/
def line (noise : FVec F S4x500x2048 .f32) (sc : FVec F S4x1x2048 .f32) (p : Fin 2000) (n : Fin 2048) : F .f32 := score noise sc (batch p) (sample p) n

/-- ROW `p` OF THE KEYS is that of the perturbed scores' keys. -/
theorem row_at (d : Dev nD) (p : Fin 2000) (n : Fin 2048) :
    Count.rowOf (Main.keys m d) p.val n.val
      = key (step (line (m ((SparseCore.T d).loc main_arg0)) (m ((SparseCore.T d).loc main_arg1)) p n)) n.val := by
  have hp := p.isLt
  have hn := n.isLt
  unfold Count.rowOf Tile.rd Main.keys line
  refine (shapeCast_apply _ _ _ (ix3 (batch p) (sample p) n) ?_).trans (packed_at (Main.V0 m) d _ _ _)
  rw [Shape.rowMajor_val_three, Shape.rowMajor_val_one]
  show (p.val / 500 * 500 + p.val % 500) * 2048 + n.val = (p.val * 2048 + n.val) % 4096000
  omega

end Cert.Proof.PackValue

end
-- ==== Proof.Pre.lean ====
/-
  The precondition, read as what the proof asks of each row of keys and of perturbed scores.
-/
module

public import proofs.«01_k».proof.Proof.RefTop
public import proofs.«01_k».proof.Proof.PackValue
public import proofs.«01_k».proof.Proof.Gen.Pre_keys_ok
public import Idealize.ShloMosaic.Lib.StableHlo.Predicate
public import Idealize.ShloMosaic.Lib.StackMember
public import Idealize.ShloMosaic.Lib.Pipeline.Value

@[expose] public section

noncomputable section

namespace Cert.Proof.Pre

open Idealize.ShloMosaic Cert.Proof.Rows Cert.Proof.Count Cert.Proof.Group Cert.Proof.Keys
open Cert.Proof.RefTop (card_fin)
open Cert.Pre_keys_ok Cert.Pre_keys_ok.Gen Idealize.ShloMosaic.ValueIdx

/-! ## Folds over a range of coordinates, one coordinate at a time -/

/-- The fold of `f 0, …, f (n - 1)` from `b`. -/
def upTo {α : Type} (op : α → α → α) (b : α) (f : ℕ → α) : ℕ → α
  | 0 => b
  | n + 1 => op (upTo op b f n) (f n)

theorem fold_eq {α : Type} (op : α → α → α) [Std.Commutative op] [Std.Associative op] (b : α) (f : ℕ → α) (n : ℕ) :
    (Finset.univ : Finset (Fin n)).fold op b (fun i => f i.val) = upTo op b f n := by
  induction n with
  | zero => rfl
  | succ n ih =>
    rw [Fin.univ_castSuccEmb, Finset.fold_cons, Finset.fold_map]
    show op (f n) (Finset.fold op b (fun i : Fin n => f i.val) Finset.univ) = _
    rw [ih, Std.Commutative.comm (op := op)]
    rfl

theorem clsMax_eq (row : ℕ → BitVec 32) (u n : ℕ) : clsMax row u n = upTo IntOp.maxsi 2147483648#32 (fun m => row (8 * m + u)) n := by
  induction n with
  | zero => rfl
  | succ n ih => show IntOp.maxsi _ _ = IntOp.maxsi _ _; rw [ih]

theorem minsi_top (x : BitVec 32) : IntOp.minsi 2147483647#32 x = x := by
  apply BitVec.eq_of_toInt_eq
  rw [Lanes.minsi_toInt]
  have : x.toInt ≤ (2147483647#32 : BitVec 32).toInt := by have := BitVec.toInt_lt (x := x); simp at this ⊢; omega
  exact min_eq_right this

theorem thr_eq (row : ℕ → BitVec 32) : thr row = upTo IntOp.minsi 2147483647#32 (fun u => clsMax row u 256) 8 := by
  simp only [upTo, minsi_top]
  rfl

/-! ## The arrays of the precondition

`Y` is the keys as 2000 rows of 2048, `row p` the keys of row `p`. -/

variable (Y : IVec S2000x2048 32) (row : ℕ → ℕ → BitVec 32) (hY : ∀ (p : Fin 2000) (q : Fin 2048), Y (ix2 p q) = row p.val q.val)

def maxArr : IVec S2000x8 32 :=
  Host.reduce IntOp.maxsi (shapeCast S2000x256x8 Y shapeCasts_S2000x2048_S2000x256x8) (constantI S_ 32 2147483648#32) reducesTo_S2000x256x8_S2000x8_d1 h_S_

def thrArr : IVec S2000 32 :=
  Host.reduce IntOp.minsi (maxArr Y) (constantI S_ 32 2147483647#32) reducesTo_S2000x8_S2000_d1 h_S_

theorem red3 : S2000x256x8.Reduces [1] S2000x8 := by decide
theorem red2 : S2000x8.Reduces [1] S2000 := by decide

include hY in
theorem cast3_at (p : Fin 2000) (m : Fin 256) (u : Fin 8) :
    shapeCast S2000x256x8 Y shapeCasts_S2000x2048_S2000x256x8 (ix3 p m u) = row p.val (8 * m.val + u.val) := by
  have hm := m.isLt
  have hu := u.isLt
  refine Eq.trans ?_ (hY p ⟨8 * m.val + u.val, by omega⟩)
  apply shapeCast_apply
  rw [Shape.rowMajor_val_two, Shape.rowMajor_val_three]
  show p.val * 2048 + (8 * m.val + u.val) = (p.val * 256 + m.val) * 8 + u.val
  omega

include hY in
theorem maxArr_at (p : Fin 2000) (u : Fin 8) : maxArr Y (ix2 p u) = clsMax (row p.val) u.val 256 := by
  unfold maxArr
  rw [Host.reduce_eq_fold_single IntOp.maxsi _ _ _ red3, clsMax_eq, ← fold_eq]
  refine congrArg (fun f : Fin 256 → BitVec 32 => Finset.fold IntOp.maxsi 2147483648#32 f Finset.univ) ?_
  funext m
  refine Eq.trans ?_ (cast3_at Y row hY p m u)
  refine congrArg (shapeCast S2000x256x8 Y shapeCasts_S2000x2048_S2000x256x8) ?_
  funext a
  match a with
  | ⟨0, _⟩ => rfl
  | ⟨1, _⟩ => rfl
  | ⟨2, _⟩ => rfl

include hY in
theorem thrArr_at (p : Fin 2000) : thrArr Y (ix1 p) = thr (row p.val) := by
  unfold thrArr
  rw [Host.reduce_eq_fold_single IntOp.minsi _ _ _ red2, thr_eq, ← fold_eq]
  refine congrArg (fun f : Fin 8 → BitVec 32 => Finset.fold IntOp.minsi 2147483647#32 f Finset.univ) ?_
  funext u
  refine Eq.trans ?_ (maxArr_at Y row hY p u)
  have e : red2.lift (ix1 p) u = ix2 p u := by
    funext a
    match a with
    | ⟨0, _⟩ => rfl
    | ⟨1, _⟩ => rfl
  rw [Function.comp_apply]
  exact congrArg (maxArr Y) e

/-! ## Counts -/

/-- How many columns of a row a mask marks. -/
theorem count_at (mask : IVec S2000x2048 1) (p : Fin 2000) (P : ℕ → Prop) [DecidablePred P] (hP : ∀ q : Fin 2048, mask (ix2 p q) = 1#1 ↔ P q.val) :
    (Host.reduce IntOp.addi (extui 32 mask natLt_1_32) (constantI S_ 32 0#32) reducesTo_S2000x2048_S2000_d1 h_S_ (ix1 p)).toNat
      = ((Finset.range 2048).filter P).card := by
  refine (StableHlo.Predicate.toNat_reduce_count_cols (n := 2000) (m := 2048) (by omega) mask natLt_1_32 _ _ _).trans ?_
  rw [← card_fin]
  congr 1
  ext q
  simp only [Finset.mem_filter, Finset.mem_univ, true_and]
  rw [← hP]
  refine iff_of_eq (congrArg (fun i => mask i = 1#1) ?_)
  funext a
  match a with
  | ⟨0, _⟩ => rfl
  | ⟨1, _⟩ => rfl

theorem and_one (a b : BitVec 1) : IntOp.andi a b = 1#1 ↔ a = 1#1 ∧ b = 1#1 := by
  revert a b; decide

theorem or_one (a b : BitVec 1) : IntOp.ori a b = 1#1 ↔ a = 1#1 ∨ b = 1#1 := by
  revert a b; decide

theorem ofBool_one (b : Bool) : BitVec.ofBool b = 1#1 ↔ b = true := by cases b <;> decide

theorem wide_at {α : Type} (h : S2000x1.BroadcastsInDim S2000x2048 ![0, 1]) (w : S2000x1.Idx → α) (p : Fin 2000) (q : Fin 2048) :
    broadcastInDim S2000x2048 ![0, 1] h w (ix2 p q) = w (ix2 p 0) := by
  unfold broadcastInDim
  refine congrArg w ?_
  funext a
  match a with
  | ⟨0, _⟩ => rfl
  | ⟨1, _⟩ => rfl

theorem column_at {α : Type} (h : S2000.BroadcastsInDim S2000x1 ![0]) (w : S2000.Idx → α) (p : Fin 2000) :
    broadcastInDim S2000x1 ![0] h w (ix2 p 0) = w (ix1 p) := by
  unfold broadcastInDim
  refine congrArg w ?_
  funext a
  match a with
  | ⟨0, _⟩ => rfl

/-- The number of keys above 15 in each row, and of keys that reach the threshold. -/
def someArr : IVec S2000 32 :=
  Host.reduce IntOp.addi (extui 32 (cmpi .sgt Y (broadcastInDim S2000x2048 ![] bcast_S_S2000x2048 (constantI S_ 32 15#32))) natLt_1_32)
    (constantI S_ 32 0#32) reducesTo_S2000x2048_S2000_d1 h_S_
def fewArr : IVec S2000 32 :=
  Host.reduce IntOp.addi (extui 32 (cmpi .sge Y (broadcastInDim S2000x2048 ![0, 1] bcast_S2000x1_S2000x2048_0_1 (broadcastInDim S2000x1 ![0] bcast_S2000_S2000x1_0 (thrArr Y)))) natLt_1_32)
    (constantI S_ 32 0#32) reducesTo_S2000x2048_S2000_d1 h_S_
/-- The steps and the keys. -/
def stepArr {F : FTy → Type} [FloatOps F] (P : FVec F S2000x2048 .f32) : IVec S2000x2048 32 :=
  fptosi 32 (mulf (addf P (broadcastInDim S2000x2048 ![] bcast_S_S2000x2048 (constant S_ .f32 0x3F000000#32))) (broadcastInDim S2000x2048 ![] bcast_S_S2000x2048 (constant S_ .f32 0x48800000#32)))
def keyArr {F : FTy → Type} [FloatOps F] (P : FVec F S2000x2048 .f32) : IVec S2000x2048 32 :=
  addi (muli (stepArr P) (broadcastInDim S2000x2048 ![] bcast_S_S2000x2048 (constantI S_ 32 2048#32)))
    (subi (broadcastInDim S2000x2048 ![] bcast_S_S2000x2048 (constantI S_ 32 2047#32)) (iotaInDim S2000x2048 32 1))
/-- The scores, row by row. -/
def scoreArr {F : FTy → Type} [FloatOps F] (noise : FVec F S4x500x2048 .f32) (sc : FVec F S4x1x2048 .f32) : FVec F S2000x2048 .f32 :=
  shapeCast S2000x2048 (addf (broadcastInDim S4x500x2048 ![0, 1, 2] bcast_S4x1x2048_S4x500x2048_0_1_2 sc)
    (mulf noise (broadcastInDim S4x500x2048 ![] bcast_S_S4x500x2048 (constant S_ .f32 0x3D4CCCCD#32)))) shapeCasts_S4x500x2048_S2000x2048
/-- The steps of each row's scores, the largest score first, -/
def orderArr {F : FTy → Type} [FloatOps F] (P : FVec F S2000x2048 .f32) : IVec S2000x2048 32 :=
  fptosi 32 (mulf (addf (Host.topK S2000x2048 1 (FloatOps.cmpfTotal .gt) P sliceFits_S2000x2048_S2000x2048).1 (broadcastInDim S2000x2048 ![] bcast_S_S2000x2048 (constant S_ .f32 0x3F000000#32))) (broadcastInDim S2000x2048 ![] bcast_S_S2000x2048 (constant S_ .f32 0x48800000#32)))
/-- and their columns. -/
def colArr {F : FTy → Type} [FloatOps F] (P : FVec F S2000x2048 .f32) : IVec S2000x2048 32 :=
  (Host.topK S2000x2048 1 (FloatOps.cmpfTotal .gt) P sliceFits_S2000x2048_S2000x2048).2
/-- The eighth's step. -/
def eighthArr {F : FTy → Type} [FloatOps F] (P : FVec F S2000x2048 .f32) : IVec S2000x1 32 :=
  extractStridedSlice S2000x1 ![0, 7] (orderArr P) slices_S2000x2048_S2000x1_0_7
/-- The columns of the eight largest scores, -1 for a score that is not in the eighth's step, -/
def tiedArr {F : FTy → Type} [FloatOps F] (P : FVec F S2000x2048 .f32) : IVec S2000x8 32 :=
  select (cmpi .eq (extractStridedSlice S2000x8 ![0, 0] (orderArr P) slices_S2000x2048_S2000x8_0_0) (broadcastInDim S2000x8 ![0, 1] bcast_S2000x1_S2000x8_0_1 (eighthArr P)))
    (extractStridedSlice S2000x8 ![0, 0] (colArr P) slices_S2000x2048_S2000x8_0_0) (broadcastInDim S2000x8 ![] bcast_S_S2000x8 (constantI S_ 32 4294967295#32))
/-- and the one furthest right. -/
def rightArr {F : FTy → Type} [FloatOps F] (P : FVec F S2000x2048 .f32) : IVec S2000 32 :=
  Host.reduce IntOp.maxsi (tiedArr P) (constantI S_ 32 2147483648#32) reducesTo_S2000x8_S2000_d1 h_S_
def apartArr {F : FTy → Type} [FloatOps F] (P : FVec F S2000x2048 .f32) : IVec S2000x2048 1 :=
  ori (ori (cmpi .slt (iotaInDim S2000x2048 32 1) (broadcastInDim S2000x2048 ![] bcast_S_S2000x2048 (constantI S_ 32 8#32)))
    (cmpi .slt (orderArr P) (broadcastInDim S2000x2048 ![0, 1] bcast_S2000x1_S2000x2048_0_1 (eighthArr P))))
    (cmpi .sgt (colArr P) (broadcastInDim S2000x2048 ![0, 1] bcast_S2000x1_S2000x2048_0_1 (broadcastInDim S2000x1 ![0] bcast_S2000_S2000x1_0 (rightArr P))))
def heldArr {F : FTy → Type} [FloatOps F] (P : FVec F S2000x2048 .f32) : IVec S2000x2048 1 :=
  andi (cmpi .sge (stepArr P) (broadcastInDim S2000x2048 ![] bcast_S_S2000x2048 (constantI S_ 32 4293918720#32)))
    (cmpi .slt (stepArr P) (broadcastInDim S2000x2048 ![] bcast_S_S2000x2048 (constantI S_ 32 1048576#32)))

theorem fn_eq {F : FTy → Type} [FloatOps F] (noise : FVec F S4x500x2048 .f32) (sc : FVec F S4x1x2048 .f32) (x : FVec F S4x2048x768 .f32) (g : FVec F S4x1x768 .f32) :
    fn (F := F) noise sc x g
    = andi (andi (andi (heldArr (scoreArr noise sc)) (apartArr (scoreArr noise sc)))
        (broadcastInDim S2000x2048 ![0, 1] bcast_S2000x1_S2000x2048_0_1
        (cmpi .sge (broadcastInDim S2000x1 ![0] bcast_S2000_S2000x1_0 (someArr (keyArr (scoreArr noise sc)))) (broadcastInDim S2000x1 ![] bcast_S_S2000x1 (constantI S_ 32 8#32)))))
      (broadcastInDim S2000x2048 ![0, 1] bcast_S2000x1_S2000x2048_0_1
        (cmpi .sle (broadcastInDim S2000x1 ![0] bcast_S2000_S2000x1_0 (fewArr (keyArr (scoreArr noise sc)))) (broadcastInDim S2000x1 ![] bcast_S_S2000x1 (constantI S_ 32 256#32)))) := rfl

theorem cmpi_sge (a b : BitVec 32) : IntOp.cmpi .sge a b = 1#1 ↔ b.toInt ≤ a.toInt := by
  unfold IntOp.cmpi; rw [ofBool_one]; simp [BitVec.sle]
theorem cmpi_sle (a b : BitVec 32) : IntOp.cmpi .sle a b = 1#1 ↔ a.toInt ≤ b.toInt := by
  unfold IntOp.cmpi; rw [ofBool_one]; simp [BitVec.sle]
theorem cmpi_sgt (a b : BitVec 32) : IntOp.cmpi .sgt a b = 1#1 ↔ b.toInt < a.toInt := by
  unfold IntOp.cmpi; rw [ofBool_one]; simp [BitVec.slt]

theorem cmpi_eq (a b : BitVec 32) : IntOp.cmpi .eq a b = 1#1 ↔ a = b := by
  unfold IntOp.cmpi; rw [ofBool_one]; simp

theorem cmpi_slt (a b : BitVec 32) : IntOp.cmpi .slt a b = 1#1 ↔ a.toInt < b.toInt := by
  unfold IntOp.cmpi; rw [ofBool_one]; simp [BitVec.slt]

theorem toInt_small {x : BitVec 32} {n : ℕ} (h : x.toNat = n) (hn : n ≤ 2048) : x.toInt = n := by
  rw [BitVec.toInt_eq_toNat_of_lt (by omega), h]

theorem card_le (P : ℕ → Prop) [DecidablePred P] : ((Finset.range 2048).filter P).card ≤ 2048 := by
  simpa using Finset.card_filter_le (Finset.range 2048) P

/-! ## The arrays, entry by entry -/

section
variable {F : FTy → Type} [FloatOps F] (noise : FVec F S4x500x2048 .f32) (sc : FVec F S4x1x2048 .f32)

theorem scoreArr_at (p : Fin 2000) (n : Fin 2048) : scoreArr noise sc (ix2 p n) = PackValue.line noise sc p n := by
  have hp := p.isLt
  unfold scoreArr PackValue.line PackValue.score perturb
  refine (shapeCast_apply _ _ _ (ix3 (PackValue.batch p) (PackValue.sample p) n) ?_).trans ?_
  · rw [Shape.rowMajor_val_three, Shape.rowMajor_val_two]
    show (p.val / 500 * 500 + p.val % 500) * 2048 + n.val = p.val * 2048 + n.val
    omega
  · refine congrArg₂ FloatOps.addf ?_ rfl
    unfold broadcastInDim
    refine congrArg sc ?_
    funext a
    match a with
    | ⟨0, _⟩ => rfl
    | ⟨1, _⟩ => rfl
    | ⟨2, _⟩ => rfl

theorem stepArr_at (P : FVec F S2000x2048 .f32) (i : S2000x2048.Idx) : stepArr P i = step (P i) := rfl

theorem keyArr_at (P : FVec F S2000x2048 .f32) (p : Fin 2000) (n : Fin 2048) : keyArr P (ix2 p n) = key (step (P (ix2 p n))) n.val := rfl

theorem along_eq (j : S2000x2048.Idx) (p : Fin 2000) (h : j 0 = p) (h1 : 1 < S2000x2048.rank) (k : Fin 2048) : Shape.Idx.along j ⟨1, h1⟩ k = ix2 p k := by
  funext a
  match a with
  | ⟨0, _⟩ => exact (Function.update_of_ne (fun e => absurd (congrArg Fin.val e) (by simp)) _ _).trans h
  | ⟨1, _⟩ => exact Function.update_self _ _ _

theorem orderArr_at (P : FVec F S2000x2048 .f32) (p : Fin 2000) (a : Fin 2048) :
    orderArr P (ix2 p a) = step (P (ix2 p (sortedFrom (before fun n => P (ix2 p n)) a))) := by
  unfold orderArr
  refine congrArg step ?_
  unfold before Host.topK Host.sort2
  simp only [show (1 : ℕ) < S2000x2048.rank by decide, dif_pos, extractStridedSlice, Nat.zero_add]
  refine (congrArg P (by exact along_eq _ p rfl _ _)).trans ?_
  refine congrArg (fun B => P (ix2 p (sortedFrom B a))) (?_ : (_ : Fin 2048 → Fin 2048 → Bool) = _)
  funext k k'
  refine congrArg₂ (fun x y => FloatOps.cmpfTotal .gt (P x) (P y) == 1#1) (by exact along_eq _ p rfl _ k) (by exact along_eq _ p rfl _ k')

theorem colArr_at (P : FVec F S2000x2048 .f32) (p : Fin 2000) (a : Fin 2048) :
    colArr P (ix2 p a) = BitVec.ofNat 32 (sortedFrom (before fun n => P (ix2 p n)) a).val := by
  unfold colArr before Host.topK Host.sort2
  simp only [show (1 : ℕ) < S2000x2048.rank by decide, dif_pos, extractStridedSlice, Nat.zero_add]
  refine (congrArg (iotaInDim S2000x2048 32 1) (by exact along_eq _ p rfl _ _)).trans ?_
  simp only [iotaInDim]
  refine congrArg (fun B => BitVec.ofNat 32 (sortedFrom B a).val) (?_ : (_ : Fin 2048 → Fin 2048 → Bool) = _)
  funext k k'
  refine congrArg₂ (fun x y => FloatOps.cmpfTotal .gt (P x) (P y) == 1#1) (by exact along_eq _ p rfl _ k) (by exact along_eq _ p rfl _ k')

theorem eighthArr_at (P : FVec F S2000x2048 .f32) (p : Fin 2000) : eighthArr P (ix2 p 0) = orderArr P (ix2 p 7) := by
  unfold eighthArr extractStridedSlice
  refine congrArg (orderArr P) ?_
  funext a
  match a with
  | ⟨0, _⟩ => exact Fin.ext (Nat.zero_add _)
  | ⟨1, _⟩ => rfl

theorem first8_at (A : IVec S2000x2048 32) (p : Fin 2000) (i : Fin 8) :
    extractStridedSlice S2000x8 ![0, 0] A slices_S2000x2048_S2000x8_0_0 (ix2 p i) = A (ix2 p (i.castLE (by omega))) := by
  unfold extractStridedSlice
  refine congrArg A ?_
  funext a
  match a with
  | ⟨0, _⟩ => exact Fin.ext (Nat.zero_add _)
  | ⟨1, _⟩ => exact Fin.ext (Nat.zero_add _)

theorem tiedArr_at (P : FVec F S2000x2048 .f32) (p : Fin 2000) (i : Fin 8)
    (h : orderArr P (ix2 p (i.castLE (by omega))) = orderArr P (ix2 p 7)) : tiedArr P (ix2 p i) = colArr P (ix2 p (i.castLE (by omega))) := by
  show Scalar.select (IntOp.cmpi .eq (extractStridedSlice S2000x8 ![0, 0] (orderArr P) slices_S2000x2048_S2000x8_0_0 (ix2 p i)) (broadcastInDim S2000x8 ![0, 1] bcast_S2000x1_S2000x8_0_1 (eighthArr P) (ix2 p i)))
    (extractStridedSlice S2000x8 ![0, 0] (colArr P) slices_S2000x2048_S2000x8_0_0 (ix2 p i)) _ = _
  have e : broadcastInDim S2000x8 ![0, 1] bcast_S2000x1_S2000x8_0_1 (eighthArr P) (ix2 p i) = eighthArr P (ix2 p 0) := by
    unfold broadcastInDim
    refine congrArg (eighthArr P) ?_
    funext a
    match a with
    | ⟨0, _⟩ => rfl
    | ⟨1, _⟩ => rfl
  rw [first8_at, first8_at, e, eighthArr_at, h]
  exact if_pos ((cmpi_eq _ _).2 rfl)

theorem maxsi_fold_ge {ι : Type} (s : Finset ι) (b : BitVec 32) (f : ι → BitVec 32) {i : ι} (hi : i ∈ s) : (f i).toInt ≤ (s.fold IntOp.maxsi b f).toInt := by
  classical
  induction s using Finset.induction with
  | empty => exact absurd hi (by simp)
  | insert a s ha ih =>
    rw [Finset.fold_insert ha, Lanes.maxsi_toInt]
    rcases Finset.mem_insert.1 hi with rfl | h
    · exact le_max_left _ _
    · exact (ih h).trans (le_max_right _ _)

/-- No column of the eight that is in the eighth's step is further right. -/
theorem rightArr_ge (P : FVec F S2000x2048 .f32) (p : Fin 2000) (i : Fin 8) : (tiedArr P (ix2 p i)).toInt ≤ (rightArr P (ix1 p)).toInt := by
  unfold rightArr
  rw [Host.reduce_eq_fold_single IntOp.maxsi _ _ _ red2]
  refine (le_of_eq ?_).trans (maxsi_fold_ge Finset.univ _ _ (Finset.mem_univ i))
  refine congrArg (fun z => (tiedArr P z).toInt) ?_
  funext a
  match a with
  | ⟨0, _⟩ => rfl
  | ⟨1, _⟩ => rfl

end

theorem andi_at {s : Shape} (x y : IVec s 1) (i : s.Idx) : andi x y i = 1#1 ↔ x i = 1#1 ∧ y i = 1#1 := and_one (x i) (y i)

section
variable {F : FTy → Type} [FloatOps F] {noise : FVec F S4x500x2048 .f32} {sc : FVec F S4x1x2048 .f32} {x : FVec F S4x2048x768 .f32} {g : FVec F S4x1x768 .f32}

/-- The precondition, part by part, at an entry. -/
theorem parts (h : fn (F := F) noise sc x g = fun _ => 1#1) (p : Fin 2000) (q : Fin 2048) :
    heldArr (scoreArr noise sc) (ix2 p q) = 1#1 ∧ apartArr (scoreArr noise sc) (ix2 p q) = 1#1
      ∧ IntOp.cmpi .sge (someArr (keyArr (scoreArr noise sc)) (ix1 p)) 8#32 = 1#1
      ∧ IntOp.cmpi .sle (fewArr (keyArr (scoreArr noise sc)) (ix1 p)) 256#32 = 1#1 := by
  have e := congrFun h (ix2 p q)
  rw [fn_eq, andi_at, andi_at, andi_at, wide_at, wide_at] at e
  obtain ⟨⟨⟨e1, e2⟩, e3⟩, e4⟩ := e
  refine ⟨e1, e2, ?_, ?_⟩
  · rw [← column_at bcast_S2000_S2000x1_0 (someArr _)]; exact e3
  · rw [← column_at bcast_S2000_S2000x1_0 (fewArr _)]; exact e4

/-- THE PRECONDITION gives what is asked of each row of scores, -/
theorem good (h : fn (F := F) noise sc x g = fun _ => 1#1) (p : Fin 2000) : Good (PackValue.line noise sc p) := by
  have hP : (fun n : Fin 2048 => scoreArr noise sc (ix2 p n)) = PackValue.line noise sc p := funext (scoreArr_at noise sc p)
  have hheld : ∀ n, -1048576 ≤ (step (PackValue.line noise sc p n)).toInt ∧ (step (PackValue.line noise sc p n)).toInt < 1048576 := by
    intro n
    have e := (parts h p n).1
    unfold heldArr at e
    rw [andi_at] at e
    obtain ⟨e1, e2⟩ := e
    have e1 := (cmpi_sge (stepArr (scoreArr noise sc) (ix2 p n)) 4293918720#32).1 e1
    have e2 := (cmpi_slt (stepArr (scoreArr noise sc) (ix2 p n)) 1048576#32).1 e2
    rw [stepArr_at, scoreArr_at] at e1 e2
    exact ⟨e1, e2⟩
  refine ⟨fun n => (hheld n).1, fun n => (hheld n).2, ?_⟩
  intro j hj
  have e := (parts h p j).2.1
  have small : ∀ n : ℕ, n < 2048 → (BitVec.ofNat 32 n).toInt = n := by
    intro n hn
    rw [BitVec.toInt_eq_toNat_of_lt (by rw [BitVec.toNat_ofNat]; omega), BitVec.toNat_ofNat]
    omega
  rcases (or_one _ _).1 e with e | e
  · rcases (or_one _ _).1 e with e | e
    · have e := (cmpi_slt (BitVec.ofNat 32 j.val) 8#32).1 e
      rw [small _ j.isLt, show (8#32 : BitVec 32).toInt = 8 by decide] at e
      omega
    · left
      have e := (cmpi_slt _ _).1 e
      rw [wide_at, eighthArr_at, orderArr_at, orderArr_at, hP, scoreArr_at, scoreArr_at] at e
      exact e
  · right
    intro i hi hs
    have e := (cmpi_sgt _ _).1 e
    rw [wide_at, column_at, colArr_at, hP, small _ (Fin.isLt _)] at e
    have ht := tiedArr_at (scoreArr noise sc) p ⟨i.val, hi⟩ (by rw [orderArr_at, orderArr_at, hP, scoreArr_at, scoreArr_at]; exact hs)
    have hr := rightArr_ge (scoreArr noise sc) p ⟨i.val, hi⟩
    rw [ht, colArr_at, hP, small _ (Fin.isLt _)] at hr
    exact_mod_cast hr.trans_lt e

/-- and of each row of the keys `X` that are those scores'. -/
theorem keysOK (h : fn (F := F) noise sc x g = fun _ => 1#1) (X : (Tile.V 4096000).Idx → BitVec 32)
    (hX : ∀ (p : Fin 2000) (n : Fin 2048), rowOf X p.val n.val = key (step (PackValue.line noise sc p n)) n.val) : KeysOK X := by
  have hY : ∀ (p : Fin 2000) (q : Fin 2048), keyArr (scoreArr noise sc) (ix2 p q) = rowOf X p.val q.val := by
    intro p q
    rw [keyArr_at, scoreArr_at, hX]
  intro r hr
  obtain ⟨-, -, h2, h3⟩ := parts h ⟨r, hr⟩ 0
  generalize keyArr (scoreArr noise sc) = Y at hY h2 h3
  rw [cmpi_sge] at h2
  rw [cmpi_sle] at h3
  refine ⟨?_, ?_, ?_⟩
  · intro c hc
    rw [hX ⟨r, hr⟩ ⟨c, hc⟩]
    exact key_tag _ hc
  · have hc := count_at (cmpi .sgt Y (broadcastInDim S2000x2048 ![] bcast_S_S2000x2048 (constantI S_ 32 15#32))) ⟨r, hr⟩
      (fun c => 15 < (rowOf X r c).toInt) (fun q => by
        rw [show ∀ (x y : IVec S2000x2048 32) i, cmpi .sgt x y i = IntOp.cmpi .sgt (x i) (y i) from fun _ _ _ => rfl, cmpi_sgt, hY]
        exact Iff.rfl)
    have hi := toInt_small hc (card_le _)
    rw [show (8#32 : BitVec 32).toInt = 8 by decide] at h2
    exact_mod_cast (show (8 : ℤ) ≤ _ from h2.trans (le_of_eq hi))
  · have hc := count_at (cmpi .sge Y (broadcastInDim S2000x2048 ![0, 1] bcast_S2000x1_S2000x2048_0_1 (broadcastInDim S2000x1 ![0] bcast_S2000_S2000x1_0 (thrArr Y)))) ⟨r, hr⟩
      (fun c => (thr (rowOf X r)).toInt ≤ (rowOf X r c).toInt) (fun q => by
        rw [show ∀ (x y : IVec S2000x2048 32) i, cmpi .sge x y i = IntOp.cmpi .sge (x i) (y i) from fun _ _ _ => rfl, cmpi_sge, hY, wide_at, column_at,
          thrArr_at Y (rowOf X) hY])
    have hi := toInt_small hc (card_le _)
    rw [show (256#32 : BitVec 32).toInt = 256 by decide] at h3
    exact_mod_cast (show _ ≤ (256 : ℤ) from (le_of_eq hi.symm).trans h3)

end

end Cert.Proof.Pre

end
-- ==== Proof.ScoreBody.lean ====
/-
  The score predictor of one batch, in numbers: what the first call computes of a batch's rows, entry by entry.
-/
module

public import proofs.«01_k».proof.Proof.Gen.ScoresIdeal.Skeleton
public import proofs.«01_k».proof.Proof.Pre
public import Idealize.ShloMosaic.Lib.Pointwise

@[expose] public section

set_option maxRecDepth 16384

noncomputable section

namespace Cert.Proof.Score

open Idealize.ShloMosaic

/-! ## The numbers -/

abbrev wide : EReal := Ideal.ofBits .f32 0x44400000#32
abbrev eps : EReal := Ideal.ofBits .f32 0x3727C5AC#32
abbrev half : EReal := Ideal.ofBits .f32 0x3F000000#32
abbrev root : EReal := Ideal.ofBits .f32 0x3F3504F3#32

/-- The mean of a row, -/
def mean (x : Fin 768 → EReal) : EReal := Ideal.div (∑ j, x j) wide
/-- the mean of its squared distances from it, -/
def spread (x : Fin 768 → EReal) : EReal := Ideal.div (∑ j, (x j - mean x) * (x j - mean x)) wide
/-- and the row normalised, scaled and shifted. -/
def normed (g b x : Fin 768 → EReal) (j : Fin 768) : EReal := Ideal.div (x j - mean x) (Ideal.sqrt (spread x + eps)) * g j + b j

/-- The first layer before its activation. -/
def first (W : Fin 768 → Fin 384 → EReal) (c : Fin 384 → EReal) (y : Fin 768 → EReal) (k : Fin 384) : EReal := (∑ j, y j * W j k) + c k

/-- The activation. -/
def gelu (v : EReal) : EReal := v * half * (1 + Ideal.erf (v * root))

/-- The second layer before its activation, of a row's features and of the chosen row's. -/
def second (W V : Fin 384 → Fin 384 → EReal) (h e : Fin 384 → EReal) (k : Fin 384) : EReal := (∑ r, h r * W r k) + ∑ r, e r * V r k

/-- The score. -/
def score (W : Fin 384 → EReal) (h : Fin 384 → EReal) (a : EReal) : EReal := Ideal.logistic (∑ k, h k * W k) * a

/-- A row's hidden features. -/
def hidden (g b : Fin 768 → EReal) (W : Fin 768 → Fin 384 → EReal) (c : Fin 384 → EReal) (x : Fin 768 → EReal) (k : Fin 384) : EReal :=
  gelu (first W c (normed g b x) k)

/-- A row's mask, one place to the left. -/
def shifted (M : Fin 2048 → EReal) (n : Fin 2048) : EReal := if h : n.val < 2047 then M ⟨1 + n.val, by omega⟩ else 0

/-- The score of row `n` of a batch whose chosen row is `t`. -/
def predict (g b : Fin 768 → EReal) (W : Fin 768 → Fin 384 → EReal) (c : Fin 384 → EReal) (Wl Wg : Fin 384 → Fin 384 → EReal) (W3 : Fin 384 → EReal)
    (X : Fin 2048 → Fin 768 → EReal) (t n : Fin 2048) (a : EReal) : EReal :=
  score W3 (fun k => gelu (second Wl Wg (hidden g b W c (X n)) (hidden g b W c (X t)) k)) a

/-! ## The chosen column -/

/-- Column `t` is the first that holds the largest of the words. -/
def IsTop (w : Fin 2048 → BitVec 32) (t : Fin 2048) : Prop :=
  ∀ n, (w n).toInt < (w t).toInt ∨ (w n).toInt = (w t).toInt ∧ t ≤ n

theorem maxsi_fold_le {ι : Type} (s : Finset ι) (b : BitVec 32) (f : ι → BitVec 32) {z : ℤ} (hb : b.toInt ≤ z) (h : ∀ i ∈ s, (f i).toInt ≤ z) :
    (s.fold IntOp.maxsi b f).toInt ≤ z := by
  classical
  induction s using Finset.induction with
  | empty => exact hb
  | insert a s ha ih =>
    rw [Finset.fold_insert ha, Lanes.maxsi_toInt]
    exact max_le (h a (Finset.mem_insert_self _ _)) (ih fun i hi => h i (Finset.mem_insert_of_mem hi))

end Cert.Proof.Score

namespace Cert.Proof.ScoreBody

open Idealize.ShloMosaic Cert.Proof.Score
open Cert.ScoresIdeal Cert.ScoresIdeal.Gen

theorem pay3_at (x : Vec Ideal S1x2048x768 .f32) (g b : Vec Ideal S1x768 .f32) (W : Vec Ideal S768x384 .f32) (c : Vec Ideal S1x384 .f32) (n : Fin 2048) (k : Fin 384) :
    (k0_pay3 (F := Ideal) x g b W c (ix2 n k) : EReal)
      = first (fun j k => W (ix2 j k)) (fun k => c (ix2 0 k)) (normed (fun j => g (ix2 0 j)) (fun j => b (ix2 0 j)) fun j => x (ix3 0 n j)) k := by
  pointwise [k0_pay3, k0_pay2]
  rfl

theorem pay4_at (x : Vec Ideal S1x2048x768 .f32) (g b : Vec Ideal S1x768 .f32) (W : Vec Ideal S768x384 .f32) (c : Vec Ideal S1x384 .f32) (n : Fin 2048) (k : Fin 384) :
    (k0_pay4 (F := Ideal) x g b W c (ix2 n k) : EReal) = (k0_pay3 (F := Ideal) x g b W c (ix2 n k) : EReal) * half := rfl

theorem pay5_at (x : Vec Ideal S1x2048x768 .f32) (g b : Vec Ideal S1x768 .f32) (W : Vec Ideal S768x384 .f32) (c : Vec Ideal S1x384 .f32) (n : Fin 2048) (k : Fin 384) :
    (k0_pay5 (F := Ideal) x g b W c (ix2 n k) : EReal) = Ideal.erf ((k0_pay3 (F := Ideal) x g b W c (ix2 n k) : EReal) * root) := rfl

/-! ## The mask of the chosen column -/

variable (w : Vec Ideal S1x1x2048 .i32) (t : Fin 2048)

/-- The keys of a row of words. -/
abbrev keys : IVec S1x2048 32 :=
  addi (muli (shapeCast S1x2048 w shapeCasts_S1x1x2048_S1x2048) (broadcast S1x2048 2048#32)) (subi (broadcast S1x2048 2047#32) (iota .tc S1x2048 32 [1] iota_S1x2048_d1_w32))

/-- The largest. -/
abbrev most : IVec S1 32 :=
  multiReductionI .maxsi [1, 2] S1 (shapeCast S1x1x2048 (keys w) shapeCasts_S1x2048_S1x1x2048) 2147483648#32 reduces_S1x1x2048_S1 rfl

theorem keys_at (n : Fin 2048) : keys w (ix2 0 n) = Keys.key (w (ix3 0 0 n)) n.val := by
  pointwise [Keys.key]

theorem most_eq (hw : ∀ n, 0 ≤ (w (ix3 0 0 n)).toInt ∧ (w (ix3 0 0 n)).toInt < 30522) (ht : IsTop (fun n => w (ix3 0 0 n)) t) (i : S1.Idx) :
    most w i = Keys.key (w (ix3 0 0 t)) t.val := by
  have at_ : ∀ n : Fin 2048, shapeCast S1x1x2048 (keys w) shapeCasts_S1x2048_S1x1x2048 (ix3 0 0 n) = Keys.key (w (ix3 0 0 n)) n.val := fun n => by
    rw [← keys_at]; pointwise
  have num : ∀ n : Fin 2048, (Keys.key (w (ix3 0 0 n)) n.val).toInt = (w (ix3 0 0 n)).toInt * 2048 + 2047 - n.val := fun n =>
    Keys.key_toInt _ n.isLt (by have := hw n; omega) (by have := hw n; omega)
  unfold most
  refine (multiReductionI_eq_fold ..).trans ?_
  show Finset.fold IntOp.maxsi 2147483648#32 _ _ = _
  apply BitVec.eq_of_toInt_eq
  apply le_antisymm
  · refine maxsi_fold_le _ _ _ ?_ fun j _ => ?_
    · rw [num]
      have := hw t
      have := t.isLt
      have e : (2147483648#32 : BitVec 32).toInt = -2147483648 := by decide
      show (2147483648#32 : BitVec 32).toInt ≤ _
      omega
    · obtain ⟨a, b, n, rfl⟩ : ∃ (a : Fin 1) (b : Fin 1) (n : Fin 2048), j = ix3 a b n := ⟨j 0, j 1, j 2, by idx_vars j⟩
      obtain rfl : a = 0 := Subsingleton.elim _ _
      obtain rfl : b = 0 := Subsingleton.elim _ _
      rw [at_, num, num]
      have := n.isLt
      rcases ht n with h | ⟨h, h'⟩
      · simp only at h; omega
      · simp only at h; rw [h]; have : t.val ≤ n.val := h'; omega
  · rw [← at_]
    refine Pre.maxsi_fold_ge _ _ _ ?_
    simp only [Finset.mem_filter, Finset.mem_univ, true_and]
    funext a
    match a with
    | ⟨0, _⟩ => exact Subsingleton.elim (α := Fin 1) _ _

theorem mark_at (K : IVec S1x2048 32) (z : BitVec 32) (n : Fin 2048) :
    (sitofp (F := Ideal) .f32 (extui 32 (cmpi .eq K (broadcast S1x2048 z)) natLt_1_32) (ix2 0 n) : EReal) = if K (ix2 0 n) = z then 1 else 0 := by
  show ((((IntOp.cmpi .eq (K (ix2 0 n)) z).setWidth 32).toInt : ℝ) : EReal) = _
  by_cases h : K (ix2 0 n) = z
  · rw [if_pos h, (Pre.cmpi_eq _ _).2 h]
    norm_num
  · rw [if_neg h]
    have ne : ¬ IntOp.cmpi .eq (K (ix2 0 n)) z = 1#1 := fun e => h ((Pre.cmpi_eq _ _).1 e)
    have zero : ∀ c : BitVec 1, ¬ c = 1#1 → c = 0#1 := by decide
    rw [zero _ ne]
    norm_num

theorem pay6_at (hw : ∀ n, 0 ≤ (w (ix3 0 0 n)).toInt ∧ (w (ix3 0 0 n)).toInt < 30522) (ht : IsTop (fun n => w (ix3 0 0 n)) t) (n : Fin 2048) :
    (k0_pay6 (F := Ideal) w (ix2 0 n) : EReal) = if n = t then 1 else 0 := by
  have e : k0_pay6 (F := Ideal) w = sitofp .f32 (extui 32 (cmpi .eq (keys w) (broadcast S1x2048 (extractAt ![0, 0, 0] (shapeCast S1x1x1 (most w) shapeCasts_S1_S1x1x1) inpos_S1x1x1_p0_0_0))) natLt_1_32) := by
    with_unfolding_all rfl
  rw [e, mark_at, keys_at]
  unfold extractAt shapeCast
  rw [most_eq w t hw ht]
  have num : ∀ n : Fin 2048, (Keys.key (w (ix3 0 0 n)) n.val).toInt = (w (ix3 0 0 n)).toInt * 2048 + 2047 - n.val := fun n =>
    Keys.key_toInt _ n.isLt (by have := hw n; omega) (by have := hw n; omega)
  refine if_congr ⟨fun hk => ?_, fun h => h ▸ rfl⟩ rfl rfl
  have := congrArg BitVec.toInt hk
  rw [num, num] at this
  have := n.isLt
  have := t.isLt
  exact Fin.ext (by omega)

theorem pay7_at (hw : ∀ n, 0 ≤ (w (ix3 0 0 n)).toInt ∧ (w (ix3 0 0 n)).toInt < 30522) (ht : IsTop (fun n => w (ix3 0 0 n)) t)
    (x : Vec Ideal S1x2048x768 .f32) (j : Fin 768) :
    (k0_pay7 (F := Ideal) (k0_pay2 x) w (ix3 0 0 j) : EReal) = x (ix3 0 t j) := by
  pointwise [k0_pay7, k0_pay2]
  simp only [pay6_at w t hw ht, ite_mul, one_mul, zero_mul, Finset.sum_ite_eq', Finset.mem_univ, if_true]

theorem pay8_at (hw : ∀ n, 0 ≤ (w (ix3 0 0 n)).toInt ∧ (w (ix3 0 0 n)).toInt < 30522) (ht : IsTop (fun n => w (ix3 0 0 n)) t)
    (p q : FVec Ideal S2048x384 .f32) (V W : Vec Ideal S384x384 .f32) (n : Fin 2048) (k : Fin 384) :
    (k0_pay8 (F := Ideal) p q w V W (ix2 n k) : EReal)
      = second (fun r k => W (ix2 r k)) (fun r k => V (ix2 r k)) (fun r => p (ix2 n r) * (1 + q (ix2 n r))) (fun r => p (ix2 t r) * (1 + q (ix2 t r))) k := by
  pointwise [k0_pay8, second]
  simp only [pay6_at w t hw ht, ite_mul, one_mul, zero_mul, Finset.sum_ite_eq', Finset.mem_univ, if_true]

theorem pay11_at (n : Fin 2048) (k : Fin 384) : (k0_pay11 (F := Ideal) (ix2 n k) : EReal) = 1 := Ideal.ofBits_one_f32

theorem pay1_at (p q u : FVec Ideal S2048x384 .f32) (W : Vec Ideal S384x1 .f32) (a : Vec Ideal S1x1x2048 .f32) (n : Fin 2048) :
    (k0_pay1 (F := Ideal) p q u W a (ix3 0 0 n) : EReal)
      = score (fun k => W (ix2 k 0)) (fun k => p (ix2 n k) * (u (ix2 n k) + q (ix2 n k))) (a (ix3 0 0 n)) := by
  pointwise [k0_pay1, score]

end Cert.Proof.ScoreBody

end
-- ==== Proof.ScoreOut.lean ====
/-
  What the scores' call leaves in its two result blocks, entry by entry.
-/
module

public import proofs.«01_k».proof.Proof.ScoreBody
public import proofs.«01_k».proof.Proof.Gen.ScoresIdeal.Frame
public import Idealize.ShloMosaic.Lib.Pipeline.ValueKit.Basic

@[expose] public section

set_option maxRecDepth 16384

noncomputable section

namespace Cert.Proof.ScoreOut

open Idealize.ShloMosaic Cert.Proof.Score Cert.Proof.ScoreBody

open Cert.ScoresIdeal Cert.ScoresIdeal.Gen

variable (x0 : Vec Ideal S1x2048x768 .f32) (x1 : Vec Ideal S1x1x2048 .i32) (x2 : Vec Ideal S1x1x2048 .f32) (x3 x4 : Vec Ideal S1x768 .f32)
  (x5 : Vec Ideal S768x384 .f32) (x6 : Vec Ideal S1x384 .f32) (x7 x8 : Vec Ideal S384x384 .f32) (x9 : Vec Ideal S384x1 .f32) (t : Fin 2048)

theorem ld0 : View.ld x0 r0_0 = x0 := View.ld_unit_lit _ _ (by decide)
theorem ld1 : View.ld x1 r0_4 = x1 := View.ld_unit_lit _ _ (by decide)
theorem ld2 : View.ld x2 r0_4 = x2 := View.ld_unit_lit _ _ (by decide)
theorem ld3 : View.ld x3 r0_1 = x3 := View.ld_unit_lit _ _ (by decide)
theorem ld5 : View.ld x5 r0_2 = x5 := View.ld_unit_lit _ _ (by decide)
theorem ld6 : View.ld x6 r0_3 = x6 := View.ld_unit_lit _ _ (by decide)
theorem ld7 : View.ld x7 r0_6 = x7 := View.ld_unit_lit _ _ (by decide)
theorem ld9 : View.ld x9 r0_7 = x9 := View.ld_unit_lit _ _ (by decide)

/-- The hidden features of a row of the block. -/
abbrev hid (n : Fin 2048) (k : Fin 384) : EReal :=
  hidden (fun j => x3 (ix2 0 j)) (fun j => x4 (ix2 0 j)) (fun j k => x5 (ix2 j k)) (fun k => x6 (ix2 0 k)) (fun j => x0 (ix3 0 n j)) k

theorem hid_eq (n : Fin 2048) (k : Fin 384) :
    (k0_pay4 (F := Ideal) x0 x3 x4 x5 x6 (ix2 n k) : EReal) * (1 + (k0_pay5 (F := Ideal) x0 x3 x4 x5 x6 (ix2 n k) : EReal)) = hid x0 x3 x4 x5 x6 n k := by
  rw [pay4_at, pay5_at, pay3_at]
  rfl

theorem out10_at (hw : ∀ n, 0 ≤ (x1 (ix3 0 0 n)).toInt ∧ (x1 (ix3 0 0 n)).toInt < 30522) (ht : IsTop (fun n => x1 (ix3 0 0 n)) t) (n : Fin 2048) :
    (out0_10 (F := Ideal) x0 x1 x2 x3 x4 x5 x6 x7 x8 x9 (ix3 0 0 n) : EReal)
      = score (fun k => x9 (ix2 k 0))
          (fun k => gelu (second (fun r k => x7 (ix2 r k)) (fun r k => x8 (ix2 r k)) (hid x0 x3 x4 x5 x6 n) (hid x0 x3 x4 x5 x6 t) k)) (x2 (ix3 0 0 n)) := by
  unfold_out out0_10
  rw [ld0, ld1, ld2, ld3, ld3, ld5, ld6, ld7, ld7, ld9]
  refine (congrFun (View.canon_cons_unit_lit _ _ _ (by decide)) (ix3 0 0 n)).trans ?_
  refine (pay1_at _ _ _ _ _ n).trans ?_
  refine congrArg (fun f => score (fun k => x9 (ix2 k 0)) f (x2 (ix3 0 0 n))) ?_
  funext k
  have e : (k0_pay8 (F := Ideal) (k0_pay4 x0 x3 x4 x5 x6) (k0_pay5 x0 x3 x4 x5 x6) x1 x8 x7 (ix2 n k) : EReal)
      = second (fun r k => x7 (ix2 r k)) (fun r k => x8 (ix2 r k)) (hid x0 x3 x4 x5 x6 n) (hid x0 x3 x4 x5 x6 t) k := by
    rw [pay8_at x1 t hw ht]
    simp only [hid_eq]
  rw [← e, pay11_at]
  rfl

theorem out11_at (hw : ∀ n, 0 ≤ (x1 (ix3 0 0 n)).toInt ∧ (x1 (ix3 0 0 n)).toInt < 30522) (ht : IsTop (fun n => x1 (ix3 0 0 n)) t) (j : Fin 768) :
    (out0_11 (F := Ideal) x0 x1 x2 x3 x4 x5 x6 x7 x8 x9 (ix3 0 0 j) : EReal) = x0 (ix3 0 t j) := by
  unfold_out out0_11
  rw [ld0, ld1]
  refine (congrFun (View.canon_cons_unit_lit _ _ _ (by decide)) (ix3 0 0 j)).trans ?_
  exact pay7_at x1 t hw ht x0 j

end Cert.Proof.ScoreOut

end
-- ==== Proof.ScoreBlocks.lean ====
/-
  The scores' call's results, entry by entry, from its arguments.
-/
module

public import proofs.«01_k».proof.Proof.ScoreOut
public import proofs.«01_k».proof.Proof.Gen.ScoresIdeal.Value

@[expose] public section

set_option maxRecDepth 16384

noncomputable section

namespace Cert.Proof.ScoreBlocks

open Idealize.ShloMosaic Idealize.ShloMosaic.TcCoe Cert.Proof.Score

open Cert.ScoresIdeal Cert.ScoresIdeal.Gen

variable (m : (ℓ : Loc nD τ sig) → Buf (Elt Ideal) ℓ) (c : Dev nD)

/-- The point that takes batch `b`. -/
abbrev pt (b : Fin 4) : Fin cfg0.N := b.cast N_0.symm

/-! ## Where the blocks lie -/

theorem index0 : ∀ (t : Fin grid0.N) (a : Fin 3), cc0_transform_0 (grid0.coords t) a = (![t.val, 0, 0] : Fin 3 → ℕ) a := by decide +kernel
theorem index1 : ∀ (t : Fin grid0.N) (a : Fin 3), cc0_transform_1 (grid0.coords t) a = (![t.val, 0, 0] : Fin 3 → ℕ) a := by decide +kernel
theorem index2 : ∀ (t : Fin grid0.N) (a : Fin 3), cc0_transform_2 (grid0.coords t) a = (![t.val, 0, 0] : Fin 3 → ℕ) a := by decide +kernel
theorem index3 : ∀ (t : Fin grid0.N) (a : Fin 2), cc0_transform_3 (grid0.coords t) a = (![0, 0] : Fin 2 → ℕ) a := by decide +kernel
theorem index4 : ∀ (t : Fin grid0.N) (a : Fin 2), cc0_transform_4 (grid0.coords t) a = (![0, 0] : Fin 2 → ℕ) a := by decide +kernel
theorem index5 : ∀ (t : Fin grid0.N) (a : Fin 2), cc0_transform_5 (grid0.coords t) a = (![0, 0] : Fin 2 → ℕ) a := by decide +kernel
theorem index6 : ∀ (t : Fin grid0.N) (a : Fin 2), cc0_transform_6 (grid0.coords t) a = (![0, 0] : Fin 2 → ℕ) a := by decide +kernel
theorem index7 : ∀ (t : Fin grid0.N) (a : Fin 2), cc0_transform_7 (grid0.coords t) a = (![0, 0] : Fin 2 → ℕ) a := by decide +kernel
theorem index8 : ∀ (t : Fin grid0.N) (a : Fin 2), cc0_transform_8 (grid0.coords t) a = (![0, 0] : Fin 2 → ℕ) a := by decide +kernel
theorem index9 : ∀ (t : Fin grid0.N) (a : Fin 2), cc0_transform_9 (grid0.coords t) a = (![0, 0] : Fin 2 → ℕ) a := by decide +kernel
theorem index10 : ∀ (t : Fin grid0.N) (a : Fin 3), cc0_transform_10 (grid0.coords t) a = (![t.val, 0, 0] : Fin 3 → ℕ) a := by decide +kernel
theorem index11 : ∀ (t : Fin grid0.N) (a : Fin 3), cc0_transform_11 (grid0.coords t) a = (![t.val, 0, 0] : Fin 3 → ℕ) a := by decide +kernel

theorem emb0 (b : Fin 4) (q : Fin 2048) (r : Fin 768) : ((cfg0.win 0).blk (pt b)).view.emb (ix3 0 q r : S1x2048x768.Idx) = (ix3 b q r : S4x2048x768.Idx) := by
  funext a
  apply Fin.ext
  show cc0_transform_0 (grid0.coords (pt b)) a * S1x2048x768.size a + 1 * ((ix3 0 q r : S1x2048x768.Idx) a).val = _
  rw [index0]
  match a with
  | ⟨0, _⟩ => show b.val * 1 + 1 * 0 = b.val; omega
  | ⟨1, _⟩ => show 0 * _ + 1 * q.val = q.val; omega
  | ⟨2, _⟩ => show 0 * _ + 1 * r.val = r.val; omega

theorem emb1 (b : Fin 4) (r : Fin 2048) : ((cfg0.win 1).blk (pt b)).view.emb (ix3 0 0 r : S1x1x2048.Idx) = (ix3 b 0 r : S4x1x2048.Idx) := by
  funext a
  apply Fin.ext
  show cc0_transform_1 (grid0.coords (pt b)) a * S1x1x2048.size a + 1 * ((ix3 0 0 r : S1x1x2048.Idx) a).val = _
  rw [index1]
  match a with
  | ⟨0, _⟩ => show b.val * 1 + 1 * 0 = b.val; omega
  | ⟨1, _⟩ => show 0 * _ + 1 * 0 = 0; omega
  | ⟨2, _⟩ => show 0 * _ + 1 * r.val = r.val; omega

theorem emb2 (b : Fin 4) (r : Fin 2048) : ((cfg0.win 2).blk (pt b)).view.emb (ix3 0 0 r : S1x1x2048.Idx) = (ix3 b 0 r : S4x1x2048.Idx) := by
  funext a
  apply Fin.ext
  show cc0_transform_2 (grid0.coords (pt b)) a * S1x1x2048.size a + 1 * ((ix3 0 0 r : S1x1x2048.Idx) a).val = _
  rw [index2]
  match a with
  | ⟨0, _⟩ => show b.val * 1 + 1 * 0 = b.val; omega
  | ⟨1, _⟩ => show 0 * _ + 1 * 0 = 0; omega
  | ⟨2, _⟩ => show 0 * _ + 1 * r.val = r.val; omega

theorem emb3 (b : Fin 4) (q : Fin 768) : ((cfg0.win 3).blk (pt b)).view.emb (ix2 0 q : S1x768.Idx) = (ix2 0 q : S1x768.Idx) := by
  funext a
  apply Fin.ext
  show cc0_transform_3 (grid0.coords (pt b)) a * S1x768.size a + 1 * ((ix2 0 q : S1x768.Idx) a).val = _
  rw [index3]
  match a with
  | ⟨0, _⟩ => show 0 * _ + 1 * 0 = 0; omega
  | ⟨1, _⟩ => show 0 * _ + 1 * q.val = q.val; omega

theorem emb4 (b : Fin 4) (q : Fin 768) : ((cfg0.win 4).blk (pt b)).view.emb (ix2 0 q : S1x768.Idx) = (ix2 0 q : S1x768.Idx) := by
  funext a
  apply Fin.ext
  show cc0_transform_4 (grid0.coords (pt b)) a * S1x768.size a + 1 * ((ix2 0 q : S1x768.Idx) a).val = _
  rw [index4]
  match a with
  | ⟨0, _⟩ => show 0 * _ + 1 * 0 = 0; omega
  | ⟨1, _⟩ => show 0 * _ + 1 * q.val = q.val; omega

theorem emb5 (b : Fin 4) (p : Fin 768) (q : Fin 384) : ((cfg0.win 5).blk (pt b)).view.emb (ix2 p q : S768x384.Idx) = (ix2 p q : S768x384.Idx) := by
  funext a
  apply Fin.ext
  show cc0_transform_5 (grid0.coords (pt b)) a * S768x384.size a + 1 * ((ix2 p q : S768x384.Idx) a).val = _
  rw [index5]
  match a with
  | ⟨0, _⟩ => show 0 * _ + 1 * p.val = p.val; omega
  | ⟨1, _⟩ => show 0 * _ + 1 * q.val = q.val; omega

theorem emb6 (b : Fin 4) (q : Fin 384) : ((cfg0.win 6).blk (pt b)).view.emb (ix2 0 q : S1x384.Idx) = (ix2 0 q : S1x384.Idx) := by
  funext a
  apply Fin.ext
  show cc0_transform_6 (grid0.coords (pt b)) a * S1x384.size a + 1 * ((ix2 0 q : S1x384.Idx) a).val = _
  rw [index6]
  match a with
  | ⟨0, _⟩ => show 0 * _ + 1 * 0 = 0; omega
  | ⟨1, _⟩ => show 0 * _ + 1 * q.val = q.val; omega

theorem emb7 (b : Fin 4) (p : Fin 384) (q : Fin 384) : ((cfg0.win 7).blk (pt b)).view.emb (ix2 p q : S384x384.Idx) = (ix2 p q : S384x384.Idx) := by
  funext a
  apply Fin.ext
  show cc0_transform_7 (grid0.coords (pt b)) a * S384x384.size a + 1 * ((ix2 p q : S384x384.Idx) a).val = _
  rw [index7]
  match a with
  | ⟨0, _⟩ => show 0 * _ + 1 * p.val = p.val; omega
  | ⟨1, _⟩ => show 0 * _ + 1 * q.val = q.val; omega

theorem emb8 (b : Fin 4) (p : Fin 384) (q : Fin 384) : ((cfg0.win 8).blk (pt b)).view.emb (ix2 p q : S384x384.Idx) = (ix2 p q : S384x384.Idx) := by
  funext a
  apply Fin.ext
  show cc0_transform_8 (grid0.coords (pt b)) a * S384x384.size a + 1 * ((ix2 p q : S384x384.Idx) a).val = _
  rw [index8]
  match a with
  | ⟨0, _⟩ => show 0 * _ + 1 * p.val = p.val; omega
  | ⟨1, _⟩ => show 0 * _ + 1 * q.val = q.val; omega

theorem emb9 (b : Fin 4) (p : Fin 384) : ((cfg0.win 9).blk (pt b)).view.emb (ix2 p 0 : S384x1.Idx) = (ix2 p 0 : S384x1.Idx) := by
  funext a
  apply Fin.ext
  show cc0_transform_9 (grid0.coords (pt b)) a * S384x1.size a + 1 * ((ix2 p 0 : S384x1.Idx) a).val = _
  rw [index9]
  match a with
  | ⟨0, _⟩ => show 0 * _ + 1 * p.val = p.val; omega
  | ⟨1, _⟩ => show 0 * _ + 1 * 0 = 0; omega

theorem emb10 (b : Fin 4) (r : Fin 2048) : ((cfg0.win 10).blk (pt b)).view.emb (ix3 0 0 r : S1x1x2048.Idx) = (ix3 b 0 r : S4x1x2048.Idx) := by
  funext a
  apply Fin.ext
  show cc0_transform_10 (grid0.coords (pt b)) a * S1x1x2048.size a + 1 * ((ix3 0 0 r : S1x1x2048.Idx) a).val = _
  rw [index10]
  match a with
  | ⟨0, _⟩ => show b.val * 1 + 1 * 0 = b.val; omega
  | ⟨1, _⟩ => show 0 * _ + 1 * 0 = 0; omega
  | ⟨2, _⟩ => show 0 * _ + 1 * r.val = r.val; omega

theorem emb11 (b : Fin 4) (r : Fin 768) : ((cfg0.win 11).blk (pt b)).view.emb (ix3 0 0 r : S1x1x768.Idx) = (ix3 b 0 r : S4x1x768.Idx) := by
  funext a
  apply Fin.ext
  show cc0_transform_11 (grid0.coords (pt b)) a * S1x1x768.size a + 1 * ((ix3 0 0 r : S1x1x768.Idx) a).val = _
  rw [index11]
  match a with
  | ⟨0, _⟩ => show b.val * 1 + 1 * 0 = b.val; omega
  | ⟨1, _⟩ => show 0 * _ + 1 * 0 = 0; omega
  | ⟨2, _⟩ => show 0 * _ + 1 * r.val = r.val; omega

/-! ## What the call finds -/

abbrev arg0 : FVec Ideal S4x2048x768 .f32 := m ((c : Thread nD τ).loc main_arg0)
abbrev arg1 : IVec S4x2048 32 := m ((c : Thread nD τ).loc main_arg1)
abbrev arg2 : FVec Ideal S4x2048 .f32 := m ((c : Thread nD τ).loc main_arg2)
abbrev arg3 : FVec Ideal S768 .f32 := m ((c : Thread nD τ).loc main_arg3)
abbrev arg4 : FVec Ideal S768 .f32 := m ((c : Thread nD τ).loc main_arg4)
abbrev arg5 : FVec Ideal S768x384 .f32 := m ((c : Thread nD τ).loc main_arg5)
abbrev arg6 : FVec Ideal S384 .f32 := m ((c : Thread nD τ).loc main_arg6)
abbrev arg7 : FVec Ideal S768x384 .f32 := m ((c : Thread nD τ).loc main_arg7)
abbrev arg8 : FVec Ideal S384x1 .f32 := m ((c : Thread nD τ).loc main_arg8)

theorem V3 : V m c main_v3 = shapeCast S4x1x2048 (arg1 m c) shapeCasts_S4x2048_S4x1x2048 := by
  unfold_abbrev_sides
  after_results
  rfl
theorem V4 : V m c main_v4 = shapeCast S4x1x2048 (concatenate S4x2048 1 [⟨S4x2047, extractStridedSlice S4x2047 ![0, 1] (arg2 m c) slices_S4x2048_S4x2047_0_1⟩, ⟨S4x1, broadcastInDim S4x1 ![] bcast_S_S4x1 (constant (F := Ideal) S_ .f32 0x00000000#32)⟩] concatenates_S4x2047_S4x1_S4x2048_d1) shapeCasts_S4x2048_S4x1x2048 := by
  unfold_abbrev_sides
  after_results
  rfl
theorem V5 : V m c main_v5 = shapeCast S1x768 (arg3 m c) shapeCasts_S768_S1x768 := by
  unfold_abbrev_sides
  after_results
  rfl
theorem V6 : V m c main_v6 = shapeCast S1x768 (arg4 m c) shapeCasts_S768_S1x768 := by
  unfold_abbrev_sides
  after_results
  rfl
theorem V7 : V m c main_v7 = shapeCast S1x384 (arg6 m c) shapeCasts_S384_S1x384 := by
  unfold_abbrev_sides
  after_results
  rfl
theorem V8 : V m c main_v8 = extractStridedSlice S384x384 ![0, 0] (arg7 m c) slices_S768x384_S384x384_0_0 := by
  unfold_abbrev_sides
  after_results
theorem V9 : V m c main_v9 = extractStridedSlice S384x384 ![384, 0] (arg7 m c) slices_S768x384_S384x384_384_0 := by
  unfold_abbrev_sides
  after_results

/-! ## The blocks -/

theorem iblk0 (b : Fin 4) (p : Fin 2048) (q : Fin 768) : iblk m c 0 (pt b) (ix3 0 p q : S1x2048x768.Idx) = arg0 m c (ix3 b p q) :=
  (congrArg (V m c main_arg0) (emb0 b p q)).trans (congrFun (V_main_arg0 m c) _)

theorem iblk1 (b : Fin 4) (p : Fin 2048) : iblk m c 1 (pt b) (ix3 0 0 p : S1x1x2048.Idx) = arg1 m c (ix2 b p) := by
  refine (congrArg (V m c main_v3) (emb1 b p)).trans ((congrFun (V3 m c) _).trans ?_)
  pointwise

theorem iblk2 (b : Fin 4) (p : Fin 2048) : iblk m c 2 (pt b) (ix3 0 0 p : S1x1x2048.Idx) = shifted (fun n => arg2 m c (ix2 b n)) p := by
  refine (congrArg (V m c main_v4) (emb2 b p)).trans ((congrFun (V4 m c) _).trans ?_)
  pointwise [shifted]

theorem iblk3 (b : Fin 4) (p : Fin 768) : iblk m c 3 (pt b) (ix2 0 p : S1x768.Idx) = arg3 m c (ix1 p) := by
  refine (congrArg (V m c main_v5) (emb3 b p)).trans ((congrFun (V5 m c) _).trans ?_)
  pointwise

theorem iblk4 (b : Fin 4) (p : Fin 768) : iblk m c 4 (pt b) (ix2 0 p : S1x768.Idx) = arg4 m c (ix1 p) := by
  refine (congrArg (V m c main_v6) (emb4 b p)).trans ((congrFun (V6 m c) _).trans ?_)
  pointwise

theorem iblk5 (b : Fin 4) (p : Fin 768) (q : Fin 384) : iblk m c 5 (pt b) (ix2 p q : S768x384.Idx) = arg5 m c (ix2 p q) :=
  (congrArg (V m c main_arg5) (emb5 b p q)).trans (congrFun (V_main_arg5 m c) _)

theorem iblk6 (b : Fin 4) (p : Fin 384) : iblk m c 6 (pt b) (ix2 0 p : S1x384.Idx) = arg6 m c (ix1 p) := by
  refine (congrArg (V m c main_v7) (emb6 b p)).trans ((congrFun (V7 m c) _).trans ?_)
  pointwise

theorem iblk7 (b : Fin 4) (p q : Fin 384) : iblk m c 7 (pt b) (ix2 p q : S384x384.Idx) = arg7 m c (ix2 (p.castLE (by decide)) q) := by
  refine (congrArg (V m c main_v8) (emb7 b p q)).trans ((congrFun (V8 m c) _).trans ?_)
  pointwise
  rfl

theorem iblk8 (b : Fin 4) (p q : Fin 384) : iblk m c 8 (pt b) (ix2 p q : S384x384.Idx) = arg7 m c (ix2 (⟨384 + p.val, by omega⟩ : Fin 768) q) := by
  refine (congrArg (V m c main_v9) (emb8 b p q)).trans ((congrFun (V9 m c) _).trans ?_)
  pointwise

theorem iblk9 (b : Fin 4) (p : Fin 384) : iblk m c 9 (pt b) (ix2 p 0 : S384x1.Idx) = arg8 m c (ix2 p 0) :=
  (congrArg (V m c main_arg8) (emb9 b p)).trans (congrFun (V_main_arg8 m c) _)

/-! ## The results -/

section
variable (b : Fin 4) (t : Fin 2048) (hw : ∀ n, 0 ≤ (arg1 m c (ix2 b n)).toInt ∧ (arg1 m c (ix2 b n)).toInt < 30522) (ht : IsTop (fun n => arg1 m c (ix2 b n)) t)

include hw ht

theorem scores_at (n : Fin 2048) :
    ((dats m 0 c).arrAt 10 cfg0.N (ix3 b 0 n : S4x1x2048.Idx) : EReal)
      = predict (fun j => arg3 m c (ix1 j)) (fun j => arg4 m c (ix1 j)) (fun j k => arg5 m c (ix2 j k)) (fun k => arg6 m c (ix1 k))
          (fun r k => arg7 m c (ix2 (r.castLE (by decide)) k)) (fun r k => arg7 m c (ix2 (⟨384 + r.val, by omega⟩ : Fin 768) k)) (fun k => arg8 m c (ix2 k 0))
          (fun n j => arg0 m c (ix3 b n j)) t n (shifted (fun n => arg2 m c (ix2 b n)) n) := by
  have h := congrFun (Value.blocks10 m c (pt b) (flush0_10 (pt b))) (ix3 0 0 n : S1x1x2048.Idx)
  rw [Value.flushed10] at h
  rw [← emb10 b n]
  refine h.trans ?_
  refine (ScoreOut.out10_at (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b)) t
    (fun n => by rw [iblk1]; exact hw n) (by simp only [iblk1]; exact ht) n).trans ?_
  unfold ScoreOut.hid predict
  simp only [iblk0, iblk2, iblk3, iblk4, iblk5, iblk6, iblk7, iblk8, iblk9]

theorem class_at (j : Fin 768) :
    ((dats m 0 c).arrAt 11 cfg0.N (ix3 b 0 j : S4x1x768.Idx) : EReal) = arg0 m c (ix3 b t j) := by
  have h := congrFun (Value.blocks11 m c (pt b) (flush0_11 (pt b))) (ix3 0 0 j : S1x1x768.Idx)
  rw [Value.flushed11] at h
  rw [← emb11 b j]
  refine h.trans ?_
  refine (ScoreOut.out11_at (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b)) t
    (fun n => by rw [iblk1]; exact hw n) (by simp only [iblk1]; exact ht) j).trans ?_
  exact iblk0 m c b t j

end

end Cert.Proof.ScoreBlocks

end
-- ==== Proof.ScoreRef.lean ====
/-
  The scores' reference, entry by entry.
-/
module

public import proofs.«01_k».proof.Proof.ScoreBody
public import proofs.«01_k».proof.Proof.Gen.ScoresReferenceIdeal.Run
public import Idealize.ShloMosaic.Lib.SortFacts
public import Idealize.ShloMosaic.PureOps.Ideal.Laws

@[expose] public section

set_option maxRecDepth 16384

noncomputable section

namespace Cert.Proof.Score

open Idealize.ShloMosaic

/-! ## The first of the largest -/

theorem head_top {n : ℕ} (w : Fin n → ℤ) (R : Fin n → Fin n → Bool) (hR : ∀ a b, R a b = true ↔ w b < w a) :
    ∀ l : List (Fin n), l.Pairwise (· < ·) → ∀ h, (stableSort R l).head? = some h → ∀ a ∈ l, w a < w h ∨ w a = w h ∧ h ≤ a := by
  intro l
  induction l with
  | nil => intro _ h _ a ha; exact absurd ha (by simp)
  | cons x l ih =>
    intro hp h hh a ha
    obtain ⟨hx, hl⟩ := List.pairwise_cons.1 hp
    unfold stableSort at hh
    rcases hs : stableSort R l with _ | ⟨y, r⟩
    · have hn : l = [] := by
        have := length_stableSort R l
        rw [hs] at this
        exact List.length_eq_zero_iff.1 this.symm
      subst hn
      rw [hs] at hh
      obtain rfl : x = h := by simpa [insertBefore] using hh
      obtain rfl : a = x := by simpa using ha
      exact .inr ⟨rfl, le_refl _⟩
    · have top := ih hl y (by rw [hs]; rfl)
      rw [hs] at hh
      unfold insertBefore at hh
      by_cases hy : R y x = true
      · rw [if_pos hy] at hh
        obtain rfl : y = h := by simpa using hh
        rcases List.mem_cons.1 ha with rfl | ha
        · exact .inl ((hR _ _).1 hy)
        · exact top a ha
      · rw [if_neg hy] at hh
        obtain rfl : x = h := by simpa using hh
        have hle : ¬ w x < w y := fun e => hy ((hR _ _).2 e)
        rcases List.mem_cons.1 ha with rfl | ha
        · exact .inr ⟨rfl, le_refl _⟩
        · have hxa : x ≤ a := le_of_lt (hx a ha)
          rcases top a ha with e | ⟨e, _⟩
          · exact .inl (by omega)
          · rcases lt_or_eq_of_le (not_lt.1 hle) with e' | e'
            · exact .inl (by omega)
            · exact .inr ⟨by omega, hxa⟩

/-- Which word comes before which. -/
abbrev larger (w : Fin 2048 → BitVec 32) (k k' : Fin 2048) : Bool := IntOp.cmpi .sgt (w k) (w k') == 1#1

/-- The column of the largest word. -/
def top (w : Fin 2048 → BitVec 32) : Fin 2048 := sortedFrom (larger w) 0

theorem top_isTop (w : Fin 2048 → BitVec 32) : IsTop w (top w) := by
  intro n
  refine head_top (fun n => (w n).toInt) (larger w) (fun a b => ?_) (List.finRange 2048) (List.pairwise_lt_finRange 2048) (top w) ?_ n (List.mem_finRange n)
  · unfold larger
    rw [beq_iff_eq]
    exact Pre.cmpi_sgt _ _
  · unfold top sortedFrom sortPositions
    rw [List.head?_eq_getElem?]
    exact (List.getElem?_eq_getElem (by rw [length_stableSort, List.length_finRange]; decide))

end Cert.Proof.Score

namespace Cert.Proof.ScoreRef

open Idealize.ShloMosaic Cert.Proof.Score

open Cert.ScoresReferenceIdeal Cert.ScoresReferenceIdeal.Gen

section
variable {F : FTy → Type} [FloatOps F]

variable (A0 : FVec F S4x2048x768 .f32) (A1 : IVec S4x2048 32) (A2 : FVec F S4x2048 .f32) (A3 A4 : FVec F S768 .f32) (A5 : FVec F S768x384 .f32) (A6 : FVec F S384 .f32)
  (A7 : FVec F S768x384 .f32) (A8 : FVec F S384x1 .f32)

/-- The rows' means, -/
def meanArr : FVec F S4x2048x1 .f32 := Host.divf (broadcastInDim S4x2048x1 ![0, 1] bcast_S4x2048_S4x2048x1_0_1 (Host.reduceAdd A0 (constant S_ .f32 0x00000000#32) reducesTo_S4x2048x768_S4x2048_d2 h_S_)) (broadcastInDim S4x2048x1 ![] bcast_S_S4x2048x1 (constant S_ .f32 0x44400000#32))
/-- their spreads, -/
def spreadArr : FVec F S4x2048x1 .f32 := (select (broadcastInDim S4x2048x1 ![] bcast_S_S4x2048x1 (cmpf .ogt (subf (constant S_ .f32 0x44400000#32) (sitofp .f32 (constantI S_ 32 0#32)) : FVec F S_ .f32) (constant S_ .f32 0x00000000#32))) (Host.divf (broadcastInDim S4x2048x1 ![0, 1] bcast_S4x2048_S4x2048x1_0_1 (Host.reduceAdd (mulf (subf A0 (broadcastInDim S4x2048x768 ![0, 1, 2] bcast_S4x2048x1_S4x2048x768_0_1_2 (meanArr A0))) (subf A0 (broadcastInDim S4x2048x768 ![0, 1, 2] bcast_S4x2048x1_S4x2048x768_0_1_2 (meanArr A0)))) (constant S_ .f32 0x00000000#32) reducesTo_S4x2048x768_S4x2048_d2 h_S_)) (broadcastInDim S4x2048x1 ![] bcast_S_S4x2048x1 (subf (constant S_ .f32 0x44400000#32) (sitofp .f32 (constantI S_ 32 0#32))))) (broadcastInDim S4x2048x1 ![] bcast_S_S4x2048x1 (id (constant S_ .f32 0x7FC00000#32))))
/-- and the rows normalised, scaled and shifted. -/
def normArr : FVec F S4x2048x768 .f32 := (addf (mulf (Host.divf (subf A0 (broadcastInDim S4x2048x768 ![0, 1, 2] bcast_S4x2048x1_S4x2048x768_0_1_2 (meanArr A0))) (broadcastInDim S4x2048x768 ![0, 1, 2] bcast_S4x2048x1_S4x2048x768_0_1_2 (Host.sqrt (addf (spreadArr A0) (broadcastInDim S4x2048x1 ![] bcast_S_S4x2048x1 (constant S_ .f32 0x3727C5AC#32)))))) (broadcastInDim S4x2048x768 ![0, 1, 2] bcast_S1x1x768_S4x2048x768_0_1_2 (broadcastInDim S1x1x768 ![2] bcast_S768_S1x1x768_2 A3))) (broadcastInDim S4x2048x768 ![0, 1, 2] bcast_S1x1x768_S4x2048x768_0_1_2 (broadcastInDim S1x1x768 ![2] bcast_S768_S1x1x768_2 A4)))
/-- The first layer before its activation. -/
def firstArr (N : FVec F S4x2048x768 .f32) : FVec F S4x2048x384 .f32 := (addf (Host.dotGeneral dot_S4x2048x768_S768x384_S4x2048x384_2_0_01_1_n_n none N A5) (broadcastInDim S4x2048x384 ![0, 1, 2] bcast_S1x1x384_S4x2048x384_0_1_2 (broadcastInDim S1x1x384 ![2] bcast_S384_S1x1x384_2 A6)))
/-- The activation. -/
def geluArr (U : FVec F S4x2048x384 .f32) : FVec F S4x2048x384 .f32 := (mulf (mulf (broadcastInDim S4x2048x384 ![] bcast_S_S4x2048x384 (constant S_ .f32 0x3F000000#32)) U) (Host.erfc (mulf (Host.negf U) (broadcastInDim S4x2048x384 ![] bcast_S_S4x2048x384 (constant S_ .f32 0x3F3504F3#32)))))
/-- The column of each batch's largest word. -/
def topArr : IVec S4 32 := shapeCast _ ((Host.topK S4x1 1 (IntOp.cmpi .sgt) A1 sliceFits_S4x2048_S4x1).2) shapeCasts_S4x1_S4
/-- Where the gathers read. -/
def idxArr (T : IVec S4 32) : IVec S4x2 32 := (concatenate S4x2 1 [⟨S4x1, (broadcastInDim S4x1 ![0] bcast_S4_S4x1_0 (select (cmpi .slt (iotaInDim S4 32 0) (broadcastInDim S4 ![] bcast_S_S4 (constantI S_ 32 0#32))) (addi (iotaInDim S4 32 0) (broadcastInDim S4 ![] bcast_S_S4 (constantI S_ 32 4#32))) (iotaInDim S4 32 0)))⟩, ⟨S4x1, (broadcastInDim S4x1 ![0] bcast_S4_S4x1_0 (select (cmpi .slt T (broadcastInDim S4 ![] bcast_S_S4 (constantI S_ 32 0#32))) (addi T (broadcastInDim S4 ![] bcast_S_S4 (constantI S_ 32 2048#32))) T))⟩] concatenates_S4x1_S4x1_S4x2_d1)
/-- The chosen rows of features. -/
def pickArr (H : FVec F S4x2048x384 .f32) (I : IVec S4x2 32) : FVec F S4x384 .f32 := Host.gather gather_S4x2048x384_S4x2_S4x384_1_01_n_n_01_1_11384 H I
/-- The second layer before its activation. -/
def secondArr (H : FVec F S4x2048x384 .f32) (E : FVec F S4x384 .f32) : FVec F S4x2048x384 .f32 := (Host.dotGeneral dot_S4x2048x768_S768x384_S4x2048x384_2_0_01_1_n_n none (concatenate S4x2048x768 2 [⟨S4x2048x384, H⟩, ⟨S4x2048x384, (broadcastInDim S4x2048x384 ![0, 1, 2] bcast_S4x1x384_S4x2048x384_0_1_2 (broadcastInDim S4x1x384 ![0, 2] bcast_S4x384_S4x1x384_0_2 E))⟩] concatenates_S4x2048x384_S4x2048x384_S4x2048x768_d2) A7)
/-- The scores. -/
def scoreArr (G : FVec F S4x2048x384 .f32) : FVec F S4x1x2048 .f32 := broadcastInDim S4x1x2048 ![0, 2] bcast_S4x2048_S4x1x2048_0_2 (mulf (shapeCast _ (Host.divf (broadcastInDim S4x2048x1 ![] bcast_S_S4x2048x1 (constant S_ .f32 0x3F800000#32)) (addf (broadcastInDim S4x2048x1 ![] bcast_S_S4x2048x1 (constant S_ .f32 0x3F800000#32)) (Host.exp (Host.negf (Host.dotGeneral dot_S4x2048x384_S384x1_S4x2048x1_2_0_01_1_n_n none G A8))))) shapeCasts_S4x2048x1_S4x2048) (concatenate S4x2048 1 [⟨S4x2047, (extractStridedSlice S4x2047 ![0, 1] A2 slices_S4x2048_S4x2047_0_1)⟩, ⟨S4x1, (broadcastInDim S4x1 ![] bcast_S_S4x1 (constant S_ .f32 0x00000000#32))⟩] concatenates_S4x2047_S4x1_S4x2048_d1))
/-- The class feature. -/
def classArr (I : IVec S4x2 32) : FVec F S4x1x768 .f32 := broadcastInDim S4x1x768 ![0, 2] bcast_S4x768_S4x1x768_0_2 (Host.gather gather_S4x2048x768_S4x2_S4x768_1_01_n_n_01_1_11768 A0 I)

end

section
variable {F : FTy → Type} [FloatOps F] (m : (ℓ : Loc nD τ sig) → Buf (Elt F) ℓ) (c : Dev nD)

abbrev arg0 : FVec F S4x2048x768 .f32 := m ((c.tc : Thread nD τ).loc main_arg0)
abbrev arg1 : IVec S4x2048 32 := m ((c.tc : Thread nD τ).loc main_arg1)
abbrev arg2 : FVec F S4x2048 .f32 := m ((c.tc : Thread nD τ).loc main_arg2)
abbrev arg3 : FVec F S768 .f32 := m ((c.tc : Thread nD τ).loc main_arg3)
abbrev arg4 : FVec F S768 .f32 := m ((c.tc : Thread nD τ).loc main_arg4)
abbrev arg5 : FVec F S768x384 .f32 := m ((c.tc : Thread nD τ).loc main_arg5)
abbrev arg6 : FVec F S384 .f32 := m ((c.tc : Thread nD τ).loc main_arg6)
abbrev arg7 : FVec F S768x384 .f32 := m ((c.tc : Thread nD τ).loc main_arg7)
abbrev arg8 : FVec F S384x1 .f32 := m ((c.tc : Thread nD τ).loc main_arg8)

/-- The hidden features of every row. -/
abbrev hidArr : FVec F S4x2048x384 .f32 := geluArr (firstArr (arg5 m c) (arg6 m c) (normArr (arg0 m c) (arg3 m c) (arg4 m c)))

theorem res_eq : Value.res_main_v68 m c
    = scoreArr (arg2 m c) (arg8 m c) (geluArr (secondArr (arg7 m c) (hidArr m c) (pickArr (hidArr m c) (idxArr (topArr (arg1 m c)))))) := rfl

end

/-! ## Entry by entry -/

section
variable (A0 : FVec Ideal S4x2048x768 .f32) (A1 : IVec S4x2048 32) (A2 : FVec Ideal S4x2048 .f32) (A3 A4 : FVec Ideal S768 .f32) (A5 : FVec Ideal S768x384 .f32) (A6 : FVec Ideal S384 .f32)
  (A7 : FVec Ideal S768x384 .f32) (A8 : FVec Ideal S384x1 .f32) (b : Fin 4) (n : Fin 2048)

theorem meanArr_at : (meanArr A0 (ix3 b n 0) : EReal) = mean fun j => A0 (ix3 b n j) := by
  pointwise [meanArr, mean]

theorem wide_eq : wide = ((768 : ℝ) : EReal) := by
  simp [Ideal.ofBits, Ideal.ieee, -EReal.coe_mul]; norm_num

theorem wide_pos : 0 < wide := by
  rw [wide_eq]
  exact EReal.coe_pos.2 (by norm_num)

theorem spreadArr_at : (spreadArr A0 (ix3 b n 0) : EReal) = spread fun j => A0 (ix3 b n j) := by
  pointwise [spreadArr, spread, meanArr_at]
  have zero : (FloatOps.sitofp (F := Ideal) .f32 0#32 : EReal) = 0 := by
    show (((0#32 : BitVec 32).toInt : ℝ) : EReal) = 0
    norm_num
  rw [zero, sub_zero, if_pos wide_pos]

theorem normArr_at (j : Fin 768) : (normArr A0 A3 A4 (ix3 b n j) : EReal) = normed (fun j => A3 (ix1 j)) (fun j => A4 (ix1 j)) (fun j => A0 (ix3 b n j)) j := by
  pointwise [normArr, normed, meanArr_at, spreadArr_at]

theorem firstArr_at (N : FVec Ideal S4x2048x768 .f32) (k : Fin 384) :
    (firstArr A5 A6 N (ix3 b n k) : EReal) = first (fun j k => A5 (ix2 j k)) (fun k => A6 (ix1 k)) (fun j => N (ix3 b n j)) k := by
  pointwise [firstArr, first]

theorem geluArr_at (U : FVec Ideal S4x2048x384 .f32) (k : Fin 384) : (geluArr U (ix3 b n k) : EReal) = gelu (U (ix3 b n k)) := by
  pointwise [geluArr, gelu]
  rw [neg_mul, Ideal.erfc_neg, mul_comm (Ideal.ofBits .f32 _) (U _)]

theorem secondArr_at (H : FVec Ideal S4x2048x384 .f32) (E : FVec Ideal S4x384 .f32) (k : Fin 384) :
    (secondArr A7 H E (ix3 b n k) : EReal)
      = second (fun r k => A7 (ix2 (r.castLE (by decide)) k)) (fun r k => A7 (ix2 (⟨384 + r.val, by omega⟩ : Fin 768) k)) (fun r => H (ix3 b n r)) (fun r => E (ix2 b r)) k := by
  pointwise [secondArr, second]
  rfl

theorem scoreArr_at (G : FVec Ideal S4x2048x384 .f32) :
    (scoreArr A2 A8 G (ix3 b 0 n) : EReal) = score (fun k => A8 (ix2 k 0)) (fun k => G (ix3 b n k)) (shifted (fun n => A2 (ix2 b n)) n) := by
  pointwise [scoreArr, score, shifted]
  rfl

/-- A small index is not wrapped. -/
theorem wrap_at (k : ℕ) (z : BitVec 32) (hk : k < 2048) :
    Scalar.select (IntOp.cmpi .slt (BitVec.ofNat 32 k) 0#32) (IntOp.addi (BitVec.ofNat 32 k) z) (BitVec.ofNat 32 k) = BitVec.ofNat 32 k := by
  refine if_neg fun h => ?_
  have := (Pre.cmpi_slt _ _).1 h
  rw [BitVec.toInt_eq_toNat_of_lt (by simp; omega)] at this
  simp at this
  omega

theorem idxArr_0 (T : IVec S4 32) : idxArr T (ix2 b 0) = BitVec.ofNat 32 b.val := by
  pointwise [idxArr]
  exact wrap_at _ _ (by omega)

theorem idxArr_1 (T : IVec S4 32) (t : Fin 2048) (hT : T (ix1 b) = BitVec.ofNat 32 t.val) : idxArr T (ix2 b 1) = BitVec.ofNat 32 t.val := by
  pointwise [idxArr, hT]
  exact wrap_at _ _ (by omega)

theorem along_eq (j : S4x2048.Idx) (p : Fin 4) (h : j 0 = p) (h1 : 1 < S4x2048.rank) (k : Fin 2048) : Shape.Idx.along j ⟨1, h1⟩ k = ix2 p k := by
  funext a
  match a with
  | ⟨0, _⟩ => exact (Function.update_of_ne (fun e => absurd (congrArg Fin.val e) (by simp)) _ _).trans h
  | ⟨1, _⟩ => exact Function.update_self _ _ _

theorem sorted_at (hr : 1 < S4x2048.rank) (j : S4x2048.Idx) (h : j 0 = b) (h1 : j 1 = (0 : Fin 2048)) :
    iotaInDim S4x2048 32 ⟨1, hr⟩ (Shape.Idx.along j ⟨1, hr⟩
      (sortedFrom (fun k k' => IntOp.cmpi .sgt (A1 (Shape.Idx.along j ⟨1, hr⟩ k)) (A1 (Shape.Idx.along j ⟨1, hr⟩ k')) == 1#1) (j ⟨1, hr⟩)))
      = BitVec.ofNat 32 (top fun n => A1 (ix2 b n)).val := by
  have al : ∀ k, Shape.Idx.along j ⟨1, hr⟩ k = ix2 b k := along_eq j b h hr
  have e : j ⟨1, hr⟩ = (0 : Fin 2048) := h1
  rw [e]
  simp only [al]
  rfl

theorem topArr_at : topArr A1 (ix1 b) = BitVec.ofNat 32 (top fun n => A1 (ix2 b n)).val := by
  pointwise [topArr]
  unfold Host.topK Host.sort2
  simp only [show (1 : ℕ) < S4x2048.rank by decide, dif_pos, extractStridedSlice, Nat.zero_add]
  exact sorted_at A1 b _ _ (Fin.ext rfl) (Fin.ext rfl)

theorem small_at (k : ℕ) (hk : k < 2048) : (BitVec.ofNat 32 k).toInt.toNat = k := by
  rw [BitVec.toInt_eq_toNat_of_lt (by simp; omega)]
  simp
  omega

theorem pickArr_at (H : FVec Ideal S4x2048x384 .f32) (I : IVec S4x2 32) (t : Fin 2048) (h0 : I (ix2 b 0) = BitVec.ofNat 32 b.val) (h1 : I (ix2 b 1) = BitVec.ofNat 32 t.val) (r : Fin 384) :
    pickArr H I (ix2 b r) = H (ix3 b t r) := by
  unfold pickArr
  unfold Host.gather
  refine congrArg _ ?_
  funext a
  apply Fin.ext
  show gather_S4x2048x384_S4x2_S4x384_1_01_n_n_01_1_11384.start (ix2 b r) I a + gather_S4x2048x384_S4x2_S4x384_1_01_n_n_01_1_11384.batchCoord (ix2 b r) a + gather_S4x2048x384_S4x2_S4x384_1_01_n_n_01_1_11384.offCoord (ix2 b r) a = _
  rw [GatherDims.batchCoord_eq_zero _ _ _ List.not_mem_nil]
  have three : ∀ a : Fin 3, a = 0 ∨ a = 1 ∨ a = 2 := by decide
  obtain rfl | rfl | rfl := three a
  · rw [GatherDims.offCoord_eq_zero _ _ _ (fun h => ((GatherDims.mem_sKept _ _).mp h).1 (by decide))]
    unfold GatherDims.start
    rw [dif_pos (by decide)]
    have e : gather_S4x2048x384_S4x2_S4x384_1_01_n_n_01_1_11384.siIdx (ix2 b r) ⟨0, by decide⟩ = ix2 b 0 := by
      funext k
      match k with
      | ⟨0, _⟩ => rfl
      | ⟨1, _⟩ => rfl
    refine (congrArg (fun z => min (I z).toInt.toNat 3 + 0 + 0) e).trans ?_
    rw [h0, small_at _ (by omega)]
    show min b.val 3 + 0 + 0 = b.val
    omega
  · rw [GatherDims.offCoord_eq_zero _ _ _ (fun h => ((GatherDims.mem_sKept _ _).mp h).1 (by decide))]
    unfold GatherDims.start
    rw [dif_pos (by decide)]
    have e : gather_S4x2048x384_S4x2_S4x384_1_01_n_n_01_1_11384.siIdx (ix2 b r) ⟨1, by decide⟩ = ix2 b 1 := by
      funext k
      match k with
      | ⟨0, _⟩ => rfl
      | ⟨1, _⟩ => rfl
    refine (congrArg (fun z => min (I z).toInt.toNat 2047 + 0 + 0) e).trans ?_
    rw [h1, small_at _ (by omega)]
    show min t.val 2047 + 0 + 0 = t.val
    omega
  · unfold GatherDims.start
    rw [dif_neg (by decide)]
    show 0 + 0 + r.val = r.val
    omega

theorem classArr_at (I : IVec S4x2 32) (t : Fin 2048) (h0 : I (ix2 b 0) = BitVec.ofNat 32 b.val) (h1 : I (ix2 b 1) = BitVec.ofNat 32 t.val) (r : Fin 768) :
    classArr A0 I (ix3 b 0 r) = A0 (ix3 b t r) := by
  pointwise [classArr]
  unfold Host.gather
  refine congrArg _ ?_
  funext a
  apply Fin.ext
  show gather_S4x2048x768_S4x2_S4x768_1_01_n_n_01_1_11768.start (ix2 b r) I a + gather_S4x2048x768_S4x2_S4x768_1_01_n_n_01_1_11768.batchCoord (ix2 b r) a + gather_S4x2048x768_S4x2_S4x768_1_01_n_n_01_1_11768.offCoord (ix2 b r) a = _
  rw [GatherDims.batchCoord_eq_zero _ _ _ List.not_mem_nil]
  have three : ∀ a : Fin 3, a = 0 ∨ a = 1 ∨ a = 2 := by decide
  obtain rfl | rfl | rfl := three a
  · rw [GatherDims.offCoord_eq_zero _ _ _ (fun h => ((GatherDims.mem_sKept _ _).mp h).1 (by decide))]
    unfold GatherDims.start
    rw [dif_pos (by decide)]
    have e : gather_S4x2048x768_S4x2_S4x768_1_01_n_n_01_1_11768.siIdx (ix2 b r) ⟨0, by decide⟩ = ix2 b 0 := by
      funext k
      match k with
      | ⟨0, _⟩ => rfl
      | ⟨1, _⟩ => rfl
    refine (congrArg (fun z => min (I z).toInt.toNat 3 + 0 + 0) e).trans ?_
    rw [h0, small_at _ (by omega)]
    show min b.val 3 + 0 + 0 = b.val
    omega
  · rw [GatherDims.offCoord_eq_zero _ _ _ (fun h => ((GatherDims.mem_sKept _ _).mp h).1 (by decide))]
    unfold GatherDims.start
    rw [dif_pos (by decide)]
    have e : gather_S4x2048x768_S4x2_S4x768_1_01_n_n_01_1_11768.siIdx (ix2 b r) ⟨1, by decide⟩ = ix2 b 1 := by
      funext k
      match k with
      | ⟨0, _⟩ => rfl
      | ⟨1, _⟩ => rfl
    refine (congrArg (fun z => min (I z).toInt.toNat 2047 + 0 + 0) e).trans ?_
    rw [h1, small_at _ (by omega)]
    show min t.val 2047 + 0 + 0 = t.val
    omega
  · unfold GatherDims.start
    rw [dif_neg (by decide)]
    show 0 + 0 + r.val = r.val
    omega

end

/-! ## The results -/

section
variable (m : (ℓ : Loc nD τ sig) → Buf (Elt Ideal) ℓ) (c : Dev nD) (b : Fin 4)

theorem scores_at (n : Fin 2048) :
    (Value.res_main_v68 m c (ix3 b 0 n : S4x1x2048.Idx) : EReal)
      = predict (fun j => arg3 m c (ix1 j)) (fun j => arg4 m c (ix1 j)) (fun j k => arg5 m c (ix2 j k)) (fun k => arg6 m c (ix1 k))
          (fun r k => arg7 m c (ix2 (r.castLE (by decide)) k)) (fun r k => arg7 m c (ix2 (⟨384 + r.val, by omega⟩ : Fin 768) k)) (fun k => arg8 m c (ix2 k 0))
          (fun n j => arg0 m c (ix3 b n j)) (top fun n => arg1 m c (ix2 b n)) n (shifted (fun n => arg2 m c (ix2 b n)) n) := by
  have hT := topArr_at (arg1 m c) b
  rw [res_eq]
  refine (scoreArr_at _ _ b n _).trans ?_
  unfold predict
  simp only [geluArr_at, secondArr_at, pickArr_at b _ _ _ (idxArr_0 b _) (idxArr_1 b _ _ hT), firstArr_at, normArr_at]
  rfl

theorem class_at (j : Fin 768) :
    (classArr (arg0 m c) (idxArr (topArr (arg1 m c))) (ix3 b 0 j) : EReal) = arg0 m c (ix3 b (top fun n => arg1 m c (ix2 b n)) j) :=
  classArr_at _ b _ _ (idxArr_0 b _) (idxArr_1 b _ _ (topArr_at (arg1 m c) b)) j

end

end Cert.Proof.ScoreRef

end
-- ==== Proof.ScoreLink.lean ====
/-
  The scores' call and its reference: equal results from equal arguments.
-/
module

public import proofs.«01_k».proof.Defs
public import proofs.«01_k».proof.Proof.ScoreBlocks
public import proofs.«01_k».proof.Proof.ScoreRef
public import proofs.«01_k».proof.Proof.Gen.Pre_ids_ok

@[expose] public section

noncomputable section

namespace Cert.Proof.ScoreLink

open Idealize.ShloMosaic Cert.Proof.Score

/-- What the precondition says of the words. -/
theorem ids (A0 : FVec Ideal Cert.Pre_ids_ok.S4x2048x768 .f32) (A1 : IVec Cert.Pre_ids_ok.S4x2048 32) (A2 : FVec Ideal Cert.Pre_ids_ok.S4x2048 .f32)
    (A3 A4 : FVec Ideal Cert.Pre_ids_ok.S768 .f32) (A5 : FVec Ideal Cert.Pre_ids_ok.S768x384 .f32) (A6 : FVec Ideal Cert.Pre_ids_ok.S384 .f32)
    (A7 : FVec Ideal Cert.Pre_ids_ok.S768x384 .f32) (A8 : FVec Ideal Cert.Pre_ids_ok.S384x1 .f32)
    (h : Cert.Pre_ids_ok.fn (F := Ideal) A0 A1 A2 A3 A4 A5 A6 A7 A8 = fun _ => 1#1) (b : Fin 4) (n : Fin 2048) :
    0 ≤ (A1 (ix2 b n)).toInt ∧ (A1 (ix2 b n)).toInt < 30522 := by
  have e : IntOp.andi (IntOp.cmpi .sge (A1 (ix2 b n)) 0#32) (IntOp.cmpi .slt (A1 (ix2 b n)) 30522#32) = 1#1 := congrFun h (ix2 b n)
  obtain ⟨h0, h1⟩ := (Pre.and_one _ _).1 e
  exact ⟨(Pre.cmpi_sge _ _).1 h0, (Pre.cmpi_slt _ _).1 h1⟩

variable (m : (ℓ : Loc Cert.ScoresIdeal.nD Cert.ScoresIdeal.τ Cert.ScoresIdeal.sig) → Buf (Elt Ideal) ℓ)
  (m' : (ℓ : Loc Cert.ScoresReferenceIdeal.nD Cert.ScoresReferenceIdeal.τ Cert.ScoresReferenceIdeal.sig) → Buf (Elt Ideal) ℓ) (c : Dev Cert.ScoresIdeal.nD)

variable (h0 : ScoreRef.arg0 m' c = ScoreBlocks.arg0 m c) (h1 : ScoreRef.arg1 m' c = ScoreBlocks.arg1 m c) (h2 : ScoreRef.arg2 m' c = ScoreBlocks.arg2 m c)
  (h3 : ScoreRef.arg3 m' c = ScoreBlocks.arg3 m c) (h4 : ScoreRef.arg4 m' c = ScoreBlocks.arg4 m c) (h5 : ScoreRef.arg5 m' c = ScoreBlocks.arg5 m c)
  (h6 : ScoreRef.arg6 m' c = ScoreBlocks.arg6 m c) (h7 : ScoreRef.arg7 m' c = ScoreBlocks.arg7 m c) (h8 : ScoreRef.arg8 m' c = ScoreBlocks.arg8 m c)
  (hw : ∀ (b : Fin 4) (n : Fin 2048), 0 ≤ (ScoreBlocks.arg1 m c (ix2 b n)).toInt ∧ (ScoreBlocks.arg1 m c (ix2 b n)).toInt < 30522)

include h0 h1 h2 h3 h4 h5 h6 h7 h8 hw in
theorem scores_eq : Cert.ScoresReferenceIdeal.Value.res_main_v68 m' c = (Cert.ScoresIdeal.Gen.dats m 0 c).arrAt 10 Cert.ScoresIdeal.cfg0.N := by
  funext i
  obtain ⟨b, a, n, rfl⟩ : ∃ (b : Fin 4) (a : Fin 1) (n : Fin 2048), i = ix3 b a n := ⟨i 0, i 1, i 2, by idx_vars i⟩
  obtain rfl : a = 0 := Subsingleton.elim _ _
  refine (ScoreRef.scores_at m' c b n).trans ?_
  rw [h0, h1, h2, h3, h4, h5, h6, h7, h8]
  exact (ScoreBlocks.scores_at m c b _ (hw b) (top_isTop _) n).symm

include h0 h1 hw in
theorem class_eq : ScoreRef.classArr (ScoreRef.arg0 m' c) (ScoreRef.idxArr (ScoreRef.topArr (ScoreRef.arg1 m' c)))
    = (Cert.ScoresIdeal.Gen.dats m 0 c).arrAt 11 Cert.ScoresIdeal.cfg0.N := by
  funext i
  obtain ⟨b, a, j, rfl⟩ : ∃ (b : Fin 4) (a : Fin 1) (j : Fin 768), i = ix3 b a j := ⟨i 0, i 1, i 2, by idx_vars i⟩
  obtain rfl : a = 0 := Subsingleton.elim _ _
  refine (ScoreRef.class_at m' c b j).trans ?_
  rw [h0, h1]
  exact (ScoreBlocks.class_at m c b _ (hw b) (top_isTop _) j).symm

end Cert.Proof.ScoreLink

end
-- ==== Proof.Literal.lean ====
/-
  The printed kernel and the one with the named constant, on the device: with the name read as the literal it stands
  for, their procedures are the same.
-/
module

public import proofs.«01_k».proof.Defs
public import proofs.«01_k».proof.Proof.Gen.Kernel
public import proofs.«01_k».proof.Proof.Gen.KernelIdeal

@[expose] public section

set_option maxRecDepth 65536

noncomputable section

namespace Cert.Proof.Literal

open Idealize.ShloMosaic

/-- On the device a named constant is the literal it stands for. -/
abbrev literal : Named Bits := ⟨fun _ _ {φ} b => Scalar.ofBits φ b⟩

local instance : Named Bits := literal

/-- The bodies of the calls, label by label. -/
theorem bodies_eq : Cert.KernelIdeal.defs₀ (F := Bits) = Cert.Kernel.defs₀ (F := Bits) := by
  funext p ℓ a
  match p, ℓ, a with
  | .tc, 0, (_, _) => rfl
  | .scVector _ _, 1, _ => rfl
  | .tc, 2, (_, _) => rfl
  | .tc, 1, _ => rfl
  | .scVector _ _, 0, _ => rfl
  | .scVector _ _, 2, _ => rfl
  | .scScalar _, 0, _ => rfl
  | .scScalar _, 1, _ => rfl
  | .scScalar _, 2, _ => rfl

/-- All procedures. -/
theorem defs_eq : Cert.KernelIdeal.defs (F := Bits) = Cert.Kernel.defs (F := Bits) :=
  congrArg (fun d => Cert.KernelIdeal.sc.defs (Pipeline.defs Cert.KernelIdeal.pcfgs d)) bodies_eq

end Cert.Proof.Literal

end
-- ==== Proof.Tally.lean ====
/-
  The counts at the ideal values: how many samples of a batch have a given column at a given place, and that the
  workers' counters of that batch, place and column add up to it.
-/
module

public import proofs.«01_k».proof.Proof.Task
public import Idealize.ShloMosaic.PureOps.Ideal.Laws

@[expose] public section

noncomputable section

namespace Cert.Proof.Tally

open Idealize.ShloMosaic Cert.Proof.Rows Cert.Proof.Count Cert.Proof.Group

/-! ## Counters and one-hots at the ideal values -/

theorem one_ideal : (oneF : Ideal .f32) = 1 := by
  show Ideal.ofBits .f32 0x3F800000#32 = 1
  simp [Ideal.ofBits, Ideal.ieee, -EReal.coe_mul]; norm_num

theorem onesF_ideal (n : ℕ) : (onesF (F := Ideal) n : EReal) = n := by
  induction n with
  | zero => exact (Ideal.ofBits_zero_f32).trans Nat.cast_zero.symm
  | succ n ih =>
    rw [← onesF_succ]
    show (onesF (F := Ideal) n : EReal) + oneF = _
    rw [ih, one_ideal, Nat.cast_succ]

open Classical in
/-- A one-hot's entry: whether two small numbers are one. -/
theorem bit_ideal (a b : ℕ) (ha : a < 4096) (hb : b < 4096) :
    (FloatOps.uitofp (F := Ideal) .f32 (IntOp.cmpi .eq (BitVec.ofNat 32 a) (BitVec.ofNat 32 b)) : EReal) = if a = b then 1 else 0 := by
  show (((IntOp.cmpi .eq (BitVec.ofNat 32 a) (BitVec.ofNat 32 b)).toNat : ℝ) : EReal) = _
  by_cases h : a = b
  · subst h
    rw [if_pos rfl]
    simp [IntOp.cmpi]
  · rw [if_neg h]
    have : ¬ BitVec.ofNat 32 a = BitVec.ofNat 32 b := by
      intro e
      have := congrArg BitVec.toNat e
      rw [BitVec.toNat_ofNat, BitVec.toNat_ofNat] at this
      omega
    have e : (BitVec.ofNat 32 a == BitVec.ofNat 32 b) = false := by simpa using this
    simp only [IntOp.cmpi, e]
    simp

/-! ## The counts -/

open Classical in
/-- How many samples of batch `b` have column `l` at place `k`. -/
def tally (X : (Tile.V 4096000).Idx → BitVec 32) (b k l : ℕ) : ℕ :=
  (Finset.univ.filter fun s : Fin 500 => Sel (rowOf X (b * 500 + s.val)) k l).card

/-- The sum of a one-hot over the samples. -/
theorem tally_sum (X : (Tile.V 4096000).Idx → BitVec 32) (b k l : ℕ) (f : Fin 500 → EReal)
    (hf : ∀ s, ∃ _ : Decidable (Sel (rowOf X (b * 500 + s.val)) k l), f s = if Sel (rowOf X (b * 500 + s.val)) k l then 1 else 0) :
    ∑ s : Fin 500, f s = (tally X b k l : EReal) := by
  classical
  unfold tally
  rw [← Finset.sum_boole]
  refine Finset.sum_congr rfl fun s _ => ?_
  obtain ⟨_, h⟩ := hf s
  rw [h]
  congr

/-- The rows of a batch that raise a counter are the samples with that column at that place. -/
theorem hit_iff (X : (Tile.V 4096000).Idx → BitVec 32) {b k l r : ℕ} (hk : k < 8) (hl : l < 2048) :
    Hit X r ((b * 8 + k) * 2048 + l) ↔ r / 500 = b ∧ Sel (rowOf X r) k l := by
  unfold Hit HitRow
  constructor
  · rintro ⟨k', hk', h, hs⟩
    have e : k' = k := by omega
    subst e
    rw [show ((b * 8 + k') * 2048 + l) % 2048 = l by omega] at hs
    exact ⟨by omega, hs⟩
  · rintro ⟨h, hs⟩
    refine ⟨k, hk, by omega, ?_⟩
    rw [show ((b * 8 + k) * 2048 + l) % 2048 = l by omega]
    exact hs

/-- The workers' counters of one batch, place and column add up to the count. -/
theorem hits_tally (X : (Tile.V 4096000).Idx → BitVec 32) {b k l : ℕ} (hb : b < 4) (hk : k < 8) (hl : l < 2048) :
    ∑ w : Fin 32, hits X w.val 2000 ((b * 8 + k) * 2048 + l) = tally X b k l := by
  classical
  have e : tally X b k l = ((Finset.range 2000).filter fun r => Hit X r ((b * 8 + k) * 2048 + l)).card := by
    unfold tally
    rw [← Finset.card_image_of_injective (f := fun s : Fin 500 => b * 500 + s.val) _ (fun a c h => Fin.ext (by simpa using h))]
    congr 1
    ext r
    simp only [Finset.mem_image, Finset.mem_filter, Finset.mem_univ, true_and, Finset.mem_range, hit_iff X hk hl]
    constructor
    · rintro ⟨s, hs, rfl⟩
      have := s.isLt
      exact ⟨by omega, by omega, hs⟩
    · rintro ⟨hr, hd, hs⟩
      refine ⟨⟨r % 500, Nat.mod_lt _ (by omega)⟩, ?_, ?_⟩
      · rw [show b * 500 + r % 500 = r by omega]; exact hs
      · show b * 500 + r % 500 = r
        omega
  rw [e, Finset.card_eq_sum_card_fiberwise (f := fun r : ℕ => (⟨r / 16 % 32, Nat.mod_lt _ (by omega)⟩ : Fin 32)) (t := Finset.univ) (fun _ _ => Finset.mem_coe.2 (Finset.mem_univ _))]
  refine Finset.sum_congr rfl fun w _ => ?_
  unfold hits
  congr 1
  ext r
  simp only [Finset.mem_filter, Finset.mem_range, Fin.ext_iff]
  constructor
  · rintro ⟨h1, _, h2, h3⟩; exact ⟨⟨h1, h3⟩, h2⟩
  · rintro ⟨⟨h1, h3⟩, h2⟩; exact ⟨h1, h1, h2, h3⟩

/-- The same for the counters' values. -/
theorem ones_tally (X : (Tile.V 4096000).Idx → BitVec 32) {b k l : ℕ} (hb : b < 4) (hk : k < 8) (hl : l < 2048) :
    ∑ w : Fin 32, (onesF (F := Ideal) (hits X w.val 2000 ((b * 8 + k) * 2048 + l)) : EReal) = (tally X b k l : EReal) := by
  rw [← hits_tally X hb hk hl, Nat.cast_sum]
  exact Finset.sum_congr rfl fun w _ => onesF_ideal _

/-! ## The mean's factor -/

/-- The factor of the mean over the 500 samples. -/
abbrev share : EReal := ((1 / 500 : ℝ) : EReal)

/-- The factor goes into a sum of products. -/
theorem sum_share {n : ℕ} (a x : Fin n → EReal) : (∑ l, a l * x l) * share = ∑ l, a l * share * x l := by
  have h0 : (0 : EReal) ≤ share := EReal.coe_nonneg.2 (by norm_num)
  have hd : ∀ s : Finset (Fin n), (∑ l ∈ s, a l * x l) * share = ∑ l ∈ s, a l * share * x l := by
    classical
    intro s
    induction s using Finset.induction_on with
    | empty => simp
    | insert i s hi ih =>
      rw [Finset.sum_insert hi, Finset.sum_insert hi, EReal.right_distrib_of_nonneg_of_ne_top h0 (EReal.coe_ne_top _), ih, mul_right_comm]
  exact hd _

end Cert.Proof.Tally

end
-- ==== Proof.KernelValue.lean ====
/-
  The kernel's result at the ideal values: row 0 of each batch is the class feature, row `k + 1` is the sum over the
  columns of the count of column and place `k`, times the feature, times the mean's factor.
-/
module

public import proofs.«01_k».proof.Proof.Main
public import proofs.«01_k».proof.Proof.Tally
public import Idealize.ShloMosaic.Lib.MatmulPlain
public import Idealize.ShloMosaic.Lib.ValueLayout
public import Idealize.ShloMosaic.Lib.Pointwise.Reduce
public import Idealize.ShloMosaic.PureOps.IdealRules

@[expose] public section

noncomputable section

namespace Cert.Proof.KernelValue

open Idealize.ShloMosaic hiding ix1 ix2 ix3 ix4
open Cert.Proof.Select Cert.Proof.Main Cert.Proof.Tally
open Cert.KernelIdeal Cert.KernelIdeal.Gen Idealize.ShloMosaic.ValueIdx

/-- The named factor is 1/500. -/
theorem factor : (Named.named (F := Ideal) κ "per_sample" (φ := .f32) 0x3B03126F#32 : EReal) = share := by
  have h : Named.named (F := Ideal) κ "per_sample" (φ := .f32) 0x3B03126F#32 = ((500⁻¹ : ℝ) : EReal) :=
    IdealRules.named_const.ideal_named_scalar _ _ _ _ rfl
  rw [h, share, one_div]

/-- The partial counters of all workers, added. -/
abbrev added (v : Vec Ideal S32x1x8x2048 .f32) : FVec Ideal S8x2048 .f32 :=
  multiReduction .add [0] S8x2048 (shapeCast S32x8x2048 v shapeCasts_S32x1x8x2048_S32x8x2048 : FVec Ideal S32x8x2048 .f32) 0x00000000#32 reduces_S32x8x2048_S8x2048 (.inl rfl) rfl

theorem added_at (v : Vec Ideal S32x1x8x2048 .f32) (k : Fin 8) (l : Fin 2048) :
    (added v (ix2 k l) : EReal) = ∑ w : Fin 32, (v (ix4 w 0 k l) : EReal) := by
  unfold added
  refine (Ideal.reduceAdd_r3_a0 reduces_S32x8x2048_S8x2048 _ _).trans ?_
  refine Finset.sum_congr rfl fun w _ => ?_
  apply shapeCast_apply
  rw [Shape.rowMajor_val_three, Shape.rowMajor_val_four]
  show ((w.val * 1 + 0) * 8 + k.val) * 2048 + l.val = (w.val * 8 + k.val) * 2048 + l.val
  omega

/-- The product call's rows. -/
theorem pay2_at (v : Vec Ideal S32x1x8x2048 .f32) (u : Vec Ideal S1x2048x768 .f32) (k : Fin 8) (j : Fin 768) :
    (k2_pay2 (F := Ideal) v u (ix3 0 k j) : EReal) = (∑ l : Fin 2048, (∑ w : Fin 32, (v (ix4 w 0 k l) : EReal)) * (u (ix3 0 l j) : EReal)) * share := by
  unfold k2_pay2
  dsimp only
  refine (shapeCast_ab_1ab_apply _ _ 0 k j).trans ?_
  refine congrArg₂ (fun a b : EReal => a * b) ?_ factor
  refine (Ideal.matmul_plain_apply none (added v) (shapeCast S2048x768 u shapeCasts_S1x2048x768_S2048x768) _ k j).trans ?_
  refine (congrArg (fun z : EReal => z + _) (Ideal.ofBits_zero_f32)).trans ((zero_add _).trans ?_)
  refine Finset.sum_congr rfl fun l _ => ?_
  exact congrArg₂ (fun a b : EReal => a * b) (added_at v k l) (shapeCast_1ab_ab_apply u _ l j)

variable (m : (ℓ : Loc nD τ sig) → Buf (Elt Ideal) ℓ)

/-- The laid-out counters. -/
theorem laid_at (c : Dev nD) (w : Fin 32) (b : Fin 4) (k : Fin 8) (l : Fin 2048) :
    (V2 m c main_v3 (ix4 w b k l : S32x4x8x2048.Idx) : EReal)
      = Count.onesF (F := Ideal) (Count.hits (keys m c) w.val 2000 ((b.val * 8 + k.val) * 2048 + l.val)) := by
  have hb := b.isLt
  have hk := k.isLt
  have hl := l.isLt
  rw [V2_v3]
  refine (shapeCast_apply _ _ _ (ix2 w (⟨(b.val * 8 + k.val) * 2048 + l.val, by omega⟩ : Fin 65536)) ?_).trans rfl
  rw [Shape.rowMajor_val_two, Shape.rowMajor_val_four]
  show w.val * 65536 + ((b.val * 8 + k.val) * 2048 + l.val) = ((w.val * 4 + b.val) * 8 + k.val) * 2048 + l.val
  omega

/-- ROW 0 of a batch. -/
theorem row0 (c : Dev nD) (b : Fin 4) (j : Fin 768) :
    product (V2 m) c (ix3 b 0 j : S4x9x768.Idx) = (m ((SparseCore.T c).loc main_arg3) : S4x1x768.Idx → Ideal .f32) (ix3 b 0 j) := by
  rw [product_row0, V2_ne m c (by decide) (by decide) (by decide) (by decide)]

/-- ROW `k + 1` of a batch. -/
theorem row (c : Dev nD) (b : Fin 4) (k : Fin 8) (j : Fin 768) :
    (product (V2 m) c (ix3 b k.succ j : S4x9x768.Idx) : EReal)
      = ∑ l : Fin 2048, (tally (keys m c) b.val k.val l.val : EReal) * share
          * ((m ((SparseCore.T c).loc main_arg2) : S4x2048x768.Idx → Ideal .f32) (ix3 b l j) : EReal) := by
  rw [product_row]
  refine (pay2_at _ _ k j).trans (Eq.trans ?_ (sum_share _ _))
  refine congrArg (fun z : EReal => z * share) (Finset.sum_congr rfl fun l _ => ?_)
  refine congrArg₂ (fun a b : EReal => a * b) ?_ ?_
  · rw [← ones_tally (keys m c) b.isLt k.isLt l.isLt]
    exact Finset.sum_congr rfl fun w _ => laid_at m c w b k l
  · show (V2 m c main_arg2 (ix3 b l j : S4x2048x768.Idx) : EReal) = _
    rw [V2_ne m c (by decide) (by decide) (by decide) (by decide)]

end Cert.Proof.KernelValue

end
-- ==== Proof.RefValue.lean ====
/-
  The reference's result at the ideal values: row 0 of each batch is the class feature, row `k + 1` is the sum over the
  columns of the count of column and place `k`, times the mean's factor, times the feature.
-/
module

public import proofs.«01_k».proof.Proof.RefTop
public import proofs.«01_k».proof.Proof.Tally
public import Idealize.ShloMosaic.Lib.Pointwise.Reduce

@[expose] public section

noncomputable section

namespace Cert.Proof.RefValue

abbrev S4096000 : Idealize.ShloMosaic.Shape := Tile.V 4096000

open Idealize.ShloMosaic hiding ix1 ix2 ix3 ix4
open Cert.Proof.Rows Cert.Proof.Count Cert.Proof.Group Cert.Proof.RefTop Cert.Proof.Tally Cert.Proof.Keys
open Cert.ReferenceIdeal Cert.ReferenceIdeal.Gen Idealize.ShloMosaic.ValueIdx

/-! ## The one-hot of the columns -/

variable (P : FVec Ideal S4x500x2048 .f32) (X : IVec S4096000 32)

/-- What is asked of the scores `P` and the keys `X`: row by row, the keys are the scores' and the scores are good. -/
def Matched : Prop := ∀ (b : Fin 4) (s : Fin 500), (Good fun n => P (ix3 b s n))
  ∧ ∀ n : Fin 2048, rowOf X (b.val * 500 + s.val) n.val = key (step (P (ix3 b s n))) n.val

abbrev oneHot : FVec Ideal S4x500x8x2048 .f32 :=
  uitofp .f32 (cmpi .eq (broadcastInDim S4x500x8x2048 ![0, 1, 2, 3] bcast_S4x500x8x1_S4x500x8x2048_0_1_2_3 (broadcastInDim S4x500x8x1 ![0, 1, 2] bcast_S4x500x8_S4x500x8x1_0_1_2 (colsArr P))) (broadcastInDim S4x500x8x2048 ![0, 1, 2, 3] bcast_S1x1x1x2048_S4x500x8x2048_0_1_2_3 (iotaInDim S1x1x1x2048 32 3)))

open Classical in
theorem oneHot_at (hX : Matched P X) (b : Fin 4) (s : Fin 500) (k : Fin 8) (l : Fin 2048) :
    (oneHot P (ix4 b s k l) : EReal) = if Sel (rowOf X (b.val * 500 + s.val)) k.val l.val then 1 else 0 := by
  have hb := b.isLt
  have hs' := s.isLt
  have hl := l.isLt
  obtain ⟨i, hi, e, hs⟩ := cols_at P b s (row := rowOf X (b.val * 500 + s.val)) (hX b s).1 (hX b s).2 k
  have : (oneHot P (ix4 b s k l) : EReal) = if i = l.val then 1 else 0 := by
    rw [← bit_ideal _ _ (by omega) (by omega), ← e]
    refine congrArg₂ (fun x y => FloatOps.uitofp (F := Ideal) .f32 (IntOp.cmpi .eq x y)) ?_ ?_
    · unfold broadcastInDim
      refine congrArg (colsArr P) ?_
      funext a
      match a with
      | ⟨0, _⟩ => rfl
      | ⟨1, _⟩ => rfl
      | ⟨2, _⟩ => rfl
    · rfl
  rw [this]
  by_cases h : i = l.val
  · subst h; rw [if_pos rfl, if_pos hs]
  · rw [if_neg h, if_neg fun h' => h (hs.unique h')]

/-! ## Its mean over the samples -/

theorem ofBits_500 : Ideal.ofBits .f32 0x43FA0000#32 = ((500 : ℝ) : EReal) := by
  simp [Ideal.ofBits, Ideal.ieee, -EReal.coe_mul]; norm_num

abbrev meanArr : FVec Ideal S4x8x2048 .f32 :=
  Host.divf (Host.reduceAdd (oneHot P) (constant S_ .f32 0x00000000#32) reducesTo_S4x500x8x2048_S4x8x2048_d1 h_S_) (broadcastInDim S4x8x2048 ![] bcast_S_S4x8x2048 (constant S_ .f32 0x43FA0000#32))

theorem mean_at (hX : Matched P X) (b : Fin 4) (k : Fin 8) (l : Fin 2048) :
    (meanArr P (ix3 b k l) : EReal) = (tally X b.val k.val l.val : EReal) * share := by
  show Ideal.div (Host.reduceAdd (oneHot P) (constant S_ .f32 0x00000000#32) reducesTo_S4x500x8x2048_S4x8x2048_d1 h_S_ (ix3 b k l)) (Ideal.ofBits .f32 0x43FA0000#32) = _
  rw [ofBits_500, Ideal.div_coe (by norm_num : (500 : ℝ) ≠ 0)]
  refine congrArg (fun z : EReal => z * share) ?_
  rw [Host.reduceAdd_apply, Ideal.hostReduceAdd_def, Ideal.hostReduceAdd_r4_a1]
  refine (congrArg (fun z : EReal => z + _) (Ideal.ofBits_zero_f32)).trans ((zero_add _).trans ?_)
  classical
  exact tally_sum X b.val k.val l.val _ fun s => ⟨inferInstance, (oneHot_at P X hX b s k l).trans (by congr)⟩

/-! ## The product with the features -/

abbrev D := dot_S4x8x2048_S4x2048x768_S4x8x768_2_1_1_2_0_0

theorem dot_at (A : FVec Ideal S4x8x2048 .f32) (B : FVec Ideal S4x2048x768 .f32) (b : Fin 4) (k : Fin 8) (j : Fin 768) :
    (Host.dotGeneral D none A B (ix3 b k j) : EReal) = ∑ l : Fin 2048, (A (ix3 b k l) * B (ix3 b l j) : EReal) := by
  show FloatOps.dotGeneral _ _ _ A B (ix3 b k j) = _
  rw [Ideal.dotGeneral_apply, ← Equiv.sum_comp (contrEquiv1 D 2048 rfl rfl).symm]
  refine Finset.sum_congr rfl fun r _ => ?_
  have c3 := contrEquiv1_symm_val D 2048 rfl rfl r
  have l3 : D.lhsIdx (ix3 b k j) ((contrEquiv1 D 2048 rfl rfl).symm r) = ix3 b k r := by
    funext ax; apply Fin.ext
    match ax with
    | ⟨0, _⟩ => rfl
    | ⟨1, _⟩ => rfl
    | ⟨2, _⟩ => exact c3
  have r3 : D.rhsIdx (ix3 b k j) ((contrEquiv1 D 2048 rfl rfl).symm r) = ix3 b r j := by
    funext ax; apply Fin.ext
    match ax with
    | ⟨0, _⟩ => rfl
    | ⟨1, _⟩ => exact c3
    | ⟨2, _⟩ => rfl
  rw [l3, r3]

/-! ## The result -/

abbrev result (x : FVec Ideal S4x2048x768 .f32) (g : FVec Ideal S4x1x768 .f32) : FVec Ideal S4x9x768 .f32 :=
  concatenate S4x9x768 1 [⟨S4x1x768, g⟩, ⟨S4x8x768, (Host.dotGeneral D none (meanArr P) x)⟩] concatenates_S4x1x768_S4x8x768_S4x9x768_d1

/-- ROW 0 of a batch. -/
theorem row0 (x : FVec Ideal S4x2048x768 .f32) (g : FVec Ideal S4x1x768 .f32) (b : Fin 4) (j : Fin 768) :
    result P x g (ix3 b 0 j) = g (ix3 b 0 j) :=
  concatenate_pair_apply_left (t := S4x9x768) (s₁ := S4x1x768) (s₂ := S4x8x768) 1 g (Host.dotGeneral D none (meanArr P) x)
    concatenates_S4x1x768_S4x8x768_S4x9x768_d1 (ix3 b 0 j) rfl (ix3 b 0 j) fun a => by
    match a with
    | ⟨0, _⟩ => rfl
    | ⟨1, _⟩ => rfl
    | ⟨2, _⟩ => rfl

/-- ROW `k + 1` of a batch. -/
theorem row (hX : Matched P X) (x : FVec Ideal S4x2048x768 .f32) (g : FVec Ideal S4x1x768 .f32) (b : Fin 4) (k : Fin 8) (j : Fin 768) :
    (result P x g (ix3 b k.succ j) : EReal)
      = ∑ l : Fin 2048, (tally X b.val k.val l.val : EReal) * share * (x (ix3 b l j) : EReal) := by
  refine (concatenate_pair_apply_right (t := S4x9x768) (s₁ := S4x1x768) (s₂ := S4x8x768) 1 g (Host.dotGeneral D none (meanArr P) x)
    concatenates_S4x1x768_S4x8x768_S4x9x768_d1 (ix3 b k.succ j) rfl rfl (ix3 b k j) (fun a h => ?_) rfl).trans ?_
  · match a, h with
    | ⟨0, _⟩, _ => rfl
    | ⟨1, _⟩, h => exact absurd rfl h
    | ⟨2, _⟩, _ => rfl
  refine (dot_at _ _ b k j).trans (Finset.sum_congr rfl fun l _ => ?_)
  rw [mean_at P X hX b k l]

end Cert.Proof.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Scores
public import proofs.«01_k».proof.Proof.Gen.Scores.Skeleton
public import proofs.«01_k».proof.Proof.Gen.Scores.Launch
public import proofs.«01_k».proof.Proof.Gen.Scores.Points
public import proofs.«01_k».proof.Proof.Gen.Scores.Frame
public import proofs.«01_k».proof.Proof.Gen.ScoresIdeal
public import proofs.«01_k».proof.Proof.Gen.ScoresIdeal.Skeleton
public import proofs.«01_k».proof.Proof.Gen.ScoresIdeal.Launch
public import proofs.«01_k».proof.Proof.Gen.ScoresIdeal.Points
public import proofs.«01_k».proof.Proof.Gen.ScoresIdeal.Frame
public import proofs.«01_k».proof.Proof.Gen.ScoresIdeal.Value
public import proofs.«01_k».proof.Proof.Gen.ScoresReferenceIdeal
public import proofs.«01_k».proof.Proof.Gen.ScoresReferenceIdeal.Run
public import proofs.«01_k».proof.Proof.ScoreBlocks
public import proofs.«01_k».proof.Proof.ScoreRef
public import proofs.«01_k».proof.Proof.ScoreLink
public import proofs.«01_k».proof.Proof.Main
public import proofs.«01_k».proof.Proof.Literal
public import proofs.«01_k».proof.Proof.Pre
public import proofs.«01_k».proof.Proof.KernelValue
public import proofs.«01_k».proof.Proof.RefValue
public import proofs.«01_k».proof.Proof.PackValue
public import proofs.«01_k».proof.Proof.Gen.Pre_keys_ok
public import proofs.«01_k».proof.Proof.Gen.Pre_ids_ok
public import Idealize.ShloMosaic.Adequacy
public import Idealize.ShloMosaic.Init

@[expose] public section

noncomputable section

namespace Cert.Proof

open Idealize.ShloMosaic Idealize.SL.Sem Cert.Kernel

/-- The kernel on the device: its run, the named constant read as the literal. -/
theorem frame_k : Cert.quiescent_Kernel := fun m ρ h =>
  letI : Named Bits := Literal.literal
  (θ_run (Cert.Kernel.defs (F := Bits)) (Cert.Kernel.threads (F := Bits)) _).mono
    (fun _ (h : Main.QC (F := Bits) m _) => ⟨fun c => (h.1 c).2, h.2⟩)
    (Eq.mp (congrArg (fun D => θ_run D (Cert.Kernel.threads (F := Bits)) ⟨m, fun _ => 0, ρ⟩ (Main.QC (F := Bits) m)) Literal.defs_eq)
      (Main.run_main (F := Bits) m ρ fun d => Pre.keysOK (F := Bits) (h d) _ (PackValue.row_at m d)))

/-- The kernel at the ideal values, likewise. -/
theorem frame_ki : Cert.quiescent_KernelIdeal := fun m ρ h =>
  (θ_run (Cert.KernelIdeal.defs (F := Ideal)) _ _).mono (fun _ h => ⟨fun c => (h.1 c).2, h.2⟩)
    (Main.run_main (F := Ideal) m ρ fun d => Pre.keysOK (F := Ideal) (h d) _ (PackValue.row_at m d))

/-- The reference: it declares no semaphore. -/
theorem frame_ri : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-- The one named constant. -/
theorem preserves : Cert.preserves_Kernel_KernelIdeal :=
  IdealRules.named_const.statement Cert.KernelIdeal.κ "per_sample" .f32 0x3B03126F#32 ((500⁻¹ : ℝ) : EReal) rfl

section
variable (m : (ℓ : Loc Cert.KernelIdeal.nD Cert.KernelIdeal.τ Cert.KernelIdeal.sig) → Buf (Elt Ideal) ℓ) (c : Dev Cert.KernelIdeal.nD)

/-- The perturbed scores of the arguments. -/
abbrev scores : FVec Ideal Cert.ReferenceIdeal.S4x500x2048 .f32 :=
  RefTop.scores (m ((SparseCore.T c).loc Cert.KernelIdeal.main_arg0)) (m ((SparseCore.T c).loc Cert.KernelIdeal.main_arg1))

/-- The kernel's keys are those of the reference's perturbed scores. -/
theorem matched (h : ∀ p, Keys.Good (PackValue.line (F := Ideal) (m ((SparseCore.T c).loc Cert.KernelIdeal.main_arg0)) (m ((SparseCore.T c).loc Cert.KernelIdeal.main_arg1)) p)) :
    RefValue.Matched (scores m c) (Main.keys m c) := by
  intro b s
  have hb := b.isLt
  have hs := s.isLt
  have e : ∀ n : Fin 2048, scores m c (ValueIdx.ix3 b s n)
      = PackValue.line (F := Ideal) (m ((SparseCore.T c).loc Cert.KernelIdeal.main_arg0)) (m ((SparseCore.T c).loc Cert.KernelIdeal.main_arg1)) ⟨b.val * 500 + s.val, by omega⟩ n := by
    intro n
    refine (RefTop.scores_at _ _ b s n).trans ?_
    unfold PackValue.line PackValue.score
    have e1 : PackValue.batch ⟨b.val * 500 + s.val, by omega⟩ = b := Fin.ext (by show (b.val * 500 + s.val) / 500 = b.val; omega)
    have e2 : PackValue.sample ⟨b.val * 500 + s.val, by omega⟩ = s := Fin.ext (by show (b.val * 500 + s.val) % 500 = s.val; omega)
    rw [e1, e2]
  refine ⟨?_, fun n => ?_⟩
  · rw [show (fun n => scores m c (ValueIdx.ix3 b s n)) = _ from funext e]
    exact h _
  · rw [e]
    exact PackValue.row_at m c ⟨b.val * 500 + s.val, by omega⟩ n

/-- Row by row, the two results are one. -/
theorem same (hX : RefValue.Matched (scores m c) (Main.keys m c)) :
    RefValue.result (scores m c) (m ((SparseCore.T c).loc Cert.KernelIdeal.main_arg2)) (m ((SparseCore.T c).loc Cert.KernelIdeal.main_arg3))
      = Select.product (Main.V2 m) c := by
  funext i
  obtain ⟨b, k, j, rfl⟩ : ∃ (b : Fin 4) (k : Fin 9) (j : Fin 768), i = ValueIdx.ix3 b k j := ⟨i 0, i 1, i 2, ValueIdx.eq_ix3 i⟩
  refine Fin.cases ?_ (fun k => ?_) k
  · exact (RefValue.row0 _ _ _ b j).trans (KernelValue.row0 m c b j).symm
  · exact (RefValue.row _ _ hX _ _ b k j).trans (KernelValue.row m c b k j).symm

end

theorem algebraic : Cert.algebraic_KernelIdeal_ReferenceIdeal := by
  intro m ρ m' ρ' h hagree
  have hX := fun d => Pre.keysOK (F := Ideal) (h d) _ (PackValue.row_at m d)
  have hM := fun d => matched m d (Pre.good (F := Ideal) (h d))
  refine ⟨fun c => Select.product (Main.V2 m) c, (θ_run (Cert.KernelIdeal.defs (F := Ideal)) _ _).mono (fun _ h c => h.1 c) (Main.run_main (F := Ideal) m ρ hX), ?_⟩
  refine (θ_run (Cert.ReferenceIdeal.defs (F := Ideal)) _ _).mono (fun _ h c => ⟨(h c).1.trans ?_, (h c).2⟩)
    (Cert.ReferenceIdeal.Value.run (F := Ideal) m' ρ')
  refine Eq.trans ?_ (same m c (hM c))
  unfold scores
  rw [show m ((SparseCore.T c).loc Cert.KernelIdeal.main_arg0) = m' ((c.tc : Thread Cert.ReferenceIdeal.nD Cert.ReferenceIdeal.τ).loc Cert.ReferenceIdeal.main_arg0) from (hagree c).1.symm,
    show m ((SparseCore.T c).loc Cert.KernelIdeal.main_arg1) = m' ((c.tc : Thread Cert.ReferenceIdeal.nD Cert.ReferenceIdeal.τ).loc Cert.ReferenceIdeal.main_arg1) from (hagree c).2.1.symm,
    show m ((SparseCore.T c).loc Cert.KernelIdeal.main_arg2) = m' ((c.tc : Thread Cert.ReferenceIdeal.nD Cert.ReferenceIdeal.τ).loc Cert.ReferenceIdeal.main_arg2) from (hagree c).2.2.1.symm,
    show m ((SparseCore.T c).loc Cert.KernelIdeal.main_arg3) = m' ((c.tc : Thread Cert.ReferenceIdeal.nD Cert.ReferenceIdeal.τ).loc Cert.ReferenceIdeal.main_arg3) from (hagree c).2.2.2.symm]

/-- The scores' call on the device. -/
theorem frame_s : Cert.quiescent_Scores := fun m ρ _ => Cert.Scores.Gen.frame m ρ

/-- The scores' call at the ideal values. -/
theorem frame_si : Cert.quiescent_ScoresIdeal := fun m ρ _ => Cert.ScoresIdeal.Gen.frame m ρ

/-- The scores' reference: it declares no semaphore. -/
theorem frame_sri : Cert.quiescent_ScoresReferenceIdeal := fun m ρ _ =>
  (θ_run (Cert.ScoresReferenceIdeal.defs (F := Ideal)) _ _).mono
    (fun r h => ⟨fun c => (h c).2.2, sem_eq_zero_of_no_sems (by decide) r.2⟩) (Cert.ScoresReferenceIdeal.Value.run (F := Ideal) m ρ)

/-- The scores and the class feature are the reference's. -/
theorem algebraic_s : Cert.algebraic_ScoresIdeal_ScoresReferenceIdeal_pre_ids_ok := by
  intro m ρ m' ρ' h hagree
  refine ⟨fun c => (Cert.ScoresIdeal.Gen.dats m 0 c).arrAt 10 Cert.ScoresIdeal.cfg0.N, fun c => (Cert.ScoresIdeal.Gen.dats m 0 c).arrAt 11 Cert.ScoresIdeal.cfg0.N,
    Cert.ScoresIdeal.Value.run_blocks m ρ, ?_⟩
  refine (θ_run (Cert.ScoresReferenceIdeal.defs (F := Ideal)) _ _).mono (fun _ h' c => ⟨(h' c).1.trans ?_, (h' c).2.1.trans ?_, (h' c).2.2⟩)
    (Cert.ScoresReferenceIdeal.Value.run (F := Ideal) m' ρ')
  · obtain ⟨h0, h1, h2, h3, h4, h5, h6, h7, h8⟩ := hagree c
    exact ScoreLink.scores_eq m m' c h0 h1 h2 h3 h4 h5 h6 h7 h8 (ScoreLink.ids _ _ _ _ _ _ _ _ _ (h c))
  · obtain ⟨h0, h1, -⟩ := hagree c
    exact ScoreLink.class_eq m m' c h0 h1 (ScoreLink.ids _ _ _ _ _ _ _ _ _ (h c))

theorem claim : Cert.Claim := ⟨Cert.Kernel.Gen.facts, Cert.KernelIdeal.Gen.facts, Cert.ReferenceIdeal.Gen.facts,
  Cert.Scores.Gen.facts, Cert.ScoresIdeal.Gen.facts, Cert.ScoresReferenceIdeal.Gen.facts, Cert.Pre_keys_ok.Gen.facts, Cert.Pre_ids_ok.Gen.facts,
  frame_k, frame_ki, frame_ri, fun m ρ _ => frame_ri m ρ trivial,
  frame_s, frame_si, fun m ρ _ => frame_si m ρ trivial, frame_sri, fun m ρ _ => frame_sri m ρ trivial,
  preserves, algebraic, trivial, algebraic_s⟩

end Cert.Proof

end
